-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_UpYRefIdeal (m : (ℓ : Loc Cert.UpYRefIdeal.nD Cert.UpYRefIdeal.τ Cert.UpYRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_DownYRefIdeal (m : (ℓ : Loc Cert.DownYRefIdeal.nD Cert.DownYRefIdeal.τ Cert.DownYRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_InYRefIdeal (m : (ℓ : Loc Cert.InYRefIdeal.nD Cert.InYRefIdeal.τ Cert.InYRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_LastUpDx (m : (ℓ : Loc Cert.LastUpDx.nD Cert.LastUpDx.τ Cert.LastUpDx.sig) → Buf (Elt Bits) ℓ) : Prop :=
  True

def Pre_LastUpDxIdeal (m : (ℓ : Loc Cert.LastUpDxIdeal.nD Cert.LastUpDxIdeal.τ Cert.LastUpDxIdeal.sig) → Buf (Elt Ideal) ℓ) : Prop :=
  True

def Pre_LastUpDxRefIdeal (m : (ℓ : Loc Cert.LastUpDxRefIdeal.nD Cert.LastUpDxRefIdeal.τ Cert.LastUpDxRefIdeal.sig) → Buf (Elt Ideal) ℓ) : Prop :=
  True

def Pre_LastUpDw (m : (ℓ : Loc Cert.LastUpDw.nD Cert.LastUpDw.τ Cert.LastUpDw.sig) → Buf (Elt Bits) ℓ) : Prop :=
  True

def Pre_LastUpDwIdeal (m : (ℓ : Loc Cert.LastUpDwIdeal.nD Cert.LastUpDwIdeal.τ Cert.LastUpDwIdeal.sig) → Buf (Elt Ideal) ℓ) : Prop :=
  True

def Pre_LastUpDwRefIdeal (m : (ℓ : Loc Cert.LastUpDwRefIdeal.nD Cert.LastUpDwRefIdeal.τ Cert.LastUpDwRefIdeal.sig) → Buf (Elt Ideal) ℓ) : Prop :=
  True

def Pre_LastUpY (m : (ℓ : Loc Cert.LastUpY.nD Cert.LastUpY.τ Cert.LastUpY.sig) → Buf (Elt Bits) ℓ) : Prop :=
  True

def Pre_LastUpYIdeal (m : (ℓ : Loc Cert.LastUpYIdeal.nD Cert.LastUpYIdeal.τ Cert.LastUpYIdeal.sig) → Buf (Elt Ideal) ℓ) : Prop :=
  True

def Pre_LastUpYRefIdeal (m : (ℓ : Loc Cert.LastUpYRefIdeal.nD Cert.LastUpYRefIdeal.τ Cert.LastUpYRefIdeal.sig) → Buf (Elt Ideal) ℓ) : Prop :=
  True

def Pre_LastDownDx (m : (ℓ : Loc Cert.LastDownDx.nD Cert.LastDownDx.τ Cert.LastDownDx.sig) → Buf (Elt Bits) ℓ) : Prop :=
  True

def Pre_LastDownDxIdeal (m : (ℓ : Loc Cert.LastDownDxIdeal.nD Cert.LastDownDxIdeal.τ Cert.LastDownDxIdeal.sig) → Buf (Elt Ideal) ℓ) : Prop :=
  True

def Pre_LastDownDxRefIdeal (m : (ℓ : Loc Cert.LastDownDxRefIdeal.nD Cert.LastDownDxRefIdeal.τ Cert.LastDownDxRefIdeal.sig) → Buf (Elt Ideal) ℓ) : Prop :=
  True

def Pre_LastDownDw (m : (ℓ : Loc Cert.LastDownDw.nD Cert.LastDownDw.τ Cert.LastDownDw.sig) → Buf (Elt Bits) ℓ) : Prop :=
  True

def Pre_LastDownDwIdeal (m : (ℓ : Loc Cert.LastDownDwIdeal.nD Cert.LastDownDwIdeal.τ Cert.LastDownDwIdeal.sig) → Buf (Elt Ideal) ℓ) : Prop :=
  True

def Pre_LastDownDwRefIdeal (m : (ℓ : Loc Cert.LastDownDwRefIdeal.nD Cert.LastDownDwRefIdeal.τ Cert.LastDownDwRefIdeal.sig) → Buf (Elt Ideal) ℓ) : Prop :=
  True

def Pre_LastDownY (m : (ℓ : Loc Cert.LastDownY.nD Cert.LastDownY.τ Cert.LastDownY.sig) → Buf (Elt Bits) ℓ) : Prop :=
  True

def Pre_LastDownYIdeal (m : (ℓ : Loc Cert.LastDownYIdeal.nD Cert.LastDownYIdeal.τ Cert.LastDownYIdeal.sig) → Buf (Elt Ideal) ℓ) : Prop :=
  True

def Pre_LastDownYRefIdeal (m : (ℓ : Loc Cert.LastDownYRefIdeal.nD Cert.LastDownYRefIdeal.τ Cert.LastDownYRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutY (m : (ℓ : Loc Cert.OutY.nD Cert.OutY.τ Cert.OutY.sig) → Buf (Elt Bits) ℓ) : Prop :=
  True

def Pre_OutYIdeal (m : (ℓ : Loc Cert.OutYIdeal.nD Cert.OutYIdeal.τ Cert.OutYIdeal.sig) → Buf (Elt Ideal) ℓ) : Prop :=
  True

def Pre_OutYRefIdeal (m : (ℓ : Loc Cert.OutYRefIdeal.nD Cert.OutYRefIdeal.τ Cert.OutYRefIdeal.sig) → Buf (Elt Ideal) ℓ) : Prop :=
  True

def Pre_LastOutDx (m : (ℓ : Loc Cert.LastOutDx.nD Cert.LastOutDx.τ Cert.LastOutDx.sig) → Buf (Elt Bits) ℓ) : Prop :=
  True

def Pre_LastOutDxIdeal (m : (ℓ : Loc Cert.LastOutDxIdeal.nD Cert.LastOutDxIdeal.τ Cert.LastOutDxIdeal.sig) → Buf (Elt Ideal) ℓ) : Prop :=
  True

def Pre_LastOutDxRefIdeal (m : (ℓ : Loc Cert.LastOutDxRefIdeal.nD Cert.LastOutDxRefIdeal.τ Cert.LastOutDxRefIdeal.sig) → Buf (Elt Ideal) ℓ) : Prop :=
  True

def Pre_LastOutDw (m : (ℓ : Loc Cert.LastOutDw.nD Cert.LastOutDw.τ Cert.LastOutDw.sig) → Buf (Elt Bits) ℓ) : Prop :=
  True

def Pre_LastOutDwIdeal (m : (ℓ : Loc Cert.LastOutDwIdeal.nD Cert.LastOutDwIdeal.τ Cert.LastOutDwIdeal.sig) → Buf (Elt Ideal) ℓ) : Prop :=
  True

def Pre_LastOutDwRefIdeal (m : (ℓ : Loc Cert.LastOutDwRefIdeal.nD Cert.LastOutDwRefIdeal.τ Cert.LastOutDwRefIdeal.sig) → Buf (Elt Ideal) ℓ) : Prop :=
  True

def Pre_LastOutY (m : (ℓ : Loc Cert.LastOutY.nD Cert.LastOutY.τ Cert.LastOutY.sig) → Buf (Elt Bits) ℓ) : Prop :=
  True

def Pre_LastOutYIdeal (m : (ℓ : Loc Cert.LastOutYIdeal.nD Cert.LastOutYIdeal.τ Cert.LastOutYIdeal.sig) → Buf (Elt Ideal) ℓ) : Prop :=
  True

def Pre_LastOutYRefIdeal (m : (ℓ : Loc Cert.LastOutYRefIdeal.nD Cert.LastOutYRefIdeal.τ Cert.LastOutYRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ResidFwd (m : (ℓ : Loc Cert.ResidFwd.nD Cert.ResidFwd.τ Cert.ResidFwd.sig) → Buf (Elt Bits) ℓ) : Prop :=
  True

def Pre_ResidFwdIdeal (m : (ℓ : Loc Cert.ResidFwdIdeal.nD Cert.ResidFwdIdeal.τ Cert.ResidFwdIdeal.sig) → Buf (Elt Ideal) ℓ) : Prop :=
  True

def Pre_ResidFwdRefIdeal (m : (ℓ : Loc Cert.ResidFwdRefIdeal.nD Cert.ResidFwdRefIdeal.τ Cert.ResidFwdRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_MidFwd (m : (ℓ : Loc Cert.MidFwd.nD Cert.MidFwd.τ Cert.MidFwd.sig) → Buf (Elt Bits) ℓ) : Prop :=
  True

def Pre_MidFwdIdeal (m : (ℓ : Loc Cert.MidFwdIdeal.nD Cert.MidFwdIdeal.τ Cert.MidFwdIdeal.sig) → Buf (Elt Ideal) ℓ) : Prop :=
  True

def Pre_MidFwdRefIdeal (m : (ℓ : Loc Cert.MidFwdRefIdeal.nD Cert.MidFwdRefIdeal.τ Cert.MidFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ r.2.sem = fun _ => 0)

def quiescent_UpYRefIdeal [hUpYRefIdeal : Cert.UpYRefIdeal.Facts] : Prop :=
  ∀ (m : (ℓ : Loc Cert.UpYRefIdeal.nD Cert.UpYRefIdeal.τ Cert.UpYRefIdeal.sig) → Buf (Elt Ideal) ℓ) (g : Dev Cert.UpYRefIdeal.nD → PrngReg), Pre_UpYRefIdeal m →
    θ_run (Cert.UpYRefIdeal.defs (F := Ideal)) (onTc (τ := Cert.UpYRefIdeal.τ) (Cert.UpYRefIdeal.main (F := Ideal))) ⟨m, fun _ => 0, g⟩ (fun r => (∀ c : Dev Cert.UpYRefIdeal.nD,
      r.2.mem ((c.tc : Thread Cert.UpYRefIdeal.nD Cert.UpYRefIdeal.τ).loc Cert.UpYRefIdeal.main_arg0) = m ((c.tc : Thread Cert.UpYRefIdeal.nD Cert.UpYRefIdeal.τ).loc Cert.UpYRefIdeal.main_arg0)
      ∧ r.2.mem ((c.tc : Thread Cert.UpYRefIdeal.nD Cert.UpYRefIdeal.τ).loc Cert.UpYRefIdeal.main_arg1) = m ((c.tc : Thread Cert.UpYRefIdeal.nD Cert.UpYRefIdeal.τ).loc Cert.UpYRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ r.2.sem = fun _ => 0)

def quiescent_DownYRefIdeal [hDownYRefIdeal : Cert.DownYRefIdeal.Facts] : Prop :=
  ∀ (m : (ℓ : Loc Cert.DownYRefIdeal.nD Cert.DownYRefIdeal.τ Cert.DownYRefIdeal.sig) → Buf (Elt Ideal) ℓ) (g : Dev Cert.DownYRefIdeal.nD → PrngReg), Pre_DownYRefIdeal m →
    θ_run (Cert.DownYRefIdeal.defs (F := Ideal)) (onTc (τ := Cert.DownYRefIdeal.τ) (Cert.DownYRefIdeal.main (F := Ideal))) ⟨m, fun _ => 0, g⟩ (fun r => (∀ c : Dev Cert.DownYRefIdeal.nD,
      r.2.mem ((c.tc : Thread Cert.DownYRefIdeal.nD Cert.DownYRefIdeal.τ).loc Cert.DownYRefIdeal.main_arg0) = m ((c.tc : Thread Cert.DownYRefIdeal.nD Cert.DownYRefIdeal.τ).loc Cert.DownYRefIdeal.main_arg0)
      ∧ r.2.mem ((c.tc : Thread Cert.DownYRefIdeal.nD Cert.DownYRefIdeal.τ).loc Cert.DownYRefIdeal.main_arg1) = m ((c.tc : Thread Cert.DownYRefIdeal.nD Cert.DownYRefIdeal.τ).loc Cert.DownYRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_InYRefIdeal [hInYRefIdeal : Cert.InYRefIdeal.Facts] : Prop :=
  ∀ (m : (ℓ : Loc Cert.InYRefIdeal.nD Cert.InYRefIdeal.τ Cert.InYRefIdeal.sig) → Buf (Elt Ideal) ℓ) (g : Dev Cert.InYRefIdeal.nD → PrngReg), Pre_InYRefIdeal m →
    θ_run (Cert.InYRefIdeal.defs (F := Ideal)) (onTc (τ := Cert.InYRefIdeal.τ) (Cert.InYRefIdeal.main (F := Ideal))) ⟨m, fun _ => 0, g⟩ (fun r => (∀ c : Dev Cert.InYRefIdeal.nD,
      r.2.mem ((c.tc : Thread Cert.InYRefIdeal.nD Cert.InYRefIdeal.τ).loc Cert.InYRefIdeal.main_arg0) = m ((c.tc : Thread Cert.InYRefIdeal.nD Cert.InYRefIdeal.τ).loc Cert.InYRefIdeal.main_arg0)
      ∧ r.2.mem ((c.tc : Thread Cert.InYRefIdeal.nD Cert.InYRefIdeal.τ).loc Cert.InYRefIdeal.main_arg1) = m ((c.tc : Thread Cert.InYRefIdeal.nD Cert.InYRefIdeal.τ).loc Cert.InYRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_LastUpDx [hLastUpDx : Cert.LastUpDx.Facts] : Prop :=
  ∀ (m : (ℓ : Loc Cert.LastUpDx.nD Cert.LastUpDx.τ Cert.LastUpDx.sig) → Buf (Elt Bits) ℓ) (g : Dev Cert.LastUpDx.nD → PrngReg), Pre_LastUpDx m →
    θ_run (Cert.LastUpDx.defs (F := Bits)) (onTc (τ := Cert.LastUpDx.τ) (Cert.LastUpDx.main (F := Bits))) ⟨m, fun _ => 0, g⟩ (fun r => (∀ c : Dev Cert.LastUpDx.nD,
      r.2.mem ((c.tc : Thread Cert.LastUpDx.nD Cert.LastUpDx.τ).loc Cert.LastUpDx.main_arg0) = m ((c.tc : Thread Cert.LastUpDx.nD Cert.LastUpDx.τ).loc Cert.LastUpDx.main_arg0)
      ∧ r.2.mem ((c.tc : Thread Cert.LastUpDx.nD Cert.LastUpDx.τ).loc Cert.LastUpDx.main_arg1) = m ((c.tc : Thread Cert.LastUpDx.nD Cert.LastUpDx.τ).loc Cert.LastUpDx.main_arg1))
      ∧ r.2.sem = fun _ => 0)

def quiescent_LastUpDxIdeal [hLastUpDxIdeal : Cert.LastUpDxIdeal.Facts] : Prop :=
  ∀ (m : (ℓ : Loc Cert.LastUpDxIdeal.nD Cert.LastUpDxIdeal.τ Cert.LastUpDxIdeal.sig) → Buf (Elt Ideal) ℓ) (g : Dev Cert.LastUpDxIdeal.nD → PrngReg), Pre_LastUpDxIdeal m →
    θ_run (Cert.LastUpDxIdeal.defs (F := Ideal)) (onTc (τ := Cert.LastUpDxIdeal.τ) (Cert.LastUpDxIdeal.main (F := Ideal))) ⟨m, fun _ => 0, g⟩ (fun r => (∀ c : Dev Cert.LastUpDxIdeal.nD,
      r.2.mem ((c.tc : Thread Cert.LastUpDxIdeal.nD Cert.LastUpDxIdeal.τ).loc Cert.LastUpDxIdeal.main_arg0) = m ((c.tc : Thread Cert.LastUpDxIdeal.nD Cert.LastUpDxIdeal.τ).loc Cert.LastUpDxIdeal.main_arg0)
      ∧ r.2.mem ((c.tc : Thread Cert.LastUpDxIdeal.nD Cert.LastUpDxIdeal.τ).loc Cert.LastUpDxIdeal.main_arg1) = m ((c.tc : Thread Cert.LastUpDxIdeal.nD Cert.LastUpDxIdeal.τ).loc Cert.LastUpDxIdeal.main_arg1))
      ∧ r.2.sem = fun _ => 0)

def quiescent_LastUpDxRefIdeal [hLastUpDxRefIdeal : Cert.LastUpDxRefIdeal.Facts] : Prop :=
  ∀ (m : (ℓ : Loc Cert.LastUpDxRefIdeal.nD Cert.LastUpDxRefIdeal.τ Cert.LastUpDxRefIdeal.sig) → Buf (Elt Ideal) ℓ) (g : Dev Cert.LastUpDxRefIdeal.nD → PrngReg), Pre_LastUpDxRefIdeal m →
    θ_run (Cert.LastUpDxRefIdeal.defs (F := Ideal)) (onTc (τ := Cert.LastUpDxRefIdeal.τ) (Cert.LastUpDxRefIdeal.main (F := Ideal))) ⟨m, fun _ => 0, g⟩ (fun r => (∀ c : Dev Cert.LastUpDxRefIdeal.nD,
      r.2.mem ((c.tc : Thread Cert.LastUpDxRefIdeal.nD Cert.LastUpDxRefIdeal.τ).loc Cert.LastUpDxRefIdeal.main_arg0) = m ((c.tc : Thread Cert.LastUpDxRefIdeal.nD Cert.LastUpDxRefIdeal.τ).loc Cert.LastUpDxRefIdeal.main_arg0)
      ∧ r.2.mem ((c.tc : Thread Cert.LastUpDxRefIdeal.nD Cert.LastUpDxRefIdeal.τ).loc Cert.LastUpDxRefIdeal.main_arg1) = m ((c.tc : Thread Cert.LastUpDxRefIdeal.nD Cert.LastUpDxRefIdeal.τ).loc Cert.LastUpDxRefIdeal.main_arg1))
      ∧ r.2.sem = fun _ => 0)

def quiescent_LastUpDw [hLastUpDw : Cert.LastUpDw.Facts] : Prop :=
  ∀ (m : (ℓ : Loc Cert.LastUpDw.nD Cert.LastUpDw.τ Cert.LastUpDw.sig) → Buf (Elt Bits) ℓ) (g : Dev Cert.LastUpDw.nD → PrngReg), Pre_LastUpDw m →
    θ_run (Cert.LastUpDw.defs (F := Bits)) (onTc (τ := Cert.LastUpDw.τ) (Cert.LastUpDw.main (F := Bits))) ⟨m, fun _ => 0, g⟩ (fun r => (∀ c : Dev Cert.LastUpDw.nD,
      r.2.mem ((c.tc : Thread Cert.LastUpDw.nD Cert.LastUpDw.τ).loc Cert.LastUpDw.main_arg0) = m ((c.tc : Thread Cert.LastUpDw.nD Cert.LastUpDw.τ).loc Cert.LastUpDw.main_arg0)
      ∧ r.2.mem ((c.tc : Thread Cert.LastUpDw.nD Cert.LastUpDw.τ).loc Cert.LastUpDw.main_arg1) = m ((c.tc : Thread Cert.LastUpDw.nD Cert.LastUpDw.τ).loc Cert.LastUpDw.main_arg1))
      ∧ r.2.sem = fun _ => 0)

def quiescent_LastUpDwIdeal [hLastUpDwIdeal : Cert.LastUpDwIdeal.Facts] : Prop :=
  ∀ (m : (ℓ : Loc Cert.LastUpDwIdeal.nD Cert.LastUpDwIdeal.τ Cert.LastUpDwIdeal.sig) → Buf (Elt Ideal) ℓ) (g : Dev Cert.LastUpDwIdeal.nD → PrngReg), Pre_LastUpDwIdeal m →
    θ_run (Cert.LastUpDwIdeal.defs (F := Ideal)) (onTc (τ := Cert.LastUpDwIdeal.τ) (Cert.LastUpDwIdeal.main (F := Ideal))) ⟨m, fun _ => 0, g⟩ (fun r => (∀ c : Dev Cert.LastUpDwIdeal.nD,
      r.2.mem ((c.tc : Thread Cert.LastUpDwIdeal.nD Cert.LastUpDwIdeal.τ).loc Cert.LastUpDwIdeal.main_arg0) = m ((c.tc : Thread Cert.LastUpDwIdeal.nD Cert.LastUpDwIdeal.τ).loc Cert.LastUpDwIdeal.main_arg0)
      ∧ r.2.mem ((c.tc : Thread Cert.LastUpDwIdeal.nD Cert.LastUpDwIdeal.τ).loc Cert.LastUpDwIdeal.main_arg1) = m ((c.tc : Thread Cert.LastUpDwIdeal.nD Cert.LastUpDwIdeal.τ).loc Cert.LastUpDwIdeal.main_arg1))
      ∧ r.2.sem = fun _ => 0)

def quiescent_LastUpDwRefIdeal [hLastUpDwRefIdeal : Cert.LastUpDwRefIdeal.Facts] : Prop :=
  ∀ (m : (ℓ : Loc Cert.LastUpDwRefIdeal.nD Cert.LastUpDwRefIdeal.τ Cert.LastUpDwRefIdeal.sig) → Buf (Elt Ideal) ℓ) (g : Dev Cert.LastUpDwRefIdeal.nD → PrngReg), Pre_LastUpDwRefIdeal m →
    θ_run (Cert.LastUpDwRefIdeal.defs (F := Ideal)) (onTc (τ := Cert.LastUpDwRefIdeal.τ) (Cert.LastUpDwRefIdeal.main (F := Ideal))) ⟨m, fun _ => 0, g⟩ (fun r => (∀ c : Dev Cert.LastUpDwRefIdeal.nD,
      r.2.mem ((c.tc : Thread Cert.LastUpDwRefIdeal.nD Cert.LastUpDwRefIdeal.τ).loc Cert.LastUpDwRefIdeal.main_arg0) = m ((c.tc : Thread Cert.LastUpDwRefIdeal.nD Cert.LastUpDwRefIdeal.τ).loc Cert.LastUpDwRefIdeal.main_arg0)
      ∧ r.2.mem ((c.tc : Thread Cert.LastUpDwRefIdeal.nD Cert.LastUpDwRefIdeal.τ).loc Cert.LastUpDwRefIdeal.main_arg1) = m ((c.tc : Thread Cert.LastUpDwRefIdeal.nD Cert.LastUpDwRefIdeal.τ).loc Cert.LastUpDwRefIdeal.main_arg1))
      ∧ r.2.sem = fun _ => 0)

def quiescent_LastUpY [hLastUpY : Cert.LastUpY.Facts] : Prop :=
  ∀ (m : (ℓ : Loc Cert.LastUpY.nD Cert.LastUpY.τ Cert.LastUpY.sig) → Buf (Elt Bits) ℓ) (g : Dev Cert.LastUpY.nD → PrngReg), Pre_LastUpY m →
    θ_run (Cert.LastUpY.defs (F := Bits)) (onTc (τ := Cert.LastUpY.τ) (Cert.LastUpY.main (F := Bits))) ⟨m, fun _ => 0, g⟩ (fun r => (∀ c : Dev Cert.LastUpY.nD,
      r.2.mem ((c.tc : Thread Cert.LastUpY.nD Cert.LastUpY.τ).loc Cert.LastUpY.main_arg0) = m ((c.tc : Thread Cert.LastUpY.nD Cert.LastUpY.τ).loc Cert.LastUpY.main_arg0)
      ∧ r.2.mem ((c.tc : Thread Cert.LastUpY.nD Cert.LastUpY.τ).loc Cert.LastUpY.main_arg1) = m ((c.tc : Thread Cert.LastUpY.nD Cert.LastUpY.τ).loc Cert.LastUpY.main_arg1))
      ∧ r.2.sem = fun _ => 0)

def quiescent_LastUpYIdeal [hLastUpYIdeal : Cert.LastUpYIdeal.Facts] : Prop :=
  ∀ (m : (ℓ : Loc Cert.LastUpYIdeal.nD Cert.LastUpYIdeal.τ Cert.LastUpYIdeal.sig) → Buf (Elt Ideal) ℓ) (g : Dev Cert.LastUpYIdeal.nD → PrngReg), Pre_LastUpYIdeal m →
    θ_run (Cert.LastUpYIdeal.defs (F := Ideal)) (onTc (τ := Cert.LastUpYIdeal.τ) (Cert.LastUpYIdeal.main (F := Ideal))) ⟨m, fun _ => 0, g⟩ (fun r => (∀ c : Dev Cert.LastUpYIdeal.nD,
      r.2.mem ((c.tc : Thread Cert.LastUpYIdeal.nD Cert.LastUpYIdeal.τ).loc Cert.LastUpYIdeal.main_arg0) = m ((c.tc : Thread Cert.LastUpYIdeal.nD Cert.LastUpYIdeal.τ).loc Cert.LastUpYIdeal.main_arg0)
      ∧ r.2.mem ((c.tc : Thread Cert.LastUpYIdeal.nD Cert.LastUpYIdeal.τ).loc Cert.LastUpYIdeal.main_arg1) = m ((c.tc : Thread Cert.LastUpYIdeal.nD Cert.LastUpYIdeal.τ).loc Cert.LastUpYIdeal.main_arg1))
      ∧ r.2.sem = fun _ => 0)

def quiescent_LastUpYRefIdeal [hLastUpYRefIdeal : Cert.LastUpYRefIdeal.Facts] : Prop :=
  ∀ (m : (ℓ : Loc Cert.LastUpYRefIdeal.nD Cert.LastUpYRefIdeal.τ Cert.LastUpYRefIdeal.sig) → Buf (Elt Ideal) ℓ) (g : Dev Cert.LastUpYRefIdeal.nD → PrngReg), Pre_LastUpYRefIdeal m →
    θ_run (Cert.LastUpYRefIdeal.defs (F := Ideal)) (onTc (τ := Cert.LastUpYRefIdeal.τ) (Cert.LastUpYRefIdeal.main (F := Ideal))) ⟨m, fun _ => 0, g⟩ (fun r => (∀ c : Dev Cert.LastUpYRefIdeal.nD,
      r.2.mem ((c.tc : Thread Cert.LastUpYRefIdeal.nD Cert.LastUpYRefIdeal.τ).loc Cert.LastUpYRefIdeal.main_arg0) = m ((c.tc : Thread Cert.LastUpYRefIdeal.nD Cert.LastUpYRefIdeal.τ).loc Cert.LastUpYRefIdeal.main_arg0)
      ∧ r.2.mem ((c.tc : Thread Cert.LastUpYRefIdeal.nD Cert.LastUpYRefIdeal.τ).loc Cert.LastUpYRefIdeal.main_arg1) = m ((c.tc : Thread Cert.LastUpYRefIdeal.nD Cert.LastUpYRefIdeal.τ).loc Cert.LastUpYRefIdeal.main_arg1))
      ∧ r.2.sem = fun _ => 0)

def quiescent_LastDownDx [hLastDownDx : Cert.LastDownDx.Facts] : Prop :=
  ∀ (m : (ℓ : Loc Cert.LastDownDx.nD Cert.LastDownDx.τ Cert.LastDownDx.sig) → Buf (Elt Bits) ℓ) (g : Dev Cert.LastDownDx.nD → PrngReg), Pre_LastDownDx m →
    θ_run (Cert.LastDownDx.defs (F := Bits)) (onTc (τ := Cert.LastDownDx.τ) (Cert.LastDownDx.main (F := Bits))) ⟨m, fun _ => 0, g⟩ (fun r => (∀ c : Dev Cert.LastDownDx.nD,
      r.2.mem ((c.tc : Thread Cert.LastDownDx.nD Cert.LastDownDx.τ).loc Cert.LastDownDx.main_arg0) = m ((c.tc : Thread Cert.LastDownDx.nD Cert.LastDownDx.τ).loc Cert.LastDownDx.main_arg0)
      ∧ r.2.mem ((c.tc : Thread Cert.LastDownDx.nD Cert.LastDownDx.τ).loc Cert.LastDownDx.main_arg1) = m ((c.tc : Thread Cert.LastDownDx.nD Cert.LastDownDx.τ).loc Cert.LastDownDx.main_arg1))
      ∧ r.2.sem = fun _ => 0)

def quiescent_LastDownDxIdeal [hLastDownDxIdeal : Cert.LastDownDxIdeal.Facts] : Prop :=
  ∀ (m : (ℓ : Loc Cert.LastDownDxIdeal.nD Cert.LastDownDxIdeal.τ Cert.LastDownDxIdeal.sig) → Buf (Elt Ideal) ℓ) (g : Dev Cert.LastDownDxIdeal.nD → PrngReg), Pre_LastDownDxIdeal m →
    θ_run (Cert.LastDownDxIdeal.defs (F := Ideal)) (onTc (τ := Cert.LastDownDxIdeal.τ) (Cert.LastDownDxIdeal.main (F := Ideal))) ⟨m, fun _ => 0, g⟩ (fun r => (∀ c : Dev Cert.LastDownDxIdeal.nD,
      r.2.mem ((c.tc : Thread Cert.LastDownDxIdeal.nD Cert.LastDownDxIdeal.τ).loc Cert.LastDownDxIdeal.main_arg0) = m ((c.tc : Thread Cert.LastDownDxIdeal.nD Cert.LastDownDxIdeal.τ).loc Cert.LastDownDxIdeal.main_arg0)
      ∧ r.2.mem ((c.tc : Thread Cert.LastDownDxIdeal.nD Cert.LastDownDxIdeal.τ).loc Cert.LastDownDxIdeal.main_arg1) = m ((c.tc : Thread Cert.LastDownDxIdeal.nD Cert.LastDownDxIdeal.τ).loc Cert.LastDownDxIdeal.main_arg1))
      ∧ r.2.sem = fun _ => 0)

def quiescent_LastDownDxRefIdeal [hLastDownDxRefIdeal : Cert.LastDownDxRefIdeal.Facts] : Prop :=
  ∀ (m : (ℓ : Loc Cert.LastDownDxRefIdeal.nD Cert.LastDownDxRefIdeal.τ Cert.LastDownDxRefIdeal.sig) → Buf (Elt Ideal) ℓ) (g : Dev Cert.LastDownDxRefIdeal.nD → PrngReg), Pre_LastDownDxRefIdeal m →
    θ_run (Cert.LastDownDxRefIdeal.defs (F := Ideal)) (onTc (τ := Cert.LastDownDxRefIdeal.τ) (Cert.LastDownDxRefIdeal.main (F := Ideal))) ⟨m, fun _ => 0, g⟩ (fun r => (∀ c : Dev Cert.LastDownDxRefIdeal.nD,
      r.2.mem ((c.tc : Thread Cert.LastDownDxRefIdeal.nD Cert.LastDownDxRefIdeal.τ).loc Cert.LastDownDxRefIdeal.main_arg0) = m ((c.tc : Thread Cert.LastDownDxRefIdeal.nD Cert.LastDownDxRefIdeal.τ).loc Cert.LastDownDxRefIdeal.main_arg0)
      ∧ r.2.mem ((c.tc : Thread Cert.LastDownDxRefIdeal.nD Cert.LastDownDxRefIdeal.τ).loc Cert.LastDownDxRefIdeal.main_arg1) = m ((c.tc : Thread Cert.LastDownDxRefIdeal.nD Cert.LastDownDxRefIdeal.τ).loc Cert.LastDownDxRefIdeal.main_arg1))
      ∧ r.2.sem = fun _ => 0)

def quiescent_LastDownDw [hLastDownDw : Cert.LastDownDw.Facts] : Prop :=
  ∀ (m : (ℓ : Loc Cert.LastDownDw.nD Cert.LastDownDw.τ Cert.LastDownDw.sig) → Buf (Elt Bits) ℓ) (g : Dev Cert.LastDownDw.nD → PrngReg), Pre_LastDownDw m →
    θ_run (Cert.LastDownDw.defs (F := Bits)) (onTc (τ := Cert.LastDownDw.τ) (Cert.LastDownDw.main (F := Bits))) ⟨m, fun _ => 0, g⟩ (fun r => (∀ c : Dev Cert.LastDownDw.nD,
      r.2.mem ((c.tc : Thread Cert.LastDownDw.nD Cert.LastDownDw.τ).loc Cert.LastDownDw.main_arg0) = m ((c.tc : Thread Cert.LastDownDw.nD Cert.LastDownDw.τ).loc Cert.LastDownDw.main_arg0)
      ∧ r.2.mem ((c.tc : Thread Cert.LastDownDw.nD Cert.LastDownDw.τ).loc Cert.LastDownDw.main_arg1) = m ((c.tc : Thread Cert.LastDownDw.nD Cert.LastDownDw.τ).loc Cert.LastDownDw.main_arg1))
      ∧ r.2.sem = fun _ => 0)

def quiescent_LastDownDwIdeal [hLastDownDwIdeal : Cert.LastDownDwIdeal.Facts] : Prop :=
  ∀ (m : (ℓ : Loc Cert.LastDownDwIdeal.nD Cert.LastDownDwIdeal.τ Cert.LastDownDwIdeal.sig) → Buf (Elt Ideal) ℓ) (g : Dev Cert.LastDownDwIdeal.nD → PrngReg), Pre_LastDownDwIdeal m →
    θ_run (Cert.LastDownDwIdeal.defs (F := Ideal)) (onTc (τ := Cert.LastDownDwIdeal.τ) (Cert.LastDownDwIdeal.main (F := Ideal))) ⟨m, fun _ => 0, g⟩ (fun r => (∀ c : Dev Cert.LastDownDwIdeal.nD,
      r.2.mem ((c.tc : Thread Cert.LastDownDwIdeal.nD Cert.LastDownDwIdeal.τ).loc Cert.LastDownDwIdeal.main_arg0) = m ((c.tc : Thread Cert.LastDownDwIdeal.nD Cert.LastDownDwIdeal.τ).loc Cert.LastDownDwIdeal.main_arg0)
      ∧ r.2.mem ((c.tc : Thread Cert.LastDownDwIdeal.nD Cert.LastDownDwIdeal.τ).loc Cert.LastDownDwIdeal.main_arg1) = m ((c.tc : Thread Cert.LastDownDwIdeal.nD Cert.LastDownDwIdeal.τ).loc Cert.LastDownDwIdeal.main_arg1))
      ∧ r.2.sem = fun _ => 0)

def quiescent_LastDownDwRefIdeal [hLastDownDwRefIdeal : Cert.LastDownDwRefIdeal.Facts] : Prop :=
  ∀ (m : (ℓ : Loc Cert.LastDownDwRefIdeal.nD Cert.LastDownDwRefIdeal.τ Cert.LastDownDwRefIdeal.sig) → Buf (Elt Ideal) ℓ) (g : Dev Cert.LastDownDwRefIdeal.nD → PrngReg), Pre_LastDownDwRefIdeal m →
    θ_run (Cert.LastDownDwRefIdeal.defs (F := Ideal)) (onTc (τ := Cert.LastDownDwRefIdeal.τ) (Cert.LastDownDwRefIdeal.main (F := Ideal))) ⟨m, fun _ => 0, g⟩ (fun r => (∀ c : Dev Cert.LastDownDwRefIdeal.nD,
      r.2.mem ((c.tc : Thread Cert.LastDownDwRefIdeal.nD Cert.LastDownDwRefIdeal.τ).loc Cert.LastDownDwRefIdeal.main_arg0) = m ((c.tc : Thread Cert.LastDownDwRefIdeal.nD Cert.LastDownDwRefIdeal.τ).loc Cert.LastDownDwRefIdeal.main_arg0)
      ∧ r.2.mem ((c.tc : Thread Cert.LastDownDwRefIdeal.nD Cert.LastDownDwRefIdeal.τ).loc Cert.LastDownDwRefIdeal.main_arg1) = m ((c.tc : Thread Cert.LastDownDwRefIdeal.nD Cert.LastDownDwRefIdeal.τ).loc Cert.LastDownDwRefIdeal.main_arg1))
      ∧ r.2.sem = fun _ => 0)

def quiescent_LastDownY [hLastDownY : Cert.LastDownY.Facts] : Prop :=
  ∀ (m : (ℓ : Loc Cert.LastDownY.nD Cert.LastDownY.τ Cert.LastDownY.sig) → Buf (Elt Bits) ℓ) (g : Dev Cert.LastDownY.nD → PrngReg), Pre_LastDownY m →
    θ_run (Cert.LastDownY.defs (F := Bits)) (onTc (τ := Cert.LastDownY.τ) (Cert.LastDownY.main (F := Bits))) ⟨m, fun _ => 0, g⟩ (fun r => (∀ c : Dev Cert.LastDownY.nD,
      r.2.mem ((c.tc : Thread Cert.LastDownY.nD Cert.LastDownY.τ).loc Cert.LastDownY.main_arg0) = m ((c.tc : Thread Cert.LastDownY.nD Cert.LastDownY.τ).loc Cert.LastDownY.main_arg0)
      ∧ r.2.mem ((c.tc : Thread Cert.LastDownY.nD Cert.LastDownY.τ).loc Cert.LastDownY.main_arg1) = m ((c.tc : Thread Cert.LastDownY.nD Cert.LastDownY.τ).loc Cert.LastDownY.main_arg1))
      ∧ r.2.sem = fun _ => 0)

def quiescent_LastDownYIdeal [hLastDownYIdeal : Cert.LastDownYIdeal.Facts] : Prop :=
  ∀ (m : (ℓ : Loc Cert.LastDownYIdeal.nD Cert.LastDownYIdeal.τ Cert.LastDownYIdeal.sig) → Buf (Elt Ideal) ℓ) (g : Dev Cert.LastDownYIdeal.nD → PrngReg), Pre_LastDownYIdeal m →
    θ_run (Cert.LastDownYIdeal.defs (F := Ideal)) (onTc (τ := Cert.LastDownYIdeal.τ) (Cert.LastDownYIdeal.main (F := Ideal))) ⟨m, fun _ => 0, g⟩ (fun r => (∀ c : Dev Cert.LastDownYIdeal.nD,
      r.2.mem ((c.tc : Thread Cert.LastDownYIdeal.nD Cert.LastDownYIdeal.τ).loc Cert.LastDownYIdeal.main_arg0) = m ((c.tc : Thread Cert.LastDownYIdeal.nD Cert.LastDownYIdeal.τ).loc Cert.LastDownYIdeal.main_arg0)
      ∧ r.2.mem ((c.tc : Thread Cert.LastDownYIdeal.nD Cert.LastDownYIdeal.τ).loc Cert.LastDownYIdeal.main_arg1) = m ((c.tc : Thread Cert.LastDownYIdeal.nD Cert.LastDownYIdeal.τ).loc Cert.LastDownYIdeal.main_arg1))
      ∧ r.2.sem = fun _ => 0)

def quiescent_LastDownYRefIdeal [hLastDownYRefIdeal : Cert.LastDownYRefIdeal.Facts] : Prop :=
  ∀ (m : (ℓ : Loc Cert.LastDownYRefIdeal.nD Cert.LastDownYRefIdeal.τ Cert.LastDownYRefIdeal.sig) → Buf (Elt Ideal) ℓ) (g : Dev Cert.LastDownYRefIdeal.nD → PrngReg), Pre_LastDownYRefIdeal m →
    θ_run (Cert.LastDownYRefIdeal.defs (F := Ideal)) (onTc (τ := Cert.LastDownYRefIdeal.τ) (Cert.LastDownYRefIdeal.main (F := Ideal))) ⟨m, fun _ => 0, g⟩ (fun r => (∀ c : Dev Cert.LastDownYRefIdeal.nD,
      r.2.mem ((c.tc : Thread Cert.LastDownYRefIdeal.nD Cert.LastDownYRefIdeal.τ).loc Cert.LastDownYRefIdeal.main_arg0) = m ((c.tc : Thread Cert.LastDownYRefIdeal.nD Cert.LastDownYRefIdeal.τ).loc Cert.LastDownYRefIdeal.main_arg0)
      ∧ r.2.mem ((c.tc : Thread Cert.LastDownYRefIdeal.nD Cert.LastDownYRefIdeal.τ).loc Cert.LastDownYRefIdeal.main_arg1) = m ((c.tc : Thread Cert.LastDownYRefIdeal.nD Cert.LastDownYRefIdeal.τ).loc Cert.LastDownYRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutY [hOutY : Cert.OutY.Facts] : Prop :=
  ∀ (m : (ℓ : Loc Cert.OutY.nD Cert.OutY.τ Cert.OutY.sig) → Buf (Elt Bits) ℓ) (g : Dev Cert.OutY.nD → PrngReg), Pre_OutY m →
    θ_run (Cert.OutY.defs (F := Bits)) (onTc (τ := Cert.OutY.τ) (Cert.OutY.main (F := Bits))) ⟨m, fun _ => 0, g⟩ (fun r => (∀ c : Dev Cert.OutY.nD,
      r.2.mem ((c.tc : Thread Cert.OutY.nD Cert.OutY.τ).loc Cert.OutY.main_arg0) = m ((c.tc : Thread Cert.OutY.nD Cert.OutY.τ).loc Cert.OutY.main_arg0)
      ∧ r.2.mem ((c.tc : Thread Cert.OutY.nD Cert.OutY.τ).loc Cert.OutY.main_arg1) = m ((c.tc : Thread Cert.OutY.nD Cert.OutY.τ).loc Cert.OutY.main_arg1))
      ∧ r.2.sem = fun _ => 0)

def quiescent_OutYIdeal [hOutYIdeal : Cert.OutYIdeal.Facts] : Prop :=
  ∀ (m : (ℓ : Loc Cert.OutYIdeal.nD Cert.OutYIdeal.τ Cert.OutYIdeal.sig) → Buf (Elt Ideal) ℓ) (g : Dev Cert.OutYIdeal.nD → PrngReg), Pre_OutYIdeal m →
    θ_run (Cert.OutYIdeal.defs (F := Ideal)) (onTc (τ := Cert.OutYIdeal.τ) (Cert.OutYIdeal.main (F := Ideal))) ⟨m, fun _ => 0, g⟩ (fun r => (∀ c : Dev Cert.OutYIdeal.nD,
      r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
      ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ r.2.sem = fun _ => 0)

def quiescent_OutYRefIdeal [hOutYRefIdeal : Cert.OutYRefIdeal.Facts] : Prop :=
  ∀ (m : (ℓ : Loc Cert.OutYRefIdeal.nD Cert.OutYRefIdeal.τ Cert.OutYRefIdeal.sig) → Buf (Elt Ideal) ℓ) (g : Dev Cert.OutYRefIdeal.nD → PrngReg), Pre_OutYRefIdeal m →
    θ_run (Cert.OutYRefIdeal.defs (F := Ideal)) (onTc (τ := Cert.OutYRefIdeal.τ) (Cert.OutYRefIdeal.main (F := Ideal))) ⟨m, fun _ => 0, g⟩ (fun r => (∀ c : Dev Cert.OutYRefIdeal.nD,
      r.2.mem ((c.tc : Thread Cert.OutYRefIdeal.nD Cert.OutYRefIdeal.τ).loc Cert.OutYRefIdeal.main_arg0) = m ((c.tc : Thread Cert.OutYRefIdeal.nD Cert.OutYRefIdeal.τ).loc Cert.OutYRefIdeal.main_arg0)
      ∧ r.2.mem ((c.tc : Thread Cert.OutYRefIdeal.nD Cert.OutYRefIdeal.τ).loc Cert.OutYRefIdeal.main_arg1) = m ((c.tc : Thread Cert.OutYRefIdeal.nD Cert.OutYRefIdeal.τ).loc Cert.OutYRefIdeal.main_arg1))
      ∧ r.2.sem = fun _ => 0)

def quiescent_LastOutDx [hLastOutDx : Cert.LastOutDx.Facts] : Prop :=
  ∀ (m : (ℓ : Loc Cert.LastOutDx.nD Cert.LastOutDx.τ Cert.LastOutDx.sig) → Buf (Elt Bits) ℓ) (g : Dev Cert.LastOutDx.nD → PrngReg), Pre_LastOutDx m →
    θ_run (Cert.LastOutDx.defs (F := Bits)) (onTc (τ := Cert.LastOutDx.τ) (Cert.LastOutDx.main (F := Bits))) ⟨m, fun _ => 0, g⟩ (fun r => (∀ c : Dev Cert.LastOutDx.nD,
      r.2.mem ((c.tc : Thread Cert.LastOutDx.nD Cert.LastOutDx.τ).loc Cert.LastOutDx.main_arg0) = m ((c.tc : Thread Cert.LastOutDx.nD Cert.LastOutDx.τ).loc Cert.LastOutDx.main_arg0)
      ∧ r.2.mem ((c.tc : Thread Cert.LastOutDx.nD Cert.LastOutDx.τ).loc Cert.LastOutDx.main_arg1) = m ((c.tc : Thread Cert.LastOutDx.nD Cert.LastOutDx.τ).loc Cert.LastOutDx.main_arg1))
      ∧ r.2.sem = fun _ => 0)

def quiescent_LastOutDxIdeal [hLastOutDxIdeal : Cert.LastOutDxIdeal.Facts] : Prop :=
  ∀ (m : (ℓ : Loc Cert.LastOutDxIdeal.nD Cert.LastOutDxIdeal.τ Cert.LastOutDxIdeal.sig) → Buf (Elt Ideal) ℓ) (g : Dev Cert.LastOutDxIdeal.nD → PrngReg), Pre_LastOutDxIdeal m →
    θ_run (Cert.LastOutDxIdeal.defs (F := Ideal)) (onTc (τ := Cert.LastOutDxIdeal.τ) (Cert.LastOutDxIdeal.main (F := Ideal))) ⟨m, fun _ => 0, g⟩ (fun r => (∀ c : Dev Cert.LastOutDxIdeal.nD,
      r.2.mem ((c.tc : Thread Cert.LastOutDxIdeal.nD Cert.LastOutDxIdeal.τ).loc Cert.LastOutDxIdeal.main_arg0) = m ((c.tc : Thread Cert.LastOutDxIdeal.nD Cert.LastOutDxIdeal.τ).loc Cert.LastOutDxIdeal.main_arg0)
      ∧ r.2.mem ((c.tc : Thread Cert.LastOutDxIdeal.nD Cert.LastOutDxIdeal.τ).loc Cert.LastOutDxIdeal.main_arg1) = m ((c.tc : Thread Cert.LastOutDxIdeal.nD Cert.LastOutDxIdeal.τ).loc Cert.LastOutDxIdeal.main_arg1))
      ∧ r.2.sem = fun _ => 0)

def quiescent_LastOutDxRefIdeal [hLastOutDxRefIdeal : Cert.LastOutDxRefIdeal.Facts] : Prop :=
  ∀ (m : (ℓ : Loc Cert.LastOutDxRefIdeal.nD Cert.LastOutDxRefIdeal.τ Cert.LastOutDxRefIdeal.sig) → Buf (Elt Ideal) ℓ) (g : Dev Cert.LastOutDxRefIdeal.nD → PrngReg), Pre_LastOutDxRefIdeal m →
    θ_run (Cert.LastOutDxRefIdeal.defs (F := Ideal)) (onTc (τ := Cert.LastOutDxRefIdeal.τ) (Cert.LastOutDxRefIdeal.main (F := Ideal))) ⟨m, fun _ => 0, g⟩ (fun r => (∀ c : Dev Cert.LastOutDxRefIdeal.nD,
      r.2.mem ((c.tc : Thread Cert.LastOutDxRefIdeal.nD Cert.LastOutDxRefIdeal.τ).loc Cert.LastOutDxRefIdeal.main_arg0) = m ((c.tc : Thread Cert.LastOutDxRefIdeal.nD Cert.LastOutDxRefIdeal.τ).loc Cert.LastOutDxRefIdeal.main_arg0)
      ∧ r.2.mem ((c.tc : Thread Cert.LastOutDxRefIdeal.nD Cert.LastOutDxRefIdeal.τ).loc Cert.LastOutDxRefIdeal.main_arg1) = m ((c.tc : Thread Cert.LastOutDxRefIdeal.nD Cert.LastOutDxRefIdeal.τ).loc Cert.LastOutDxRefIdeal.main_arg1))
      ∧ r.2.sem = fun _ => 0)

def quiescent_LastOutDw [hLastOutDw : Cert.LastOutDw.Facts] : Prop :=
  ∀ (m : (ℓ : Loc Cert.LastOutDw.nD Cert.LastOutDw.τ Cert.LastOutDw.sig) → Buf (Elt Bits) ℓ) (g : Dev Cert.LastOutDw.nD → PrngReg), Pre_LastOutDw m →
    θ_run (Cert.LastOutDw.defs (F := Bits)) (onTc (τ := Cert.LastOutDw.τ) (Cert.LastOutDw.main (F := Bits))) ⟨m, fun _ => 0, g⟩ (fun r => (∀ c : Dev Cert.LastOutDw.nD,
      r.2.mem ((c.tc : Thread Cert.LastOutDw.nD Cert.LastOutDw.τ).loc Cert.LastOutDw.main_arg0) = m ((c.tc : Thread Cert.LastOutDw.nD Cert.LastOutDw.τ).loc Cert.LastOutDw.main_arg0)
      ∧ r.2.mem ((c.tc : Thread Cert.LastOutDw.nD Cert.LastOutDw.τ).loc Cert.LastOutDw.main_arg1) = m ((c.tc : Thread Cert.LastOutDw.nD Cert.LastOutDw.τ).loc Cert.LastOutDw.main_arg1))
      ∧ r.2.sem = fun _ => 0)

def quiescent_LastOutDwIdeal [hLastOutDwIdeal : Cert.LastOutDwIdeal.Facts] : Prop :=
  ∀ (m : (ℓ : Loc Cert.LastOutDwIdeal.nD Cert.LastOutDwIdeal.τ Cert.LastOutDwIdeal.sig) → Buf (Elt Ideal) ℓ) (g : Dev Cert.LastOutDwIdeal.nD → PrngReg), Pre_LastOutDwIdeal m →
    θ_run (Cert.LastOutDwIdeal.defs (F := Ideal)) (onTc (τ := Cert.LastOutDwIdeal.τ) (Cert.LastOutDwIdeal.main (F := Ideal))) ⟨m, fun _ => 0, g⟩ (fun r => (∀ c : Dev Cert.LastOutDwIdeal.nD,
      r.2.mem ((c.tc : Thread Cert.LastOutDwIdeal.nD Cert.LastOutDwIdeal.τ).loc Cert.LastOutDwIdeal.main_arg0) = m ((c.tc : Thread Cert.LastOutDwIdeal.nD Cert.LastOutDwIdeal.τ).loc Cert.LastOutDwIdeal.main_arg0)
      ∧ r.2.mem ((c.tc : Thread Cert.LastOutDwIdeal.nD Cert.LastOutDwIdeal.τ).loc Cert.LastOutDwIdeal.main_arg1) = m ((c.tc : Thread Cert.LastOutDwIdeal.nD Cert.LastOutDwIdeal.τ).loc Cert.LastOutDwIdeal.main_arg1))
      ∧ r.2.sem = fun _ => 0)

def quiescent_LastOutDwRefIdeal [hLastOutDwRefIdeal : Cert.LastOutDwRefIdeal.Facts] : Prop :=
  ∀ (m : (ℓ : Loc Cert.LastOutDwRefIdeal.nD Cert.LastOutDwRefIdeal.τ Cert.LastOutDwRefIdeal.sig) → Buf (Elt Ideal) ℓ) (g : Dev Cert.LastOutDwRefIdeal.nD → PrngReg), Pre_LastOutDwRefIdeal m →
    θ_run (Cert.LastOutDwRefIdeal.defs (F := Ideal)) (onTc (τ := Cert.LastOutDwRefIdeal.τ) (Cert.LastOutDwRefIdeal.main (F := Ideal))) ⟨m, fun _ => 0, g⟩ (fun r => (∀ c : Dev Cert.LastOutDwRefIdeal.nD,
      r.2.mem ((c.tc : Thread Cert.LastOutDwRefIdeal.nD Cert.LastOutDwRefIdeal.τ).loc Cert.LastOutDwRefIdeal.main_arg0) = m ((c.tc : Thread Cert.LastOutDwRefIdeal.nD Cert.LastOutDwRefIdeal.τ).loc Cert.LastOutDwRefIdeal.main_arg0)
      ∧ r.2.mem ((c.tc : Thread Cert.LastOutDwRefIdeal.nD Cert.LastOutDwRefIdeal.τ).loc Cert.LastOutDwRefIdeal.main_arg1) = m ((c.tc : Thread Cert.LastOutDwRefIdeal.nD Cert.LastOutDwRefIdeal.τ).loc Cert.LastOutDwRefIdeal.main_arg1))
      ∧ r.2.sem = fun _ => 0)

def quiescent_LastOutY [hLastOutY : Cert.LastOutY.Facts] : Prop :=
  ∀ (m : (ℓ : Loc Cert.LastOutY.nD Cert.LastOutY.τ Cert.LastOutY.sig) → Buf (Elt Bits) ℓ) (g : Dev Cert.LastOutY.nD → PrngReg), Pre_LastOutY m →
    θ_run (Cert.LastOutY.defs (F := Bits)) (onTc (τ := Cert.LastOutY.τ) (Cert.LastOutY.main (F := Bits))) ⟨m, fun _ => 0, g⟩ (fun r => (∀ c : Dev Cert.LastOutY.nD,
      r.2.mem ((c.tc : Thread Cert.LastOutY.nD Cert.LastOutY.τ).loc Cert.LastOutY.main_arg0) = m ((c.tc : Thread Cert.LastOutY.nD Cert.LastOutY.τ).loc Cert.LastOutY.main_arg0)
      ∧ r.2.mem ((c.tc : Thread Cert.LastOutY.nD Cert.LastOutY.τ).loc Cert.LastOutY.main_arg1) = m ((c.tc : Thread Cert.LastOutY.nD Cert.LastOutY.τ).loc Cert.LastOutY.main_arg1))
      ∧ r.2.sem = fun _ => 0)

def quiescent_LastOutYIdeal [hLastOutYIdeal : Cert.LastOutYIdeal.Facts] : Prop :=
  ∀ (m : (ℓ : Loc Cert.LastOutYIdeal.nD Cert.LastOutYIdeal.τ Cert.LastOutYIdeal.sig) → Buf (Elt Ideal) ℓ) (g : Dev Cert.LastOutYIdeal.nD → PrngReg), Pre_LastOutYIdeal m →
    θ_run (Cert.LastOutYIdeal.defs (F := Ideal)) (onTc (τ := Cert.LastOutYIdeal.τ) (Cert.LastOutYIdeal.main (F := Ideal))) ⟨m, fun _ => 0, g⟩ (fun r => (∀ c : Dev Cert.LastOutYIdeal.nD,
      r.2.mem ((c.tc : Thread Cert.LastOutYIdeal.nD Cert.LastOutYIdeal.τ).loc Cert.LastOutYIdeal.main_arg0) = m ((c.tc : Thread Cert.LastOutYIdeal.nD Cert.LastOutYIdeal.τ).loc Cert.LastOutYIdeal.main_arg0)
      ∧ r.2.mem ((c.tc : Thread Cert.LastOutYIdeal.nD Cert.LastOutYIdeal.τ).loc Cert.LastOutYIdeal.main_arg1) = m ((c.tc : Thread Cert.LastOutYIdeal.nD Cert.LastOutYIdeal.τ).loc Cert.LastOutYIdeal.main_arg1))
      ∧ r.2.sem = fun _ => 0)

def quiescent_LastOutYRefIdeal [hLastOutYRefIdeal : Cert.LastOutYRefIdeal.Facts] : Prop :=
  ∀ (m : (ℓ : Loc Cert.LastOutYRefIdeal.nD Cert.LastOutYRefIdeal.τ Cert.LastOutYRefIdeal.sig) → Buf (Elt Ideal) ℓ) (g : Dev Cert.LastOutYRefIdeal.nD → PrngReg), Pre_LastOutYRefIdeal m →
    θ_run (Cert.LastOutYRefIdeal.defs (F := Ideal)) (onTc (τ := Cert.LastOutYRefIdeal.τ) (Cert.LastOutYRefIdeal.main (F := Ideal))) ⟨m, fun _ => 0, g⟩ (fun r => (∀ c : Dev Cert.LastOutYRefIdeal.nD,
      r.2.mem ((c.tc : Thread Cert.LastOutYRefIdeal.nD Cert.LastOutYRefIdeal.τ).loc Cert.LastOutYRefIdeal.main_arg0) = m ((c.tc : Thread Cert.LastOutYRefIdeal.nD Cert.LastOutYRefIdeal.τ).loc Cert.LastOutYRefIdeal.main_arg0)
      ∧ r.2.mem ((c.tc : Thread Cert.LastOutYRefIdeal.nD Cert.LastOutYRefIdeal.τ).loc Cert.LastOutYRefIdeal.main_arg1) = m ((c.tc : Thread Cert.LastOutYRefIdeal.nD Cert.LastOutYRefIdeal.τ).loc Cert.LastOutYRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ResidFwd [hResidFwd : Cert.ResidFwd.Facts] : Prop :=
  ∀ (m : (ℓ : Loc Cert.ResidFwd.nD Cert.ResidFwd.τ Cert.ResidFwd.sig) → Buf (Elt Bits) ℓ) (g : Dev Cert.ResidFwd.nD → PrngReg), Pre_ResidFwd m →
    θ_run (Cert.ResidFwd.defs (F := Bits)) (onTc (τ := Cert.ResidFwd.τ) (Cert.ResidFwd.main (F := Bits))) ⟨m, fun _ => 0, g⟩ (fun r => (∀ c : Dev Cert.ResidFwd.nD,
      r.2.mem ((c.tc : Thread Cert.ResidFwd.nD Cert.ResidFwd.τ).loc Cert.ResidFwd.main_arg0) = m ((c.tc : Thread Cert.ResidFwd.nD Cert.ResidFwd.τ).loc Cert.ResidFwd.main_arg0)
      ∧ r.2.mem ((c.tc : Thread Cert.ResidFwd.nD Cert.ResidFwd.τ).loc Cert.ResidFwd.main_arg1) = m ((c.tc : Thread Cert.ResidFwd.nD Cert.ResidFwd.τ).loc Cert.ResidFwd.main_arg1)
      ∧ r.2.mem ((c.tc : Thread Cert.ResidFwd.nD Cert.ResidFwd.τ).loc Cert.ResidFwd.main_arg2) = m ((c.tc : Thread Cert.ResidFwd.nD Cert.ResidFwd.τ).loc Cert.ResidFwd.main_arg2)
      ∧ r.2.mem ((c.tc : Thread Cert.ResidFwd.nD Cert.ResidFwd.τ).loc Cert.ResidFwd.main_arg3) = m ((c.tc : Thread Cert.ResidFwd.nD Cert.ResidFwd.τ).loc Cert.ResidFwd.main_arg3))
      ∧ r.2.sem = fun _ => 0)

def quiescent_ResidFwdIdeal [hResidFwdIdeal : Cert.ResidFwdIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg), Pre_ResidFwdIdeal m →
    θ_run (Cert.ResidFwdIdeal.defs (F := Ideal)) (onTc (τ := Cert.ResidFwdIdeal.τ) (Cert.ResidFwdIdeal.main (F := Ideal))) ⟨m, fun _ => 0, g⟩ (fun r => (∀ c : Dev Cert.ResidFwdIdeal.nD,
      r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
      ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
      ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
      ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ r.2.sem = fun _ => 0)

def quiescent_ResidFwdRefIdeal [hResidFwdRefIdeal : Cert.ResidFwdRefIdeal.Facts] : Prop :=
  ∀ (m : (ℓ : Loc Cert.ResidFwdRefIdeal.nD Cert.ResidFwdRefIdeal.τ Cert.ResidFwdRefIdeal.sig) → Buf (Elt Ideal) ℓ) (g : Dev Cert.ResidFwdRefIdeal.nD → PrngReg), Pre_ResidFwdRefIdeal m →
    θ_run (Cert.ResidFwdRefIdeal.defs (F := Ideal)) (onTc (τ := Cert.ResidFwdRefIdeal.τ) (Cert.ResidFwdRefIdeal.main (F := Ideal))) ⟨m, fun _ => 0, g⟩ (fun r => (∀ c : Dev Cert.ResidFwdRefIdeal.nD,
      r.2.mem ((c.tc : Thread Cert.ResidFwdRefIdeal.nD Cert.ResidFwdRefIdeal.τ).loc Cert.ResidFwdRefIdeal.main_arg0) = m ((c.tc : Thread Cert.ResidFwdRefIdeal.nD Cert.ResidFwdRefIdeal.τ).loc Cert.ResidFwdRefIdeal.main_arg0)
      ∧ r.2.mem ((c.tc : Thread Cert.ResidFwdRefIdeal.nD Cert.ResidFwdRefIdeal.τ).loc Cert.ResidFwdRefIdeal.main_arg1) = m ((c.tc : Thread Cert.ResidFwdRefIdeal.nD Cert.ResidFwdRefIdeal.τ).loc Cert.ResidFwdRefIdeal.main_arg1)
      ∧ r.2.mem ((c.tc : Thread Cert.ResidFwdRefIdeal.nD Cert.ResidFwdRefIdeal.τ).loc Cert.ResidFwdRefIdeal.main_arg2) = m ((c.tc : Thread Cert.ResidFwdRefIdeal.nD Cert.ResidFwdRefIdeal.τ).loc Cert.ResidFwdRefIdeal.main_arg2)
      ∧ r.2.mem ((c.tc : Thread Cert.ResidFwdRefIdeal.nD Cert.ResidFwdRefIdeal.τ).loc Cert.ResidFwdRefIdeal.main_arg3) = m ((c.tc : Thread Cert.ResidFwdRefIdeal.nD Cert.ResidFwdRefIdeal.τ).loc Cert.ResidFwdRefIdeal.main_arg3))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_MidFwd [hMidFwd : Cert.MidFwd.Facts] : Prop :=
  ∀ (m : (ℓ : Loc Cert.MidFwd.nD Cert.MidFwd.τ Cert.MidFwd.sig) → Buf (Elt Bits) ℓ) (g : Dev Cert.MidFwd.nD → PrngReg), Pre_MidFwd m →
    θ_run (Cert.MidFwd.defs (F := Bits)) (onTc (τ := Cert.MidFwd.τ) (Cert.MidFwd.main (F := Bits))) ⟨m, fun _ => 0, g⟩ (fun r => (∀ c : Dev Cert.MidFwd.nD,
      r.2.mem ((c.tc : Thread Cert.MidFwd.nD Cert.MidFwd.τ).loc Cert.MidFwd.main_arg0) = m ((c.tc : Thread Cert.MidFwd.nD Cert.MidFwd.τ).loc Cert.MidFwd.main_arg0)
      ∧ r.2.mem ((c.tc : Thread Cert.MidFwd.nD Cert.MidFwd.τ).loc Cert.MidFwd.main_arg1) = m ((c.tc : Thread Cert.MidFwd.nD Cert.MidFwd.τ).loc Cert.MidFwd.main_arg1)
      ∧ r.2.mem ((c.tc : Thread Cert.MidFwd.nD Cert.MidFwd.τ).loc Cert.MidFwd.main_arg2) = m ((c.tc : Thread Cert.MidFwd.nD Cert.MidFwd.τ).loc Cert.MidFwd.main_arg2)
      ∧ r.2.mem ((c.tc : Thread Cert.MidFwd.nD Cert.MidFwd.τ).loc Cert.MidFwd.main_arg3) = m ((c.tc : Thread Cert.MidFwd.nD Cert.MidFwd.τ).loc Cert.MidFwd.main_arg3))
      ∧ r.2.sem = fun _ => 0)

def quiescent_MidFwdIdeal [hMidFwdIdeal : Cert.MidFwdIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg), Pre_MidFwdIdeal m →
    θ_run (Cert.MidFwdIdeal.defs (F := Ideal)) (onTc (τ := Cert.MidFwdIdeal.τ) (Cert.MidFwdIdeal.main (F := Ideal))) ⟨m, fun _ => 0, g⟩ (fun r => (∀ c : Dev Cert.MidFwdIdeal.nD,
      r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
      ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
      ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
      ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3))
      ∧ r.2.sem = fun _ => 0)

def quiescent_MidFwdRefIdeal [hMidFwdRefIdeal : Cert.MidFwdRefIdeal.Facts] : Prop :=
  ∀ (m : (ℓ : Loc Cert.MidFwdRefIdeal.nD Cert.MidFwdRefIdeal.τ Cert.MidFwdRefIdeal.sig) → Buf (Elt Ideal) ℓ) (g : Dev Cert.MidFwdRefIdeal.nD → PrngReg), Pre_MidFwdRefIdeal m →
    θ_run (Cert.MidFwdRefIdeal.defs (F := Ideal)) (onTc (τ := Cert.MidFwdRefIdeal.τ) (Cert.MidFwdRefIdeal.main (F := Ideal))) ⟨m, fun _ => 0, g⟩ (fun r => (∀ c : Dev Cert.MidFwdRefIdeal.nD,
      r.2.mem ((c.tc : Thread Cert.MidFwdRefIdeal.nD Cert.MidFwdRefIdeal.τ).loc Cert.MidFwdRefIdeal.main_arg0) = m ((c.tc : Thread Cert.MidFwdRefIdeal.nD Cert.MidFwdRefIdeal.τ).loc Cert.MidFwdRefIdeal.main_arg0)
      ∧ r.2.mem ((c.tc : Thread Cert.MidFwdRefIdeal.nD Cert.MidFwdRefIdeal.τ).loc Cert.MidFwdRefIdeal.main_arg1) = m ((c.tc : Thread Cert.MidFwdRefIdeal.nD Cert.MidFwdRefIdeal.τ).loc Cert.MidFwdRefIdeal.main_arg1)
      ∧ r.2.mem ((c.tc : Thread Cert.MidFwdRefIdeal.nD Cert.MidFwdRefIdeal.τ).loc Cert.MidFwdRefIdeal.main_arg2) = m ((c.tc : Thread Cert.MidFwdRefIdeal.nD Cert.MidFwdRefIdeal.τ).loc Cert.MidFwdRefIdeal.main_arg2)
      ∧ r.2.mem ((c.tc : Thread Cert.MidFwdRefIdeal.nD Cert.MidFwdRefIdeal.τ).loc Cert.MidFwdRefIdeal.main_arg3) = m ((c.tc : Thread Cert.MidFwdRefIdeal.nD Cert.MidFwdRefIdeal.τ).loc Cert.MidFwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v2) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v3) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpY_UpYIdeal : Prop :=
  True

def algebraic_UpYIdeal_UpYRefIdeal [hUpYIdeal : Cert.UpYIdeal.Facts] [hUpYRefIdeal : Cert.UpYRefIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.UpYRefIdeal.nD Cert.UpYRefIdeal.τ Cert.UpYRefIdeal.sig) → Buf (Elt Ideal) ℓ) (g' : Dev Cert.UpYRefIdeal.nD → PrngReg), Pre_UpYIdeal m →
    (∀ c : Dev Cert.UpYIdeal.nD,
      m' ((c.tc : Thread Cert.UpYRefIdeal.nD Cert.UpYRefIdeal.τ).loc Cert.UpYRefIdeal.main_arg0) = m ((c.tc : Thread Cert.UpYIdeal.nD Cert.UpYIdeal.τ).loc Cert.UpYIdeal.main_arg0)
      ∧ m' ((c.tc : Thread Cert.UpYRefIdeal.nD Cert.UpYRefIdeal.τ).loc Cert.UpYRefIdeal.main_arg1) = m ((c.tc : Thread Cert.UpYIdeal.nD Cert.UpYIdeal.τ).loc Cert.UpYIdeal.main_arg1)) →
    ∃ (v0 : (c : Dev Cert.UpYIdeal.nD) → Buf (Elt Ideal) ((c.tc : Thread Cert.UpYIdeal.nD Cert.UpYIdeal.τ).loc Cert.UpYIdeal.main_v1)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v1) = v0 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1))
      ∧ θ_run (Cert.UpYRefIdeal.defs (F := Ideal)) (onTc (τ := Cert.UpYRefIdeal.τ) (Cert.UpYRefIdeal.main (F := Ideal))) ⟨m', fun _ => 0, g'⟩ (fun r => ∀ c : Dev Cert.UpYRefIdeal.nD,
          r.2.mem ((c.tc : Thread Cert.UpYRefIdeal.nD Cert.UpYRefIdeal.τ).loc Cert.UpYRefIdeal.main_v0) = v0 c
          ∧ r.2.mem ((c.tc : Thread Cert.UpYRefIdeal.nD Cert.UpYRefIdeal.τ).loc Cert.UpYRefIdeal.main_arg0) = m' ((c.tc : Thread Cert.UpYRefIdeal.nD Cert.UpYRefIdeal.τ).loc Cert.UpYRefIdeal.main_arg0)
          ∧ r.2.mem ((c.tc : Thread Cert.UpYRefIdeal.nD Cert.UpYRefIdeal.τ).loc Cert.UpYRefIdeal.main_arg1) = m' ((c.tc : Thread Cert.UpYRefIdeal.nD Cert.UpYRefIdeal.τ).loc Cert.UpYRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownY_DownYIdeal : Prop :=
  True

def algebraic_DownYIdeal_DownYRefIdeal [hDownYIdeal : Cert.DownYIdeal.Facts] [hDownYRefIdeal : Cert.DownYRefIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.DownYRefIdeal.nD Cert.DownYRefIdeal.τ Cert.DownYRefIdeal.sig) → Buf (Elt Ideal) ℓ) (g' : Dev Cert.DownYRefIdeal.nD → PrngReg), Pre_DownYIdeal m →
    (∀ c : Dev Cert.DownYIdeal.nD,
      m' ((c.tc : Thread Cert.DownYRefIdeal.nD Cert.DownYRefIdeal.τ).loc Cert.DownYRefIdeal.main_arg0) = m ((c.tc : Thread Cert.DownYIdeal.nD Cert.DownYIdeal.τ).loc Cert.DownYIdeal.main_arg0)
      ∧ m' ((c.tc : Thread Cert.DownYRefIdeal.nD Cert.DownYRefIdeal.τ).loc Cert.DownYRefIdeal.main_arg1) = m ((c.tc : Thread Cert.DownYIdeal.nD Cert.DownYIdeal.τ).loc Cert.DownYIdeal.main_arg1)) →
    ∃ (v0 : (c : Dev Cert.DownYIdeal.nD) → Buf (Elt Ideal) ((c.tc : Thread Cert.DownYIdeal.nD Cert.DownYIdeal.τ).loc Cert.DownYIdeal.main_v1)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v1) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ θ_run (Cert.DownYRefIdeal.defs (F := Ideal)) (onTc (τ := Cert.DownYRefIdeal.τ) (Cert.DownYRefIdeal.main (F := Ideal))) ⟨m', fun _ => 0, g'⟩ (fun r => ∀ c : Dev Cert.DownYRefIdeal.nD,
          r.2.mem ((c.tc : Thread Cert.DownYRefIdeal.nD Cert.DownYRefIdeal.τ).loc Cert.DownYRefIdeal.main_v0) = v0 c
          ∧ r.2.mem ((c.tc : Thread Cert.DownYRefIdeal.nD Cert.DownYRefIdeal.τ).loc Cert.DownYRefIdeal.main_arg0) = m' ((c.tc : Thread Cert.DownYRefIdeal.nD Cert.DownYRefIdeal.τ).loc Cert.DownYRefIdeal.main_arg0)
          ∧ r.2.mem ((c.tc : Thread Cert.DownYRefIdeal.nD Cert.DownYRefIdeal.τ).loc Cert.DownYRefIdeal.main_arg1) = m' ((c.tc : Thread Cert.DownYRefIdeal.nD Cert.DownYRefIdeal.τ).loc Cert.DownYRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v1)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v1) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v3) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InY_InYIdeal : Prop :=
  True

def algebraic_InYIdeal_InYRefIdeal [hInYIdeal : Cert.InYIdeal.Facts] [hInYRefIdeal : Cert.InYRefIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.InYRefIdeal.nD Cert.InYRefIdeal.τ Cert.InYRefIdeal.sig) → Buf (Elt Ideal) ℓ) (g' : Dev Cert.InYRefIdeal.nD → PrngReg), Pre_InYIdeal m →
    (∀ c : Dev Cert.InYIdeal.nD,
      m' ((c.tc : Thread Cert.InYRefIdeal.nD Cert.InYRefIdeal.τ).loc Cert.InYRefIdeal.main_arg0) = m ((c.tc : Thread Cert.InYIdeal.nD Cert.InYIdeal.τ).loc Cert.InYIdeal.main_arg0)
      ∧ m' ((c.tc : Thread Cert.InYRefIdeal.nD Cert.InYRefIdeal.τ).loc Cert.InYRefIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v1)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v1) = v0 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.InYRefIdeal.defs (F := Ideal)) (onTc (τ := Cert.InYRefIdeal.τ) (Cert.InYRefIdeal.main (F := Ideal))) ⟨m', fun _ => 0, g'⟩ (fun r => ∀ c : Dev Cert.InYRefIdeal.nD,
          r.2.mem ((c.tc : Thread Cert.InYRefIdeal.nD Cert.InYRefIdeal.τ).loc Cert.InYRefIdeal.main_v0) = v0 c
          ∧ r.2.mem ((c.tc : Thread Cert.InYRefIdeal.nD Cert.InYRefIdeal.τ).loc Cert.InYRefIdeal.main_arg0) = m' ((c.tc : Thread Cert.InYRefIdeal.nD Cert.InYRefIdeal.τ).loc Cert.InYRefIdeal.main_arg0)
          ∧ r.2.mem ((c.tc : Thread Cert.InYRefIdeal.nD Cert.InYRefIdeal.τ).loc Cert.InYRefIdeal.main_arg1) = m' ((c.tc : Thread Cert.InYRefIdeal.nD Cert.InYRefIdeal.τ).loc Cert.InYRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v7)) (v2 : (c : Dev Cert.NormIdeal.nD) → Buf (Elt Ideal) ((c.tc : Thread Cert.NormIdeal.nD Cert.NormIdeal.τ).loc Cert.NormIdeal.main_v16)) (v3 : (c : Dev Cert.NormIdeal.nD) → Buf (Elt Ideal) ((c.tc : Thread Cert.NormIdeal.nD Cert.NormIdeal.τ).loc Cert.NormIdeal.main_v25)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v7) = v1 c
          ∧ r.2.mem ((c.tc : Thread Cert.NormIdeal.nD Cert.NormIdeal.τ).loc Cert.NormIdeal.main_v16) = v2 c
          ∧ r.2.mem ((c.tc : Thread Cert.NormIdeal.nD Cert.NormIdeal.τ).loc Cert.NormIdeal.main_v25) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v70) = v0 c
          ∧ r.2.mem ((c.tc : Thread Cert.NormRefIdeal.nD Cert.NormRefIdeal.τ).loc Cert.NormRefIdeal.main_v56) = v1 c
          ∧ r.2.mem ((c.tc : Thread Cert.NormRefIdeal.nD Cert.NormRefIdeal.τ).loc Cert.NormRefIdeal.main_v44) = v2 c
          ∧ r.2.mem ((c.tc : Thread Cert.NormRefIdeal.nD Cert.NormRefIdeal.τ).loc Cert.NormRefIdeal.main_v50) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_LastUpDx_LastUpDxIdeal : Prop :=
  True

def algebraic_LastUpDxIdeal_LastUpDxRefIdeal [hLastUpDxIdeal : Cert.LastUpDxIdeal.Facts] [hLastUpDxRefIdeal : Cert.LastUpDxRefIdeal.Facts] : Prop :=
  ∀ (m : (ℓ : Loc Cert.LastUpDxIdeal.nD Cert.LastUpDxIdeal.τ Cert.LastUpDxIdeal.sig) → Buf (Elt Ideal) ℓ) (g : Dev Cert.LastUpDxIdeal.nD → PrngReg)
    (m' : (ℓ : Loc Cert.LastUpDxRefIdeal.nD Cert.LastUpDxRefIdeal.τ Cert.LastUpDxRefIdeal.sig) → Buf (Elt Ideal) ℓ) (g' : Dev Cert.LastUpDxRefIdeal.nD → PrngReg), Pre_LastUpDxIdeal m →
    (∀ c : Dev Cert.LastUpDxIdeal.nD,
      m' ((c.tc : Thread Cert.LastUpDxRefIdeal.nD Cert.LastUpDxRefIdeal.τ).loc Cert.LastUpDxRefIdeal.main_arg0) = m ((c.tc : Thread Cert.LastUpDxIdeal.nD Cert.LastUpDxIdeal.τ).loc Cert.LastUpDxIdeal.main_arg0)
      ∧ m' ((c.tc : Thread Cert.LastUpDxRefIdeal.nD Cert.LastUpDxRefIdeal.τ).loc Cert.LastUpDxRefIdeal.main_arg1) = m ((c.tc : Thread Cert.LastUpDxIdeal.nD Cert.LastUpDxIdeal.τ).loc Cert.LastUpDxIdeal.main_arg1)) →
    ∃ (v0 : (c : Dev Cert.LastUpDxIdeal.nD) → Buf (Elt Ideal) ((c.tc : Thread Cert.LastUpDxIdeal.nD Cert.LastUpDxIdeal.τ).loc Cert.LastUpDxIdeal.main_v1)),
      θ_run (Cert.LastUpDxIdeal.defs (F := Ideal)) (onTc (τ := Cert.LastUpDxIdeal.τ) (Cert.LastUpDxIdeal.main (F := Ideal))) ⟨m, fun _ => 0, g⟩ (fun r => ∀ c : Dev Cert.LastUpDxIdeal.nD,
          r.2.mem ((c.tc : Thread Cert.LastUpDxIdeal.nD Cert.LastUpDxIdeal.τ).loc Cert.LastUpDxIdeal.main_v1) = v0 c
          ∧ r.2.mem ((c.tc : Thread Cert.LastUpDxIdeal.nD Cert.LastUpDxIdeal.τ).loc Cert.LastUpDxIdeal.main_arg0) = m ((c.tc : Thread Cert.LastUpDxIdeal.nD Cert.LastUpDxIdeal.τ).loc Cert.LastUpDxIdeal.main_arg0)
          ∧ r.2.mem ((c.tc : Thread Cert.LastUpDxIdeal.nD Cert.LastUpDxIdeal.τ).loc Cert.LastUpDxIdeal.main_arg1) = m ((c.tc : Thread Cert.LastUpDxIdeal.nD Cert.LastUpDxIdeal.τ).loc Cert.LastUpDxIdeal.main_arg1))
      ∧ θ_run (Cert.LastUpDxRefIdeal.defs (F := Ideal)) (onTc (τ := Cert.LastUpDxRefIdeal.τ) (Cert.LastUpDxRefIdeal.main (F := Ideal))) ⟨m', fun _ => 0, g'⟩ (fun r => ∀ c : Dev Cert.LastUpDxRefIdeal.nD,
          r.2.mem ((c.tc : Thread Cert.LastUpDxRefIdeal.nD Cert.LastUpDxRefIdeal.τ).loc Cert.LastUpDxRefIdeal.main_v2) = v0 c
          ∧ r.2.mem ((c.tc : Thread Cert.LastUpDxRefIdeal.nD Cert.LastUpDxRefIdeal.τ).loc Cert.LastUpDxRefIdeal.main_arg0) = m' ((c.tc : Thread Cert.LastUpDxRefIdeal.nD Cert.LastUpDxRefIdeal.τ).loc Cert.LastUpDxRefIdeal.main_arg0)
          ∧ r.2.mem ((c.tc : Thread Cert.LastUpDxRefIdeal.nD Cert.LastUpDxRefIdeal.τ).loc Cert.LastUpDxRefIdeal.main_arg1) = m' ((c.tc : Thread Cert.LastUpDxRefIdeal.nD Cert.LastUpDxRefIdeal.τ).loc Cert.LastUpDxRefIdeal.main_arg1))

def preserves_LastUpDw_LastUpDwIdeal : Prop :=
  True

def algebraic_LastUpDwIdeal_LastUpDwRefIdeal [hLastUpDwIdeal : Cert.LastUpDwIdeal.Facts] [hLastUpDwRefIdeal : Cert.LastUpDwRefIdeal.Facts] : Prop :=
  ∀ (m : (ℓ : Loc Cert.LastUpDwIdeal.nD Cert.LastUpDwIdeal.τ Cert.LastUpDwIdeal.sig) → Buf (Elt Ideal) ℓ) (g : Dev Cert.LastUpDwIdeal.nD → PrngReg)
    (m' : (ℓ : Loc Cert.LastUpDwRefIdeal.nD Cert.LastUpDwRefIdeal.τ Cert.LastUpDwRefIdeal.sig) → Buf (Elt Ideal) ℓ) (g' : Dev Cert.LastUpDwRefIdeal.nD → PrngReg), Pre_LastUpDwIdeal m →
    (∀ c : Dev Cert.LastUpDwIdeal.nD,
      m' ((c.tc : Thread Cert.LastUpDwRefIdeal.nD Cert.LastUpDwRefIdeal.τ).loc Cert.LastUpDwRefIdeal.main_arg0) = m ((c.tc : Thread Cert.LastUpDwIdeal.nD Cert.LastUpDwIdeal.τ).loc Cert.LastUpDwIdeal.main_arg0)
      ∧ m' ((c.tc : Thread Cert.LastUpDwRefIdeal.nD Cert.LastUpDwRefIdeal.τ).loc Cert.LastUpDwRefIdeal.main_arg1) = m ((c.tc : Thread Cert.LastUpDwIdeal.nD Cert.LastUpDwIdeal.τ).loc Cert.LastUpDwIdeal.main_arg1)) →
    ∃ (v0 : (c : Dev Cert.LastUpDwIdeal.nD) → Buf (Elt Ideal) ((c.tc : Thread Cert.LastUpDwIdeal.nD Cert.LastUpDwIdeal.τ).loc Cert.LastUpDwIdeal.main_v0)),
      θ_run (Cert.LastUpDwIdeal.defs (F := Ideal)) (onTc (τ := Cert.LastUpDwIdeal.τ) (Cert.LastUpDwIdeal.main (F := Ideal))) ⟨m, fun _ => 0, g⟩ (fun r => ∀ c : Dev Cert.LastUpDwIdeal.nD,
          r.2.mem ((c.tc : Thread Cert.LastUpDwIdeal.nD Cert.LastUpDwIdeal.τ).loc Cert.LastUpDwIdeal.main_v0) = v0 c
          ∧ r.2.mem ((c.tc : Thread Cert.LastUpDwIdeal.nD Cert.LastUpDwIdeal.τ).loc Cert.LastUpDwIdeal.main_arg0) = m ((c.tc : Thread Cert.LastUpDwIdeal.nD Cert.LastUpDwIdeal.τ).loc Cert.LastUpDwIdeal.main_arg0)
          ∧ r.2.mem ((c.tc : Thread Cert.LastUpDwIdeal.nD Cert.LastUpDwIdeal.τ).loc Cert.LastUpDwIdeal.main_arg1) = m ((c.tc : Thread Cert.LastUpDwIdeal.nD Cert.LastUpDwIdeal.τ).loc Cert.LastUpDwIdeal.main_arg1))
      ∧ θ_run (Cert.LastUpDwRefIdeal.defs (F := Ideal)) (onTc (τ := Cert.LastUpDwRefIdeal.τ) (Cert.LastUpDwRefIdeal.main (F := Ideal))) ⟨m', fun _ => 0, g'⟩ (fun r => ∀ c : Dev Cert.LastUpDwRefIdeal.nD,
          r.2.mem ((c.tc : Thread Cert.LastUpDwRefIdeal.nD Cert.LastUpDwRefIdeal.τ).loc Cert.LastUpDwRefIdeal.main_v3) = v0 c
          ∧ r.2.mem ((c.tc : Thread Cert.LastUpDwRefIdeal.nD Cert.LastUpDwRefIdeal.τ).loc Cert.LastUpDwRefIdeal.main_arg0) = m' ((c.tc : Thread Cert.LastUpDwRefIdeal.nD Cert.LastUpDwRefIdeal.τ).loc Cert.LastUpDwRefIdeal.main_arg0)
          ∧ r.2.mem ((c.tc : Thread Cert.LastUpDwRefIdeal.nD Cert.LastUpDwRefIdeal.τ).loc Cert.LastUpDwRefIdeal.main_arg1) = m' ((c.tc : Thread Cert.LastUpDwRefIdeal.nD Cert.LastUpDwRefIdeal.τ).loc Cert.LastUpDwRefIdeal.main_arg1))

def preserves_LastUpY_LastUpYIdeal : Prop :=
  True

def algebraic_LastUpYIdeal_LastUpYRefIdeal [hLastUpYIdeal : Cert.LastUpYIdeal.Facts] [hLastUpYRefIdeal : Cert.LastUpYRefIdeal.Facts] : Prop :=
  ∀ (m : (ℓ : Loc Cert.LastUpYIdeal.nD Cert.LastUpYIdeal.τ Cert.LastUpYIdeal.sig) → Buf (Elt Ideal) ℓ) (g : Dev Cert.LastUpYIdeal.nD → PrngReg)
    (m' : (ℓ : Loc Cert.LastUpYRefIdeal.nD Cert.LastUpYRefIdeal.τ Cert.LastUpYRefIdeal.sig) → Buf (Elt Ideal) ℓ) (g' : Dev Cert.LastUpYRefIdeal.nD → PrngReg), Pre_LastUpYIdeal m →
    (∀ c : Dev Cert.LastUpYIdeal.nD,
      m' ((c.tc : Thread Cert.LastUpYRefIdeal.nD Cert.LastUpYRefIdeal.τ).loc Cert.LastUpYRefIdeal.main_arg0) = m ((c.tc : Thread Cert.LastUpYIdeal.nD Cert.LastUpYIdeal.τ).loc Cert.LastUpYIdeal.main_arg0)
      ∧ m' ((c.tc : Thread Cert.LastUpYRefIdeal.nD Cert.LastUpYRefIdeal.τ).loc Cert.LastUpYRefIdeal.main_arg1) = m ((c.tc : Thread Cert.LastUpYIdeal.nD Cert.LastUpYIdeal.τ).loc Cert.LastUpYIdeal.main_arg1)) →
    ∃ (v0 : (c : Dev Cert.LastUpYIdeal.nD) → Buf (Elt Ideal) ((c.tc : Thread Cert.LastUpYIdeal.nD Cert.LastUpYIdeal.τ).loc Cert.LastUpYIdeal.main_v1)),
      θ_run (Cert.LastUpYIdeal.defs (F := Ideal)) (onTc (τ := Cert.LastUpYIdeal.τ) (Cert.LastUpYIdeal.main (F := Ideal))) ⟨m, fun _ => 0, g⟩ (fun r => ∀ c : Dev Cert.LastUpYIdeal.nD,
          r.2.mem ((c.tc : Thread Cert.LastUpYIdeal.nD Cert.LastUpYIdeal.τ).loc Cert.LastUpYIdeal.main_v1) = v0 c
          ∧ r.2.mem ((c.tc : Thread Cert.LastUpYIdeal.nD Cert.LastUpYIdeal.τ).loc Cert.LastUpYIdeal.main_arg0) = m ((c.tc : Thread Cert.LastUpYIdeal.nD Cert.LastUpYIdeal.τ).loc Cert.LastUpYIdeal.main_arg0)
          ∧ r.2.mem ((c.tc : Thread Cert.LastUpYIdeal.nD Cert.LastUpYIdeal.τ).loc Cert.LastUpYIdeal.main_arg1) = m ((c.tc : Thread Cert.LastUpYIdeal.nD Cert.LastUpYIdeal.τ).loc Cert.LastUpYIdeal.main_arg1))
      ∧ θ_run (Cert.LastUpYRefIdeal.defs (F := Ideal)) (onTc (τ := Cert.LastUpYRefIdeal.τ) (Cert.LastUpYRefIdeal.main (F := Ideal))) ⟨m', fun _ => 0, g'⟩ (fun r => ∀ c : Dev Cert.LastUpYRefIdeal.nD,
          r.2.mem ((c.tc : Thread Cert.LastUpYRefIdeal.nD Cert.LastUpYRefIdeal.τ).loc Cert.LastUpYRefIdeal.main_v0) = v0 c
          ∧ r.2.mem ((c.tc : Thread Cert.LastUpYRefIdeal.nD Cert.LastUpYRefIdeal.τ).loc Cert.LastUpYRefIdeal.main_arg0) = m' ((c.tc : Thread Cert.LastUpYRefIdeal.nD Cert.LastUpYRefIdeal.τ).loc Cert.LastUpYRefIdeal.main_arg0)
          ∧ r.2.mem ((c.tc : Thread Cert.LastUpYRefIdeal.nD Cert.LastUpYRefIdeal.τ).loc Cert.LastUpYRefIdeal.main_arg1) = m' ((c.tc : Thread Cert.LastUpYRefIdeal.nD Cert.LastUpYRefIdeal.τ).loc Cert.LastUpYRefIdeal.main_arg1))

def preserves_LastDownDx_LastDownDxIdeal : Prop :=
  True

def algebraic_LastDownDxIdeal_LastDownDxRefIdeal [hLastDownDxIdeal : Cert.LastDownDxIdeal.Facts] [hLastDownDxRefIdeal : Cert.LastDownDxRefIdeal.Facts] : Prop :=
  ∀ (m : (ℓ : Loc Cert.LastDownDxIdeal.nD Cert.LastDownDxIdeal.τ Cert.LastDownDxIdeal.sig) → Buf (Elt Ideal) ℓ) (g : Dev Cert.LastDownDxIdeal.nD → PrngReg)
    (m' : (ℓ : Loc Cert.LastDownDxRefIdeal.nD Cert.LastDownDxRefIdeal.τ Cert.LastDownDxRefIdeal.sig) → Buf (Elt Ideal) ℓ) (g' : Dev Cert.LastDownDxRefIdeal.nD → PrngReg), Pre_LastDownDxIdeal m →
    (∀ c : Dev Cert.LastDownDxIdeal.nD,
      m' ((c.tc : Thread Cert.LastDownDxRefIdeal.nD Cert.LastDownDxRefIdeal.τ).loc Cert.LastDownDxRefIdeal.main_arg0) = m ((c.tc : Thread Cert.LastDownDxIdeal.nD Cert.LastDownDxIdeal.τ).loc Cert.LastDownDxIdeal.main_arg0)
      ∧ m' ((c.tc : Thread Cert.LastDownDxRefIdeal.nD Cert.LastDownDxRefIdeal.τ).loc Cert.LastDownDxRefIdeal.main_arg1) = m ((c.tc : Thread Cert.LastDownDxIdeal.nD Cert.LastDownDxIdeal.τ).loc Cert.LastDownDxIdeal.main_arg1)) →
    ∃ (v0 : (c : Dev Cert.LastDownDxIdeal.nD) → Buf (Elt Ideal) ((c.tc : Thread Cert.LastDownDxIdeal.nD Cert.LastDownDxIdeal.τ).loc Cert.LastDownDxIdeal.main_v2)),
      θ_run (Cert.LastDownDxIdeal.defs (F := Ideal)) (onTc (τ := Cert.LastDownDxIdeal.τ) (Cert.LastDownDxIdeal.main (F := Ideal))) ⟨m, fun _ => 0, g⟩ (fun r => ∀ c : Dev Cert.LastDownDxIdeal.nD,
          r.2.mem ((c.tc : Thread Cert.LastDownDxIdeal.nD Cert.LastDownDxIdeal.τ).loc Cert.LastDownDxIdeal.main_v2) = v0 c
          ∧ r.2.mem ((c.tc : Thread Cert.LastDownDxIdeal.nD Cert.LastDownDxIdeal.τ).loc Cert.LastDownDxIdeal.main_arg0) = m ((c.tc : Thread Cert.LastDownDxIdeal.nD Cert.LastDownDxIdeal.τ).loc Cert.LastDownDxIdeal.main_arg0)
          ∧ r.2.mem ((c.tc : Thread Cert.LastDownDxIdeal.nD Cert.LastDownDxIdeal.τ).loc Cert.LastDownDxIdeal.main_arg1) = m ((c.tc : Thread Cert.LastDownDxIdeal.nD Cert.LastDownDxIdeal.τ).loc Cert.LastDownDxIdeal.main_arg1))
      ∧ θ_run (Cert.LastDownDxRefIdeal.defs (F := Ideal)) (onTc (τ := Cert.LastDownDxRefIdeal.τ) (Cert.LastDownDxRefIdeal.main (F := Ideal))) ⟨m', fun _ => 0, g'⟩ (fun r => ∀ c : Dev Cert.LastDownDxRefIdeal.nD,
          r.2.mem ((c.tc : Thread Cert.LastDownDxRefIdeal.nD Cert.LastDownDxRefIdeal.τ).loc Cert.LastDownDxRefIdeal.main_v2) = v0 c
          ∧ r.2.mem ((c.tc : Thread Cert.LastDownDxRefIdeal.nD Cert.LastDownDxRefIdeal.τ).loc Cert.LastDownDxRefIdeal.main_arg0) = m' ((c.tc : Thread Cert.LastDownDxRefIdeal.nD Cert.LastDownDxRefIdeal.τ).loc Cert.LastDownDxRefIdeal.main_arg0)
          ∧ r.2.mem ((c.tc : Thread Cert.LastDownDxRefIdeal.nD Cert.LastDownDxRefIdeal.τ).loc Cert.LastDownDxRefIdeal.main_arg1) = m' ((c.tc : Thread Cert.LastDownDxRefIdeal.nD Cert.LastDownDxRefIdeal.τ).loc Cert.LastDownDxRefIdeal.main_arg1))

def preserves_LastDownDw_LastDownDwIdeal : Prop :=
  True

def algebraic_LastDownDwIdeal_LastDownDwRefIdeal [hLastDownDwIdeal : Cert.LastDownDwIdeal.Facts] [hLastDownDwRefIdeal : Cert.LastDownDwRefIdeal.Facts] : Prop :=
  ∀ (m : (ℓ : Loc Cert.LastDownDwIdeal.nD Cert.LastDownDwIdeal.τ Cert.LastDownDwIdeal.sig) → Buf (Elt Ideal) ℓ) (g : Dev Cert.LastDownDwIdeal.nD → PrngReg)
    (m' : (ℓ : Loc Cert.LastDownDwRefIdeal.nD Cert.LastDownDwRefIdeal.τ Cert.LastDownDwRefIdeal.sig) → Buf (Elt Ideal) ℓ) (g' : Dev Cert.LastDownDwRefIdeal.nD → PrngReg), Pre_LastDownDwIdeal m →
    (∀ c : Dev Cert.LastDownDwIdeal.nD,
      m' ((c.tc : Thread Cert.LastDownDwRefIdeal.nD Cert.LastDownDwRefIdeal.τ).loc Cert.LastDownDwRefIdeal.main_arg0) = m ((c.tc : Thread Cert.LastDownDwIdeal.nD Cert.LastDownDwIdeal.τ).loc Cert.LastDownDwIdeal.main_arg0)
      ∧ m' ((c.tc : Thread Cert.LastDownDwRefIdeal.nD Cert.LastDownDwRefIdeal.τ).loc Cert.LastDownDwRefIdeal.main_arg1) = m ((c.tc : Thread Cert.LastDownDwIdeal.nD Cert.LastDownDwIdeal.τ).loc Cert.LastDownDwIdeal.main_arg1)) →
    ∃ (v0 : (c : Dev Cert.LastDownDwIdeal.nD) → Buf (Elt Ideal) ((c.tc : Thread Cert.LastDownDwIdeal.nD Cert.LastDownDwIdeal.τ).loc Cert.LastDownDwIdeal.main_v1)),
      θ_run (Cert.LastDownDwIdeal.defs (F := Ideal)) (onTc (τ := Cert.LastDownDwIdeal.τ) (Cert.LastDownDwIdeal.main (F := Ideal))) ⟨m, fun _ => 0, g⟩ (fun r => ∀ c : Dev Cert.LastDownDwIdeal.nD,
          r.2.mem ((c.tc : Thread Cert.LastDownDwIdeal.nD Cert.LastDownDwIdeal.τ).loc Cert.LastDownDwIdeal.main_v1) = v0 c
          ∧ r.2.mem ((c.tc : Thread Cert.LastDownDwIdeal.nD Cert.LastDownDwIdeal.τ).loc Cert.LastDownDwIdeal.main_arg0) = m ((c.tc : Thread Cert.LastDownDwIdeal.nD Cert.LastDownDwIdeal.τ).loc Cert.LastDownDwIdeal.main_arg0)
          ∧ r.2.mem ((c.tc : Thread Cert.LastDownDwIdeal.nD Cert.LastDownDwIdeal.τ).loc Cert.LastDownDwIdeal.main_arg1) = m ((c.tc : Thread Cert.LastDownDwIdeal.nD Cert.LastDownDwIdeal.τ).loc Cert.LastDownDwIdeal.main_arg1))
      ∧ θ_run (Cert.LastDownDwRefIdeal.defs (F := Ideal)) (onTc (τ := Cert.LastDownDwRefIdeal.τ) (Cert.LastDownDwRefIdeal.main (F := Ideal))) ⟨m', fun _ => 0, g'⟩ (fun r => ∀ c : Dev Cert.LastDownDwRefIdeal.nD,
          r.2.mem ((c.tc : Thread Cert.LastDownDwRefIdeal.nD Cert.LastDownDwRefIdeal.τ).loc Cert.LastDownDwRefIdeal.main_v3) = v0 c
          ∧ r.2.mem ((c.tc : Thread Cert.LastDownDwRefIdeal.nD Cert.LastDownDwRefIdeal.τ).loc Cert.LastDownDwRefIdeal.main_arg0) = m' ((c.tc : Thread Cert.LastDownDwRefIdeal.nD Cert.LastDownDwRefIdeal.τ).loc Cert.LastDownDwRefIdeal.main_arg0)
          ∧ r.2.mem ((c.tc : Thread Cert.LastDownDwRefIdeal.nD Cert.LastDownDwRefIdeal.τ).loc Cert.LastDownDwRefIdeal.main_arg1) = m' ((c.tc : Thread Cert.LastDownDwRefIdeal.nD Cert.LastDownDwRefIdeal.τ).loc Cert.LastDownDwRefIdeal.main_arg1))

def preserves_LastDownY_LastDownYIdeal : Prop :=
  True

def algebraic_LastDownYIdeal_LastDownYRefIdeal [hLastDownYIdeal : Cert.LastDownYIdeal.Facts] [hLastDownYRefIdeal : Cert.LastDownYRefIdeal.Facts] : Prop :=
  ∀ (m : (ℓ : Loc Cert.LastDownYIdeal.nD Cert.LastDownYIdeal.τ Cert.LastDownYIdeal.sig) → Buf (Elt Ideal) ℓ) (g : Dev Cert.LastDownYIdeal.nD → PrngReg)
    (m' : (ℓ : Loc Cert.LastDownYRefIdeal.nD Cert.LastDownYRefIdeal.τ Cert.LastDownYRefIdeal.sig) → Buf (Elt Ideal) ℓ) (g' : Dev Cert.LastDownYRefIdeal.nD → PrngReg), Pre_LastDownYIdeal m →
    (∀ c : Dev Cert.LastDownYIdeal.nD,
      m' ((c.tc : Thread Cert.LastDownYRefIdeal.nD Cert.LastDownYRefIdeal.τ).loc Cert.LastDownYRefIdeal.main_arg0) = m ((c.tc : Thread Cert.LastDownYIdeal.nD Cert.LastDownYIdeal.τ).loc Cert.LastDownYIdeal.main_arg0)
      ∧ m' ((c.tc : Thread Cert.LastDownYRefIdeal.nD Cert.LastDownYRefIdeal.τ).loc Cert.LastDownYRefIdeal.main_arg1) = m ((c.tc : Thread Cert.LastDownYIdeal.nD Cert.LastDownYIdeal.τ).loc Cert.LastDownYIdeal.main_arg1)) →
    ∃ (v0 : (c : Dev Cert.LastDownYIdeal.nD) → Buf (Elt Ideal) ((c.tc : Thread Cert.LastDownYIdeal.nD Cert.LastDownYIdeal.τ).loc Cert.LastDownYIdeal.main_v1)),
      θ_run (Cert.LastDownYIdeal.defs (F := Ideal)) (onTc (τ := Cert.LastDownYIdeal.τ) (Cert.LastDownYIdeal.main (F := Ideal))) ⟨m, fun _ => 0, g⟩ (fun r => ∀ c : Dev Cert.LastDownYIdeal.nD,
          r.2.mem ((c.tc : Thread Cert.LastDownYIdeal.nD Cert.LastDownYIdeal.τ).loc Cert.LastDownYIdeal.main_v1) = v0 c
          ∧ r.2.mem ((c.tc : Thread Cert.LastDownYIdeal.nD Cert.LastDownYIdeal.τ).loc Cert.LastDownYIdeal.main_arg0) = m ((c.tc : Thread Cert.LastDownYIdeal.nD Cert.LastDownYIdeal.τ).loc Cert.LastDownYIdeal.main_arg0)
          ∧ r.2.mem ((c.tc : Thread Cert.LastDownYIdeal.nD Cert.LastDownYIdeal.τ).loc Cert.LastDownYIdeal.main_arg1) = m ((c.tc : Thread Cert.LastDownYIdeal.nD Cert.LastDownYIdeal.τ).loc Cert.LastDownYIdeal.main_arg1))
      ∧ θ_run (Cert.LastDownYRefIdeal.defs (F := Ideal)) (onTc (τ := Cert.LastDownYRefIdeal.τ) (Cert.LastDownYRefIdeal.main (F := Ideal))) ⟨m', fun _ => 0, g'⟩ (fun r => ∀ c : Dev Cert.LastDownYRefIdeal.nD,
          r.2.mem ((c.tc : Thread Cert.LastDownYRefIdeal.nD Cert.LastDownYRefIdeal.τ).loc Cert.LastDownYRefIdeal.main_v0) = v0 c
          ∧ r.2.mem ((c.tc : Thread Cert.LastDownYRefIdeal.nD Cert.LastDownYRefIdeal.τ).loc Cert.LastDownYRefIdeal.main_arg0) = m' ((c.tc : Thread Cert.LastDownYRefIdeal.nD Cert.LastDownYRefIdeal.τ).loc Cert.LastDownYRefIdeal.main_arg0)
          ∧ r.2.mem ((c.tc : Thread Cert.LastDownYRefIdeal.nD Cert.LastDownYRefIdeal.τ).loc Cert.LastDownYRefIdeal.main_arg1) = m' ((c.tc : Thread Cert.LastDownYRefIdeal.nD Cert.LastDownYRefIdeal.τ).loc Cert.LastDownYRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutY_OutYIdeal : Prop :=
  True

def algebraic_OutYIdeal_OutYRefIdeal [hOutYIdeal : Cert.OutYIdeal.Facts] [hOutYRefIdeal : Cert.OutYRefIdeal.Facts] : Prop :=
  ∀ (m : (ℓ : Loc Cert.OutYIdeal.nD Cert.OutYIdeal.τ Cert.OutYIdeal.sig) → Buf (Elt Ideal) ℓ) (g : Dev Cert.OutYIdeal.nD → PrngReg)
    (m' : (ℓ : Loc Cert.OutYRefIdeal.nD Cert.OutYRefIdeal.τ Cert.OutYRefIdeal.sig) → Buf (Elt Ideal) ℓ) (g' : Dev Cert.OutYRefIdeal.nD → PrngReg), Pre_OutYIdeal m →
    (∀ c : Dev Cert.OutYIdeal.nD,
      m' ((c.tc : Thread Cert.OutYRefIdeal.nD Cert.OutYRefIdeal.τ).loc Cert.OutYRefIdeal.main_arg0) = m ((c.tc : Thread Cert.OutYIdeal.nD Cert.OutYIdeal.τ).loc Cert.OutYIdeal.main_arg0)
      ∧ m' ((c.tc : Thread Cert.OutYRefIdeal.nD Cert.OutYRefIdeal.τ).loc Cert.OutYRefIdeal.main_arg1) = m ((c.tc : Thread Cert.OutYIdeal.nD Cert.OutYIdeal.τ).loc Cert.OutYIdeal.main_arg1)) →
    ∃ (v0 : (c : Dev Cert.OutYIdeal.nD) → Buf (Elt Ideal) ((c.tc : Thread Cert.OutYIdeal.nD Cert.OutYIdeal.τ).loc Cert.OutYIdeal.main_v2)),
      θ_run (Cert.OutYIdeal.defs (F := Ideal)) (onTc (τ := Cert.OutYIdeal.τ) (Cert.OutYIdeal.main (F := Ideal))) ⟨m, fun _ => 0, g⟩ (fun r => ∀ c : Dev Cert.OutYIdeal.nD,
          r.2.mem ((c.tc : Thread Cert.OutYIdeal.nD Cert.OutYIdeal.τ).loc Cert.OutYIdeal.main_v2) = v0 c
          ∧ r.2.mem ((c.tc : Thread Cert.OutYIdeal.nD Cert.OutYIdeal.τ).loc Cert.OutYIdeal.main_arg0) = m ((c.tc : Thread Cert.OutYIdeal.nD Cert.OutYIdeal.τ).loc Cert.OutYIdeal.main_arg0)
          ∧ r.2.mem ((c.tc : Thread Cert.OutYIdeal.nD Cert.OutYIdeal.τ).loc Cert.OutYIdeal.main_arg1) = m ((c.tc : Thread Cert.OutYIdeal.nD Cert.OutYIdeal.τ).loc Cert.OutYIdeal.main_arg1))
      ∧ θ_run (Cert.OutYRefIdeal.defs (F := Ideal)) (onTc (τ := Cert.OutYRefIdeal.τ) (Cert.OutYRefIdeal.main (F := Ideal))) ⟨m', fun _ => 0, g'⟩ (fun r => ∀ c : Dev Cert.OutYRefIdeal.nD,
          r.2.mem ((c.tc : Thread Cert.OutYRefIdeal.nD Cert.OutYRefIdeal.τ).loc Cert.OutYRefIdeal.main_v0) = v0 c
          ∧ r.2.mem ((c.tc : Thread Cert.OutYRefIdeal.nD Cert.OutYRefIdeal.τ).loc Cert.OutYRefIdeal.main_arg0) = m' ((c.tc : Thread Cert.OutYRefIdeal.nD Cert.OutYRefIdeal.τ).loc Cert.OutYRefIdeal.main_arg0)
          ∧ r.2.mem ((c.tc : Thread Cert.OutYRefIdeal.nD Cert.OutYRefIdeal.τ).loc Cert.OutYRefIdeal.main_arg1) = m' ((c.tc : Thread Cert.OutYRefIdeal.nD Cert.OutYRefIdeal.τ).loc Cert.OutYRefIdeal.main_arg1))

def preserves_LastOutDx_LastOutDxIdeal : Prop :=
  True

def algebraic_LastOutDxIdeal_LastOutDxRefIdeal [hLastOutDxIdeal : Cert.LastOutDxIdeal.Facts] [hLastOutDxRefIdeal : Cert.LastOutDxRefIdeal.Facts] : Prop :=
  ∀ (m : (ℓ : Loc Cert.LastOutDxIdeal.nD Cert.LastOutDxIdeal.τ Cert.LastOutDxIdeal.sig) → Buf (Elt Ideal) ℓ) (g : Dev Cert.LastOutDxIdeal.nD → PrngReg)
    (m' : (ℓ : Loc Cert.LastOutDxRefIdeal.nD Cert.LastOutDxRefIdeal.τ Cert.LastOutDxRefIdeal.sig) → Buf (Elt Ideal) ℓ) (g' : Dev Cert.LastOutDxRefIdeal.nD → PrngReg), Pre_LastOutDxIdeal m →
    (∀ c : Dev Cert.LastOutDxIdeal.nD,
      m' ((c.tc : Thread Cert.LastOutDxRefIdeal.nD Cert.LastOutDxRefIdeal.τ).loc Cert.LastOutDxRefIdeal.main_arg0) = m ((c.tc : Thread Cert.LastOutDxIdeal.nD Cert.LastOutDxIdeal.τ).loc Cert.LastOutDxIdeal.main_arg0)
      ∧ m' ((c.tc : Thread Cert.LastOutDxRefIdeal.nD Cert.LastOutDxRefIdeal.τ).loc Cert.LastOutDxRefIdeal.main_arg1) = m ((c.tc : Thread Cert.LastOutDxIdeal.nD Cert.LastOutDxIdeal.τ).loc Cert.LastOutDxIdeal.main_arg1)) →
    ∃ (v0 : (c : Dev Cert.LastOutDxIdeal.nD) → Buf (Elt Ideal) ((c.tc : Thread Cert.LastOutDxIdeal.nD Cert.LastOutDxIdeal.τ).loc Cert.LastOutDxIdeal.main_v2)),
      θ_run (Cert.LastOutDxIdeal.defs (F := Ideal)) (onTc (τ := Cert.LastOutDxIdeal.τ) (Cert.LastOutDxIdeal.main (F := Ideal))) ⟨m, fun _ => 0, g⟩ (fun r => ∀ c : Dev Cert.LastOutDxIdeal.nD,
          r.2.mem ((c.tc : Thread Cert.LastOutDxIdeal.nD Cert.LastOutDxIdeal.τ).loc Cert.LastOutDxIdeal.main_v2) = v0 c
          ∧ r.2.mem ((c.tc : Thread Cert.LastOutDxIdeal.nD Cert.LastOutDxIdeal.τ).loc Cert.LastOutDxIdeal.main_arg0) = m ((c.tc : Thread Cert.LastOutDxIdeal.nD Cert.LastOutDxIdeal.τ).loc Cert.LastOutDxIdeal.main_arg0)
          ∧ r.2.mem ((c.tc : Thread Cert.LastOutDxIdeal.nD Cert.LastOutDxIdeal.τ).loc Cert.LastOutDxIdeal.main_arg1) = m ((c.tc : Thread Cert.LastOutDxIdeal.nD Cert.LastOutDxIdeal.τ).loc Cert.LastOutDxIdeal.main_arg1))
      ∧ θ_run (Cert.LastOutDxRefIdeal.defs (F := Ideal)) (onTc (τ := Cert.LastOutDxRefIdeal.τ) (Cert.LastOutDxRefIdeal.main (F := Ideal))) ⟨m', fun _ => 0, g'⟩ (fun r => ∀ c : Dev Cert.LastOutDxRefIdeal.nD,
          r.2.mem ((c.tc : Thread Cert.LastOutDxRefIdeal.nD Cert.LastOutDxRefIdeal.τ).loc Cert.LastOutDxRefIdeal.main_v2) = v0 c
          ∧ r.2.mem ((c.tc : Thread Cert.LastOutDxRefIdeal.nD Cert.LastOutDxRefIdeal.τ).loc Cert.LastOutDxRefIdeal.main_arg0) = m' ((c.tc : Thread Cert.LastOutDxRefIdeal.nD Cert.LastOutDxRefIdeal.τ).loc Cert.LastOutDxRefIdeal.main_arg0)
          ∧ r.2.mem ((c.tc : Thread Cert.LastOutDxRefIdeal.nD Cert.LastOutDxRefIdeal.τ).loc Cert.LastOutDxRefIdeal.main_arg1) = m' ((c.tc : Thread Cert.LastOutDxRefIdeal.nD Cert.LastOutDxRefIdeal.τ).loc Cert.LastOutDxRefIdeal.main_arg1))

def preserves_LastOutDw_LastOutDwIdeal : Prop :=
  True

def algebraic_LastOutDwIdeal_LastOutDwRefIdeal [hLastOutDwIdeal : Cert.LastOutDwIdeal.Facts] [hLastOutDwRefIdeal : Cert.LastOutDwRefIdeal.Facts] : Prop :=
  ∀ (m : (ℓ : Loc Cert.LastOutDwIdeal.nD Cert.LastOutDwIdeal.τ Cert.LastOutDwIdeal.sig) → Buf (Elt Ideal) ℓ) (g : Dev Cert.LastOutDwIdeal.nD → PrngReg)
    (m' : (ℓ : Loc Cert.LastOutDwRefIdeal.nD Cert.LastOutDwRefIdeal.τ Cert.LastOutDwRefIdeal.sig) → Buf (Elt Ideal) ℓ) (g' : Dev Cert.LastOutDwRefIdeal.nD → PrngReg), Pre_LastOutDwIdeal m →
    (∀ c : Dev Cert.LastOutDwIdeal.nD,
      m' ((c.tc : Thread Cert.LastOutDwRefIdeal.nD Cert.LastOutDwRefIdeal.τ).loc Cert.LastOutDwRefIdeal.main_arg0) = m ((c.tc : Thread Cert.LastOutDwIdeal.nD Cert.LastOutDwIdeal.τ).loc Cert.LastOutDwIdeal.main_arg0)
      ∧ m' ((c.tc : Thread Cert.LastOutDwRefIdeal.nD Cert.LastOutDwRefIdeal.τ).loc Cert.LastOutDwRefIdeal.main_arg1) = m ((c.tc : Thread Cert.LastOutDwIdeal.nD Cert.LastOutDwIdeal.τ).loc Cert.LastOutDwIdeal.main_arg1)) →
    ∃ (v0 : (c : Dev Cert.LastOutDwIdeal.nD) → Buf (Elt Ideal) ((c.tc : Thread Cert.LastOutDwIdeal.nD Cert.LastOutDwIdeal.τ).loc Cert.LastOutDwIdeal.main_v2)),
      θ_run (Cert.LastOutDwIdeal.defs (F := Ideal)) (onTc (τ := Cert.LastOutDwIdeal.τ) (Cert.LastOutDwIdeal.main (F := Ideal))) ⟨m, fun _ => 0, g⟩ (fun r => ∀ c : Dev Cert.LastOutDwIdeal.nD,
          r.2.mem ((c.tc : Thread Cert.LastOutDwIdeal.nD Cert.LastOutDwIdeal.τ).loc Cert.LastOutDwIdeal.main_v2) = v0 c
          ∧ r.2.mem ((c.tc : Thread Cert.LastOutDwIdeal.nD Cert.LastOutDwIdeal.τ).loc Cert.LastOutDwIdeal.main_arg0) = m ((c.tc : Thread Cert.LastOutDwIdeal.nD Cert.LastOutDwIdeal.τ).loc Cert.LastOutDwIdeal.main_arg0)
          ∧ r.2.mem ((c.tc : Thread Cert.LastOutDwIdeal.nD Cert.LastOutDwIdeal.τ).loc Cert.LastOutDwIdeal.main_arg1) = m ((c.tc : Thread Cert.LastOutDwIdeal.nD Cert.LastOutDwIdeal.τ).loc Cert.LastOutDwIdeal.main_arg1))
      ∧ θ_run (Cert.LastOutDwRefIdeal.defs (F := Ideal)) (onTc (τ := Cert.LastOutDwRefIdeal.τ) (Cert.LastOutDwRefIdeal.main (F := Ideal))) ⟨m', fun _ => 0, g'⟩ (fun r => ∀ c : Dev Cert.LastOutDwRefIdeal.nD,
          r.2.mem ((c.tc : Thread Cert.LastOutDwRefIdeal.nD Cert.LastOutDwRefIdeal.τ).loc Cert.LastOutDwRefIdeal.main_v3) = v0 c
          ∧ r.2.mem ((c.tc : Thread Cert.LastOutDwRefIdeal.nD Cert.LastOutDwRefIdeal.τ).loc Cert.LastOutDwRefIdeal.main_arg0) = m' ((c.tc : Thread Cert.LastOutDwRefIdeal.nD Cert.LastOutDwRefIdeal.τ).loc Cert.LastOutDwRefIdeal.main_arg0)
          ∧ r.2.mem ((c.tc : Thread Cert.LastOutDwRefIdeal.nD Cert.LastOutDwRefIdeal.τ).loc Cert.LastOutDwRefIdeal.main_arg1) = m' ((c.tc : Thread Cert.LastOutDwRefIdeal.nD Cert.LastOutDwRefIdeal.τ).loc Cert.LastOutDwRefIdeal.main_arg1))

def preserves_LastOutY_LastOutYIdeal : Prop :=
  True

def algebraic_LastOutYIdeal_LastOutYRefIdeal [hLastOutYIdeal : Cert.LastOutYIdeal.Facts] [hLastOutYRefIdeal : Cert.LastOutYRefIdeal.Facts] : Prop :=
  ∀ (m : (ℓ : Loc Cert.LastOutYIdeal.nD Cert.LastOutYIdeal.τ Cert.LastOutYIdeal.sig) → Buf (Elt Ideal) ℓ) (g : Dev Cert.LastOutYIdeal.nD → PrngReg)
    (m' : (ℓ : Loc Cert.LastOutYRefIdeal.nD Cert.LastOutYRefIdeal.τ Cert.LastOutYRefIdeal.sig) → Buf (Elt Ideal) ℓ) (g' : Dev Cert.LastOutYRefIdeal.nD → PrngReg), Pre_LastOutYIdeal m →
    (∀ c : Dev Cert.LastOutYIdeal.nD,
      m' ((c.tc : Thread Cert.LastOutYRefIdeal.nD Cert.LastOutYRefIdeal.τ).loc Cert.LastOutYRefIdeal.main_arg0) = m ((c.tc : Thread Cert.LastOutYIdeal.nD Cert.LastOutYIdeal.τ).loc Cert.LastOutYIdeal.main_arg0)
      ∧ m' ((c.tc : Thread Cert.LastOutYRefIdeal.nD Cert.LastOutYRefIdeal.τ).loc Cert.LastOutYRefIdeal.main_arg1) = m ((c.tc : Thread Cert.LastOutYIdeal.nD Cert.LastOutYIdeal.τ).loc Cert.LastOutYIdeal.main_arg1)) →
    ∃ (v0 : (c : Dev Cert.LastOutYIdeal.nD) → Buf (Elt Ideal) ((c.tc : Thread Cert.LastOutYIdeal.nD Cert.LastOutYIdeal.τ).loc Cert.LastOutYIdeal.main_v2)),
      θ_run (Cert.LastOutYIdeal.defs (F := Ideal)) (onTc (τ := Cert.LastOutYIdeal.τ) (Cert.LastOutYIdeal.main (F := Ideal))) ⟨m, fun _ => 0, g⟩ (fun r => ∀ c : Dev Cert.LastOutYIdeal.nD,
          r.2.mem ((c.tc : Thread Cert.LastOutYIdeal.nD Cert.LastOutYIdeal.τ).loc Cert.LastOutYIdeal.main_v2) = v0 c
          ∧ r.2.mem ((c.tc : Thread Cert.LastOutYIdeal.nD Cert.LastOutYIdeal.τ).loc Cert.LastOutYIdeal.main_arg0) = m ((c.tc : Thread Cert.LastOutYIdeal.nD Cert.LastOutYIdeal.τ).loc Cert.LastOutYIdeal.main_arg0)
          ∧ r.2.mem ((c.tc : Thread Cert.LastOutYIdeal.nD Cert.LastOutYIdeal.τ).loc Cert.LastOutYIdeal.main_arg1) = m ((c.tc : Thread Cert.LastOutYIdeal.nD Cert.LastOutYIdeal.τ).loc Cert.LastOutYIdeal.main_arg1))
      ∧ θ_run (Cert.LastOutYRefIdeal.defs (F := Ideal)) (onTc (τ := Cert.LastOutYRefIdeal.τ) (Cert.LastOutYRefIdeal.main (F := Ideal))) ⟨m', fun _ => 0, g'⟩ (fun r => ∀ c : Dev Cert.LastOutYRefIdeal.nD,
          r.2.mem ((c.tc : Thread Cert.LastOutYRefIdeal.nD Cert.LastOutYRefIdeal.τ).loc Cert.LastOutYRefIdeal.main_v0) = v0 c
          ∧ r.2.mem ((c.tc : Thread Cert.LastOutYRefIdeal.nD Cert.LastOutYRefIdeal.τ).loc Cert.LastOutYRefIdeal.main_arg0) = m' ((c.tc : Thread Cert.LastOutYRefIdeal.nD Cert.LastOutYRefIdeal.τ).loc Cert.LastOutYRefIdeal.main_arg0)
          ∧ r.2.mem ((c.tc : Thread Cert.LastOutYRefIdeal.nD Cert.LastOutYRefIdeal.τ).loc Cert.LastOutYRefIdeal.main_arg1) = m' ((c.tc : Thread Cert.LastOutYRefIdeal.nD Cert.LastOutYRefIdeal.τ).loc Cert.LastOutYRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v6)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v6) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v30) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ResidFwd_ResidFwdIdeal : Prop :=
  True

def algebraic_ResidFwdIdeal_ResidFwdRefIdeal [hResidFwdIdeal : Cert.ResidFwdIdeal.Facts] [hResidFwdRefIdeal : Cert.ResidFwdRefIdeal.Facts] : Prop :=
  ∀ (m : (ℓ : Loc Cert.ResidFwdIdeal.nD Cert.ResidFwdIdeal.τ Cert.ResidFwdIdeal.sig) → Buf (Elt Ideal) ℓ) (g : Dev Cert.ResidFwdIdeal.nD → PrngReg)
    (m' : (ℓ : Loc Cert.ResidFwdRefIdeal.nD Cert.ResidFwdRefIdeal.τ Cert.ResidFwdRefIdeal.sig) → Buf (Elt Ideal) ℓ) (g' : Dev Cert.ResidFwdRefIdeal.nD → PrngReg), Pre_ResidFwdIdeal m →
    (∀ c : Dev Cert.ResidFwdIdeal.nD,
      m' ((c.tc : Thread Cert.ResidFwdRefIdeal.nD Cert.ResidFwdRefIdeal.τ).loc Cert.ResidFwdRefIdeal.main_arg0) = m ((c.tc : Thread Cert.ResidFwdIdeal.nD Cert.ResidFwdIdeal.τ).loc Cert.ResidFwdIdeal.main_arg0)
      ∧ m' ((c.tc : Thread Cert.ResidFwdRefIdeal.nD Cert.ResidFwdRefIdeal.τ).loc Cert.ResidFwdRefIdeal.main_arg1) = m ((c.tc : Thread Cert.ResidFwdIdeal.nD Cert.ResidFwdIdeal.τ).loc Cert.ResidFwdIdeal.main_arg1)
      ∧ m' ((c.tc : Thread Cert.ResidFwdRefIdeal.nD Cert.ResidFwdRefIdeal.τ).loc Cert.ResidFwdRefIdeal.main_arg2) = m ((c.tc : Thread Cert.ResidFwdIdeal.nD Cert.ResidFwdIdeal.τ).loc Cert.ResidFwdIdeal.main_arg2)
      ∧ m' ((c.tc : Thread Cert.ResidFwdRefIdeal.nD Cert.ResidFwdRefIdeal.τ).loc Cert.ResidFwdRefIdeal.main_arg3) = m ((c.tc : Thread Cert.ResidFwdIdeal.nD Cert.ResidFwdIdeal.τ).loc Cert.ResidFwdIdeal.main_arg3)) →
    ∃ (v0 : (c : Dev Cert.ResidFwdIdeal.nD) → Buf (Elt Ideal) ((c.tc : Thread Cert.ResidFwdIdeal.nD Cert.ResidFwdIdeal.τ).loc Cert.ResidFwdIdeal.main_v4)),
      θ_run (Cert.ResidFwdIdeal.defs (F := Ideal)) (onTc (τ := Cert.ResidFwdIdeal.τ) (Cert.ResidFwdIdeal.main (F := Ideal))) ⟨m, fun _ => 0, g⟩ (fun r => ∀ c : Dev Cert.ResidFwdIdeal.nD,
          r.2.mem ((c.tc : Thread Cert.ResidFwdIdeal.nD Cert.ResidFwdIdeal.τ).loc Cert.ResidFwdIdeal.main_v4) = v0 c
          ∧ r.2.mem ((c.tc : Thread Cert.ResidFwdIdeal.nD Cert.ResidFwdIdeal.τ).loc Cert.ResidFwdIdeal.main_arg0) = m ((c.tc : Thread Cert.ResidFwdIdeal.nD Cert.ResidFwdIdeal.τ).loc Cert.ResidFwdIdeal.main_arg0)
          ∧ r.2.mem ((c.tc : Thread Cert.ResidFwdIdeal.nD Cert.ResidFwdIdeal.τ).loc Cert.ResidFwdIdeal.main_arg1) = m ((c.tc : Thread Cert.ResidFwdIdeal.nD Cert.ResidFwdIdeal.τ).loc Cert.ResidFwdIdeal.main_arg1)
          ∧ r.2.mem ((c.tc : Thread Cert.ResidFwdIdeal.nD Cert.ResidFwdIdeal.τ).loc Cert.ResidFwdIdeal.main_arg2) = m ((c.tc : Thread Cert.ResidFwdIdeal.nD Cert.ResidFwdIdeal.τ).loc Cert.ResidFwdIdeal.main_arg2)
          ∧ r.2.mem ((c.tc : Thread Cert.ResidFwdIdeal.nD Cert.ResidFwdIdeal.τ).loc Cert.ResidFwdIdeal.main_arg3) = m ((c.tc : Thread Cert.ResidFwdIdeal.nD Cert.ResidFwdIdeal.τ).loc Cert.ResidFwdIdeal.main_arg3))
      ∧ θ_run (Cert.ResidFwdRefIdeal.defs (F := Ideal)) (onTc (τ := Cert.ResidFwdRefIdeal.τ) (Cert.ResidFwdRefIdeal.main (F := Ideal))) ⟨m', fun _ => 0, g'⟩ (fun r => ∀ c : Dev Cert.ResidFwdRefIdeal.nD,
          r.2.mem ((c.tc : Thread Cert.ResidFwdRefIdeal.nD Cert.ResidFwdRefIdeal.τ).loc Cert.ResidFwdRefIdeal.main_v23) = v0 c
          ∧ r.2.mem ((c.tc : Thread Cert.ResidFwdRefIdeal.nD Cert.ResidFwdRefIdeal.τ).loc Cert.ResidFwdRefIdeal.main_arg0) = m' ((c.tc : Thread Cert.ResidFwdRefIdeal.nD Cert.ResidFwdRefIdeal.τ).loc Cert.ResidFwdRefIdeal.main_arg0)
          ∧ r.2.mem ((c.tc : Thread Cert.ResidFwdRefIdeal.nD Cert.ResidFwdRefIdeal.τ).loc Cert.ResidFwdRefIdeal.main_arg1) = m' ((c.tc : Thread Cert.ResidFwdRefIdeal.nD Cert.ResidFwdRefIdeal.τ).loc Cert.ResidFwdRefIdeal.main_arg1)
          ∧ r.2.mem ((c.tc : Thread Cert.ResidFwdRefIdeal.nD Cert.ResidFwdRefIdeal.τ).loc Cert.ResidFwdRefIdeal.main_arg2) = m' ((c.tc : Thread Cert.ResidFwdRefIdeal.nD Cert.ResidFwdRefIdeal.τ).loc Cert.ResidFwdRefIdeal.main_arg2)
          ∧ r.2.mem ((c.tc : Thread Cert.ResidFwdRefIdeal.nD Cert.ResidFwdRefIdeal.τ).loc Cert.ResidFwdRefIdeal.main_arg3) = m' ((c.tc : Thread Cert.ResidFwdRefIdeal.nD Cert.ResidFwdRefIdeal.τ).loc Cert.ResidFwdRefIdeal.main_arg3))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v4_0)) (v1 : (c : Dev Cert.ResidIdeal.nD) → Buf (Elt Ideal) ((c.tc : Thread Cert.ResidIdeal.nD Cert.ResidIdeal.τ).loc Cert.ResidIdeal.main_v7)) (v2 : (c : Dev Cert.ResidIdeal.nD) → Buf (Elt Ideal) ((c.tc : Thread Cert.ResidIdeal.nD Cert.ResidIdeal.τ).loc Cert.ResidIdeal.main_v16)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v4_0) = v0 c
          ∧ r.2.mem ((c.tc : Thread Cert.ResidIdeal.nD Cert.ResidIdeal.τ).loc Cert.ResidIdeal.main_v7) = v1 c
          ∧ r.2.mem ((c.tc : Thread Cert.ResidIdeal.nD Cert.ResidIdeal.τ).loc Cert.ResidIdeal.main_v16) = v2 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v49) = v0 c
          ∧ r.2.mem ((c.tc : Thread Cert.ResidRefIdeal.nD Cert.ResidRefIdeal.τ).loc Cert.ResidRefIdeal.main_v35) = v1 c
          ∧ r.2.mem ((c.tc : Thread Cert.ResidRefIdeal.nD Cert.ResidRefIdeal.τ).loc Cert.ResidRefIdeal.main_v55) = v2 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_MidFwd_MidFwdIdeal : Prop :=
  True

def algebraic_MidFwdIdeal_MidFwdRefIdeal [hMidFwdIdeal : Cert.MidFwdIdeal.Facts] [hMidFwdRefIdeal : Cert.MidFwdRefIdeal.Facts] : Prop :=
  ∀ (m : (ℓ : Loc Cert.MidFwdIdeal.nD Cert.MidFwdIdeal.τ Cert.MidFwdIdeal.sig) → Buf (Elt Ideal) ℓ) (g : Dev Cert.MidFwdIdeal.nD → PrngReg)
    (m' : (ℓ : Loc Cert.MidFwdRefIdeal.nD Cert.MidFwdRefIdeal.τ Cert.MidFwdRefIdeal.sig) → Buf (Elt Ideal) ℓ) (g' : Dev Cert.MidFwdRefIdeal.nD → PrngReg), Pre_MidFwdIdeal m →
    (∀ c : Dev Cert.MidFwdIdeal.nD,
      m' ((c.tc : Thread Cert.MidFwdRefIdeal.nD Cert.MidFwdRefIdeal.τ).loc Cert.MidFwdRefIdeal.main_arg0) = m ((c.tc : Thread Cert.MidFwdIdeal.nD Cert.MidFwdIdeal.τ).loc Cert.MidFwdIdeal.main_arg0)
      ∧ m' ((c.tc : Thread Cert.MidFwdRefIdeal.nD Cert.MidFwdRefIdeal.τ).loc Cert.MidFwdRefIdeal.main_arg1) = m ((c.tc : Thread Cert.MidFwdIdeal.nD Cert.MidFwdIdeal.τ).loc Cert.MidFwdIdeal.main_arg1)
      ∧ m' ((c.tc : Thread Cert.MidFwdRefIdeal.nD Cert.MidFwdRefIdeal.τ).loc Cert.MidFwdRefIdeal.main_arg2) = m ((c.tc : Thread Cert.MidFwdIdeal.nD Cert.MidFwdIdeal.τ).loc Cert.MidFwdIdeal.main_arg2)
      ∧ m' ((c.tc : Thread Cert.MidFwdRefIdeal.nD Cert.MidFwdRefIdeal.τ).loc Cert.MidFwdRefIdeal.main_arg3) = m ((c.tc : Thread Cert.MidFwdIdeal.nD Cert.MidFwdIdeal.τ).loc Cert.MidFwdIdeal.main_arg3)) →
    ∃ (v0 : (c : Dev Cert.MidFwdIdeal.nD) → Buf (Elt Ideal) ((c.tc : Thread Cert.MidFwdIdeal.nD Cert.MidFwdIdeal.τ).loc Cert.MidFwdIdeal.main_v3)),
      θ_run (Cert.MidFwdIdeal.defs (F := Ideal)) (onTc (τ := Cert.MidFwdIdeal.τ) (Cert.MidFwdIdeal.main (F := Ideal))) ⟨m, fun _ => 0, g⟩ (fun r => ∀ c : Dev Cert.MidFwdIdeal.nD,
          r.2.mem ((c.tc : Thread Cert.MidFwdIdeal.nD Cert.MidFwdIdeal.τ).loc Cert.MidFwdIdeal.main_v3) = v0 c
          ∧ r.2.mem ((c.tc : Thread Cert.MidFwdIdeal.nD Cert.MidFwdIdeal.τ).loc Cert.MidFwdIdeal.main_arg0) = m ((c.tc : Thread Cert.MidFwdIdeal.nD Cert.MidFwdIdeal.τ).loc Cert.MidFwdIdeal.main_arg0)
          ∧ r.2.mem ((c.tc : Thread Cert.MidFwdIdeal.nD Cert.MidFwdIdeal.τ).loc Cert.MidFwdIdeal.main_arg1) = m ((c.tc : Thread Cert.MidFwdIdeal.nD Cert.MidFwdIdeal.τ).loc Cert.MidFwdIdeal.main_arg1)
          ∧ r.2.mem ((c.tc : Thread Cert.MidFwdIdeal.nD Cert.MidFwdIdeal.τ).loc Cert.MidFwdIdeal.main_arg2) = m ((c.tc : Thread Cert.MidFwdIdeal.nD Cert.MidFwdIdeal.τ).loc Cert.MidFwdIdeal.main_arg2)
          ∧ r.2.mem ((c.tc : Thread Cert.MidFwdIdeal.nD Cert.MidFwdIdeal.τ).loc Cert.MidFwdIdeal.main_arg3) = m ((c.tc : Thread Cert.MidFwdIdeal.nD Cert.MidFwdIdeal.τ).loc Cert.MidFwdIdeal.main_arg3))
      ∧ θ_run (Cert.MidFwdRefIdeal.defs (F := Ideal)) (onTc (τ := Cert.MidFwdRefIdeal.τ) (Cert.MidFwdRefIdeal.main (F := Ideal))) ⟨m', fun _ => 0, g'⟩ (fun r => ∀ c : Dev Cert.MidFwdRefIdeal.nD,
          r.2.mem ((c.tc : Thread Cert.MidFwdRefIdeal.nD Cert.MidFwdRefIdeal.τ).loc Cert.MidFwdRefIdeal.main_v61) = v0 c
          ∧ r.2.mem ((c.tc : Thread Cert.MidFwdRefIdeal.nD Cert.MidFwdRefIdeal.τ).loc Cert.MidFwdRefIdeal.main_arg0) = m' ((c.tc : Thread Cert.MidFwdRefIdeal.nD Cert.MidFwdRefIdeal.τ).loc Cert.MidFwdRefIdeal.main_arg0)
          ∧ r.2.mem ((c.tc : Thread Cert.MidFwdRefIdeal.nD Cert.MidFwdRefIdeal.τ).loc Cert.MidFwdRefIdeal.main_arg1) = m' ((c.tc : Thread Cert.MidFwdRefIdeal.nD Cert.MidFwdRefIdeal.τ).loc Cert.MidFwdRefIdeal.main_arg1)
          ∧ r.2.mem ((c.tc : Thread Cert.MidFwdRefIdeal.nD Cert.MidFwdRefIdeal.τ).loc Cert.MidFwdRefIdeal.main_arg2) = m' ((c.tc : Thread Cert.MidFwdRefIdeal.nD Cert.MidFwdRefIdeal.τ).loc Cert.MidFwdRefIdeal.main_arg2)
          ∧ r.2.mem ((c.tc : Thread Cert.MidFwdRefIdeal.nD Cert.MidFwdRefIdeal.τ).loc Cert.MidFwdRefIdeal.main_arg3) = m' ((c.tc : Thread Cert.MidFwdRefIdeal.nD Cert.MidFwdRefIdeal.τ).loc Cert.MidFwdRefIdeal.main_arg3))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hUpY : Cert.UpY.Facts) (hUpYIdeal : Cert.UpYIdeal.Facts) (hUpYRefIdeal : Cert.UpYRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hDownY : Cert.DownY.Facts) (hDownYIdeal : Cert.DownYIdeal.Facts) (hDownYRefIdeal : Cert.DownYRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hInY : Cert.InY.Facts) (hInYIdeal : Cert.InYIdeal.Facts) (hInYRefIdeal : Cert.InYRefIdeal.Facts) (hNorm : Cert.Norm.Facts) (hNormIdeal : Cert.NormIdeal.Facts) (hNormRefIdeal : Cert.NormRefIdeal.Facts) (hLastUpDx : Cert.LastUpDx.Facts) (hLastUpDxIdeal : Cert.LastUpDxIdeal.Facts) (hLastUpDxRefIdeal : Cert.LastUpDxRefIdeal.Facts) (hLastUpDw : Cert.LastUpDw.Facts) (hLastUpDwIdeal : Cert.LastUpDwIdeal.Facts) (hLastUpDwRefIdeal : Cert.LastUpDwRefIdeal.Facts) (hLastUpY : Cert.LastUpY.Facts) (hLastUpYIdeal : Cert.LastUpYIdeal.Facts) (hLastUpYRefIdeal : Cert.LastUpYRefIdeal.Facts) (hLastDownDx : Cert.LastDownDx.Facts) (hLastDownDxIdeal : Cert.LastDownDxIdeal.Facts) (hLastDownDxRefIdeal : Cert.LastDownDxRefIdeal.Facts) (hLastDownDw : Cert.LastDownDw.Facts) (hLastDownDwIdeal : Cert.LastDownDwIdeal.Facts) (hLastDownDwRefIdeal : Cert.LastDownDwRefIdeal.Facts) (hLastDownY : Cert.LastDownY.Facts) (hLastDownYIdeal : Cert.LastDownYIdeal.Facts) (hLastDownYRefIdeal : Cert.LastDownYRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOutY : Cert.OutY.Facts) (hOutYIdeal : Cert.OutYIdeal.Facts) (hOutYRefIdeal : Cert.OutYRefIdeal.Facts) (hLastOutDx : Cert.LastOutDx.Facts) (hLastOutDxIdeal : Cert.LastOutDxIdeal.Facts) (hLastOutDxRefIdeal : Cert.LastOutDxRefIdeal.Facts) (hLastOutDw : Cert.LastOutDw.Facts) (hLastOutDwIdeal : Cert.LastOutDwIdeal.Facts) (hLastOutDwRefIdeal : Cert.LastOutDwRefIdeal.Facts) (hLastOutY : Cert.LastOutY.Facts) (hLastOutYIdeal : Cert.LastOutYIdeal.Facts) (hLastOutYRefIdeal : Cert.LastOutYRefIdeal.Facts) (hNormFwd : Cert.NormFwd.Facts) (hNormFwdIdeal : Cert.NormFwdIdeal.Facts) (hNormFwdRefIdeal : Cert.NormFwdRefIdeal.Facts) (hResidFwd : Cert.ResidFwd.Facts) (hResidFwdIdeal : Cert.ResidFwdIdeal.Facts) (hResidFwdRefIdeal : Cert.ResidFwdRefIdeal.Facts) (hResid : Cert.Resid.Facts) (hResidIdeal : Cert.ResidIdeal.Facts) (hResidRefIdeal : Cert.ResidRefIdeal.Facts) (hMidFwd : Cert.MidFwd.Facts) (hMidFwdIdeal : Cert.MidFwdIdeal.Facts) (hMidFwdRefIdeal : Cert.MidFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpY (hUpY := hUpY)
    ∧ quiescent_UpYIdeal (hUpYIdeal := hUpYIdeal)
    ∧ quiescent_UpYRefIdeal (hUpYRefIdeal := hUpYRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownY (hDownY := hDownY)
    ∧ quiescent_DownYIdeal (hDownYIdeal := hDownYIdeal)
    ∧ quiescent_DownYRefIdeal (hDownYRefIdeal := hDownYRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InY (hInY := hInY)
    ∧ quiescent_InYIdeal (hInYIdeal := hInYIdeal)
    ∧ quiescent_InYRefIdeal (hInYRefIdeal := hInYRefIdeal)
    ∧ quiescent_Norm (hNorm := hNorm)
    ∧ quiescent_NormIdeal (hNormIdeal := hNormIdeal)
    ∧ quiescent_NormRefIdeal (hNormRefIdeal := hNormRefIdeal)
    ∧ quiescent_LastUpDx (hLastUpDx := hLastUpDx)
    ∧ quiescent_LastUpDxIdeal (hLastUpDxIdeal := hLastUpDxIdeal)
    ∧ quiescent_LastUpDxRefIdeal (hLastUpDxRefIdeal := hLastUpDxRefIdeal)
    ∧ quiescent_LastUpDw (hLastUpDw := hLastUpDw)
    ∧ quiescent_LastUpDwIdeal (hLastUpDwIdeal := hLastUpDwIdeal)
    ∧ quiescent_LastUpDwRefIdeal (hLastUpDwRefIdeal := hLastUpDwRefIdeal)
    ∧ quiescent_LastUpY (hLastUpY := hLastUpY)
    ∧ quiescent_LastUpYIdeal (hLastUpYIdeal := hLastUpYIdeal)
    ∧ quiescent_LastUpYRefIdeal (hLastUpYRefIdeal := hLastUpYRefIdeal)
    ∧ quiescent_LastDownDx (hLastDownDx := hLastDownDx)
    ∧ quiescent_LastDownDxIdeal (hLastDownDxIdeal := hLastDownDxIdeal)
    ∧ quiescent_LastDownDxRefIdeal (hLastDownDxRefIdeal := hLastDownDxRefIdeal)
    ∧ quiescent_LastDownDw (hLastDownDw := hLastDownDw)
    ∧ quiescent_LastDownDwIdeal (hLastDownDwIdeal := hLastDownDwIdeal)
    ∧ quiescent_LastDownDwRefIdeal (hLastDownDwRefIdeal := hLastDownDwRefIdeal)
    ∧ quiescent_LastDownY (hLastDownY := hLastDownY)
    ∧ quiescent_LastDownYIdeal (hLastDownYIdeal := hLastDownYIdeal)
    ∧ quiescent_LastDownYRefIdeal (hLastDownYRefIdeal := hLastDownYRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutY (hOutY := hOutY)
    ∧ quiescent_OutYIdeal (hOutYIdeal := hOutYIdeal)
    ∧ quiescent_OutYRefIdeal (hOutYRefIdeal := hOutYRefIdeal)
    ∧ quiescent_LastOutDx (hLastOutDx := hLastOutDx)
    ∧ quiescent_LastOutDxIdeal (hLastOutDxIdeal := hLastOutDxIdeal)
    ∧ quiescent_LastOutDxRefIdeal (hLastOutDxRefIdeal := hLastOutDxRefIdeal)
    ∧ quiescent_LastOutDw (hLastOutDw := hLastOutDw)
    ∧ quiescent_LastOutDwIdeal (hLastOutDwIdeal := hLastOutDwIdeal)
    ∧ quiescent_LastOutDwRefIdeal (hLastOutDwRefIdeal := hLastOutDwRefIdeal)
    ∧ quiescent_LastOutY (hLastOutY := hLastOutY)
    ∧ quiescent_LastOutYIdeal (hLastOutYIdeal := hLastOutYIdeal)
    ∧ quiescent_LastOutYRefIdeal (hLastOutYRefIdeal := hLastOutYRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ResidFwd (hResidFwd := hResidFwd)
    ∧ quiescent_ResidFwdIdeal (hResidFwdIdeal := hResidFwdIdeal)
    ∧ quiescent_ResidFwdRefIdeal (hResidFwdRefIdeal := hResidFwdRefIdeal)
    ∧ quiescent_Resid (hResid := hResid)
    ∧ quiescent_ResidIdeal (hResidIdeal := hResidIdeal)
    ∧ quiescent_ResidRefIdeal (hResidRefIdeal := hResidRefIdeal)
    ∧ quiescent_MidFwd (hMidFwd := hMidFwd)
    ∧ quiescent_MidFwdIdeal (hMidFwdIdeal := hMidFwdIdeal)
    ∧ quiescent_MidFwdRefIdeal (hMidFwdRefIdeal := hMidFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_UpY_UpYIdeal
    ∧ algebraic_UpYIdeal_UpYRefIdeal (hUpYIdeal := hUpYIdeal) (hUpYRefIdeal := hUpYRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_DownY_DownYIdeal
    ∧ algebraic_DownYIdeal_DownYRefIdeal (hDownYIdeal := hDownYIdeal) (hDownYRefIdeal := hDownYRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_InY_InYIdeal
    ∧ algebraic_InYIdeal_InYRefIdeal (hInYIdeal := hInYIdeal) (hInYRefIdeal := hInYRefIdeal)
    ∧ preserves_Norm_NormIdeal
    ∧ algebraic_NormIdeal_NormRefIdeal (hNormIdeal := hNormIdeal) (hNormRefIdeal := hNormRefIdeal)
    ∧ preserves_LastUpDx_LastUpDxIdeal
    ∧ algebraic_LastUpDxIdeal_LastUpDxRefIdeal (hLastUpDxIdeal := hLastUpDxIdeal) (hLastUpDxRefIdeal := hLastUpDxRefIdeal)
    ∧ preserves_LastUpDw_LastUpDwIdeal
    ∧ algebraic_LastUpDwIdeal_LastUpDwRefIdeal (hLastUpDwIdeal := hLastUpDwIdeal) (hLastUpDwRefIdeal := hLastUpDwRefIdeal)
    ∧ preserves_LastUpY_LastUpYIdeal
    ∧ algebraic_LastUpYIdeal_LastUpYRefIdeal (hLastUpYIdeal := hLastUpYIdeal) (hLastUpYRefIdeal := hLastUpYRefIdeal)
    ∧ preserves_LastDownDx_LastDownDxIdeal
    ∧ algebraic_LastDownDxIdeal_LastDownDxRefIdeal (hLastDownDxIdeal := hLastDownDxIdeal) (hLastDownDxRefIdeal := hLastDownDxRefIdeal)
    ∧ preserves_LastDownDw_LastDownDwIdeal
    ∧ algebraic_LastDownDwIdeal_LastDownDwRefIdeal (hLastDownDwIdeal := hLastDownDwIdeal) (hLastDownDwRefIdeal := hLastDownDwRefIdeal)
    ∧ preserves_LastDownY_LastDownYIdeal
    ∧ algebraic_LastDownYIdeal_LastDownYRefIdeal (hLastDownYIdeal := hLastDownYIdeal) (hLastDownYRefIdeal := hLastDownYRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_OutY_OutYIdeal
    ∧ algebraic_OutYIdeal_OutYRefIdeal (hOutYIdeal := hOutYIdeal) (hOutYRefIdeal := hOutYRefIdeal)
    ∧ preserves_LastOutDx_LastOutDxIdeal
    ∧ algebraic_LastOutDxIdeal_LastOutDxRefIdeal (hLastOutDxIdeal := hLastOutDxIdeal) (hLastOutDxRefIdeal := hLastOutDxRefIdeal)
    ∧ preserves_LastOutDw_LastOutDwIdeal
    ∧ algebraic_LastOutDwIdeal_LastOutDwRefIdeal (hLastOutDwIdeal := hLastOutDwIdeal) (hLastOutDwRefIdeal := hLastOutDwRefIdeal)
    ∧ preserves_LastOutY_LastOutYIdeal
    ∧ algebraic_LastOutYIdeal_LastOutYRefIdeal (hLastOutYIdeal := hLastOutYIdeal) (hLastOutYRefIdeal := hLastOutYRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ResidFwd_ResidFwdIdeal
    ∧ algebraic_ResidFwdIdeal_ResidFwdRefIdeal (hResidFwdIdeal := hResidFwdIdeal) (hResidFwdRefIdeal := hResidFwdRefIdeal)
    ∧ preserves_Resid_ResidIdeal
    ∧ algebraic_ResidIdeal_ResidRefIdeal (hResidIdeal := hResidIdeal) (hResidRefIdeal := hResidRefIdeal)
    ∧ preserves_MidFwd_MidFwdIdeal
    ∧ algebraic_MidFwdIdeal_MidFwdRefIdeal (hMidFwdIdeal := hMidFwdIdeal) (hMidFwdRefIdeal := hMidFwdRefIdeal)
-- ==== Pre_finite.lean ====
abbrev S1x8192x4x64 : Shape := ⟨4, ![1, 8192, 4, 64]⟩
abbrev S1x8448x2x64 : Shape := ⟨4, ![1, 8448, 2, 64]⟩
abbrev S_ : Shape := ⟨0, ![]⟩

class Facts : Prop where
  bcast_S_S1x8192x4x64 : S_.BroadcastsInDim S1x8192x4x64 (![] : Fin 0 → Fin S1x8192x4x64.rank)
  bcast_S_S1x8448x2x64 : S_.BroadcastsInDim S1x8448x2x64 (![] : Fin 0 → Fin S1x8448x2x64.rank)

variable [Facts]

def fn {F : FTy → Type} [FloatOps F] (main_arg0 : FVec F S1x8192x4x64 .f32) (main_arg1 : FVec F S1x8448x2x64 .f32) (main_arg2 : FVec F S1x8448x2x64 .f32) (main_arg3 : FVec F S1x8192x4x64 .f32) : IVec S1x8192x4x64 1 × IVec S1x8448x2x64 1 × IVec S1x8448x2x64 1 × IVec S1x8192x4x64 1 :=
  let main_v0 : FVec F S1x8192x4x64 .f32 := Host.absf main_arg0
  let main_cst : FVec F S_ .f32 := constant S_ .f32 0x7F800000#32
  let main_v1 : FVec F S1x8192x4x64 .f32 := broadcastInDim S1x8192x4x64 ![] bcast_S_S1x8192x4x64 main_cst
  let main_v2 : IVec S1x8192x4x64 1 := cmpf .olt main_v0 main_v1
  let main_v3 : FVec F S1x8448x2x64 .f32 := Host.absf main_arg1
  let main_cst_0 : FVec F S_ .f32 := constant S_ .f32 0x7F800000#32
  let main_v4 : FVec F S1x8448x2x64 .f32 := broadcastInDim S1x8448x2x64 ![] bcast_S_S1x8448x2x64 main_cst_0
  let main_v5 : IVec S1x8448x2x64 1 := cmpf .olt main_v3 main_v4
  let main_v6 : FVec F S1x8448x2x64 .f32 := Host.absf main_arg2
  let main_cst_1 : FVec F S_ .f32 := constant S_ .f32 0x7F800000#32
  let main_v7 : FVec F S1x8448x2x64 .f32 := broadcastInDim S1x8448x2x64 ![] bcast_S_S1x8448x2x64 main_cst_1
  let main_v8 : IVec S1x8448x2x64 1 := cmpf .olt main_v6 main_v7
  let main_v9 : FVec F S1x8192x4x64 .f32 := Host.absf main_arg3
  let main_cst_2 : FVec F S_ .f32 := constant S_ .f32 0x7F800000#32
  let main_v10 : FVec F S1x8192x4x64 .f32 := broadcastInDim S1x8192x4x64 ![] bcast_S_S1x8192x4x64 main_cst_2
  let main_v11 : IVec S1x8192x4x64 1 := cmpf .olt main_v9 main_v10
  (main_v2, main_v5, main_v8, main_v11)
-- ==== Kernel.lean ====
abbrev S1x8192x4x64 : Shape := ⟨4, ![1, 8192, 4, 64]⟩
abbrev S1x8448x2x64 : Shape := ⟨4, ![1, 8448, 2, 64]⟩
abbrev S8192x4x64 : Shape := ⟨3, ![8192, 4, 64]⟩
abbrev S4x8192x64 : Shape := ⟨3, ![4, 8192, 64]⟩
abbrev S8448x2x64 : Shape := ⟨3, ![8448, 2, 64]⟩
abbrev S2x8448x64 : Shape := ⟨3, ![2, 8448, 64]⟩
abbrev S_ : Shape := ⟨0, ![]⟩
abbrev S4x8192x1 : Shape := ⟨3, ![4, 8192, 1]⟩
abbrev S1x256x64 : Shape := ⟨3, ![1, 256, 64]⟩
abbrev S1x8448x64 : Shape := ⟨3, ![1, 8448, 64]⟩
abbrev S1x256x1 : Shape := ⟨3, ![1, 256, 1]⟩
abbrev S256x64 : Shape := ⟨2, ![256, 64]⟩
abbrev S8448x64 : Shape := ⟨2, ![8448, 64]⟩
abbrev S256x8448 : Shape := ⟨2, ![256, 8448]⟩
abbrev S256 : Shape := ⟨1, ![256]⟩
abbrev S256x1 : Shape := ⟨2, ![256, 1]⟩
abbrev S1x1408x64 : Shape := ⟨3, ![1, 1408, 64]⟩
abbrev S1408x64 : Shape := ⟨2, ![1408, 64]⟩
abbrev S256x1408 : Shape := ⟨2, ![256, 1408]⟩

abbrev nBuf : Space → Nat
  | .hbm => 23
  | .vmem => 28
  | .smem => 0
  | _ => 0

abbrev bufTy : (tb : Table) → Fin (tcTables nBuf tb) → BufTy
  | .hbm, ⟨0, _⟩ => ⟨S1x8192x4x64, .f32⟩
  | .hbm, ⟨1, _⟩ => ⟨S1x8448x2x64, .f32⟩
  | .hbm, ⟨2, _⟩ => ⟨S1x8448x2x64, .f32⟩
  | .hbm, ⟨3, _⟩ => ⟨S1x8192x4x64, .f32⟩
  | .hbm, ⟨4, _⟩ => ⟨S8192x4x64, .f32⟩
  | .hbm, ⟨5, _⟩ => ⟨S4x8192x64, .f32⟩
  | .hbm, ⟨6, _⟩ => ⟨S8448x2x64, .f32⟩
  | .hbm, ⟨7, _⟩ => ⟨S2x8448x64, .f32⟩
  | .hbm, ⟨8, _⟩ => ⟨S8448x2x64, .f32⟩
  | .hbm, ⟨9, _⟩ => ⟨S2x8448x64, .f32⟩
  | .hbm, ⟨10, _⟩ => ⟨S8192x4x64, .f32⟩
  | .hbm, ⟨11, _⟩ => ⟨S4x8192x64, .f32⟩
  | .hbm, ⟨12, _⟩ => ⟨S_, .f32⟩
  | .hbm, ⟨13, _⟩ => ⟨S4x8192x64, .f32⟩
  | .hbm, ⟨14, _⟩ => ⟨S4x8192x64, .f32⟩
  | .hbm, ⟨15, _⟩ => ⟨S4x8192x64, .bf16⟩
  | .hbm, ⟨16, _⟩ => ⟨S2x8448x64, .bf16⟩
  | .hbm, ⟨17, _⟩ => ⟨S2x8448x64, .bf16⟩
  | .hbm, ⟨18, _⟩ => ⟨S4x8192x64, .f32⟩
  | .hbm, ⟨19, _⟩ => ⟨S4x8192x1, .f32⟩
  | .hbm, ⟨20, _⟩ => ⟨S4x8192x64, .f32⟩
  | .hbm, ⟨21, _⟩ => ⟨S2x8448x64, .f32⟩
  | .hbm, ⟨22, _⟩ => ⟨S2x8448x64, .f32⟩
  | .local _ .vmem, ⟨0, _⟩ => ⟨S1x256x64, .bf16⟩
  | .local _ .vmem, ⟨1, _⟩ => ⟨S1x256x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x64, .bf16⟩
  | .local _ .vmem, ⟨5, _⟩ => ⟨S1x8448x64, .bf16⟩
  | .local _ .vmem, ⟨6, _⟩ => ⟨S1x256x64, .f32⟩
  | .local _ .vmem, ⟨7, _⟩ => ⟨S1x256x64, .f32⟩
  | .local _ .vmem, ⟨8, _⟩ => ⟨S1x256x1, .f32⟩
  | .local _ .vmem, ⟨9, _⟩ => ⟨S1x256x1, .f32⟩
  | .local _ .vmem, ⟨10, _⟩ => ⟨S1x256x64, .bf16⟩
  | .local _ .vmem, ⟨11, _⟩ => ⟨S1x256x64, .bf16⟩
  | .local _ .vmem, ⟨12, _⟩ => ⟨S1x8448x64, .bf16⟩
  | .local _ .vmem, ⟨13, _⟩ => ⟨S1x8448x64, .bf16⟩
  | .local _ .vmem, ⟨14, _⟩ => ⟨S1x8448x64, .bf16⟩
  | .local _ .vmem, ⟨15, _⟩ => ⟨S1x8448x64, .bf16⟩
  | .local _ .vmem, ⟨16, _⟩ => ⟨S1x256x64, .f32⟩
  | .local _ .vmem, ⟨17, _⟩ => ⟨S1x256x64, .f32⟩
  | .local _ .vmem, ⟨18, _⟩ => ⟨S1x256x1, .f32⟩
  | .local _ .vmem, ⟨19, _⟩ => ⟨S1x256x1, .f32⟩
  | .local _ .vmem, ⟨20, _⟩ => ⟨S1x256x64, .f32⟩
  | .local _ .vmem, ⟨21, _⟩ => ⟨S1x256x64, .f32⟩
  | .local _ .vmem, ⟨22, _⟩ => ⟨S1x256x64, .f32⟩
  | .local _ .vmem, ⟨23, _⟩ => ⟨S1x256x64, .f32⟩
  | .local _ .vmem, ⟨24, _⟩ => ⟨S1x8448x64, .f32⟩
  | .local _ .vmem, ⟨25, _⟩ => ⟨S1x8448x64, .f32⟩
  | .local _ .vmem, ⟨26, _⟩ => ⟨S1x8448x64, .f32⟩
  | .local _ .vmem, ⟨27, _⟩ => ⟨S1x8448x64, .f32⟩
  | _, _ => ⟨S1x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 2, 32], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, arg2.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8448x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x8448x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x8448x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S1x8448x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]
-- ==== ReferenceIdeal.lean ====
abbrev S1x8192x4x64 : Shape := ⟨4, ![1, 8192, 4, 64]⟩
abbrev S1x8448x2x64 : Shape := ⟨4, ![1, 8448, 2, 64]⟩
abbrev S1x8192x2x2x64 : Shape := ⟨5, ![1, 8192, 2, 2, 64]⟩
abbrev S1x2x8448x8192x2 : Shape := ⟨5, ![1, 2, 8448, 8192, 2]⟩
abbrev S1x2x2x8192x8448 : Shape := ⟨5, ![1, 2, 2, 8192, 8448]⟩
abbrev S_ : Shape := ⟨0, ![]⟩
abbrev S1x2x2x8192 : Shape := ⟨4, ![1, 2, 2, 8192]⟩
abbrev S1x2x2x8192x1 : Shape := ⟨5, ![1, 2, 2, 8192, 1]⟩
abbrev S1x2x64x2x8192 : Shape := ⟨5, ![1, 2, 64, 2, 8192]⟩
abbrev S1x2x64x8448 : Shape := ⟨4, ![1, 2, 64, 8448]⟩
abbrev S2x2x8192 : Shape := ⟨3, ![2, 2, 8192]⟩
abbrev S1x2x8192x2x64 : Shape := ⟨5, ![1, 2, 8192, 2, 64]⟩
abbrev S1x2x8448x64 : Shape := ⟨4, ![1, 2, 8448, 64]⟩
abbrev S8192x4x64 : Shape := ⟨3, ![8192, 4, 64]⟩
abbrev S4x8192x64 : Shape := ⟨3, ![4, 8192, 64]⟩
abbrev S8448x2x64 : Shape := ⟨3, ![8448, 2, 64]⟩
abbrev S2x8448x64 : Shape := ⟨3, ![2, 8448, 64]⟩

abbrev nBuf : Space → Nat
  | .hbm => 86
  | .vmem => 0
  | .smem => 0
  | _ => 0

abbrev bufTy : (tb : Table) → Fin (tcTables nBuf tb) → BufTy
  | .hbm, ⟨0, _⟩ => ⟨S1x8192x4x64, .f32⟩
  | .hbm, ⟨1, _⟩ => ⟨S1x8448x2x64, .f32⟩
  | .hbm, ⟨2, _⟩ => ⟨S1x8448x2x64, .f32⟩
  | .hbm, ⟨3, _⟩ => ⟨S1x8192x4x64, .f32⟩
  | .hbm, ⟨4, _⟩ => ⟨S1x8192x2x2x64, .f32⟩
  | .hbm, ⟨5, _⟩ => ⟨S1x2x8448x8192x2, .f32⟩
  | .hbm, ⟨6, _⟩ => ⟨S1x2x2x8192x8448, .f32⟩
  | .hbm, ⟨7, _⟩ => ⟨S_, .f32⟩
  | .hbm, ⟨8, _⟩ => ⟨S1x2x2x8192x8448, .f32⟩
  | .hbm, ⟨9, _⟩ => ⟨S1x2x2x8192x8448, .f32⟩
  | .hbm, ⟨10, _⟩ => ⟨S_, .f32⟩
  | .hbm, ⟨11, _⟩ => ⟨S1x2x2x8192, .f32⟩
  | .hbm, ⟨12, _⟩ => ⟨S1x2x2x8192x1, .f32⟩
  | .hbm, ⟨13, _⟩ => ⟨S1x2x2x8192x8448, .f32⟩
  | .hbm, ⟨14, _⟩ => ⟨S1x2x2x8192x8448, .i1⟩
  | .hbm, ⟨15, _⟩ => ⟨S1x2x2x8192x8448, .f32⟩
  | .hbm, ⟨16, _⟩ => ⟨S_, .f32⟩
  | .hbm, ⟨17, _⟩ => ⟨S1x2x2x8192, .f32⟩
  | .hbm, ⟨18, _⟩ => ⟨S_, .f32⟩
  | .hbm, ⟨19, _⟩ => ⟨S1x2x2x8192, .f32⟩
  | .hbm, ⟨20, _⟩ => ⟨S1x2x2x8192, .f32⟩
  | .hbm, ⟨21, _⟩ => ⟨S_, .f32⟩
  | .hbm, ⟨22, _⟩ => ⟨S1x2x2x8192, .f32⟩
  | .hbm, ⟨23, _⟩ => ⟨S1x2x2x8192, .i1⟩
  | .hbm, ⟨24, _⟩ => ⟨S_, .f32⟩
  | .hbm, ⟨25, _⟩ => ⟨S1x2x2x8192, .f32⟩
  | .hbm, ⟨26, _⟩ => ⟨S1x2x2x8192, .i1⟩
  | .hbm, ⟨27, _⟩ => ⟨S_, .f32⟩
  | .hbm, ⟨28, _⟩ => ⟨S1x2x2x8192, .f32⟩
  | .hbm, ⟨29, _⟩ => ⟨S_, .f32⟩
  | .hbm, ⟨30, _⟩ => ⟨S1x2x2x8192, .f32⟩
  | .hbm, ⟨31, _⟩ => ⟨S_, .f32⟩
  | .hbm, ⟨32, _⟩ => ⟨S1x2x2x8192, .f32⟩
  | .hbm, ⟨33, _⟩ => ⟨S1x2x2x8192, .f32⟩
  | .hbm, ⟨34, _⟩ => ⟨S1x2x2x8192, .f32⟩
  | .hbm, ⟨35, _⟩ => ⟨S1x2x2x8192x1, .f32⟩
  | .hbm, ⟨36, _⟩ => ⟨S1x2x2x8192x8448, .f32⟩
  | .hbm, ⟨37, _⟩ => ⟨S1x2x2x8192x8448, .f32⟩
  | .hbm, ⟨38, _⟩ => ⟨S1x2x2x8192x8448, .f32⟩
  | .hbm, ⟨39, _⟩ => ⟨S_, .f32⟩
  | .hbm, ⟨40, _⟩ => ⟨S1x2x2x8192, .f32⟩
  | .hbm, ⟨41, _⟩ => ⟨S1x2x2x8192x1, .f32⟩
  | .hbm, ⟨42, _⟩ => ⟨S1x2x2x8192x8448, .f32⟩
  | .hbm, ⟨43, _⟩ => ⟨S1x2x2x8192x8448, .f32⟩
  | .hbm, ⟨44, _⟩ => ⟨S1x2x2x8192x1, .f32⟩
  | .hbm, ⟨45, _⟩ => ⟨S_, .f32⟩
  | .hbm, ⟨46, _⟩ => ⟨S1x2x2x8192x1, .f32⟩
  | .hbm, ⟨47, _⟩ => ⟨S1x2x2x8192x1, .f32⟩
  | .hbm, ⟨48, _⟩ => ⟨S1x2x64x2x8192, .f32⟩
  | .hbm, ⟨49, _⟩ => ⟨S1x8192x2x2x64, .f32⟩
  | .hbm, ⟨50, _⟩ => ⟨S1x8192x4x64, .f32⟩
  | .hbm, ⟨51, _⟩ => ⟨S1x8192x2x2x64, .f32⟩
  | .hbm, ⟨52, _⟩ => ⟨S1x2x64x2x8192, .f32⟩
  | .hbm, ⟨53, _⟩ => ⟨S1x2x2x8192x8448, .f32⟩
  | .hbm, ⟨54, _⟩ => ⟨S1x2x64x8448, .f32⟩
  | .hbm, ⟨55, _⟩ => ⟨S1x8448x2x64, .f32⟩
  | .hbm, ⟨56, _⟩ => ⟨S1x2x2x8192x8448, .f32⟩
  | .hbm, ⟨57, _⟩ => ⟨S1x2x2x8192x8448, .f32⟩
  | .hbm, ⟨58, _⟩ => ⟨S1x2x2x8192x8448, .f32⟩
  | .hbm, ⟨59, _⟩ => ⟨S_, .f32⟩
  | .hbm, ⟨60, _⟩ => ⟨S1x2x2x8192, .f32⟩
  | .hbm, ⟨61, _⟩ => ⟨S1x2x2x8192x1, .f32⟩
  | .hbm, ⟨62, _⟩ => ⟨S1x2x2x8192x1, .f32⟩
  | .hbm, ⟨63, _⟩ => ⟨S1x2x2x8192x8448, .f32⟩
  | .hbm, ⟨64, _⟩ => ⟨S1x2x2x8192x8448, .f32⟩
  | .hbm, ⟨65, _⟩ => ⟨S_, .f32⟩
  | .hbm, ⟨66, _⟩ => ⟨S2x2x8192, .f32⟩
  | .hbm, ⟨67, _⟩ => ⟨S1x2x2x8192, .f32⟩
  | .hbm, ⟨68, _⟩ => ⟨S1x2x2x8192x8448, .f32⟩
  | .hbm, ⟨69, _⟩ => ⟨S1x2x2x8192x8448, .f32⟩
  | .hbm, ⟨70, _⟩ => ⟨S1x2x2x8192x8448, .f32⟩
  | .hbm, ⟨71, _⟩ => ⟨S_, .f32⟩
  | .hbm, ⟨72, _⟩ => ⟨S1x2x2x8192x8448, .f32⟩
  | .hbm, ⟨73, _⟩ => ⟨S1x2x2x8192x8448, .f32⟩
  | .hbm, ⟨74, _⟩ => ⟨S1x2x8448x8192x2, .f32⟩
  | .hbm, ⟨75, _⟩ => ⟨S1x2x8192x2x64, .f32⟩
  | .hbm, ⟨76, _⟩ => ⟨S1x8192x2x2x64, .f32⟩
  | .hbm, ⟨77, _⟩ => ⟨S1x2x8448x64, .f32⟩
  | .hbm, ⟨78, _⟩ => ⟨S1x8448x2x64, .f32⟩
  | .hbm, ⟨79, _⟩ => ⟨S1x8192x4x64, .f32⟩
  | .hbm, ⟨80, _⟩ => ⟨S8192x4x64, .f32⟩
  | .hbm, ⟨81, _⟩ => ⟨S4x8192x64, .f32⟩
  | .hbm, ⟨82, _⟩ => ⟨S8448x2x64, .f32⟩
  | .hbm, ⟨83, _⟩ => ⟨S2x8448x64, .f32⟩
  | .hbm, ⟨84, _⟩ => ⟨S8448x2x64, .f32⟩
  | .hbm, ⟨85, _⟩ => ⟨S2x8448x64, .f32⟩
  | _, _ => ⟨S1x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== UpDx.lean ====
abbrev S1024x2816 : Shape := ⟨2, ![1024, 2816]⟩
abbrev S8448x2816 : Shape := ⟨2, ![8448, 2816]⟩
abbrev S8448x1024 : Shape := ⟨2, ![8448, 1024]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S1024x2816, .bf16⟩
  | .hbm, ⟨3, _⟩ => ⟨S8448x1024, .f32⟩
  | .local _ .vmem, ⟨0, _⟩ => ⟨S1408x1408, .f32⟩
  | .local _ .vmem, ⟨1, _⟩ => ⟨S1408x1408, .f32⟩
  | .local _ .vmem, ⟨2, _⟩ => ⟨S1024x1408, .bf16⟩
  | .local _ .vmem, ⟨3, _⟩ => ⟨S1024x1408, .bf16⟩
  | .local _ .vmem, ⟨4, _⟩ => ⟨S1408x1024, .f32⟩
  | .local _ .vmem, ⟨5, _⟩ => ⟨S1408x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S1024x2816 : Shape := ⟨2, ![1024, 2816]⟩
abbrev S8448x2816 : Shape := ⟨2, ![8448, 2816]⟩
abbrev S8448x1024 : Shape := ⟨2, ![8448, 1024]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S1024x2816, .bf16⟩
  | .hbm, ⟨3, _⟩ => ⟨S8448x1024, .f32⟩
  | .local _ .vmem, ⟨0, _⟩ => ⟨S1408x1408, .f32⟩
  | .local _ .vmem, ⟨1, _⟩ => ⟨S1408x1408, .f32⟩
  | .local _ .vmem, ⟨2, _⟩ => ⟨S1024x1408, .bf16⟩
  | .local _ .vmem, ⟨3, _⟩ => ⟨S1024x1408, .bf16⟩
  | .local _ .vmem, ⟨4, _⟩ => ⟨S1408x1024, .f32⟩
  | .local _ .vmem, ⟨5, _⟩ => ⟨S1408x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S1024x2816 : Shape := ⟨2, ![1024, 2816]⟩
abbrev S8448x2816 : Shape := ⟨2, ![8448, 2816]⟩
abbrev S_ : Shape := ⟨0, ![]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S_, .f32⟩
  | .hbm, ⟨3, _⟩ => ⟨S8448x1024, .f32⟩
  | .hbm, ⟨4, _⟩ => ⟨S8448x2816, .f32⟩
  | .hbm, ⟨5, _⟩ => ⟨S8448x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S8448x1024 : Shape := ⟨2, ![8448, 1024]⟩
abbrev S8448x2816 : Shape := ⟨2, ![8448, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S1024x2816, .f32⟩
  | .local _ .vmem, ⟨0, _⟩ => ⟨S1408x1024, .f32⟩
  | .local _ .vmem, ⟨1, _⟩ => ⟨S1408x1024, .f32⟩
  | .local _ .vmem, ⟨2, _⟩ => ⟨S1408x1408, .f32⟩
  | .local _ .vmem, ⟨3, _⟩ => ⟨S1408x1408, .f32⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwIdeal.lean ====
abbrev S8448x1024 : Shape := ⟨2, ![8448, 1024]⟩
abbrev S8448x2816 : Shape := ⟨2, ![8448, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S1024x2816, .f32⟩
  | .local _ .vmem, ⟨0, _⟩ => ⟨S1408x1024, .f32⟩
  | .local _ .vmem, ⟨1, _⟩ => ⟨S1408x1024, .f32⟩
  | .local _ .vmem, ⟨2, _⟩ => ⟨S1408x1408, .f32⟩
  | .local _ .vmem, ⟨3, _⟩ => ⟨S1408x1408, .f32⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S_, .f32⟩
  | .hbm, ⟨3, _⟩ => ⟨S1024x2816, .f32⟩
  | .hbm, ⟨4, _⟩ => ⟨S8448x2816, .f32⟩
  | .hbm, ⟨5, _⟩ => ⟨S2816x1024, .f32⟩
  | .hbm, ⟨6, _⟩ => ⟨S1024x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpY.lean ====
abbrev S8448x1024 : Shape := ⟨2, ![8448, 1024]⟩
abbrev S1024x2816 : Shape := ⟨2, ![1024, 2816]⟩
abbrev S8448x2816 : Shape := ⟨2, ![8448, 2816]⟩
abbrev S1408x1024 : Shape := ⟨2, ![1408, 1024]⟩
abbrev S1024x1408 : Shape := ⟨2, ![1024, 1408]⟩
abbrev S1408x1408 : Shape := ⟨2, ![1408, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .bf16⟩
  | .hbm, ⟨3, _⟩ => ⟨S8448x2816, .f32⟩
  | .local _ .vmem, ⟨0, _⟩ => ⟨S1408x1024, .f32⟩
  | .local _ .vmem, ⟨1, _⟩ => ⟨S1408x1024, .f32⟩
  | .local _ .vmem, ⟨2, _⟩ => ⟨S1024x1408, .bf16⟩
  | .local _ .vmem, ⟨3, _⟩ => ⟨S1024x1408, .bf16⟩
  | .local _ .vmem, ⟨4, _⟩ => ⟨S1408x1408, .f32⟩
  | .local _ .vmem, ⟨5, _⟩ => ⟨S1408x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpYIdeal.lean ====
abbrev S8448x1024 : Shape := ⟨2, ![8448, 1024]⟩
abbrev S1024x2816 : Shape := ⟨2, ![1024, 2816]⟩
abbrev S8448x2816 : Shape := ⟨2, ![8448, 2816]⟩
abbrev S1408x1024 : Shape := ⟨2, ![1408, 1024]⟩
abbrev S1024x1408 : Shape := ⟨2, ![1024, 1408]⟩
abbrev S1408x1408 : Shape := ⟨2, ![1408, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S1024x2816, .bf16⟩
  | .hbm, ⟨3, _⟩ => ⟨S8448x2816, .f32⟩
  | .local _ .vmem, ⟨0, _⟩ => ⟨S1408x1024, .f32⟩
  | .local _ .vmem, ⟨1, _⟩ => ⟨S1408x1024, .f32⟩
  | .local _ .vmem, ⟨2, _⟩ => ⟨S1024x1408, .bf16⟩
  | .local _ .vmem, ⟨3, _⟩ => ⟨S1024x1408, .bf16⟩
  | .local _ .vmem, ⟨4, _⟩ => ⟨S1408x1408, .f32⟩
  | .local _ .vmem, ⟨5, _⟩ => ⟨S1408x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpYRefIdeal.lean ====
abbrev S8448x1024 : Shape := ⟨2, ![8448, 1024]⟩
abbrev S1024x2816 : Shape := ⟨2, ![1024, 2816]⟩
abbrev S8448x2816 : Shape := ⟨2, ![8448, 2816]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S8448x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S2816x1024 : Shape := ⟨2, ![2816, 1024]⟩
abbrev S8448x1024 : Shape := ⟨2, ![8448, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S2816x1024, .bf16⟩
  | .hbm, ⟨3, _⟩ => ⟨S8448x1024, .bf16⟩
  | .hbm, ⟨4, _⟩ => ⟨S8448x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxIdeal.lean ====
abbrev S2816x1024 : Shape := ⟨2, ![2816, 1024]⟩
abbrev S8448x1024 : Shape := ⟨2, ![8448, 1024]⟩
abbrev S8448x2816 : Shape := ⟨2, ![8448, 2816]⟩
abbrev S1408x1024 : Shape := ⟨2, ![1408, 1024]⟩
abbrev S1408x1408 : Shape := ⟨2, ![1408, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S2816x1024, .bf16⟩
  | .hbm, ⟨3, _⟩ => ⟨S8448x1024, .bf16⟩
  | .hbm, ⟨4, _⟩ => ⟨S8448x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1408, .f32⟩
  | .local _ .vmem, ⟨5, _⟩ => ⟨S1408x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2816x1024 : Shape := ⟨2, ![2816, 1024]⟩
abbrev S8448x1024 : Shape := ⟨2, ![8448, 1024]⟩
abbrev S_ : Shape := ⟨0, ![]⟩
abbrev S8448x2816 : Shape := ⟨2, ![8448, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S_, .f32⟩
  | .hbm, ⟨3, _⟩ => ⟨S8448x2816, .f32⟩
  | .hbm, ⟨4, _⟩ => ⟨S8448x1024, .f32⟩
  | .hbm, ⟨5, _⟩ => ⟨S8448x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DownDw.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S8448x1024, .bf16⟩
  | .hbm, ⟨3, _⟩ => ⟨S2816x1024, .f32⟩
  | .local _ .vmem, ⟨0, _⟩ => ⟨S1408x1408, .f32⟩
  | .local _ .vmem, ⟨1, _⟩ => ⟨S1408x1408, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S8448x1024, .bf16⟩
  | .hbm, ⟨3, _⟩ => ⟨S2816x1024, .f32⟩
  | .local _ .vmem, ⟨0, _⟩ => ⟨S1408x1408, .f32⟩
  | .local _ .vmem, ⟨1, _⟩ => ⟨S1408x1408, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x1024, .f32⟩
  | .hbm, ⟨5, _⟩ => ⟨S1024x2816, .f32⟩
  | .hbm, ⟨6, _⟩ => ⟨S2816x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownY.lean ====
abbrev S8448x2816 : Shape := ⟨2, ![8448, 2816]⟩
abbrev S2816x1024 : Shape := ⟨2, ![2816, 1024]⟩
abbrev S8448x1024 : Shape := ⟨2, ![8448, 1024]⟩
abbrev S1408x1408 : Shape := ⟨2, ![1408, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S2816x1024, .bf16⟩
  | .hbm, ⟨3, _⟩ => ⟨S8448x1024, .f32⟩
  | .local _ .vmem, ⟨0, _⟩ => ⟨S1408x1408, .f32⟩
  | .local _ .vmem, ⟨1, _⟩ => ⟨S1408x1408, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownYIdeal.lean ====
abbrev S8448x2816 : Shape := ⟨2, ![8448, 2816]⟩
abbrev S2816x1024 : Shape := ⟨2, ![2816, 1024]⟩
abbrev S8448x1024 : Shape := ⟨2, ![8448, 1024]⟩
abbrev S1408x1408 : Shape := ⟨2, ![1408, 1408]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S2816x1024, .bf16⟩
  | .hbm, ⟨3, _⟩ => ⟨S8448x1024, .f32⟩
  | .local _ .vmem, ⟨0, _⟩ => ⟨S1408x1408, .f32⟩
  | .local _ .vmem, ⟨1, _⟩ => ⟨S1408x1408, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownYRefIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S1024x5632 : Shape := ⟨2, ![1024, 5632]⟩
abbrev S8448x5632 : Shape := ⟨2, ![8448, 5632]⟩
abbrev S8448x1024 : Shape := ⟨2, ![8448, 1024]⟩
abbrev S1408x2816 : Shape := ⟨2, ![1408, 2816]⟩
abbrev S1024x2816 : Shape := ⟨2, ![1024, 2816]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1024x5632, .f32⟩
  | .hbm, ⟨1, _⟩ => ⟨S8448x5632, .f32⟩
  | .hbm, ⟨2, _⟩ => ⟨S1024x5632, .bf16⟩
  | .hbm, ⟨3, _⟩ => ⟨S8448x5632, .bf16⟩
  | .hbm, ⟨4, _⟩ => ⟨S8448x1024, .f32⟩
  | .local _ .vmem, ⟨0, _⟩ => ⟨S1408x2816, .bf16⟩
  | .local _ .vmem, ⟨1, _⟩ => ⟨S1408x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1408x1024, .f32⟩
  | .local _ .vmem, ⟨5, _⟩ => ⟨S1408x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S1024x5632 : Shape := ⟨2, ![1024, 5632]⟩
abbrev S8448x5632 : Shape := ⟨2, ![8448, 5632]⟩
abbrev S_ : Shape := ⟨0, ![]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S8448x5632, .f32⟩
  | .hbm, ⟨2, _⟩ => ⟨S_, .f32⟩
  | .hbm, ⟨3, _⟩ => ⟨S8448x1024, .f32⟩
  | .hbm, ⟨4, _⟩ => ⟨S8448x5632, .f32⟩
  | .hbm, ⟨5, _⟩ => ⟨S8448x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S8448x5632, .bf16⟩
  | .hbm, ⟨3, _⟩ => ⟨S1024x5632, .f32⟩
  | .local _ .vmem, ⟨0, _⟩ => ⟨S1408x1024, .f32⟩
  | .local _ .vmem, ⟨1, _⟩ => ⟨S1408x1024, .f32⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x5632, .f32⟩
  | .hbm, ⟨2, _⟩ => ⟨S_, .f32⟩
  | .hbm, ⟨3, _⟩ => ⟨S1024x5632, .f32⟩
  | .hbm, ⟨4, _⟩ => ⟨S8448x5632, .f32⟩
  | .hbm, ⟨5, _⟩ => ⟨S5632x1024, .f32⟩
  | .hbm, ⟨6, _⟩ => ⟨S1024x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InY.lean ====
abbrev S8448x1024 : Shape := ⟨2, ![8448, 1024]⟩
abbrev S1024x5632 : Shape := ⟨2, ![1024, 5632]⟩
abbrev S8448x5632 : Shape := ⟨2, ![8448, 5632]⟩
abbrev S1408x1024 : Shape := ⟨2, ![1408, 1024]⟩
abbrev S1024x1408 : Shape := ⟨2, ![1024, 1408]⟩
abbrev S1408x1408 : Shape := ⟨2, ![1408, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S1024x5632, .bf16⟩
  | .hbm, ⟨3, _⟩ => ⟨S8448x5632, .f32⟩
  | .local _ .vmem, ⟨0, _⟩ => ⟨S1408x1024, .f32⟩
  | .local _ .vmem, ⟨1, _⟩ => ⟨S1408x1024, .f32⟩
  | .local _ .vmem, ⟨2, _⟩ => ⟨S1024x1408, .bf16⟩
  | .local _ .vmem, ⟨3, _⟩ => ⟨S1024x1408, .bf16⟩
  | .local _ .vmem, ⟨4, _⟩ => ⟨S1408x1408, .f32⟩
  | .local _ .vmem, ⟨5, _⟩ => ⟨S1408x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InYRefIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S8x1024 : Shape := ⟨2, ![8, 1024]⟩
abbrev S2x1x1024 : Shape := ⟨3, ![2, 1, 1024]⟩
abbrev S2x8x1024 : Shape := ⟨3, ![2, 8, 1024]⟩
abbrev S33x8x1024 : Shape := ⟨3, ![33, 8, 1024]⟩
abbrev S256x1024 : Shape := ⟨2, ![256, 1024]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩
abbrev S5x1024 : Shape := ⟨2, ![5, 1024]⟩
abbrev S33x1x1024 : Shape := ⟨3, ![33, 1, 1024]⟩
abbrev S33x1024 : Shape := ⟨2, ![33, 1024]⟩
abbrev S_ : Shape := ⟨0, ![]⟩
abbrev S32x1x1024 : Shape := ⟨3, ![32, 1, 1024]⟩
abbrev S32x1024 : Shape := ⟨2, ![32, 1024]⟩

abbrev nBuf : Space → Nat
  | .hbm => 36
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S8448x1024, .f32⟩
  | .hbm, ⟨4, _⟩ => ⟨S1x1024, .f32⟩
  | .hbm, ⟨5, _⟩ => ⟨S8x1024, .f32⟩
  | .hbm, ⟨6, _⟩ => ⟨S2x1x1024, .f32⟩
  | .hbm, ⟨7, _⟩ => ⟨S2x8x1024, .f32⟩
  | .hbm, ⟨8, _⟩ => ⟨S8448x1024, .f32⟩
  | .hbm, ⟨9, _⟩ => ⟨S33x8x1024, .f32⟩
  | .hbm, ⟨10, _⟩ => ⟨S33x1x1024, .f32⟩
  | .hbm, ⟨11, _⟩ => ⟨S33x1024, .f32⟩
  | .hbm, ⟨12, _⟩ => ⟨S_, .f32⟩
  | .hbm, ⟨13, _⟩ => ⟨S1024, .f32⟩
  | .hbm, ⟨14, _⟩ => ⟨S1x1x1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S32x1x1024, .f32⟩
  | .hbm, ⟨19, _⟩ => ⟨S32x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S2x1024, .f32⟩
  | .hbm, ⟨25, _⟩ => ⟨S1x1x1024, .f32⟩
  | .hbm, ⟨26, _⟩ => ⟨S1x1024, .f32⟩
  | .hbm, ⟨27, _⟩ => ⟨S_, .f32⟩
  | .hbm, ⟨28, _⟩ => ⟨S1024, .f32⟩
  | .hbm, ⟨29, _⟩ => ⟨S32x1x1024, .f32⟩
  | .hbm, ⟨30, _⟩ => ⟨S32x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1x8x1024, .f32⟩
  | .local _ .vmem, ⟨4, _⟩ => ⟨S1x8x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x8x1024, .f32⟩
  | .local _ .vmem, ⟨10, _⟩ => ⟨S1x8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S8448x1024 : Shape := ⟨2, ![8448, 1024]⟩
abbrev S1024 : Shape := ⟨1, ![1024]⟩
abbrev S2x1024 : Shape := ⟨2, ![2, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S8448x1024, .f32⟩
  | .hbm, ⟨4, _⟩ => ⟨S_, .f32⟩
  | .hbm, ⟨5, _⟩ => ⟨S2x1024, .f32⟩
  | .hbm, ⟨6, _⟩ => ⟨S8448, .i32⟩
  | .hbm, ⟨7, _⟩ => ⟨S_, .i32⟩
  | .hbm, ⟨8, _⟩ => ⟨S8448, .i32⟩
  | .hbm, ⟨9, _⟩ => ⟨S8448, .i1⟩
  | .hbm, ⟨10, _⟩ => ⟨S8448x1, .i1⟩
  | .hbm, ⟨11, _⟩ => ⟨S8448x1024, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S8448x1024, .i1⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S8448x1024, .i1⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S_, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S_, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S2x1024, .f32⟩
  | .hbm, ⟨67, _⟩ => ⟨S1x1024, .f32⟩
  | .hbm, ⟨68, _⟩ => ⟨S_, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S2x1024, .f32⟩
  | .hbm, ⟨82, _⟩ => ⟨S1x1024, .f32⟩
  | .hbm, ⟨83, _⟩ => ⟨S_, .f32⟩
  | .hbm, ⟨84, _⟩ => ⟨S2x1024, .f32⟩
  | .hbm, ⟨85, _⟩ => ⟨S2x1024, .f32⟩
  | .hbm, ⟨86, _⟩ => ⟨S8448x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8448x1024, .f32⟩
  | .hbm, ⟨91, _⟩ => ⟨S8448x1024, .f32⟩
  | .hbm, ⟨92, _⟩ => ⟨S_, .f32⟩
  | .hbm, ⟨93, _⟩ => ⟨S1024, .f32⟩
  | .hbm, ⟨94, _⟩ => ⟨S8448x1024, .f32⟩
  | .hbm, ⟨95, _⟩ => ⟨S_, .f32⟩
  | .hbm, ⟨96, _⟩ => ⟨S8448, .f32⟩
  | .hbm, ⟨97, _⟩ => ⟨S8448x1, .f32⟩
  | .hbm, ⟨98, _⟩ => ⟨S8448x1024, .f32⟩
  | .hbm, ⟨99, _⟩ => ⟨S8448x1024, .f32⟩
  | .hbm, ⟨100, _⟩ => ⟨S8448x1, .f32⟩
  | .hbm, ⟨101, _⟩ => ⟨S_, .f32⟩
  | .hbm, ⟨102, _⟩ => ⟨S8448x1, .f32⟩
  | .hbm, ⟨103, _⟩ => ⟨S8448x1, .f32⟩
  | .hbm, ⟨104, _⟩ => ⟨S_, .f32⟩
  | .hbm, ⟨105, _⟩ => ⟨S8448, .f32⟩
  | .hbm, ⟨106, _⟩ => ⟨S8448x1024, .f32⟩
  | .hbm, ⟨107, _⟩ => ⟨S8448x1024, .f32⟩
  | .hbm, ⟨108, _⟩ => ⟨S8448x1024, .f32⟩
  | .hbm, ⟨109, _⟩ => ⟨S8448x1024, .f32⟩
  | .hbm, ⟨110, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_1 : Ref sig .tc := ⟨.hbm, 35, rfl⟩
abbrev main_call0_v1 : Ref sig .tc := ⟨.hbm, 36, rfl⟩
abbrev main_call0_v2 : Ref sig .tc := ⟨.hbm, 37, rfl⟩
abbrev main_v25_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_1 : Ref sig .tc := ⟨.hbm, 43, rfl⟩
abbrev main_call1_v1 : Ref sig .tc := ⟨.hbm, 44, rfl⟩
abbrev main_call1_v2 : Ref sig .tc := ⟨.hbm, 45, rfl⟩
abbrev main_v30_0 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_cst_0 : Ref sig .tc := ⟨.hbm, 60, rfl⟩
abbrev main_v39_1 : Ref sig .tc := ⟨.hbm, 61, rfl⟩
abbrev main_call2_cst_1 : Ref sig .tc := ⟨.hbm, 62, rfl⟩
abbrev main_v39_0 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_cst_0 : Ref sig .tc := ⟨.hbm, 75, rfl⟩
abbrev main_v45_1 : Ref sig .tc := ⟨.hbm, 76, rfl⟩
abbrev main_call3_cst_1 : Ref sig .tc := ⟨.hbm, 77, rfl⟩
abbrev main_v45_0 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_9 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_cst_13 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩

abbrev nD : Nat := 1
abbrev τ : Topo := Topo.v7x

variable {F : FTy → Type} [FloatOps F]
-- ==== LastUpDx.lean ====
abbrev S1024x2816 : Shape := ⟨2, ![1024, 2816]⟩
abbrev S8192x2816 : Shape := ⟨2, ![8192, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S8192x2816, .f32⟩
  | .hbm, ⟨2, _⟩ => ⟨S1024x2816, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastUpDxRefIdeal.lean ====
abbrev S1024x2816 : Shape := ⟨2, ![1024, 2816]⟩
abbrev S8192x2816 : Shape := ⟨2, ![8192, 2816]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S8192x2816, .f32⟩
  | .hbm, ⟨2, _⟩ => ⟨S_, .f32⟩
  | .hbm, ⟨3, _⟩ => ⟨S8192x1024, .f32⟩
  | .hbm, ⟨4, _⟩ => ⟨S8192x2816, .f32⟩
  | .hbm, ⟨5, _⟩ => ⟨S8192x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LastUpDw.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1024x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastUpDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LastUpY.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .bf16⟩
  | .hbm, ⟨3, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastUpYRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LastDownDx.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S2816x1024, .bf16⟩
  | .hbm, ⟨3, _⟩ => ⟨S8192x1024, .bf16⟩
  | .hbm, ⟨4, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastDownDxRefIdeal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8192x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LastDownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x1024, .bf16⟩
  | .hbm, ⟨3, _⟩ => ⟨S2816x1024, .f32⟩
  | .local _ .vmem, ⟨0, _⟩ => ⟨S1024x1408, .f32⟩
  | .local _ .vmem, ⟨1, _⟩ => ⟨S1024x1408, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastDownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LastDownY.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S2816x1024, .bf16⟩
  | .hbm, ⟨3, _⟩ => ⟨S8192x1024, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastDownYRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S1024x1024 : Shape := ⟨2, ![1024, 1024]⟩
abbrev S8448x1024 : Shape := ⟨2, ![8448, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .bf16⟩
  | .hbm, ⟨4, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S1024x1024 : Shape := ⟨2, ![1024, 1024]⟩
abbrev S8448x1024 : Shape := ⟨2, ![8448, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .bf16⟩
  | .hbm, ⟨4, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S1024x1024 : Shape := ⟨2, ![1024, 1024]⟩
abbrev S8448x1024 : Shape := ⟨2, ![8448, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S_, .f32⟩
  | .hbm, ⟨3, _⟩ => ⟨S8448x1024, .f32⟩
  | .hbm, ⟨4, _⟩ => ⟨S8448x1024, .f32⟩
  | .hbm, ⟨5, _⟩ => ⟨S8448x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .bf16⟩
  | .hbm, ⟨3, _⟩ => ⟨S8448x1024, .bf16⟩
  | .hbm, ⟨4, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwIdeal.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .bf16⟩
  | .hbm, ⟨3, _⟩ => ⟨S8448x1024, .bf16⟩
  | .hbm, ⟨4, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S1024x1024, .f32⟩
  | .hbm, ⟨6, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutY.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S1024x1024, .bf16⟩
  | .hbm, ⟨3, _⟩ => ⟨S8448x1024, .bf16⟩
  | .hbm, ⟨4, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutYIdeal.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S1024x1024, .bf16⟩
  | .hbm, ⟨3, _⟩ => ⟨S8448x1024, .bf16⟩
  | .hbm, ⟨4, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutYRefIdeal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== LastOutDx.lean ====
abbrev S1024x1024 : Shape := ⟨2, ![1024, 1024]⟩
abbrev S8192x1024 : Shape := ⟨2, ![8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutDxRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LastOutDw.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LastOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LastOutY.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LastOutYRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormFwd.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S8x1024 : Shape := ⟨2, ![8, 1024]⟩
abbrev S2x1x1024 : Shape := ⟨3, ![2, 1, 1024]⟩
abbrev S2x8x1024 : Shape := ⟨3, ![2, 8, 1024]⟩
abbrev S256x1024 : Shape := ⟨2, ![256, 1024]⟩
abbrev S1x8x1024 : Shape := ⟨3, ![1, 8, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S8x1024, .f32⟩
  | .hbm, ⟨6, _⟩ => ⟨S2x1x1024, .f32⟩
  | .hbm, ⟨7, _⟩ => ⟨S2x8x1024, .f32⟩
  | .hbm, ⟨8, _⟩ => ⟨S2x1x1024, .f32⟩
  | .hbm, ⟨9, _⟩ => ⟨S2x8x1024, .f32⟩
  | .hbm, ⟨10, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S8448x1024 : Shape := ⟨2, ![8448, 1024]⟩
abbrev S1024 : Shape := ⟨1, ![1024]⟩
abbrev S2x1024 : Shape := ⟨2, ![2, 1024]⟩
abbrev S8448 : Shape := ⟨1, ![8448]⟩
abbrev S_ : Shape := ⟨0, ![]⟩
abbrev S8448x1 : Shape := ⟨2, ![8448, 1]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8448, .i32⟩
  | .hbm, ⟨5, _⟩ => ⟨S_, .i32⟩
  | .hbm, ⟨6, _⟩ => ⟨S8448, .i32⟩
  | .hbm, ⟨7, _⟩ => ⟨S8448, .i1⟩
  | .hbm, ⟨8, _⟩ => ⟨S8448x1, .i1⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S8448x1024, .i1⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S8448x1024, .i1⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S_, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== ResidFwd.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S8x1024 : Shape := ⟨2, ![8, 1024]⟩
abbrev S2x1x1024 : Shape := ⟨3, ![2, 1, 1024]⟩
abbrev S2x8x1024 : Shape := ⟨3, ![2, 8, 1024]⟩
abbrev S256x1024 : Shape := ⟨2, ![256, 1024]⟩
abbrev S1x8x1024 : Shape := ⟨3, ![1, 8, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S2x1024, .f32⟩
  | .hbm, ⟨4, _⟩ => ⟨S1x1024, .f32⟩
  | .hbm, ⟨5, _⟩ => ⟨S8x1024, .f32⟩
  | .hbm, ⟨6, _⟩ => ⟨S2x1x1024, .f32⟩
  | .hbm, ⟨7, _⟩ => ⟨S2x8x1024, .f32⟩
  | .hbm, ⟨8, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidFwdRefIdeal.lean ====
abbrev S8448x1024 : Shape := ⟨2, ![8448, 1024]⟩
abbrev S1024 : Shape := ⟨1, ![1024]⟩
abbrev S2x1024 : Shape := ⟨2, ![2, 1024]⟩
abbrev S8448 : Shape := ⟨1, ![8448]⟩
abbrev S_ : Shape := ⟨0, ![]⟩
abbrev S8448x1 : Shape := ⟨2, ![8448, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S2x1024, .f32⟩
  | .hbm, ⟨4, _⟩ => ⟨S8448, .i32⟩
  | .hbm, ⟨5, _⟩ => ⟨S_, .i32⟩
  | .hbm, ⟨6, _⟩ => ⟨S8448, .i32⟩
  | .hbm, ⟨7, _⟩ => ⟨S8448, .i1⟩
  | .hbm, ⟨8, _⟩ => ⟨S8448x1, .i1⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S8448x1024, .i1⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448x1, .f32⟩
  | .hbm, ⟨28, _⟩ => ⟨S8448x1024, .f32⟩
  | .hbm, ⟨29, _⟩ => ⟨S8448x1024, .f32⟩
  | .hbm, ⟨30, _⟩ => ⟨S1x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Resid.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S8x1024 : Shape := ⟨2, ![8, 1024]⟩
abbrev S2x1x1024 : Shape := ⟨3, ![2, 1, 1024]⟩
abbrev S2x8x1024 : Shape := ⟨3, ![2, 8, 1024]⟩
abbrev S33x8x1024 : Shape := ⟨3, ![33, 8, 1024]⟩
abbrev S256x1024 : Shape := ⟨2, ![256, 1024]⟩
abbrev S1x8x1024 : Shape := ⟨3, ![1, 8, 1024]⟩
abbrev S1x1x1024 : Shape := ⟨3, ![1, 1, 1024]⟩
abbrev S256 : Shape := ⟨1, ![256]⟩
abbrev S256x1 : Shape := ⟨2, ![256, 1]⟩
abbrev S6x1024 : Shape := ⟨2, ![6, 1024]⟩
abbrev S33x1x1024 : Shape := ⟨3, ![33, 1, 1024]⟩
abbrev S33x1024 : Shape := ⟨2, ![33, 1024]⟩
abbrev S_ : Shape := ⟨0, ![]⟩
abbrev S32x1x1024 : Shape := ⟨3, ![32, 1, 1024]⟩
abbrev S32x1024 : Shape := ⟨2, ![32, 1024]⟩

abbrev nBuf : Space → Nat
  | .hbm => 25
  | .vmem => 11
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S8448x1024, .f32⟩
  | .hbm, ⟨4, _⟩ => ⟨S1x1024, .f32⟩
  | .hbm, ⟨5, _⟩ => ⟨S8x1024, .f32⟩
  | .hbm, ⟨6, _⟩ => ⟨S2x1x1024, .f32⟩
  | .hbm, ⟨7, _⟩ => ⟨S2x8x1024, .f32⟩
  | .hbm, ⟨8, _⟩ => ⟨S8448x1024, .f32⟩
  | .hbm, ⟨9, _⟩ => ⟨S33x8x1024, .f32⟩
  | .hbm, ⟨10, _⟩ => ⟨S33x1x1024, .f32⟩
  | .hbm, ⟨11, _⟩ => ⟨S33x1024, .f32⟩
  | .hbm, ⟨12, _⟩ => ⟨S_, .f32⟩
  | .hbm, ⟨13, _⟩ => ⟨S1024, .f32⟩
  | .hbm, ⟨14, _⟩ => ⟨S1x1x1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S32x1x1024, .f32⟩
  | .hbm, ⟨19, _⟩ => ⟨S32x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1x8x1024, .f32⟩
  | .local _ .vmem, ⟨4, _⟩ => ⟨S1x8x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x8x1024, .f32⟩
  | .local _ .vmem, ⟨10, _⟩ => ⟨S1x8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidRefIdeal.lean ====
abbrev S8448x1024 : Shape := ⟨2, ![8448, 1024]⟩
abbrev S1024 : Shape := ⟨1, ![1024]⟩
abbrev S2x1024 : Shape := ⟨2, ![2, 1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448, .i32⟩
  | .hbm, ⟨7, _⟩ => ⟨S_, .i32⟩
  | .hbm, ⟨8, _⟩ => ⟨S8448, .i32⟩
  | .hbm, ⟨9, _⟩ => ⟨S8448, .i1⟩
  | .hbm, ⟨10, _⟩ => ⟨S8448x1, .i1⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S8448x1024, .i1⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x1, .f32⟩
  | .hbm, ⟨30, _⟩ => ⟨S8448x1, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8448x1024, .f32⟩
  | .hbm, ⟨48, _⟩ => ⟨S8448x1024, .f32⟩
  | .hbm, ⟨49, _⟩ => ⟨S_, .f32⟩
  | .hbm, ⟨50, _⟩ => ⟨S1024, .f32⟩
  | .hbm, ⟨51, _⟩ => ⟨S8448x1024, .f32⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S8448x1024, .f32⟩
  | .hbm, ⟨56, _⟩ => ⟨S8448x1024, .f32⟩
  | .hbm, ⟨57, _⟩ => ⟨S8448x1, .f32⟩
  | .hbm, ⟨58, _⟩ => ⟨S_, .f32⟩
  | .hbm, ⟨59, _⟩ => ⟨S8448x1, .f32⟩
  | .hbm, ⟨60, _⟩ => ⟨S8448x1, .f32⟩
  | .hbm, ⟨61, _⟩ => ⟨S_, .f32⟩
  | .hbm, ⟨62, _⟩ => ⟨S8448, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S_, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S2x1024, .f32⟩
  | .hbm, ⟨79, _⟩ => ⟨S1x1024, .f32⟩
  | .hbm, ⟨80, _⟩ => ⟨S_, .f32⟩
  | .hbm, ⟨81, _⟩ => ⟨S2x1024, .f32⟩
  | .hbm, ⟨82, _⟩ => ⟨S2x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_1 : Ref sig .tc := ⟨.hbm, 15, rfl⟩
abbrev main_call0_v1 : Ref sig .tc := ⟨.hbm, 16, rfl⟩
abbrev main_call0_v2 : Ref sig .tc := ⟨.hbm, 17, rfl⟩
abbrev main_v9_0 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_cst_0 : Ref sig .tc := ⟨.hbm, 72, rfl⟩
abbrev main_v50_1 : Ref sig .tc := ⟨.hbm, 73, rfl⟩
abbrev main_call1_cst_1 : Ref sig .tc := ⟨.hbm, 74, rfl⟩
abbrev main_v50_0 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== MidFwd.lean ====
abbrev S8448x2816 : Shape := ⟨2, ![8448, 2816]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S1056x256 : Shape := ⟨2, ![1056, 256]⟩
abbrev S8x256 : Shape := ⟨2, ![8, 256]⟩
abbrev S1072x256 : Shape := ⟨2, ![1072, 256]⟩
abbrev S1x256 : Shape := ⟨2, ![1, 256]⟩

abbrev nBuf : Space → Nat
  | .hbm => 9
  | .vmem => 18
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S_, .f32⟩
  | .hbm, ⟨6, _⟩ => ⟨S4x5632, .f32⟩
  | .hbm, ⟨7, _⟩ => ⟨S8x5632, .f32⟩
  | .hbm, ⟨8, _⟩ => ⟨S8448x2816, .f32⟩
  | .local _ .vmem, ⟨0, _⟩ => ⟨S1056x256, .f32⟩
  | .local _ .vmem, ⟨1, _⟩ => ⟨S1056x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1056x256, .f32⟩
  | .local _ .vmem, ⟨7, _⟩ => ⟨S1056x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S1056x256, .f32⟩
  | .local _ .vmem, ⟨17, _⟩ => ⟨S1056x256, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg1 c132_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c132_i32 : BitVec 32 := 132#32
  let v1 : BitVec 32 := Scalar.muli v0 c132_i32
  let c1055_i32 : BitVec 32 := 1055#32
  let v2 : BitVec 32 := Scalar.minsi v1 c1055_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c132_i32 : BitVec 32 := 132#32
  let v0 : BitVec 32 := Scalar.muli arg1 c132_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c132_i32 : BitVec 32 := 132#32
  let v1 : BitVec 32 := Scalar.muli v0 c132_i32
  let c1055_i32 : BitVec 32 := 1055#32
  let v2 : BitVec 32 := Scalar.minsi v1 c1055_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1056x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidFwdRefIdeal.lean ====
abbrev S8448x2816 : Shape := ⟨2, ![8448, 2816]⟩
abbrev S3x5632 : Shape := ⟨2, ![3, 5632]⟩
abbrev S5632 : Shape := ⟨1, ![5632]⟩
abbrev S8448x5632 : Shape := ⟨2, ![8448, 5632]⟩
abbrev S1x8448x5632 : Shape := ⟨3, ![1, 8448, 5632]⟩
abbrev S1x256x5632 : Shape := ⟨3, ![1, 256, 5632]⟩
abbrev S_ : Shape := ⟨0, ![]⟩
abbrev S1x258x5632 : Shape := ⟨3, ![1, 258, 5632]⟩
abbrev S1x5632 : Shape := ⟨2, ![1, 5632]⟩
abbrev S1x1x5632 : Shape := ⟨3, ![1, 1, 5632]⟩
abbrev S1x256x2816 : Shape := ⟨3, ![1, 256, 2816]⟩
abbrev S1x8192x5632 : Shape := ⟨3, ![1, 8192, 5632]⟩
abbrev S1x8194x5632 : Shape := ⟨3, ![1, 8194, 5632]⟩
abbrev S1x8192x2816 : Shape := ⟨3, ![1, 8192, 2816]⟩
abbrev S1x8448x2816 : Shape := ⟨3, ![1, 8448, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S3x5632, .f32⟩
  | .hbm, ⟨3, _⟩ => ⟨S5632, .f32⟩
  | .hbm, ⟨4, _⟩ => ⟨S8448x5632, .f32⟩
  | .hbm, ⟨5, _⟩ => ⟨S1x8448x5632, .f32⟩
  | .hbm, ⟨6, _⟩ => ⟨S1x256x5632, .f32⟩
  | .hbm, ⟨7, _⟩ => ⟨S_, .i32⟩
  | .hbm, ⟨8, _⟩ => ⟨S_, .f32⟩
  | .hbm, ⟨9, _⟩ => ⟨S1x258x5632, .f32⟩
  | .hbm, ⟨10, _⟩ => ⟨S1x256x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S1x256x5632, .f32⟩
  | .hbm, ⟨15, _⟩ => ⟨S1x256x5632, .f32⟩
  | .hbm, ⟨16, _⟩ => ⟨S1x256x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S1x256x5632, .f32⟩
  | .hbm, ⟨21, _⟩ => ⟨S1x256x5632, .f32⟩
  | .hbm, ⟨22, _⟩ => ⟨S1x256x5632, .f32⟩
  | .hbm, ⟨23, _⟩ => ⟨S1x256x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S1x256x5632, .f32⟩
  | .hbm, ⟨28, _⟩ => ⟨S1x256x5632, .f32⟩
  | .hbm, ⟨29, _⟩ => ⟨S1x256x5632, .f32⟩
  | .hbm, ⟨30, _⟩ => ⟨S1x1x5632, .f32⟩
  | .hbm, ⟨31, _⟩ => ⟨S1x256x5632, .f32⟩
  | .hbm, ⟨32, _⟩ => ⟨S1x256x5632, .f32⟩
  | .hbm, ⟨33, _⟩ => ⟨S1x256x2816, .f32⟩
  | .hbm, ⟨34, _⟩ => ⟨S1x256x2816, .f32⟩
  | .hbm, ⟨35, _⟩ => ⟨S1x256x2816, .f32⟩
  | .hbm, ⟨36, _⟩ => ⟨S1x256x2816, .f32⟩
  | .hbm, ⟨37, _⟩ => ⟨S_, .f32⟩
  | .hbm, ⟨38, _⟩ => ⟨S1x256x2816, .f32⟩
  | .hbm, ⟨39, _⟩ => ⟨S1x256x2816, .f32⟩
  | .hbm, ⟨40, _⟩ => ⟨S_, .f32⟩
  | .hbm, ⟨41, _⟩ => ⟨S1x256x2816, .f32⟩
  | .hbm, ⟨42, _⟩ => ⟨S1x256x2816, .f32⟩
  | .hbm, ⟨43, _⟩ => ⟨S1x256x2816, .f32⟩
  | .hbm, ⟨44, _⟩ => ⟨S1x256x2816, .f32⟩
  | .hbm, ⟨45, _⟩ => ⟨S1x8192x5632, .f32⟩
  | .hbm, ⟨46, _⟩ => ⟨S_, .i32⟩
  | .hbm, ⟨47, _⟩ => ⟨S_, .f32⟩
  | .hbm, ⟨48, _⟩ => ⟨S1x8194x5632, .f32⟩
  | .hbm, ⟨49, _⟩ => ⟨S1x8192x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S1x8192x5632, .f32⟩
  | .hbm, ⟨54, _⟩ => ⟨S1x8192x5632, .f32⟩
  | .hbm, ⟨55, _⟩ => ⟨S1x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S1x8192x5632, .f32⟩
  | .hbm, ⟨60, _⟩ => ⟨S1x8192x5632, .f32⟩
  | .hbm, ⟨61, _⟩ => ⟨S1x8192x5632, .f32⟩
  | .hbm, ⟨62, _⟩ => ⟨S1x8192x5632, .f32⟩
  | .hbm, ⟨63, _⟩ => ⟨S1x5632, .f32⟩
  | .hbm, ⟨64, _⟩ => ⟨S5632, .f32⟩
  | .hbm, ⟨65, _⟩ => ⟨S1x1x5632, .f32⟩
  | .hbm, ⟨66, _⟩ => ⟨S1x8192x5632, .f32⟩
  | .hbm, ⟨67, _⟩ => ⟨S1x8192x5632, .f32⟩
  | .hbm, ⟨68, _⟩ => ⟨S1x8192x5632, .f32⟩
  | .hbm, ⟨69, _⟩ => ⟨S1x1x5632, .f32⟩
  | .hbm, ⟨70, _⟩ => ⟨S1x8192x5632, .f32⟩
  | .hbm, ⟨71, _⟩ => ⟨S1x8192x5632, .f32⟩
  | .hbm, ⟨72, _⟩ => ⟨S1x8192x2816, .f32⟩
  | .hbm, ⟨73, _⟩ => ⟨S1x8192x2816, .f32⟩
  | .hbm, ⟨74, _⟩ => ⟨S1x8192x2816, .f32⟩
  | .hbm, ⟨75, _⟩ => ⟨S1x8192x2816, .f32⟩
  | .hbm, ⟨76, _⟩ => ⟨S_, .f32⟩
  | .hbm, ⟨77, _⟩ => ⟨S1x8192x2816, .f32⟩
  | .hbm, ⟨78, _⟩ => ⟨S1x8192x2816, .f32⟩
  | .hbm, ⟨79, _⟩ => ⟨S_, .f32⟩
  | .hbm, ⟨80, _⟩ => ⟨S1x8192x2816, .f32⟩
  | .hbm, ⟨81, _⟩ => ⟨S1x8192x2816, .f32⟩
  | .hbm, ⟨82, _⟩ => ⟨S1x8192x2816, .f32⟩
  | .hbm, ⟨83, _⟩ => ⟨S1x8192x2816, .f32⟩
  | .hbm, ⟨84, _⟩ => ⟨S1x8448x2816, .f32⟩
  | .hbm, ⟨85, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_0 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Proof.Bwd.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

/-! What one grid point of the backward call leaves in its three output buffers: the gradients of a block of 256 queries,
    and what the block adds to the gradients of all 8448 keys and values. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The weight of one key for one query: `exp (q·k − lse)`. -/
def pE (q k : Fin 64 → EReal) (lse : EReal) : EReal := Ideal.exp (∑ d, q d * k d - lse)

/-- The gradient of one score: the weight times `do·v − do·o`. -/
def dsE (q k v o g : Fin 64 → EReal) (lse : EReal) : EReal := pE q k lse * (∑ d, g d * v d - ∑ d, g d * o d)

variable (V : (c : Dev nD) → (b : Ref sig .tc) → Buf (Elt Ideal) ((c : Thread nD τ).loc b))

/-- The weight of key `J` for query row `r` of grid point `t`. -/
def pAt (c : Dev nD) (t : Fin cfg1.N) (r : Fin 256) (J : Fin 8448) : EReal :=
  pE (fun e => iblk1 V c 0 t (ix3 0 r e)) (fun e => iblk1 V c 1 t (ix3 0 J e)) (iblk1 V c 4 t (ix3 0 r 0))

/-- The gradient of the score of key `J` for query row `r` of grid point `t`. -/
def dsAt (c : Dev nD) (t : Fin cfg1.N) (r : Fin 256) (J : Fin 8448) : EReal :=
  dsE (fun e => iblk1 V c 0 t (ix3 0 r e)) (fun e => iblk1 V c 1 t (ix3 0 J e)) (fun e => iblk1 V c 2 t (ix3 0 J e))
    (fun e => iblk1 V c 3 t (ix3 0 r e)) (fun e => iblk1 V c 5 t (ix3 0 r e)) (iblk1 V c 4 t (ix3 0 r 0))

/-- What grid point `t` adds to the gradient of the keys. -/
def dkPart (c : Dev nD) (t : Fin cfg1.N) : Vec Ideal S1x8448x64 .f32 :=
  fun y => ∑ r : Fin 256, dsAt V c t r (y 1) * iblk1 V c 0 t (ix3 0 r (y 2))

/-- What grid point `t` adds to the gradient of the values. -/
def dvPart (c : Dev nD) (t : Fin cfg1.N) : Vec Ideal S1x8448x64 .f32 :=
  fun y => ∑ r : Fin 256, pAt V c t r (y 1) * iblk1 V c 5 t (ix3 0 r (y 2))

/-- The gradient of the queries of grid point `t`. -/
def dqPart (c : Dev nD) (t : Fin cfg1.N) : Vec Ideal S1x256x64 .f32 :=
  fun y => (∑ J : Fin 8448, dsAt V c t (y 1) J * iblk1 V c 1 t (ix3 0 J (y 2))) * Ideal.ofBits FTy.f32 0x3E000000#32

/-- An index of a block whose first axis has size one. -/
theorem row_index (y : S1x8448x64.Idx) : y = ix3 (0 : Fin 1) (y 1) (y 2) := by
  funext a
  match a with
  | ⟨0, _⟩ => exact Subsingleton.elim (α := Fin 1) _ _
  | ⟨1, _⟩ => rfl
  | ⟨2, _⟩ => rfl

/-- Stores that no later store's box holds are not seen where the later stores cover. -/
theorem canon_covered {s : Shape} {e : EltTy} {Val : EltTy → Type} [∀ e, Nonempty (Val e)] :
    ∀ (L L' : List (View.Piece Val s e)) (y : s.Idx) (_ : ∃ p ∈ L, y ∈ p.1.set), View.canon (L ++ L') y = View.canon L y
  | [], _, _, h => by obtain ⟨p, hp, _⟩ := h; simp at hp
  | p :: L, L', y, h => by
    by_cases hm : y ∈ p.1.set
    · obtain ⟨r, w⟩ := p
      obtain ⟨x, rfl⟩ := r.exists_idx_of_mem hm
      exact (View.canon_cons_emb r w (L ++ L') x).trans (View.canon_cons_emb r w L x).symm
    · rw [List.cons_append, View.canon_cons_of_not_mem _ _ hm, View.canon_cons_of_not_mem _ _ hm]
      obtain ⟨q, hq, hy⟩ := h
      rcases List.mem_cons.mp hq with rfl | hq
      · exact absurd hy hm
      · exact canon_covered L L' y ⟨q, hq, hy⟩

/-- A sum over the 8448 keys is the sum over the six chunks of 1408. -/
theorem sum_chunks (f : Fin 8448 → EReal) :
    ∑ J, f J = ∑ j : Fin 1408, f ⟨j.val, by omega⟩ + ∑ j : Fin 1408, f ⟨1408 + j.val, by omega⟩ + ∑ j : Fin 1408, f ⟨2816 + j.val, by omega⟩
      + ∑ j : Fin 1408, f ⟨4224 + j.val, by omega⟩ + ∑ j : Fin 1408, f ⟨5632 + j.val, by omega⟩ + ∑ j : Fin 1408, f ⟨7040 + j.val, by omega⟩ := by
  rw [show ∑ J, f J = ∑ i : Fin 6, ∑ j : Fin 1408, f ⟨i.val * 1408 + j.val, by omega⟩ from Fin.sum_univ_tiles 6 1408 rfl f]
  have h (i : Fin 6) (o : ℕ) (ho : i.val * 1408 = o) :
      ∑ j : Fin 1408, f ⟨i.val * 1408 + j.val, by omega⟩ = ∑ j : Fin 1408, f ⟨o + j.val, by omega⟩ := by
    subst ho
    rfl
  rw [Fin.sum_univ_six, h 0 0 rfl, h 1 1408 rfl, h 2 2816 rfl, h 3 4224 rfl, h 4 5632 rfl, h 5 7040 rfl]
  simp only [Nat.zero_add]

/-- The first point of a run leaves its own part of the keys' gradient. -/
theorem dk_first (c : Dev nD) (t : Fin cfg1.N) (hz : t.val % 64 = 0) :
    (outsAt1 V c t.val t.isLt).2.1 = dkPart V c t := by
  rw [outsAt1_A V c t hz]
  frame_open
  simp (disch := decide) only [↓ View.readCov_skip, ↓ View.readCov_cons_toLoadRect, ↓ View.readCov_fill]
  frame_out
  funext y
  refine Eq.trans (canon_covered [_, _, _, _, _, _] [_] y (View.cover_of_tiled_head _ _ _ (by rfl) y)) ?_
  canon_tiles x h
  all_goals
    open_payloads
    pointwise [dkPart, pAt, dsAt, dsE, pE]
    have e2 : y 2 = x 2 := Fin.ext h2
    simp only [e2]
    rw [show y 1 = ⟨_, lt_of_eq_of_lt h1.symm (y 1).isLt⟩ from Fin.ext h1]
    rfl

/-- A later point adds its part of the keys' gradient to what is there. -/
theorem dk_next (c : Dev nD) (t : Fin cfg1.N) (hz : ¬t.val % 64 = 0) :
    (outsAt1 V c t.val t.isLt).2.1 = fun y => (outsAt1 V c (t.val - 1) (Nat.lt_of_le_of_lt (Nat.sub_le _ _) t.isLt)).2.1 y + dkPart V c t y := by
  rw [outsAt1_B V c t hz]
  frame_out
  funext y
  generalize (outsAt1 V c (t.val - 1) _).2.1 = old
  canon_tiles x h
  all_goals
    open_payloads
    pointwise [dkPart, pAt, dsAt, dsE, pE]
    rw [show old y = old (ix3 0 (y 1) (y 2)) from congrArg old (row_index y)]
    have e2 : y 2 = x 2 := Fin.ext h2
    simp only [e2]
    rw [show y 1 = ⟨_, lt_of_eq_of_lt h1.symm (y 1).isLt⟩ from Fin.ext h1]
    rfl

/-- The first point of a run leaves its own part of the values' gradient. -/
theorem dv_first (c : Dev nD) (t : Fin cfg1.N) (hz : t.val % 64 = 0) :
    (outsAt1 V c t.val t.isLt).2.2 = dvPart V c t := by
  rw [outsAt1_A V c t hz]
  frame_open
  simp (disch := decide) only [↓ View.readCov_skip, ↓ View.readCov_cons_toLoadRect, ↓ View.readCov_fill]
  frame_out
  funext y
  refine Eq.trans (canon_covered [_, _, _, _, _, _] [_] y (View.cover_of_tiled_head _ _ _ (by rfl) y)) ?_
  canon_tiles x h
  all_goals
    open_payloads
    pointwise [dvPart, pAt, dsAt, dsE, pE]
    have e2 : y 2 = x 2 := Fin.ext h2
    simp only [e2]
    rw [show y 1 = ⟨_, lt_of_eq_of_lt h1.symm (y 1).isLt⟩ from Fin.ext h1]
    rfl

/-- A later point adds its part of the values' gradient to what is there. -/
theorem dv_next (c : Dev nD) (t : Fin cfg1.N) (hz : ¬t.val % 64 = 0) :
    (outsAt1 V c t.val t.isLt).2.2 = fun y => (outsAt1 V c (t.val - 1) (Nat.lt_of_le_of_lt (Nat.sub_le _ _) t.isLt)).2.2 y + dvPart V c t y := by
  rw [outsAt1_B V c t hz]
  frame_out
  funext y
  generalize (outsAt1 V c (t.val - 1) _).2.2 = old
  canon_tiles x h
  all_goals
    open_payloads
    pointwise [dvPart, pAt, dsAt, dsE, pE]
    rw [show old y = old (ix3 0 (y 1) (y 2)) from congrArg old (row_index y)]
    have e2 : y 2 = x 2 := Fin.ext h2
    simp only [e2]
    rw [show y 1 = ⟨_, lt_of_eq_of_lt h1.symm (y 1).isLt⟩ from Fin.ext h1]
    rfl

/-- The first point of a run leaves the gradient of its queries. -/
theorem dq_first (c : Dev nD) (t : Fin cfg1.N) (hz : t.val % 64 = 0) : (outsAt1 V c t.val t.isLt).1 = dqPart V c t := by
  rw [outsAt1_A V c t hz]
  frame_out
  funext y
  open_payloads
  pointwise [dqPart, dsAt, dsE, pE]
  rw [sum_chunks]

/-- A later point leaves the gradient of its queries. -/
theorem dq_next (c : Dev nD) (t : Fin cfg1.N) (hz : ¬t.val % 64 = 0) : (outsAt1 V c t.val t.isLt).1 = dqPart V c t := by
  rw [outsAt1_B V c t hz]
  frame_out
  funext y
  open_payloads
  pointwise [dqPart, dsAt, dsE, pE]
  rw [sum_chunks]

end Cert.KernelIdeal.Value
end
-- ==== Proof.Fwd.lean ====
module

public import proofs.«01_k».proof.Proof.Gen.KernelIdeal.Frame
public import Idealize.ShloMosaic.Lib.Pipeline.ValueKit
public import Idealize.ShloMosaic.Lib.Pointwise

/-! The two arrays that the forward call leaves for the backward call: each query's output and the logarithm of its
    row sum. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The greatest score of one query, from below −∞. -/
def mxE (q : Fin 64 → EReal) (k : Fin 8448 → Fin 64 → EReal) : EReal :=
  Finset.univ.fold max (Ideal.ofBits FTy.f32 0xFF800000#32) fun J => ∑ d, q d * k J d

/-- The exponential of one score against the greatest. -/
def exE (q : Fin 64 → EReal) (k : Fin 8448 → Fin 64 → EReal) (J : Fin 8448) : EReal := Ideal.exp (∑ d, q d * k J d - mxE q k)

/-- One entry of one query's output. -/
def oE (q : Fin 64 → EReal) (k : Fin 8448 → Fin 64 → EReal) (v : Fin 8448 → EReal) : EReal :=
  (∑ J, exE q k J * v J) * Ideal.div 1 (∑ J, exE q k J)

/-- The greatest score plus the logarithm of the row sum. -/
def lseE (q : Fin 64 → EReal) (k : Fin 8448 → Fin 64 → EReal) : EReal := mxE q k + Ideal.log (∑ J, exE q k J)

/-- The scores of a block of queries. -/
theorem pay_s (x0 : Vec Ideal S1x256x64 .bf16) (x1 : Vec Ideal S1x8448x64 .bf16) (r : Fin 256) (J : Fin 8448) :
    k0_pay1 (F := Ideal) x0 x1 (ix2 r J) = ∑ e : Fin 64, x0 (ix3 0 r e) * x1 (ix3 0 J e) := by
  pointwise [k0_pay1]

/-- The greatest score of each query of a block. -/
theorem pay_mx (x0 : Vec Ideal S1x256x64 .bf16) (x1 : Vec Ideal S1x8448x64 .bf16) (r : Fin 256) :
    k0_pay2 (F := Ideal) x0 x1 (ix2 r 0) = mxE (fun e => x0 (ix3 0 r e)) (fun J e => x1 (ix3 0 J e)) := by
  pointwise [k0_pay2]
  simp only [pay_s]
  rfl

/-- The exponentials of a block of queries. -/
theorem pay_ex (x0 : Vec Ideal S1x256x64 .bf16) (x1 : Vec Ideal S1x8448x64 .bf16) (r : Fin 256) (J : Fin 8448) :
    k0_pay3 (F := Ideal) x0 x1 (ix2 r J) = exE (fun e => x0 (ix3 0 r e)) (fun J e => x1 (ix3 0 J e)) J := by
  pointwise [k0_pay3]
  simp only [pay_s, pay_mx]
  rfl

/-- The row sums of a block of queries. -/
theorem pay_l (x0 : Vec Ideal S1x256x64 .bf16) (x1 : Vec Ideal S1x8448x64 .bf16) (r : Fin 256) :
    k0_pay4 (F := Ideal) x0 x1 (ix2 r 0) = ∑ J, exE (fun e => x0 (ix3 0 r e)) (fun J e => x1 (ix3 0 J e)) J := by
  pointwise [k0_pay4]
  simp only [pay_ex]

/-- The outputs of a block of queries. -/
theorem pay_o (x0 : Vec Ideal S1x256x64 .bf16) (x1 x2 : Vec Ideal S1x8448x64 .bf16) (r : Fin 256) (d : Fin 64) :
    k0_pay5 (F := Ideal) x0 x1 x2 (ix3 0 r d) = oE (fun e => x0 (ix3 0 r e)) (fun J e => x1 (ix3 0 J e)) (fun J => x2 (ix3 0 J d)) := by
  pointwise [k0_pay5]
  simp only [pay_ex, pay_l]
  rfl

/-- A sum with a logarithm, stored with a unit axis in front. -/
theorem pay_lse0 (a b : FVec Ideal S256x1 .f32) (r : Fin 256) :
    (shapeCast S1x256x1 (addf a (Idealize.ShloMosaic.log b)) shapeCasts_S256x1_S1x256x1 : FVec Ideal S1x256x1 .f32) (ix3 0 r 0)
      = a (ix2 r 0) + Ideal.log (b (ix2 r 0)) := by
  pointwise

/-- The logarithms of the row sums of a block of queries. -/
theorem pay_lse (x0 : Vec Ideal S1x256x64 .bf16) (x1 : Vec Ideal S1x8448x64 .bf16) (r : Fin 256) :
    k0_pay6 (F := Ideal) x0 x1 (ix3 0 r 0) = lseE (fun e => x0 (ix3 0 r e)) (fun J e => x1 (ix3 0 J e)) := by
  unfold k0_pay6
  rw [pay_lse0, pay_mx, pay_l]
  rfl

end Cert.KernelIdeal.Value
end
-- ==== Proof.Real.lean ====
module

public import Idealize.ShloMosaic.Lib.Pointwise
public import Idealize.ShloMosaic.PureOps.Ideal.Laws

/-! The gradient of the grouped-query attention over the real numbers, and how sums, maxima and products of extended
    reals that are real numbers are read as those of the real numbers. -/

@[expose] public section

noncomputable section

namespace Cert.Attn

open Idealize.ShloMosaic

/-- The key head of a query head. -/
def kvOf (h : Fin 4) : Fin 2 := ⟨h.val / 2, by omega⟩

/-- The query head `g` of the group of a key head. -/
def hdOf (kv g : Fin 2) : Fin 4 := ⟨kv.val * 2 + g.val, by omega⟩

theorem kvOf_hdOf (kv g : Fin 2) : kvOf (hdOf kv g) = kv := by
  apply Fin.ext
  show (kv.val * 2 + g.val) / 2 = kv.val
  omega

theorem hdOf_kvOf (h : Fin 4) : ∃ g : Fin 2, h = hdOf (kvOf h) g :=
  ⟨⟨h.val % 2, by omega⟩, Fin.ext (by show h.val = h.val / 2 * 2 + h.val % 2; omega)⟩

/-- A sum of real numbers is the same over the extended reals. -/
theorem coe_sum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := by
    intro s
    induction s using Finset.induction_on with
    | empty => simp
    | insert a s ha ih => rw [Finset.sum_insert ha, Finset.sum_insert ha, ih, EReal.coe_add]
  exact h _

/-- The words of the scale denote 1/8. -/
theorem scale_eighth : Ideal.ofBits FTy.f32 0x3E000000#32 = (((1 : ℝ) / 8 : ℝ) : EReal) := by
  simp [Ideal.ofBits, Ideal.ieee, -EReal.coe_mul]
  norm_num

theorem negInf : Ideal.ofBits FTy.f32 0xFF800000#32 = ⊥ := by
  simp [Ideal.ofBits, Ideal.ieee]

theorem posInf : Ideal.ofBits FTy.f32 0x7F800000#32 = ⊤ := by
  simp [Ideal.ofBits, Ideal.ieee]

/-- The greatest of the scores of a query. -/
def mx (s : Fin 8448 → ℝ) : ℝ := Finset.univ.sup' ⟨(0 : Fin 8448), Finset.mem_univ _⟩ s

/-- The exponentials of a query's scores. -/
def ex (s : Fin 8448 → ℝ) (J : Fin 8448) : ℝ := Real.exp (s J - mx s)

/-- Their sum. -/
def zz (s : Fin 8448 → ℝ) : ℝ := ∑ J, ex s J

/-- The softmax of a query's scores. -/
def pp (s : Fin 8448 → ℝ) (J : Fin 8448) : ℝ := ex s J / zz s

/-- The gradient of a query's scores when `t` is the gradient of their weights. -/
def gg (s t : Fin 8448 → ℝ) (J : Fin 8448) : ℝ := pp s J * (t J - ∑ I, pp s I * t I)

theorem zz_pos (s : Fin 8448 → ℝ) : 0 < zz s :=
  Finset.sum_pos (fun J _ => Real.exp_pos _) ⟨(0 : Fin 8448), Finset.mem_univ _⟩

/-- The maximum over the extended reals, begun at −∞, of real numbers is the real maximum. -/
theorem fold_mx (s : Fin 8448 → ℝ) : (Finset.univ : Finset (Fin 8448)).fold max (⊥ : EReal) (fun J => ((s J : ℝ) : EReal)) = ((mx s : ℝ) : EReal) := by
  refine le_antisymm ?_ ?_
  · refine (Finset.fold_max_le _).2 ⟨bot_le, fun J _ => ?_⟩
    exact EReal.coe_le_coe_iff.2 (Finset.le_sup' s (Finset.mem_univ J))
  · obtain ⟨J, _, hJ⟩ := Finset.exists_mem_eq_sup' (s := Finset.univ) ⟨(0 : Fin 8448), Finset.mem_univ _⟩ s
    refine (Finset.le_fold_max _).2 (Or.inr ⟨J, Finset.mem_univ _, ?_⟩)
    exact EReal.coe_le_coe_iff.2 (le_of_eq hJ)

variable (c : ℝ) (Q G : Fin 4 → Fin 8192 → Fin 64 → ℝ) (K W : Fin 2 → Fin 8448 → Fin 64 → ℝ)

/-- The scores of query `i` of head `h`. -/
def sR (h : Fin 4) (i : Fin 8192) (J : Fin 8448) : ℝ := (∑ e, Q h i e * K (kvOf h) J e) * c

/-- The gradient of the weights of query `i` of head `h`. -/
def tR (h : Fin 4) (i : Fin 8192) (J : Fin 8448) : ℝ := ∑ e, G h i e * W (kvOf h) J e

/-- The gradient of the queries. -/
def dqR (h : Fin 4) (i : Fin 8192) (d : Fin 64) : ℝ := (∑ J, gg (sR c Q K h i) (tR G W h i) J * K (kvOf h) J d) * c

/-- The gradient of the keys. -/
def dkR (kv : Fin 2) (J : Fin 8448) (d : Fin 64) : ℝ :=
  ∑ g : Fin 2, ∑ i : Fin 8192, gg (sR c Q K (hdOf kv g) i) (tR G W (hdOf kv g) i) J * (Q (hdOf kv g) i d * c)

/-- The gradient of the values. -/
def dvR (kv : Fin 2) (J : Fin 8448) (d : Fin 64) : ℝ :=
  ∑ g : Fin 2, ∑ i : Fin 8192, pp (sR c Q K (hdOf kv g) i) J * G (hdOf kv g) i d

/-- The gradient of a score as the derivative of the softmax's quotient gives it. -/
theorem gg_quotient (s t : Fin 8448 → ℝ) (J : Fin 8448) :
    (t J / zz s + -∑ I, t I * (1 / (zz s * zz s)) * ex s I) * ex s J = gg s t J := by
  have hz : zz s ≠ 0 := (zz_pos s).ne'
  have h : ∑ I, t I * (1 / (zz s * zz s)) * ex s I = (∑ I, pp s I * t I) / zz s := by
    rw [Finset.sum_div]
    refine Finset.sum_congr rfl fun I _ => ?_
    unfold pp
    field_simp
  rw [h]
  unfold gg pp
  field_simp
  ring

/-- The weight from the logarithm of the row's sum. -/
theorem exp_lse (s : Fin 8448 → ℝ) (J : Fin 8448) : Real.exp (s J - (mx s + Real.log (zz s))) = pp s J := by
  rw [← sub_sub, Real.exp_sub, Real.exp_log (zz_pos s)]
  rfl

end Cert.Attn
end
-- ==== Proof.FwdArr.lean ====
module

public import proofs.«01_k».proof.Proof.Fwd
public import proofs.«01_k».proof.Proof.Real
public import Idealize.ShloMosaic.Lib.Pipeline.ValueKit
public import Idealize.ShloMosaic.Lib.Pointwise

/-! The two arrays that the forward call leaves for the backward call: each query's output and the logarithm of its
    row sum. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Cert.Attn (kvOf)

theorem idx0 : ∀ t : Fin cfg0.N, win0_0.index t = ![t.val / 32, t.val % 32, 0] ∧ win0_1.index t = ![t.val / 64, 0, 0]
    ∧ win0_2.index t = ![t.val / 64, 0, 0] ∧ win0_3.index t = ![t.val / 32, t.val % 32, 0] ∧ win0_4.index t = ![t.val / 32, t.val % 32, 0] :=
  (by decide +kernel : ∀ t : Fin grid0.N, _)

variable (V : (c : Dev nD) → (b : Ref sig .tc) → Buf (Elt Ideal) ((c : Thread nD τ).loc b))

/-- The head of a grid point. -/
def hd0 (t : Fin cfg0.N) : Fin 4 := ⟨t.val / 32, by have : t.val < 128 := t.isLt; omega⟩
/-- The key head of a grid point. -/
def kv0 (t : Fin cfg0.N) : Fin 2 := ⟨t.val / 64, by have : t.val < 128 := t.isLt; omega⟩
/-- The query of a row of a grid point. -/
def row0 (t : Fin cfg0.N) (r : Fin 256) : Fin 8192 := ⟨t.val % 32 * 256 + r.val, by omega⟩

theorem blk0_q (c : Dev nD) (t : Fin cfg0.N) (r : Fin 256) (e : Fin 64) :
    iblk0 V c 0 t (ix3 0 r e) = V c main_v10 (ix3 (hd0 t) (row0 t r) e) := by
  have h0 := idx0 t
  blk_ext [iblk0, h0, hd0, row0]

theorem blk0_k (c : Dev nD) (t : Fin cfg0.N) (J : Fin 8448) (e : Fin 64) :
    iblk0 V c 1 t (ix3 0 J e) = V c main_v11 (ix3 (kv0 t) J e) := by
  have h0 := idx0 t
  blk_ext [iblk0, h0, kv0]

theorem blk0_v (c : Dev nD) (t : Fin cfg0.N) (J : Fin 8448) (e : Fin 64) :
    iblk0 V c 2 t (ix3 0 J e) = V c main_v12 (ix3 (kv0 t) J e) := by
  have h0 := idx0 t
  blk_ext [iblk0, h0, kv0]

theorem kv0_eq (t : Fin cfg0.N) : kv0 t = kvOf (hd0 t) := by
  apply Fin.ext
  show t.val / 64 = t.val / 32 / 2
  omega

/-- The query block's place in the output's array. -/
theorem emb0_3 (t : Fin cfg0.N) (r : Fin 256) (d : Fin 64) :
    ((cfg0.win 3).blk t).view.emb (ix3 0 r d) = ix3 (hd0 t) (row0 t r) d := by
  have h0 := idx0 t
  blk_ext [h0, hd0, row0]

theorem emb0_4 (t : Fin cfg0.N) (r : Fin 256) :
    ((cfg0.win 4).blk t).view.emb (ix3 0 r 0) = ix3 (hd0 t) (row0 t r) 0 := by
  have h0 := idx0 t
  blk_ext [h0, hd0, row0]

/-- The output's array after the forward call. -/
def oArr (c : Dev nD) : Vec Ideal S4x8192x64 .f32 := fun j =>
  oE (fun e => V c main_v10 (ix3 (j 0) (j 1) e)) (fun J e => V c main_v11 (ix3 (kvOf (j 0)) J e)) (fun J => V c main_v12 (ix3 (kvOf (j 0)) J (j 2)))

/-- The array of the row sums' logarithms after the forward call. -/
def lseArr (c : Dev nD) : Vec Ideal S4x8192x1 .f32 := fun j =>
  lseE (fun e => V c main_v10 (ix3 (j 0) (j 1) e)) (fun J e => V c main_v11 (ix3 (kvOf (j 0)) J e))

theorem point_o (c : Dev nD) (t : Fin cfg0.N) (r : Fin 256) (d : Fin 64) :
    k0_pay5 (F := Ideal) (iblk0 V c 0 t) (iblk0 V c 1 t) (iblk0 V c 2 t) (ix3 0 r d) = oArr V c (((cfg0.win 3).blk t).view.emb (ix3 0 r d)) := by
  rw [emb0_3, pay_o]
  simp only [blk0_q, blk0_k, blk0_v, kv0_eq]
  rfl

theorem point_lse (c : Dev nD) (t : Fin cfg0.N) (r : Fin 256) :
    k0_pay6 (F := Ideal) (iblk0 V c 0 t) (iblk0 V c 1 t) (ix3 0 r 0) = lseArr V c (((cfg0.win 4).blk t).view.emb (ix3 0 r 0)) := by
  rw [emb0_4, pay_lse]
  simp only [blk0_q, blk0_k, kv0_eq]
  rfl

theorem o_array (c : Dev nD) : (dat0 V c).arrAt 3 cfg0.N = oArr V c := by
  refine (dat0 V c).arrAt_eq_of_covers 3 _ (by decide +kernel) fun t hf y => ?_
  blk_simp
  rw [after0_3]
  frame_out
  rw [show y = ix3 (0 : Fin 1) (y 1 : Fin 256) (y 2 : Fin 64) from (eq_ix3 (n0 := 1) (n1 := 256) (n2 := 64) y).trans (by rw [Subsingleton.elim (α := Fin 1) (y 0) 0]; rfl)]
  exact point_o V c t (y 1) (y 2)

theorem lse_array (c : Dev nD) : (dat0 V c).arrAt 4 cfg0.N = lseArr V c := by
  refine (dat0 V c).arrAt_eq_of_covers 4 _ (by decide +kernel) fun t hf y => ?_
  blk_simp
  rw [after0_4]
  frame_out
  rw [show y = ix3 (0 : Fin 1) (y 1 : Fin 256) (0 : Fin 1) from (eq_ix3 (n0 := 1) (n1 := 256) (n2 := 1) y).trans (by rw [Subsingleton.elim (α := Fin 1) (y 0) 0, Subsingleton.elim (α := Fin 1) (y 2) 0]; rfl)]
  exact point_lse V c t (y 1)

end Cert.KernelIdeal.Value
end
-- ==== Proof.BwdArr.lean ====
module

public import proofs.«01_k».proof.Proof.Bwd
public import proofs.«01_k».proof.Proof.FwdArr
public import Idealize.ShloMosaic.Lib.Pipeline.ValueKit
public import Idealize.ShloMosaic.Lib.Pointwise

/-! The three arrays that the backward call leaves: the gradients of the queries, of the keys and of the values, as
    sums over the whole arrays that it was called with. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen
open Cert.Attn (kvOf hdOf)

theorem idx1 : ∀ t : Fin cfg1.N, win1_0.index t = ![t.val / 32, t.val % 32, 0] ∧ win1_1.index t = ![t.val / 64, 0, 0]
    ∧ win1_2.index t = ![t.val / 64, 0, 0] ∧ win1_3.index t = ![t.val / 32, t.val % 32, 0]
    ∧ win1_4.index t = ![t.val / 32, t.val % 32, 0] ∧ win1_5.index t = ![t.val / 32, t.val % 32, 0]
    ∧ win1_6.index t = ![t.val / 32, t.val % 32, 0] ∧ win1_7.index t = ![t.val / 64, 0, 0]
    ∧ win1_8.index t = ![t.val / 64, 0, 0] :=
  (by decide +kernel : ∀ t : Fin grid1.N, _)

variable (V : (c : Dev nD) → (b : Ref sig .tc) → Buf (Elt Ideal) ((c : Thread nD τ).loc b))

/-- The head of a grid point. -/
def hd1 (t : Fin cfg1.N) : Fin 4 := ⟨t.val / 32, by have : t.val < 128 := t.isLt; omega⟩
/-- The key head of a grid point. -/
def kv1 (t : Fin cfg1.N) : Fin 2 := ⟨t.val / 64, by have : t.val < 128 := t.isLt; omega⟩
/-- The query of a row of a grid point. -/
def row1 (t : Fin cfg1.N) (r : Fin 256) : Fin 8192 := ⟨t.val % 32 * 256 + r.val, by omega⟩

theorem blk1_q (c : Dev nD) (t : Fin cfg1.N) (r : Fin 256) (e : Fin 64) :
    iblk1 V c 0 t (ix3 0 r e) = V c main_v10 (ix3 (hd1 t) (row1 t r) e) := by
  have h0 := idx1 t
  blk_ext [iblk1, h0, hd1, row1]

theorem blk1_k (c : Dev nD) (t : Fin cfg1.N) (J : Fin 8448) (e : Fin 64) :
    iblk1 V c 1 t (ix3 0 J e) = V c main_v11 (ix3 (kv1 t) J e) := by
  have h0 := idx1 t
  blk_ext [iblk1, h0, kv1]

theorem blk1_v (c : Dev nD) (t : Fin cfg1.N) (J : Fin 8448) (e : Fin 64) :
    iblk1 V c 2 t (ix3 0 J e) = V c main_v12 (ix3 (kv1 t) J e) := by
  have h0 := idx1 t
  blk_ext [iblk1, h0, kv1]

theorem blk1_o (c : Dev nD) (t : Fin cfg1.N) (r : Fin 256) (e : Fin 64) :
    iblk1 V c 3 t (ix3 0 r e) = V c main_v13_0 (ix3 (hd1 t) (row1 t r) e) := by
  have h0 := idx1 t
  blk_ext [iblk1, h0, hd1, row1]

theorem blk1_lse (c : Dev nD) (t : Fin cfg1.N) (r : Fin 256) :
    iblk1 V c 4 t (ix3 0 r 0) = V c main_v13_1 (ix3 (hd1 t) (row1 t r) 0) := by
  have h0 := idx1 t
  blk_ext [iblk1, h0, hd1, row1]

theorem blk1_do (c : Dev nD) (t : Fin cfg1.N) (r : Fin 256) (e : Fin 64) :
    iblk1 V c 5 t (ix3 0 r e) = V c main_v7 (ix3 (hd1 t) (row1 t r) e) := by
  have h0 := idx1 t
  blk_ext [iblk1, h0, hd1, row1]

theorem kv1_eq (t : Fin cfg1.N) : kv1 t = kvOf (hd1 t) := by
  apply Fin.ext
  show t.val / 64 = t.val / 32 / 2
  omega

theorem emb1_6 (t : Fin cfg1.N) (r : Fin 256) (d : Fin 64) :
    ((cfg1.win 6).blk t).view.emb (ix3 0 r d) = ix3 (hd1 t) (row1 t r) d := by
  have h0 := idx1 t
  blk_ext [h0, hd1, row1]

theorem emb1_7 (t : Fin cfg1.N) (J : Fin 8448) (d : Fin 64) :
    ((cfg1.win 7).blk t).view.emb (ix3 0 J d) = ix3 (kv1 t) J d := by
  have h0 := idx1 t
  blk_ext [h0, kv1]

theorem emb1_8 (t : Fin cfg1.N) (J : Fin 8448) (d : Fin 64) :
    ((cfg1.win 8).blk t).view.emb (ix3 0 J d) = ix3 (kv1 t) J d := by
  have h0 := idx1 t
  blk_ext [h0, kv1]

/-- The weight of key `J` for query `i` of head `h`. -/
def pA (c : Dev nD) (h : Fin 4) (i : Fin 8192) (J : Fin 8448) : EReal :=
  pE (fun e => V c main_v10 (ix3 h i e)) (fun e => V c main_v11 (ix3 (kvOf h) J e)) (V c main_v13_1 (ix3 h i 0))

/-- The gradient of the score of key `J` for query `i` of head `h`. -/
def dsA (c : Dev nD) (h : Fin 4) (i : Fin 8192) (J : Fin 8448) : EReal :=
  dsE (fun e => V c main_v10 (ix3 h i e)) (fun e => V c main_v11 (ix3 (kvOf h) J e)) (fun e => V c main_v12 (ix3 (kvOf h) J e))
    (fun e => V c main_v13_0 (ix3 h i e)) (fun e => V c main_v7 (ix3 h i e)) (V c main_v13_1 (ix3 h i 0))

theorem pAt_eq (c : Dev nD) (t : Fin cfg1.N) (r : Fin 256) (J : Fin 8448) : pAt V c t r J = pA V c (hd1 t) (row1 t r) J := by
  unfold pAt pA
  simp only [blk1_q, blk1_k, blk1_lse, kv1_eq]

theorem dsAt_eq (c : Dev nD) (t : Fin cfg1.N) (r : Fin 256) (J : Fin 8448) : dsAt V c t r J = dsA V c (hd1 t) (row1 t r) J := by
  unfold dsAt dsA
  simp only [blk1_q, blk1_k, blk1_v, blk1_o, blk1_do, blk1_lse, kv1_eq]

/-- The gradient of the queries, of the arrays that the call was given. -/
def dqArr (c : Dev nD) : Vec Ideal S4x8192x64 .f32 := fun j =>
  (∑ J : Fin 8448, dsA V c (j 0) (j 1) J * (V c main_v11 (ix3 (kvOf (j 0)) J (j 2)) : EReal)) * Ideal.ofBits FTy.f32 0x3E000000#32

/-- The gradient of the keys: a sum over both heads of the group and all queries. -/
def dkArr (c : Dev nD) : Vec Ideal S2x8448x64 .f32 := fun j =>
  ∑ g : Fin 2, ∑ i : Fin 8192, dsA V c (hdOf (j 0) g) i (j 1) * (V c main_v10 (ix3 (hdOf (j 0) g) i (j 2)) : EReal)

/-- The gradient of the values: a sum over both heads of the group and all queries. -/
def dvArr (c : Dev nD) : Vec Ideal S2x8448x64 .f32 := fun j =>
  ∑ g : Fin 2, ∑ i : Fin 8192, pA V c (hdOf (j 0) g) i (j 1) * (V c main_v7 (ix3 (hdOf (j 0) g) i (j 2)) : EReal)

/-- A sum over the 64 grid points of a key head and the 256 rows of each is the sum over its heads and their queries. -/
theorem sum_points (F : Fin 4 → Fin 8192 → EReal) (b : Fin 2) (pt : Fin 64 → Fin cfg1.N) (hpt : ∀ s, (pt s).val = 64 * b.val + s.val) :
    ∑ s : Fin 64, ∑ r : Fin 256, F (hd1 (pt s)) (row1 (pt s) r) = ∑ g : Fin 2, ∑ i : Fin 8192, F (hdOf b g) i := by
  rw [Fin.sum_univ_tiles 2 32 (by norm_num) fun s : Fin 64 => ∑ r : Fin 256, F (hd1 (pt s)) (row1 (pt s) r)]
  refine Finset.sum_congr rfl fun g _ => ?_
  rw [Fin.sum_univ_tiles 32 256 (by norm_num) fun i : Fin 8192 => F (hdOf b g) i]
  refine Finset.sum_congr rfl fun a _ => Finset.sum_congr rfl fun r _ => ?_
  congr 1
  · apply Fin.ext
    show (pt _).val / 32 = b.val * 2 + g.val
    rw [hpt]
    show (64 * b.val + (g.val * 32 + a.val)) / 32 = _
    omega
  · apply Fin.ext
    show (pt _).val % 32 * 256 + r.val = a.val * 256 + r.val
    rw [hpt]
    show (64 * b.val + (g.val * 32 + a.val)) % 32 * 256 + _ = _
    omega

theorem dq_array (c : Dev nD) : (dat1 V c).arrAt 6 cfg1.N = dqArr V c := by
  refine (dat1 V c).arrAt_eq_of_covers 6 _ (by decide +kernel) fun t hf y => ?_
  blk_simp
  rw [after1_6]
  have hq : (outsAt1 V c t.val t.isLt).1 = dqPart V c t := by
    by_cases hz : t.val % 64 = 0
    · exact dq_first V c t hz
    · exact dq_next V c t hz
  refine (congrFun hq y).trans ?_
  have hy : y = ix3 (0 : Fin 1) (y 1 : Fin 256) (y 2 : Fin 64) := (eq_ix3 (n0 := 1) (n1 := 256) (n2 := 64) y).trans (by rw [Subsingleton.elim (α := Fin 1) (y 0) 0]; rfl)
  refine Eq.trans ?_ (congrArg (dqArr V c) ((congrArg _ hy).trans (emb1_6 t (y 1) (y 2)))).symm
  show dqPart V c t y = (∑ J : Fin 8448, dsA V c (hd1 t) (row1 t (y 1)) J * (V c main_v11 (ix3 (kvOf (hd1 t)) J (y 2)) : EReal)) * Ideal.ofBits FTy.f32 0x3E000000#32
  rw [← kv1_eq]
  exact congrArg (fun a : EReal => a * Ideal.ofBits FTy.f32 0x3E000000#32) (Finset.sum_congr rfl fun J _ =>
    congrArg₂ (fun a b : EReal => a * b) (dsAt_eq V c t (y 1) J) (blk1_k V c t J (y 2)))

/-- The gradient of the keys when a key head's last grid point is done. -/
theorem dk_last (c : Dev nD) (t : Fin cfg1.N) (hr : t.val % 64 = 63) (J : Fin 8448) (d : Fin 64) :
    (outsAt1 V c t.val t.isLt).2.1 (ix3 0 J d) = dkArr V c (ix3 (kv1 t) J d) := by
  have hb : t.val < 128 := t.isLt
  have h := Pipeline.eq_sum_fin_of_reset_step_apply_of_flush (M := EReal) (fun n h => (outsAt1 V c n h).2.1) 64 (fun _ => 0) (fun t => dkPart V c t)
    (fun t h0 i => ((congrFun (dk_first V c t h0) i).trans (zero_add _).symm)) (fun t hs i => congrFun (dk_next V c t hs) i) t hr (ix3 0 J d)
  refine h.trans ((zero_add _).trans ?_)
  have e := sum_points (fun h i => dsA V c h i J * (V c main_v10 (ix3 h i d) : EReal)) (kv1 t) (fun s => ⟨64 * (t.val / 64) + s.val, Pipeline.run_point_lt_of_flush t hr s⟩) (fun s => rfl)
  refine Eq.trans ?_ e
  refine Finset.sum_congr rfl fun s _ => ?_
  exact Finset.sum_congr rfl fun r _ => congrArg₂ (fun a b : EReal => a * b) (dsAt_eq V c _ r J) (blk1_q V c _ r d)

/-- The gradient of the values when a key head's last grid point is done. -/
theorem dv_last (c : Dev nD) (t : Fin cfg1.N) (hr : t.val % 64 = 63) (J : Fin 8448) (d : Fin 64) :
    (outsAt1 V c t.val t.isLt).2.2 (ix3 0 J d) = dvArr V c (ix3 (kv1 t) J d) := by
  have hb : t.val < 128 := t.isLt
  have h := Pipeline.eq_sum_fin_of_reset_step_apply_of_flush (M := EReal) (fun n h => (outsAt1 V c n h).2.2) 64 (fun _ => 0) (fun t => dvPart V c t)
    (fun t h0 i => ((congrFun (dv_first V c t h0) i).trans (zero_add _).symm)) (fun t hs i => congrFun (dv_next V c t hs) i) t hr (ix3 0 J d)
  refine h.trans ((zero_add _).trans ?_)
  have e := sum_points (fun h i => pA V c h i J * (V c main_v7 (ix3 h i d) : EReal)) (kv1 t) (fun s => ⟨64 * (t.val / 64) + s.val, Pipeline.run_point_lt_of_flush t hr s⟩) (fun s => rfl)
  refine Eq.trans ?_ e
  refine Finset.sum_congr rfl fun s _ => ?_
  exact Finset.sum_congr rfl fun r _ => congrArg₂ (fun a b : EReal => a * b) (pAt_eq V c _ r J) (blk1_do V c _ r d)

theorem dk_array (c : Dev nD) : (dat1 V c).arrAt 7 cfg1.N = dkArr V c := by
  refine (dat1 V c).arrAt_eq_of_covers 7 _ (by decide +kernel) fun t hf y => ?_
  blk_simp
  rw [after1_7]
  refine (congrArg _ (row_index y)).trans ((dk_last V c t ((flush1_7 t).1 hf) (y 1) (y 2)).trans ?_)
  exact (congrArg (dkArr V c) ((congrArg _ (row_index y)).trans (emb1_7 t (y 1) (y 2)))).symm

theorem dv_array (c : Dev nD) : (dat1 V c).arrAt 8 cfg1.N = dvArr V c := by
  refine (dat1 V c).arrAt_eq_of_covers 8 _ (by decide +kernel) fun t hf y => ?_
  blk_simp
  rw [after1_8]
  refine (congrArg _ (row_index y)).trans ((dv_last V c t ((flush1_8 t).1 hf) (y 1) (y 2)).trans ?_)
  exact (congrArg (dvArr V c) ((congrArg _ (row_index y)).trans (emb1_8 t (y 1) (y 2)))).symm

end Cert.KernelIdeal.Value
end
-- ==== Proof.KerReal.lean ====
module

public import proofs.«01_k».proof.Proof.BwdArr
public import proofs.«01_k».proof.Proof.Real

/-! The arrays of both calls when the arrays that they are given hold real numbers. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.Attn

/-! ## One query -/

/-- The scores of one query. -/
def sc (q : Fin 64 → ℝ) (k : Fin 8448 → Fin 64 → ℝ) (J : Fin 8448) : ℝ := ∑ d, q d * k J d

variable (q : Fin 64 → ℝ) (k : Fin 8448 → Fin 64 → ℝ) (v : Fin 8448 → ℝ)

theorem mxE_real : mxE (fun d => ((q d : ℝ) : EReal)) (fun J d => ((k J d : ℝ) : EReal)) = ((mx (sc q k) : ℝ) : EReal) := by
  unfold mxE
  simp only [← EReal.coe_mul, coe_sum]
  rw [negInf]
  exact fold_mx (sc q k)

theorem exE_real (J : Fin 8448) :
    exE (fun d => ((q d : ℝ) : EReal)) (fun J d => ((k J d : ℝ) : EReal)) J = ((ex (sc q k) J : ℝ) : EReal) := by
  unfold exE
  rw [mxE_real]
  simp only [← EReal.coe_mul, coe_sum]
  rw [← EReal.coe_sub, Ideal.exp_coe]
  rfl

theorem sum_real : ∑ J, exE (fun d => ((q d : ℝ) : EReal)) (fun J d => ((k J d : ℝ) : EReal)) J = ((zz (sc q k) : ℝ) : EReal) := by
  simp only [exE_real, coe_sum]
  rfl

theorem oE_real : oE (fun d => ((q d : ℝ) : EReal)) (fun J d => ((k J d : ℝ) : EReal)) (fun J => ((v J : ℝ) : EReal))
    = ((∑ J, pp (sc q k) J * v J : ℝ) : EReal) := by
  unfold oE
  rw [sum_real, Ideal.div_coe (zz_pos (sc q k)).ne', one_mul]
  simp only [exE_real, ← EReal.coe_mul, coe_sum]
  refine congrArg (fun r : ℝ => (r : EReal)) ?_
  rw [Finset.sum_mul]
  refine Finset.sum_congr rfl fun J _ => ?_
  unfold pp
  ring

theorem lseE_real : lseE (fun d => ((q d : ℝ) : EReal)) (fun J d => ((k J d : ℝ) : EReal))
    = ((mx (sc q k) + Real.log (zz (sc q k)) : ℝ) : EReal) := by
  unfold lseE
  rw [sum_real, mxE_real, Ideal.log_coe, if_neg (not_le.2 (zz_pos (sc q k))), ← EReal.coe_add]

/-- The weight of key `J` from the logarithm of the row sum. -/
theorem pE_real (J : Fin 8448) :
    pE (fun d => ((q d : ℝ) : EReal)) (fun d => ((k J d : ℝ) : EReal)) ((mx (sc q k) + Real.log (zz (sc q k)) : ℝ) : EReal)
      = ((pp (sc q k) J : ℝ) : EReal) := by
  unfold pE
  simp only [← EReal.coe_mul, coe_sum]
  rw [← EReal.coe_sub, Ideal.exp_coe]
  exact congrArg (fun r : ℝ => (r : EReal)) (exp_lse (sc q k) J)

/-- The gradient of the score of key `J`: the sum of the output's gradient with the output is the weighted sum of the
    weights' gradients. -/
theorem dsE_real (w : Fin 8448 → Fin 64 → ℝ) (g : Fin 64 → ℝ) (J : Fin 8448) :
    dsE (fun d => ((q d : ℝ) : EReal)) (fun d => ((k J d : ℝ) : EReal)) (fun d => ((w J d : ℝ) : EReal))
        (fun d => ((∑ I, pp (sc q k) I * w I d : ℝ) : EReal)) (fun d => ((g d : ℝ) : EReal))
        ((mx (sc q k) + Real.log (zz (sc q k)) : ℝ) : EReal)
      = ((gg (sc q k) (fun I => ∑ d, g d * w I d) J : ℝ) : EReal) := by
  unfold dsE
  rw [pE_real]
  simp only [← EReal.coe_mul, coe_sum]
  rw [← EReal.coe_sub, ← EReal.coe_mul]
  refine congrArg (fun r : ℝ => (r : EReal)) ?_
  unfold gg
  have h : ∑ d, g d * ∑ I, pp (sc q k) I * w I d = ∑ I, pp (sc q k) I * ∑ d, g d * w I d := by
    simp only [Finset.mul_sum]
    rw [Finset.sum_comm]
    exact Finset.sum_congr rfl fun I _ => Finset.sum_congr rfl fun d _ => by ring
  rw [h]

/-! ## The arrays -/

variable (V : (c : Dev nD) → (b : Ref sig .tc) → Buf (Elt Ideal) ((c : Thread nD τ).loc b)) (c : Dev nD)
variable {Q G : Fin 4 → Fin 8192 → Fin 64 → ℝ} {K W : Fin 2 → Fin 8448 → Fin 64 → ℝ} {cc : ℝ}

theorem sc_eq (h : Fin 4) (i : Fin 8192) : sc (fun e => Q h i e * cc) (K (kvOf h)) = sR cc Q K h i := by
  funext J
  unfold sc sR
  rw [Finset.sum_mul]
  exact Finset.sum_congr rfl fun e _ => by ring

theorem oArr_real (h10 : ∀ h i e, V c main_v10 (ix3 h i e) = ((Q h i e * cc : ℝ) : EReal))
    (h11 : ∀ kv J e, V c main_v11 (ix3 kv J e) = ((K kv J e : ℝ) : EReal))
    (h12 : ∀ kv J e, V c main_v12 (ix3 kv J e) = ((W kv J e : ℝ) : EReal)) (h : Fin 4) (i : Fin 8192) (d : Fin 64) :
    oArr V c (ix3 h i d) = ((∑ J, pp (sR cc Q K h i) J * W (kvOf h) J d : ℝ) : EReal) := by
  have e10 := funext (h10 h i)
  have e11 := funext fun J => funext (h11 (kvOf h) J)
  have e12 : (fun J => V c main_v12 (ix3 (kvOf h) J d)) = fun J => ((W (kvOf h) J d : ℝ) : EReal) := funext fun J => h12 (kvOf h) J d
  show oE (fun e => V c main_v10 (ix3 h i e)) (fun J e => V c main_v11 (ix3 (kvOf h) J e)) (fun J => V c main_v12 (ix3 (kvOf h) J d)) = _
  rw [e10, e11, e12, oE_real, ← sc_eq]

theorem lseArr_real (h10 : ∀ h i e, V c main_v10 (ix3 h i e) = ((Q h i e * cc : ℝ) : EReal))
    (h11 : ∀ kv J e, V c main_v11 (ix3 kv J e) = ((K kv J e : ℝ) : EReal)) (h : Fin 4) (i : Fin 8192) :
    lseArr V c (ix3 h i 0) = ((mx (sR cc Q K h i) + Real.log (zz (sR cc Q K h i)) : ℝ) : EReal) := by
  have e10 := funext (h10 h i)
  have e11 := funext fun J => funext (h11 (kvOf h) J)
  show lseE (fun e => V c main_v10 (ix3 h i e)) (fun J e => V c main_v11 (ix3 (kvOf h) J e)) = _
  rw [e10, e11, lseE_real, ← sc_eq]

section
variable (h10 : ∀ h i e, V c main_v10 (ix3 h i e) = ((Q h i e * cc : ℝ) : EReal))
  (h11 : ∀ kv J e, V c main_v11 (ix3 kv J e) = ((K kv J e : ℝ) : EReal))
  (h12 : ∀ kv J e, V c main_v12 (ix3 kv J e) = ((W kv J e : ℝ) : EReal))
  (h7 : ∀ h i e, V c main_v7 (ix3 h i e) = ((G h i e : ℝ) : EReal))
  (ho : ∀ h i d, V c main_v13_0 (ix3 h i d) = ((∑ J, pp (sR cc Q K h i) J * W (kvOf h) J d : ℝ) : EReal))
  (hl : ∀ h i, V c main_v13_1 (ix3 h i 0) = ((mx (sR cc Q K h i) + Real.log (zz (sR cc Q K h i)) : ℝ) : EReal))
include h10 h11 hl

theorem pA_real (h : Fin 4) (i : Fin 8192) (J : Fin 8448) : pA V c h i J = ((pp (sR cc Q K h i) J : ℝ) : EReal) := by
  have e10 := funext (h10 h i)
  have e11 := funext (h11 (kvOf h) J)
  unfold pA
  rw [e10, e11, hl, ← sc_eq]
  exact pE_real (fun e => Q h i e * cc) (K (kvOf h)) J

include h12 h7 ho

theorem dsA_real (h : Fin 4) (i : Fin 8192) (J : Fin 8448) :
    dsA V c h i J = ((gg (sR cc Q K h i) (tR G W h i) J : ℝ) : EReal) := by
  have e10 := funext (h10 h i)
  have e11 := funext (h11 (kvOf h) J)
  have e12 := funext (h12 (kvOf h) J)
  have e7 := funext (h7 h i)
  have eo := funext (ho h i)
  unfold dsA
  rw [e10, e11, e12, e7, eo, hl, ← sc_eq]
  exact dsE_real (fun e => Q h i e * cc) (K (kvOf h)) (W (kvOf h)) (G h i) J

theorem dqArr_real (hc : cc = 1 / 8) (h : Fin 4) (i : Fin 8192) (d : Fin 64) :
    dqArr V c (ix3 h i d) = ((dqR cc Q G K W h i d : ℝ) : EReal) := by
  have e : ∀ J, dsA V c h i J * (V c main_v11 (ix3 (kvOf h) J d) : EReal)
      = ((gg (sR cc Q K h i) (tR G W h i) J * K (kvOf h) J d : ℝ) : EReal) := fun J => by
    rw [dsA_real V c h10 h11 h12 h7 ho hl, h11, ← EReal.coe_mul]
  show (∑ J : Fin 8448, dsA V c h i J * (V c main_v11 (ix3 (kvOf h) J d) : EReal)) * Ideal.ofBits FTy.f32 0x3E000000#32 = _
  rw [Finset.sum_congr rfl fun J _ => e J, coe_sum, scale_eighth, ← EReal.coe_mul, ← hc]
  rfl

theorem dkArr_real (kv : Fin 2) (J : Fin 8448) (d : Fin 64) :
    dkArr V c (ix3 kv J d) = ((dkR cc Q G K W kv J d : ℝ) : EReal) := by
  have e : ∀ g i, dsA V c (hdOf kv g) i J * (V c main_v10 (ix3 (hdOf kv g) i d) : EReal)
      = ((gg (sR cc Q K (hdOf kv g) i) (tR G W (hdOf kv g) i) J * (Q (hdOf kv g) i d * cc) : ℝ) : EReal) := fun g i => by
    rw [dsA_real V c h10 h11 h12 h7 ho hl, h10, ← EReal.coe_mul]
  show ∑ g : Fin 2, ∑ i : Fin 8192, dsA V c (hdOf kv g) i J * (V c main_v10 (ix3 (hdOf kv g) i d) : EReal) = _
  rw [Finset.sum_congr rfl fun g _ => (Finset.sum_congr rfl fun i _ => e g i).trans (coe_sum _), coe_sum]
  rfl

omit h12 ho in
theorem dvArr_real (kv : Fin 2) (J : Fin 8448) (d : Fin 64) :
    dvArr V c (ix3 kv J d) = ((dvR cc Q G K kv J d : ℝ) : EReal) := by
  have e : ∀ g i, pA V c (hdOf kv g) i J * (V c main_v7 (ix3 (hdOf kv g) i d) : EReal)
      = ((pp (sR cc Q K (hdOf kv g) i) J * G (hdOf kv g) i d : ℝ) : EReal) := fun g i => by
    rw [pA_real V c h10 h11 hl, h7, ← EReal.coe_mul]
  show ∑ g : Fin 2, ∑ i : Fin 8192, pA V c (hdOf kv g) i J * (V c main_v7 (ix3 (hdOf kv g) i d) : EReal) = _
  rw [Finset.sum_congr rfl fun g _ => (Finset.sum_congr rfl fun i _ => e g i).trans (coe_sum _), coe_sum]
  rfl

end

end Cert.KernelIdeal.Value

end
-- ==== Proof.Run.lean ====
module

public import proofs.«01_k».proof.Proof.KerReal
public import Idealize.ShloMosaic.Lib.Claim

/-! The kernel program's run with its three results, and the arrays that each of its two calls is given. -/

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Attn

variable (m : (ℓ : Loc nD τ sig) → Buf (Elt Ideal) ℓ) (ρ : Dev nD → PrngReg)

set_option backward.isDefEq.respectTransparency.types false in
/-- The program ends with its three results at what the backward call leaves and its arguments unchanged. -/
theorem run_value : θ_run defs (onTc (τ := τ) (main (F := Ideal))) ⟨m, fun _ => 0, ρ⟩ (fun r => ∀ c : Dev nD,
      r.2.mem ((c.tc : Thread nD τ).loc main_v14_0) = dqArr (V2 m ρ) c
      ∧ r.2.mem ((c.tc : Thread nD τ).loc main_v14_1) = dkArr (V2 m ρ) c
      ∧ r.2.mem ((c.tc : Thread nD τ).loc main_v14_2) = dvArr (V2 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨((h c _ (mem_uc main_v14_0 (by decide))).trans (W3_arr m ρ c 6)).trans (dq_array (V2 m ρ) c),
       ((h c _ (mem_uc main_v14_1 (by decide))).trans (W3_arr m ρ c 7)).trans (dk_array (V2 m ρ) c),
       ((h c _ (mem_uc main_v14_2 (by decide))).trans (W3_arr m ρ c 8)).trans (dv_array (V2 m ρ) c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-! ## The arrays that the calls are given -/

theorem v1_q (c : Dev nD) (h : Fin 4) (i : Fin 8192) (e : Fin 64) :
    V1 m ρ c main_v10 (ix3 h i e) = (show EReal from m ((c : Thread nD τ).loc main_arg0) (ix4 0 i h e)) * Ideal.ofBits FTy.f32 0x3E000000#32 := by
  show StableHlo.after hostOps0 (W0 m ρ c) (Proc.devRef .tc main_v10) _ = _
  unfold hostOps0
  after_results_simp
  pointwise

theorem v1_k (c : Dev nD) (kv : Fin 2) (J : Fin 8448) (e : Fin 64) :
    V1 m ρ c main_v11 (ix3 kv J e) = m ((c : Thread nD τ).loc main_arg1) (ix4 0 J kv e) := by
  show StableHlo.after hostOps0 (W0 m ρ c) (Proc.devRef .tc main_v11) _ = _
  unfold hostOps0
  after_results_simp
  pointwise

theorem v1_v (c : Dev nD) (kv : Fin 2) (J : Fin 8448) (e : Fin 64) :
    V1 m ρ c main_v12 (ix3 kv J e) = m ((c : Thread nD τ).loc main_arg2) (ix4 0 J kv e) := by
  show StableHlo.after hostOps0 (W0 m ρ c) (Proc.devRef .tc main_v12) _ = _
  unfold hostOps0
  after_results_simp
  pointwise

theorem v1_g (c : Dev nD) (h : Fin 4) (i : Fin 8192) (e : Fin 64) :
    V1 m ρ c main_v7 (ix3 h i e) = m ((c : Thread nD τ).loc main_arg3) (ix4 0 i h e) := by
  show StableHlo.after hostOps0 (W0 m ρ c) (Proc.devRef .tc main_v7) _ = _
  unfold hostOps0
  after_results_simp
  pointwise

theorem v2_q (c : Dev nD) : V2 m ρ c main_v10 = V1 m ρ c main_v10 := W2_of m ρ c main_v10 (by decide)
theorem v2_k (c : Dev nD) : V2 m ρ c main_v11 = V1 m ρ c main_v11 := W2_of m ρ c main_v11 (by decide)
theorem v2_v (c : Dev nD) : V2 m ρ c main_v12 = V1 m ρ c main_v12 := W2_of m ρ c main_v12 (by decide)
theorem v2_g (c : Dev nD) : V2 m ρ c main_v7 = V1 m ρ c main_v7 := W2_of m ρ c main_v7 (by decide)
theorem v2_o (c : Dev nD) : V2 m ρ c main_v13_0 = oArr (V1 m ρ) c := (W2_arr m ρ c 3).trans (o_array (V1 m ρ) c)
theorem v2_l (c : Dev nD) : V2 m ρ c main_v13_1 = lseArr (V1 m ρ) c := (W2_arr m ρ c 4).trans (lse_array (V1 m ρ) c)

end Cert.KernelIdeal.Value

end
-- ==== Proof.Ref.lean ====
module

public import proofs.«01_k».proof.Proof.Gen.ReferenceIdeal.Read
public import proofs.«01_k».proof.Proof.Real
public import Idealize.ShloMosaic.Lib.Pointwise

/-! What the reference computes, element by element, of arguments that are real numbers. -/

@[expose] public section

set_option maxRecDepth 16384

noncomputable section

namespace Cert.ReferenceIdeal.Elem

open Idealize.ShloMosaic Idealize.ShloMosaic.TcCoe Idealize.SL.Sem
open Cert.ReferenceIdeal Cert.ReferenceIdeal.Gen Cert.ReferenceIdeal.Read Cert.Attn

variable {x0 : (⟨S1x8192x4x64, .f32⟩ : BufTy).Contents (Elt Ideal)} {x1 x2 : (⟨S1x8448x2x64, .f32⟩ : BufTy).Contents (Elt Ideal)}
  {x3 : (⟨S1x8192x4x64, .f32⟩ : BufTy).Contents (Elt Ideal)}
variable {Q G : Fin 4 → Fin 8192 → Fin 64 → ℝ} {K W : Fin 2 → Fin 8448 → Fin 64 → ℝ}

/-- The scale. -/
abbrev cc : ℝ := 1 / 8

theorem r_v0 (i : Fin 8192) (kv g : Fin 2) (e : Fin 64) : val_main_v0 x0 (ix5 0 i kv g e) = x0 (ix4 0 i (hdOf kv g) e) := by
  pointwise [val_main_v0, hdOf]

/-- The scaled scores. -/
theorem r_v4 (hq : ∀ h i e, x0 (ix4 0 i h e) = ((Q h i e : ℝ) : EReal)) (hk : ∀ kv J e, x1 (ix4 0 J kv e) = ((K kv J e : ℝ) : EReal))
    (kv g : Fin 2) (i : Fin 8192) (J : Fin 8448) :
    val_main_v4 x0 x1 (ix5 0 kv g i J) = ((sR cc Q K (hdOf kv g) i J : ℝ) : EReal) := by
  pointwise [val_main_v4, val_main_v3, val_main_cst, val_main_v2, val_main_v1]
  simp only [r_v0, hq, hk, scale_eighth, ← EReal.coe_mul, coe_sum]
  unfold sR
  simp only [kvOf_hdOf, mul_comm (K _ _ _)]

theorem r_v5 (hq : ∀ h i e, x0 (ix4 0 i h e) = ((Q h i e : ℝ) : EReal)) (hk : ∀ kv J e, x1 (ix4 0 J kv e) = ((K kv J e : ℝ) : EReal))
    (kv g : Fin 2) (i : Fin 8192) :
    val_main_v5 x0 x1 (ix4 0 kv g i) = ((mx (sR cc Q K (hdOf kv g) i) : ℝ) : EReal) := by
  pointwise [val_main_v5, val_main_cst_0]
  simp only [r_v4 hq hk, negInf]
  exact fold_mx _

/-- The greatest score of a query. -/
theorem r_v12 (hq : ∀ h i e, x0 (ix4 0 i h e) = ((Q h i e : ℝ) : EReal)) (hk : ∀ kv J e, x1 (ix4 0 J kv e) = ((K kv J e : ℝ) : EReal))
    (kv g : Fin 2) (i : Fin 8192) :
    val_main_v12 x0 x1 (ix4 0 kv g i) = ((mx (sR cc Q K (hdOf kv g) i) : ℝ) : EReal) := by
  rw [val_main_v12_apply, r_v5 hq hk, val_main_v11_apply, val_main_cst_2_apply]
  show max (Ideal.ofBits FTy.f32 0xFF800000#32) _ = _
  rw [negInf]
  exact max_eq_right bot_le

/-- The exponentials. -/
theorem r_v25 (hq : ∀ h i e, x0 (ix4 0 i h e) = ((Q h i e : ℝ) : EReal)) (hk : ∀ kv J e, x1 (ix4 0 J kv e) = ((K kv J e : ℝ) : EReal))
    (kv g : Fin 2) (i : Fin 8192) (J : Fin 8448) :
    val_main_v25 x0 x1 (ix5 0 kv g i J) = ((ex (sR cc Q K (hdOf kv g) i) J : ℝ) : EReal) := by
  pointwise [val_main_v25, val_main_v24, val_main_v23, val_main_v22]
  simp only [r_v4 hq hk, r_v12 hq hk, ← EReal.coe_sub, Ideal.exp_coe]
  rfl

/-- Their sums. -/
theorem r_v27 (hq : ∀ h i e, x0 (ix4 0 i h e) = ((Q h i e : ℝ) : EReal)) (hk : ∀ kv J e, x1 (ix4 0 J kv e) = ((K kv J e : ℝ) : EReal))
    (kv g : Fin 2) (i : Fin 8192) :
    val_main_v27 x0 x1 (ix5 0 kv g i 0) = ((zz (sR cc Q K (hdOf kv g) i) : ℝ) : EReal) := by
  pointwise [val_main_v27, val_main_v26, val_main_cst_8]
  simp only [r_v25 hq hk, coe_sum]
  rfl

theorem r_v29 (hq : ∀ h i e, x0 (ix4 0 i h e) = ((Q h i e : ℝ) : EReal)) (hk : ∀ kv J e, x1 (ix4 0 J kv e) = ((K kv J e : ℝ) : EReal))
    (kv g : Fin 2) (i : Fin 8192) (J : Fin 8448) :
    val_main_v29 x0 x1 (ix5 0 kv g i J) = ((pp (sR cc Q K (hdOf kv g) i) J : ℝ) : EReal) := by
  pointwise [val_main_v29, val_main_v28]
  rw [r_v25 hq hk, r_v27 hq hk, Ideal.div_coe (zz_pos _).ne', ← EReal.coe_mul]
  unfold pp
  rw [mul_one_div]

theorem r_v32 (hq : ∀ h i e, x0 (ix4 0 i h e) = ((Q h i e : ℝ) : EReal)) (hk : ∀ kv J e, x1 (ix4 0 J kv e) = ((K kv J e : ℝ) : EReal))
    (kv g : Fin 2) (i : Fin 8192) :
    val_main_v32 x0 x1 (ix5 0 kv g i 0) = ((1 / (zz (sR cc Q K (hdOf kv g) i) * zz (sR cc Q K (hdOf kv g) i)) : ℝ) : EReal) := by
  pointwise [val_main_v32, val_main_v31, val_main_cst_9, val_main_v30]
  rw [r_v27 hq hk, ← EReal.coe_mul, Ideal.div_coe (mul_pos (zz_pos _) (zz_pos _)).ne', one_mul]

theorem r_v37 (hg : ∀ h i e, x3 (ix4 0 i h e) = ((G h i e : ℝ) : EReal)) (kv g : Fin 2) (i : Fin 8192) (e : Fin 64) :
    val_main_v37 x3 (ix5 0 kv e g i) = ((G (hdOf kv g) i e : ℝ) : EReal) := by
  rw [← hg]
  pointwise [val_main_v37, val_main_v36, hdOf]

/-- The gradients of the weights. -/
theorem r_v38 (hw : ∀ kv J e, x2 (ix4 0 J kv e) = ((W kv J e : ℝ) : EReal)) (hg : ∀ h i e, x3 (ix4 0 i h e) = ((G h i e : ℝ) : EReal))
    (kv g : Fin 2) (i : Fin 8192) (J : Fin 8448) :
    val_main_v38 x2 x3 (ix5 0 kv g i J) = ((tR G W (hdOf kv g) i J : ℝ) : EReal) := by
  pointwise [val_main_v38]
  simp only [r_v37 hg, hw, ← EReal.coe_mul, coe_sum]
  unfold tR
  simp only [kvOf_hdOf]

/-- The gradient of the row sums, negated. -/
theorem r_v46 (hq : ∀ h i e, x0 (ix4 0 i h e) = ((Q h i e : ℝ) : EReal)) (hk : ∀ kv J e, x1 (ix4 0 J kv e) = ((K kv J e : ℝ) : EReal))
    (hw : ∀ kv J e, x2 (ix4 0 J kv e) = ((W kv J e : ℝ) : EReal)) (hg : ∀ h i e, x3 (ix4 0 i h e) = ((G h i e : ℝ) : EReal))
    (kv g : Fin 2) (i : Fin 8192) :
    val_main_v46 x0 x1 x2 x3 (ix5 0 kv g i 0) = ((-∑ J, tR G W (hdOf kv g) i J * (1 / (zz (sR cc Q K (hdOf kv g) i) * zz (sR cc Q K (hdOf kv g) i)))
      * ex (sR cc Q K (hdOf kv g) i) J : ℝ) : EReal) := by
  pointwise [val_main_v46, val_main_v45, val_main_v44, val_main_cst_10, val_main_v43, val_main_v42, val_main_v41]
  simp only [r_v25 hq hk, r_v38 hw hg, r_v32 hq hk, ← EReal.coe_mul, coe_sum, ← EReal.coe_neg]

theorem r_v49 (hq : ∀ h i e, x0 (ix4 0 i h e) = ((Q h i e : ℝ) : EReal)) (hk : ∀ kv J e, x1 (ix4 0 J kv e) = ((K kv J e : ℝ) : EReal))
    (hw : ∀ kv J e, x2 (ix4 0 J kv e) = ((W kv J e : ℝ) : EReal)) (hg : ∀ h i e, x3 (ix4 0 i h e) = ((G h i e : ℝ) : EReal))
    (kv g : Fin 2) (i : Fin 8192) :
    val_main_v49 x0 x1 x2 x3 (ix3 kv g i) = val_main_v46 x0 x1 x2 x3 (ix5 0 kv g i 0) := by
  unfold val_main_v49
  generalize val_main_v46 x0 x1 x2 x3 = y
  simp only [Host.reduceAdd, Ideal.hostReduceAdd_def]
  unfold Ideal.hostReduceAdd
  rw [show (Finset.univ.filter fun j : S1x2x2x8192x1.Idx => reducesTo_S1x2x2x8192x1_S2x2x8192_d0_4.drop j = ix3 kv g i) = {ix5 0 kv g i 0} from ?_, Finset.sum_singleton]
  · pointwise [val_main_cst_11]
  · ext j
    rw [Finset.mem_filter, Finset.mem_singleton]
    constructor
    · rintro ⟨-, h⟩
      have h0 := congrFun h 0
      have h1 := congrFun h 1
      have h2 := congrFun h 2
      funext a
      match a with
      | ⟨0, _⟩ => exact Subsingleton.elim (α := Fin 1) _ _
      | ⟨1, _⟩ => exact h0
      | ⟨2, _⟩ => exact h1
      | ⟨3, _⟩ => exact h2
      | ⟨4, _⟩ => exact Subsingleton.elim (α := Fin 1) _ _
    · rintro rfl
      refine ⟨Finset.mem_univ _, ?_⟩
      funext a
      match a with
      | ⟨0, _⟩ => rfl
      | ⟨1, _⟩ => rfl
      | ⟨2, _⟩ => rfl

/-- The gradients of the scores, scaled. -/
theorem r_v55 (hq : ∀ h i e, x0 (ix4 0 i h e) = ((Q h i e : ℝ) : EReal)) (hk : ∀ kv J e, x1 (ix4 0 J kv e) = ((K kv J e : ℝ) : EReal))
    (hw : ∀ kv J e, x2 (ix4 0 J kv e) = ((W kv J e : ℝ) : EReal)) (hg : ∀ h i e, x3 (ix4 0 i h e) = ((G h i e : ℝ) : EReal))
    (kv g : Fin 2) (i : Fin 8192) (J : Fin 8448) :
    val_main_v55 x0 x1 x2 x3 (ix5 0 kv g i J) = ((gg (sR cc Q K (hdOf kv g) i) (tR G W (hdOf kv g) i) J * cc : ℝ) : EReal) := by
  pointwise [val_main_v55, val_main_v54, val_main_cst_12, val_main_v53, val_main_v52, val_main_v48, val_main_v47, val_main_v51, val_main_v50]
  rw [r_v49 hq hk hw hg, r_v46 hq hk hw hg, r_v25 hq hk, r_v38 hw hg, r_v27 hq hk, Ideal.div_coe (zz_pos _).ne', scale_eighth, ← EReal.coe_mul,
    ← EReal.coe_add, ← EReal.coe_mul, ← EReal.coe_mul, ← div_eq_mul_one_div (tR G W (hdOf kv g) i J), gg_quotient]

/-- The gradient of the queries. -/
theorem r_dq (hq : ∀ h i e, x0 (ix4 0 i h e) = ((Q h i e : ℝ) : EReal)) (hk : ∀ kv J e, x1 (ix4 0 J kv e) = ((K kv J e : ℝ) : EReal))
    (hw : ∀ kv J e, x2 (ix4 0 J kv e) = ((W kv J e : ℝ) : EReal)) (hg : ∀ h i e, x3 (ix4 0 i h e) = ((G h i e : ℝ) : EReal))
    (h : Fin 4) (i : Fin 8192) (d : Fin 64) :
    val_main_v63 x0 x1 x2 x3 (ix3 h i d) = ((dqR cc Q G K W h i d : ℝ) : EReal) := by
  obtain ⟨g, hh⟩ := hdOf_kvOf h
  have e : val_main_v63 x0 x1 x2 x3 (ix3 h i d) = val_main_v57 x0 x1 x2 x3 (ix5 0 (kvOf h) i g d) := by
    generalize kvOf h = kv at hh
    subst hh
    pointwise [val_main_v63, val_main_v62, val_main_v61, val_main_v58, hdOf]
  rw [e]
  pointwise [val_main_v57, val_main_v56]
  simp only [r_v55 hq hk hw hg, hk, ← EReal.coe_mul, coe_sum]
  unfold dqR
  rw [Finset.sum_mul, ← hh]
  congr 1
  exact Finset.sum_congr rfl fun J _ => by ring

/-- The gradient of the keys. -/
theorem r_dk (hq : ∀ h i e, x0 (ix4 0 i h e) = ((Q h i e : ℝ) : EReal)) (hk : ∀ kv J e, x1 (ix4 0 J kv e) = ((K kv J e : ℝ) : EReal))
    (hw : ∀ kv J e, x2 (ix4 0 J kv e) = ((W kv J e : ℝ) : EReal)) (hg : ∀ h i e, x3 (ix4 0 i h e) = ((G h i e : ℝ) : EReal))
    (kv : Fin 2) (J : Fin 8448) (d : Fin 64) :
    val_main_v65 x0 x1 x2 x3 (ix3 kv J d) = ((dkR cc Q G K W kv J d : ℝ) : EReal) := by
  have e : val_main_v65 x0 x1 x2 x3 (ix3 kv J d) = val_main_v59 x0 x1 x2 x3 (ix4 0 kv J d) := by
    pointwise [val_main_v65, val_main_v64, val_main_v60]
  rw [e]
  pointwise [val_main_v59, val_main_v56]
  simp only [r_v55 hq hk hw hg, r_v0, hq, ← EReal.coe_mul, coe_sum]
  unfold dkR
  refine congrArg (fun r : ℝ => (r : EReal)) ?_
  refine Finset.sum_comm.trans ?_
  refine Finset.sum_congr rfl fun g _ => Finset.sum_congr rfl fun i _ => ?_
  rw [mul_assoc, mul_comm cc]

/-- The gradient of the values. -/
theorem r_dv (hq : ∀ h i e, x0 (ix4 0 i h e) = ((Q h i e : ℝ) : EReal)) (hk : ∀ kv J e, x1 (ix4 0 J kv e) = ((K kv J e : ℝ) : EReal))
    (hg : ∀ h i e, x3 (ix4 0 i h e) = ((G h i e : ℝ) : EReal)) (kv : Fin 2) (J : Fin 8448) (d : Fin 64) :
    val_main_v67 x0 x1 x3 (ix3 kv J d) = ((dvR cc Q G K kv J d : ℝ) : EReal) := by
  pointwise [val_main_v67, val_main_v66, val_main_v40, val_main_v39]
  simp only [r_v37 hg, r_v29 hq hk, ← EReal.coe_mul, coe_sum]
  unfold dvR
  congr 1
  exact Finset.sum_congr rfl fun g _ => Finset.sum_congr rfl fun i _ => by ring

end Cert.ReferenceIdeal.Elem
end
-- ==== Proof.Final.lean ====
module

public import proofs.«01_k».proof.Proof.Run
public import proofs.«01_k».proof.Proof.Ref
public import proofs.«01_k».proof.Proof.Gen.Pre_finite
public import proofs.«01_k».proof.Defs

/-! Finite arguments are real numbers, and on real arguments the kernel program's three results are the reference's. -/

@[expose] public section

set_option maxRecDepth 16384

noncomputable section

namespace Cert.Final

open Idealize.ShloMosaic Idealize.ShloMosaic.TcCoe Idealize.SL.Sem
open Cert.KernelIdeal Cert.KernelIdeal.Gen Cert.KernelIdeal.Value Cert.Attn

/-- An element whose absolute value is below infinity is a real number. -/
theorem real_of_lt {x : EReal} (h : Ideal.cmp .olt (max x (-x)) ⊤ = 1#1) : x = ((x.toReal : ℝ) : EReal) := by
  have hl : max x (-x) < ⊤ := by
    by_contra hn
    simp [Ideal.cmp, hn] at h
  have h1 : x < ⊤ := lt_of_le_of_lt (le_max_left _ _) hl
  have h2 : -x < ⊤ := lt_of_le_of_lt (le_max_right _ _) hl
  refine (EReal.coe_toReal h1.ne ?_).symm
  rintro rfl
  simp at h2

variable (m : (ℓ : Loc nD τ sig) → Buf (Elt Ideal) ℓ) (ρ : Dev nD → PrngReg) (c : Dev nD)

/-- The four argument arrays as real numbers. -/
def Qm (h : Fin 4) (i : Fin 8192) (e : Fin 64) : ℝ := (show EReal from m ((c : Thread nD τ).loc main_arg0) (ix4 0 i h e)).toReal
def Km (kv : Fin 2) (J : Fin 8448) (e : Fin 64) : ℝ := (show EReal from m ((c : Thread nD τ).loc main_arg1) (ix4 0 J kv e)).toReal
def Wm (kv : Fin 2) (J : Fin 8448) (e : Fin 64) : ℝ := (show EReal from m ((c : Thread nD τ).loc main_arg2) (ix4 0 J kv e)).toReal
def Gm (h : Fin 4) (i : Fin 8192) (e : Fin 64) : ℝ := (show EReal from m ((c : Thread nD τ).loc main_arg3) (ix4 0 i h e)).toReal

variable (hpre : Cert.Pre_KernelIdeal_finite m)
include hpre

theorem real_q (h : Fin 4) (i : Fin 8192) (e : Fin 64) : m ((c : Thread nD τ).loc main_arg0) (ix4 0 i h e) = ((Qm m c h i e : ℝ) : EReal) := by
  have h1 := congrFun (hpre c).1 (ix4 0 i h e)
  exact real_of_lt (posInf ▸ h1)

theorem real_k (kv : Fin 2) (J : Fin 8448) (e : Fin 64) : m ((c : Thread nD τ).loc main_arg1) (ix4 0 J kv e) = ((Km m c kv J e : ℝ) : EReal) := by
  have h1 := congrFun (hpre c).2.1 (ix4 0 J kv e)
  exact real_of_lt (posInf ▸ h1)

theorem real_w (kv : Fin 2) (J : Fin 8448) (e : Fin 64) : m ((c : Thread nD τ).loc main_arg2) (ix4 0 J kv e) = ((Wm m c kv J e : ℝ) : EReal) := by
  have h1 := congrFun (hpre c).2.2.1 (ix4 0 J kv e)
  exact real_of_lt (posInf ▸ h1)

theorem real_g (h : Fin 4) (i : Fin 8192) (e : Fin 64) : m ((c : Thread nD τ).loc main_arg3) (ix4 0 i h e) = ((Gm m c h i e : ℝ) : EReal) := by
  have h1 := congrFun (hpre c).2.2.2 (ix4 0 i h e)
  exact real_of_lt (posInf ▸ h1)

theorem e1_q (h : Fin 4) (i : Fin 8192) (e : Fin 64) : V1 m ρ c main_v10 (ix3 h i e) = ((Qm m c h i e * (1 / 8) : ℝ) : EReal) := by
  refine (v1_q m ρ c h i e).trans ?_
  rw [scale_eighth, EReal.coe_mul]
  exact congrArg (fun x : EReal => x * (((1 : ℝ) / 8 : ℝ) : EReal)) (real_q m c hpre h i e)

theorem e1_k (kv : Fin 2) (J : Fin 8448) (e : Fin 64) : V1 m ρ c main_v11 (ix3 kv J e) = ((Km m c kv J e : ℝ) : EReal) :=
  (v1_k m ρ c kv J e).trans (real_k m c hpre kv J e)

theorem e1_v (kv : Fin 2) (J : Fin 8448) (e : Fin 64) : V1 m ρ c main_v12 (ix3 kv J e) = ((Wm m c kv J e : ℝ) : EReal) :=
  (v1_v m ρ c kv J e).trans (real_w m c hpre kv J e)

theorem e2_q (h : Fin 4) (i : Fin 8192) (e : Fin 64) : V2 m ρ c main_v10 (ix3 h i e) = ((Qm m c h i e * (1 / 8) : ℝ) : EReal) :=
  (congrFun (v2_q m ρ c) _).trans (e1_q m ρ c hpre h i e)

theorem e2_k (kv : Fin 2) (J : Fin 8448) (e : Fin 64) : V2 m ρ c main_v11 (ix3 kv J e) = ((Km m c kv J e : ℝ) : EReal) :=
  (congrFun (v2_k m ρ c) _).trans (e1_k m ρ c hpre kv J e)

theorem e2_v (kv : Fin 2) (J : Fin 8448) (e : Fin 64) : V2 m ρ c main_v12 (ix3 kv J e) = ((Wm m c kv J e : ℝ) : EReal) :=
  (congrFun (v2_v m ρ c) _).trans (e1_v m ρ c hpre kv J e)

theorem e2_g (h : Fin 4) (i : Fin 8192) (e : Fin 64) : V2 m ρ c main_v7 (ix3 h i e) = ((Gm m c h i e : ℝ) : EReal) :=
  ((congrFun (v2_g m ρ c) _).trans (v1_g m ρ c h i e)).trans (real_g m c hpre h i e)

theorem e2_o (h : Fin 4) (i : Fin 8192) (d : Fin 64) : V2 m ρ c main_v13_0 (ix3 h i d)
    = ((∑ J, pp (sR (1 / 8) (Qm m c) (Km m c) h i) J * Wm m c (kvOf h) J d : ℝ) : EReal) :=
  (congrFun (v2_o m ρ c) _).trans (oArr_real (V1 m ρ) c (e1_q m ρ c hpre) (e1_k m ρ c hpre) (e1_v m ρ c hpre) h i d)

theorem e2_l (h : Fin 4) (i : Fin 8192) : V2 m ρ c main_v13_1 (ix3 h i 0)
    = ((mx (sR (1 / 8) (Qm m c) (Km m c) h i) + Real.log (zz (sR (1 / 8) (Qm m c) (Km m c) h i)) : ℝ) : EReal) :=
  (congrFun (v2_l m ρ c) _).trans (lseArr_real (V1 m ρ) c (e1_q m ρ c hpre) (e1_k m ρ c hpre) h i)

theorem dq_eq : dqArr (V2 m ρ) c = Cert.ReferenceIdeal.Read.val_main_v63 (F := Ideal) (m ((c : Thread nD τ).loc main_arg0))
    (m ((c : Thread nD τ).loc main_arg1)) (m ((c : Thread nD τ).loc main_arg2)) (m ((c : Thread nD τ).loc main_arg3)) := by
  funext j
  rw [show j = ix3 (n0 := 4) (n1 := 8192) (n2 := 64) (j 0) (j 1) (j 2) from eq_ix3 j]
  exact (dqArr_real (V2 m ρ) c (e2_q m ρ c hpre) (e2_k m ρ c hpre) (e2_v m ρ c hpre) (e2_g m ρ c hpre) (e2_o m ρ c hpre) (e2_l m ρ c hpre) rfl _ _ _).trans
    (Cert.ReferenceIdeal.Elem.r_dq (real_q m c hpre) (real_k m c hpre) (real_w m c hpre) (real_g m c hpre) _ _ _).symm

theorem dk_eq : dkArr (V2 m ρ) c = Cert.ReferenceIdeal.Read.val_main_v65 (F := Ideal) (m ((c : Thread nD τ).loc main_arg0))
    (m ((c : Thread nD τ).loc main_arg1)) (m ((c : Thread nD τ).loc main_arg2)) (m ((c : Thread nD τ).loc main_arg3)) := by
  funext j
  rw [show j = ix3 (n0 := 2) (n1 := 8448) (n2 := 64) (j 0) (j 1) (j 2) from eq_ix3 j]
  exact (dkArr_real (V2 m ρ) c (e2_q m ρ c hpre) (e2_k m ρ c hpre) (e2_v m ρ c hpre) (e2_g m ρ c hpre) (e2_o m ρ c hpre) (e2_l m ρ c hpre) _ _ _).trans
    (Cert.ReferenceIdeal.Elem.r_dk (real_q m c hpre) (real_k m c hpre) (real_w m c hpre) (real_g m c hpre) _ _ _).symm

theorem dv_eq : dvArr (V2 m ρ) c = Cert.ReferenceIdeal.Read.val_main_v67 (F := Ideal) (m ((c : Thread nD τ).loc main_arg0))
    (m ((c : Thread nD τ).loc main_arg1)) (m ((c : Thread nD τ).loc main_arg3)) := by
  funext j
  rw [show j = ix3 (n0 := 2) (n1 := 8448) (n2 := 64) (j 0) (j 1) (j 2) from eq_ix3 j]
  exact (dvArr_real (V2 m ρ) c (e2_q m ρ c hpre) (e2_k m ρ c hpre) (e2_g m ρ c hpre) (e2_l m ρ c hpre) _ _ _).trans
    (Cert.ReferenceIdeal.Elem.r_dv (real_q m c hpre) (real_k m c hpre) (real_g m c hpre) _ _ _).symm

end Cert.Final

end
-- ==== Proof.Dots.lean ====
module

public import Idealize.ShloMosaic.Lib.Pointwise
public import Idealize.ShloMosaic.Lib.Pipeline.ValueKit
public import Idealize.ShloMosaic.PureOps.Ideal.Laws

/-! The inner product of two vectors of extended reals, its sum over tiles, and its accumulation along a run of grid points. -/

@[expose] public section

noncomputable section

namespace Cert.Linear

open Idealize.ShloMosaic

/-- The inner product of two vectors. -/
def dotE {n : ℕ} (f g : Fin n → EReal) : EReal := ∑ e, f e * g e

theorem dotE_congr {n : ℕ} {f f' g g' : Fin n → EReal} (hf : ∀ e, f e = f' e) (hg : ∀ e, g e = g' e) : dotE f g = dotE f' g' :=
  Finset.sum_congr rfl fun e _ => congrArg₂ (fun a b : EReal => a * b) (hf e) (hg e)

theorem dotE_comm {n : ℕ} (f g : Fin n → EReal) : dotE f g = dotE g f :=
  Finset.sum_congr rfl fun e _ => mul_comm _ _

/-- Inner products of the tiles `s` of two vectors add to the vectors' own. -/
theorem dotE_tiles {n : ℕ} (a b : ℕ) (h : n = a * b) (f g : Fin n → EReal) (F G : Fin a → Fin b → EReal)
    (at_ : Fin a → Fin b → Fin n) (hat : ∀ s e, (at_ s e).val = s.val * b + e.val)
    (hF : ∀ s e, F s e = f (at_ s e)) (hG : ∀ s e, G s e = g (at_ s e)) : ∑ s, dotE (F s) (G s) = dotE f g := by
  subst h
  refine Eq.trans ?_ (Fin.sum_univ_tiles a b rfl fun e : Fin (a * b) => f e * g e).symm
  refine Finset.sum_congr rfl fun s _ => Finset.sum_congr rfl fun e _ => ?_
  rw [hF, hG]
  have e1 : at_ s e = ⟨s.val * b + e.val, by rw [← hat]; exact (at_ s e).isLt⟩ := Fin.ext (hat s e)
  rw [e1]

/-- A block that is written at the first of every `n` points and added to at the later ones: at the last one each of its
    entries is the inner product of the whole vectors, if each point adds that of its tiles. The points `s` of the run of
    `t` are those with the same quotient by `n`. -/
theorem dotE_run {N n w K : ℕ} [NeZero n] {ι : Type} (hK : K = n * w) (out : (k : ℕ) → k < N → ι → EReal) (part : Fin N → ι → EReal)
    (first : ∀ t : Fin N, t.val % n = 0 → out t.val t.isLt = part t)
    (next : ∀ t : Fin N, ¬t.val % n = 0 → ∀ y, out t.val t.isLt y = out (t.val - 1) (Nat.lt_of_le_of_lt (Nat.sub_le _ _) t.isLt) y + part t y)
    (t : Fin N) (hr : t.val % n = n - 1) (y : ι) (mid : Fin N → Fin w → Fin K) (hmid : ∀ s e, (mid s e).val = s.val % n * w + e.val)
    (a b : Fin N → Fin w → EReal) (hpart : ∀ s, part s y = dotE (a s) (b s)) (f g : Fin K → EReal)
    (ha : ∀ s e, s.val / n = t.val / n → a s e = f (mid s e)) (hb : ∀ s e, s.val / n = t.val / n → b s e = g (mid s e)) :
    out t.val t.isLt y = dotE f g := by
  have h := Pipeline.eq_sum_fin_of_reset_step_apply_of_flush (M := EReal) out n (fun _ => 0) part
    (fun t h0 i => (congrFun (first t h0) i).trans (zero_add _).symm) next t hr y
  refine h.trans ((zero_add _).trans ((Finset.sum_congr rfl fun s _ => hpart _).trans ?_))
  have hq : ∀ s : Fin n, (n * (t.val / n) + s.val) / n = t.val / n := fun s => by
    rw [Nat.mul_add_div (NeZero.pos n), Nat.div_eq_of_lt s.isLt, Nat.add_zero]
  refine dotE_tiles n w hK f g _ _ (fun s e => mid ⟨n * (t.val / n) + s.val, Pipeline.run_point_lt_of_flush t hr s⟩ e) (fun s e => ?_)
    (fun s e => ha _ e (hq s)) (fun s e => hb _ e (hq s))
  rw [hmid]
  show (n * (t.val / n) + s.val) % n * w + e.val = s.val * w + e.val
  rw [Nat.mul_add_mod, Nat.mod_eq_of_lt s.isLt]

end Cert.Linear
end
-- ==== Proof.UpDx.lean ====
module

public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Dots
public import Idealize.ShloMosaic.Lib.Pipeline.ValueKit
public import Idealize.ShloMosaic.Lib.Pointwise

/-! The gradient of the input of the feed-forward layer's first product: two blocks of the hidden width are accumulated
    in the output's block. -/

@[expose] public section

set_option maxRecDepth 16384

noncomputable section

namespace Cert.UpDxIdeal.Value

open Idealize.ShloMosaic Idealize.ShloMosaic.TcCoe Idealize.SL.Sem
open Idealize.ShloMosaic.Pipeline (Dat)
open Cert.UpDxIdeal Cert.UpDxIdeal.Gen
open Cert.Linear

/-- The place of each window's block at a grid point. -/
theorem idx0 : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 2 * 1408 + r.val, by have : t.val < 12 := t.isLt; omega⟩
/-- The column of the contracted axis that a column of a grid point's block is. -/
def midOf (t : Fin cfg0.N) (e : Fin 1408) : Fin 2816 := ⟨t.val % 2 * 1408 + e.val, by omega⟩

/-- A grid point's block of the output's gradient. -/
theorem blk_dy (c : Dev nD) (t : Fin cfg0.N) (r e : Fin 1408) :
    iblk m c 0 t (ix2 r e) = V m c main_arg1 (ix2 (rowOf t r) (midOf t e)) := by
  have h0 := idx0 t
  blk_ext [iblk, h0, rowOf, midOf]

/-- A grid point's block of the weights. -/
theorem blk_w (c : Dev nD) (t : Fin cfg0.N) (d : Fin 1024) (e : Fin 1408) :
    iblk m c 1 t (ix2 d e) = V m c main_v0 (ix2 d (midOf t e)) := by
  have h0 := idx0 t
  blk_ext [iblk, h0, midOf]

/-- Where an entry of a grid point's block lies in the result. -/
theorem emb (t : Fin cfg0.N) (r : Fin 1408) (d : Fin 1024) :
    ((cfg0.win 2).blk t).view.emb (ix2 r d) = ix2 (rowOf t r) d := by
  have h0 := idx0 t
  blk_ext [h0, rowOf]

/-- The product of one block of the hidden width. -/
def part (c : Dev nD) (t : Fin cfg0.N) : Vec Ideal S1408x1024 .f32 := fun y =>
  dotE (fun e : Fin 1408 => iblk m c 0 t (ix2 (y 0 : Fin 1408) e)) (fun e => iblk m c 1 t (ix2 (y 1 : Fin 1024) e))

/-- The product of two blocks, entry by entry. -/
theorem pay (a : Vec Ideal S1408x1408 .f32) (b : Vec Ideal S1024x1408 .bf16) (r : Fin 1408) (d : Fin 1024) :
    k0_pay1 (F := Ideal) a b (ix2 r d) = dotE (fun e : Fin 1408 => a (ix2 r e)) (fun e => b (ix2 d e)) := by
  unfold dotE
  pointwise [k0_pay1]

/-- The same at any index. -/
theorem pay_at (a : Vec Ideal S1408x1408 .f32) (b : Vec Ideal S1024x1408 .bf16) (y : S1408x1024.Idx) :
    k0_pay1 (F := Ideal) a b y = dotE (fun e : Fin 1408 => a (ix2 (y 0 : Fin 1408) e)) (fun e => b (ix2 (y 1 : Fin 1024) e)) :=
  (congrArg _ (eq_ix2 (n0 := 1408) (n1 := 1024) y)).trans (pay a b (y 0) (y 1))

/-- At the first point of a run the block is the point's product. -/
theorem first (c : Dev nD) (t : Fin cfg0.N) (hz : t.val % 2 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 2 = 0) (y : S1408x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the input: the output's gradient against the weights, summed over the hidden width. -/
def arr (c : Dev nD) : Vec Ideal S8448x1024 .f32 := fun j =>
  dotE (fun e : Fin 2816 => V m c main_arg1 (ix2 (j 0 : Fin 8448) e)) (fun e => V m c main_v0 (ix2 (j 1 : Fin 1024) e))

/-- At the last point of a run the block is that of the whole product. -/
theorem last (c : Dev nD) (t : Fin cfg0.N) (hr : t.val % 2 = 1) (r : Fin 1408) (d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_dy m c s r e).trans (congrArg (fun i => V m c main_arg1 (ix2 i (midOf s e))) (Fin.ext (congrArg (· * 1408 + r.val) h))))
    (fun s e _ => blk_w m c s d e)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1408) (y 1 : Fin 1024) := eq_ix2 (n0 := 1408) (n1 := 1024) y
  refine (congrArg _ hy).trans ((last m c t ((flush0_2 t).1 hf) (y 0) (y 1)).trans ?_)
  exact (congrArg (arr m c) ((congrArg _ hy).trans (emb t (y 0) (y 1)))).symm

/-- The weights' cast keeps their values. -/
theorem weights (c : Dev nD) (i : Fin 1024) (j : Fin 2816) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- What the kernel computes is the reference's gradient. -/
theorem equal (c : Dev nD) :
    arr m c = Cert.UpDxRefIdeal.Read.val_main_v2 (F := Ideal) (m ((c : Thread nD τ).loc main_arg0)) (m ((c : Thread nD τ).loc main_arg1)) := by
  funext j
  refine Eq.trans ?_ (Cert.UpDxRefIdeal.Read.val_main_v2_apply _ _ j).symm
  refine dotE_congr (fun e => ?_) (fun e => (weights m c _ e).trans ?_)
  · rw [V_main_arg1]
    exact congrArg _ (eq_ix2 (n0 := 8448) (n1 := 2816) (Cert.UpDxRefIdeal.Read.lidx_main_v2 j e)).symm
  · exact congrArg _ (eq_ix2 (n0 := 1024) (n1 := 2816) (Cert.UpDxRefIdeal.Read.ridx_main_v2 j e)).symm

end Cert.UpDxIdeal.Value
end
-- ==== Proof.UpDw.lean ====
module

public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Dots
public import Idealize.ShloMosaic.Lib.Pipeline.ValueKit
public import Idealize.ShloMosaic.Lib.Pointwise

/-! The gradient of the weights of the feed-forward layer's first product: six blocks of rows are accumulated in the
    output's block. -/

@[expose] public section

set_option maxRecDepth 16384

noncomputable section

namespace Cert.UpDwIdeal.Value

open Idealize.ShloMosaic Idealize.ShloMosaic.TcCoe Idealize.SL.Sem
open Idealize.ShloMosaic.Pipeline (Dat)
open Cert.UpDwIdeal Cert.UpDwIdeal.Gen
open Cert.Linear

/-- The place of each window's block at a grid point. -/
theorem idx0 : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ)

/-- The row of the arguments that a row of a grid point's blocks is. -/
def midOf (t : Fin cfg0.N) (e : Fin 1408) : Fin 8448 := ⟨t.val % 6 * 1408 + e.val, by omega⟩
/-- The column of the result that a column of a grid point's block is. -/
def colOf (t : Fin cfg0.N) (j : Fin 1408) : Fin 2816 := ⟨t.val / 6 * 1408 + j.val, by have : t.val < 12 := t.isLt; omega⟩

/-- A grid point's block of the input. -/
theorem blk_a (c : Dev nD) (t : Fin cfg0.N) (e : Fin 1408) (d : Fin 1024) :
    iblk m c 0 t (ix2 e d) = V m c main_arg0 (ix2 (midOf t e) d) := by
  have h0 := idx0 t
  blk_ext [iblk, h0, midOf]

/-- A grid point's block of the output's gradient. -/
theorem blk_dy (c : Dev nD) (t : Fin cfg0.N) (e j : Fin 1408) :
    iblk m c 1 t (ix2 e j) = V m c main_arg1 (ix2 (midOf t e) (colOf t j)) := by
  have h0 := idx0 t
  blk_ext [iblk, h0, midOf, colOf]

/-- Where an entry of a grid point's block lies in the result. -/
theorem emb (t : Fin cfg0.N) (d : Fin 1024) (j : Fin 1408) :
    ((cfg0.win 2).blk t).view.emb (ix2 d j) = ix2 d (colOf t j) := by
  have h0 := idx0 t
  blk_ext [h0, colOf]

/-- The product of one block of rows. -/
def part (c : Dev nD) (t : Fin cfg0.N) : Vec Ideal S1024x1408 .f32 := fun y =>
  dotE (fun e : Fin 1408 => iblk m c 0 t (ix2 e (y 0 : Fin 1024))) (fun e => iblk m c 1 t (ix2 e (y 1 : Fin 1408)))

/-- The product of two blocks, entry by entry. -/
theorem pay (a : Vec Ideal S1408x1024 .f32) (b : Vec Ideal S1408x1408 .f32) (d : Fin 1024) (j : Fin 1408) :
    k0_pay1 (F := Ideal) a b (ix2 d j) = dotE (fun e : Fin 1408 => a (ix2 e d)) (fun e => b (ix2 e j)) := by
  unfold dotE
  pointwise [k0_pay1]

/-- The same at any index. -/
theorem pay_at (a : Vec Ideal S1408x1024 .f32) (b : Vec Ideal S1408x1408 .f32) (y : S1024x1408.Idx) :
    k0_pay1 (F := Ideal) a b y = dotE (fun e : Fin 1408 => a (ix2 e (y 0 : Fin 1024))) (fun e => b (ix2 e (y 1 : Fin 1408))) :=
  (congrArg _ (eq_ix2 (n0 := 1024) (n1 := 1408) y)).trans (pay a b (y 0) (y 1))

/-- At the first point of a run the block is the point's product. -/
theorem first (c : Dev nD) (t : Fin cfg0.N) (hz : t.val % 6 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 6 = 0) (y : S1024x1408.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S1024x2816 .f32 := fun j =>
  dotE (fun e : Fin 8448 => V m c main_arg0 (ix2 e (j 0 : Fin 1024))) (fun e => V m c main_arg1 (ix2 e (j 1 : Fin 2816)))

/-- At the last point of a run the block is that of the whole product. -/
theorem last (c : Dev nD) (t : Fin cfg0.N) (hr : t.val % 6 = 5) (d : Fin 1024) (j : Fin 1408) :
    outsAt0 m c t.val t.isLt (ix2 d j) = arr m c (ix2 d (colOf t j)) :=
  dotE_run (by norm_num) (fun n h => outsAt0 m c n h) (part m c) (first m c) (next m c) t hr (ix2 d j) midOf (fun _ _ => rfl) _ _ (fun _ => rfl) _ _
    (fun s e _ => blk_a m c s e d)
    (fun s e h => (blk_dy m c s e j).trans (congrArg (fun i => V m c main_arg1 (ix2 (midOf s e) i)) (Fin.ext (congrArg (· * 1408 + j.val) h))))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1408) := eq_ix2 (n0 := 1024) (n1 := 1408) y
  refine (congrArg _ hy).trans ((last m c t ((flush0_2 t).1 hf) (y 0) (y 1)).trans ?_)
  exact (congrArg (arr m c) ((congrArg _ hy).trans (emb t (y 0) (y 1)))).symm

/-- What the kernel computes is the reference's gradient. -/
theorem equal (c : Dev nD) :
    arr m c = Cert.UpDwRefIdeal.Read.val_main_v3 (F := Ideal) (m ((c : Thread nD τ).loc main_arg0)) (m ((c : Thread nD τ).loc main_arg1)) := by
  funext j
  refine Eq.trans ?_ ((Cert.UpDwRefIdeal.Read.val_main_v3_apply _ _ j).trans (Cert.UpDwRefIdeal.Read.val_main_v2_apply _ _ _)).symm
  refine (dotE_comm _ _).trans (dotE_congr (fun e => ?_) (fun e => ?_))
  · exact congrArg (V m c main_arg1) (eq_ix2 (n0 := 8448) (n1 := 2816) (Cert.UpDwRefIdeal.Read.lidx_main_v2 (Cert.UpDwRefIdeal.Read.idx_main_v3 j) e)).symm
  · exact congrArg (V m c main_arg0) (eq_ix2 (n0 := 8448) (n1 := 1024) (Cert.UpDwRefIdeal.Read.ridx_main_v2 (Cert.UpDwRefIdeal.Read.idx_main_v3 j) e)).symm

end Cert.UpDwIdeal.Value
end
-- ==== Proof.UpY.lean ====
module

public import proofs.«01_k».proof.Proof.Gen.UpYIdeal.Value
public import proofs.«01_k».proof.Proof.Gen.UpYRefIdeal.Run
public import proofs.«01_k».proof.Proof.Gen.UpYRefIdeal.Read
public import proofs.«01_k».proof.Proof.Dots
public import Idealize.ShloMosaic.Lib.Pipeline.ValueKit
public import Idealize.ShloMosaic.Lib.Pointwise

/-! The feed-forward layer's first product: each grid point computes one block. -/

@[expose] public section

set_option maxRecDepth 16384

noncomputable section

namespace Cert.UpYIdeal.Value

open Idealize.ShloMosaic Idealize.ShloMosaic.TcCoe Idealize.SL.Sem
open Idealize.ShloMosaic.Pipeline (Dat)
open Cert.UpYIdeal Cert.UpYIdeal.Gen
open Cert.Linear

/-- The place of each window's block at a grid point. -/
theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 2 * 1408 + r.val, by have : t.val < 12 := t.isLt; omega⟩
/-- The column of the result that a column of a grid point's block is. -/
def colOf (t : Fin cfg0.N) (j : Fin 1408) : Fin 2816 := ⟨t.val % 2 * 1408 + j.val, by omega⟩

/-- A grid point's block of the input. -/
theorem blk_a (c : Dev nD) (t : Fin cfg0.N) (r : Fin 1408) (e : Fin 1024) :
    iblk m c 0 t (ix2 r e) = V m c main_arg0 (ix2 (rowOf t r) e) := by
  have h0 := idx0 t
  blk_ext [iblk, h0, rowOf]

/-- A grid point's block of the weights. -/
theorem blk_w (c : Dev nD) (t : Fin cfg0.N) (e : Fin 1024) (j : Fin 1408) :
    iblk m c 1 t (ix2 e j) = V m c main_v0 (ix2 e (colOf t j)) := by
  have h0 := idx0 t
  blk_ext [iblk, h0, colOf]

/-- Where an entry of a grid point's block lies in the result. -/
theorem emb (t : Fin cfg0.N) (r j : Fin 1408) :
    ((cfg0.win 2).blk t).view.emb (ix2 r j) = ix2 (rowOf t r) (colOf t j) := by
  have h0 := idx0 t
  blk_ext [h0, rowOf, colOf]

/-- The product of two blocks, entry by entry. -/
theorem pay (a : Vec Ideal S1408x1024 .f32) (b : Vec Ideal S1024x1408 .bf16) (r j : Fin 1408) :
    k0_pay1 (F := Ideal) a b (ix2 r j) = dotE (fun e : Fin 1024 => a (ix2 r e)) (fun e => b (ix2 e j)) := by
  unfold dotE
  pointwise [k0_pay1]

/-- The product. -/
def arr (c : Dev nD) : Vec Ideal S8448x2816 .f32 := fun j =>
  dotE (fun e : Fin 1024 => V m c main_arg0 (ix2 (j 0 : Fin 8448) e)) (fun e => V m c main_v0 (ix2 e (j 1 : Fin 2816)))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1408) (y 1 : Fin 1408) := eq_ix2 (n0 := 1408) (n1 := 1408) y
  refine (congrArg _ hy).trans ((pay _ _ (y 0) (y 1)).trans ?_)
  refine Eq.trans ?_ (congrArg (arr m c) ((congrArg _ hy).trans (emb t (y 0) (y 1)))).symm
  exact dotE_congr (fun e => blk_a m c t _ e) (fun e => blk_w m c t e _)

/-- The weights' cast keeps their values. -/
theorem weights (c : Dev nD) (i : Fin 1024) (j : Fin 2816) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's product. -/
theorem equal (c : Dev nD) :
    arr m c = Cert.UpYRefIdeal.Read.val_main_v0 (F := Ideal) (m ((c : Thread nD τ).loc main_arg0)) (m ((c : Thread nD τ).loc main_arg1)) := by
  funext j
  refine Eq.trans ?_ (Cert.UpYRefIdeal.Read.val_main_v0_apply _ _ j).symm
  refine dotE_congr (fun e => ?_) (fun e => (weights m c e _).trans ?_)
  · rw [V_main_arg0]
    exact congrArg _ (eq_ix2 (n0 := 8448) (n1 := 1024) (Cert.UpYRefIdeal.Read.lidx_main_v0 j e)).symm
  · exact congrArg _ (eq_ix2 (n0 := 1024) (n1 := 2816) (Cert.UpYRefIdeal.Read.ridx_main_v0 j e)).symm

end Cert.UpYIdeal.Value
end
-- ==== Proof.DownDx.lean ====
module

public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Dots
public import Idealize.ShloMosaic.Lib.Pipeline.ValueKit
public import Idealize.ShloMosaic.Lib.Pointwise

/-! The gradient of the input of the feed-forward layer's last product: each grid point computes one block. -/

@[expose] public section

set_option maxRecDepth 16384

noncomputable section

namespace Cert.DownDxIdeal.Value

open Idealize.ShloMosaic Idealize.ShloMosaic.TcCoe Idealize.SL.Sem
open Idealize.ShloMosaic.Pipeline (Dat)
open Cert.DownDxIdeal Cert.DownDxIdeal.Gen
open Cert.Linear

/-- The place of each window's block at a grid point. -/
theorem idx0 : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 2 * 1408 + r.val, by have : t.val < 12 := t.isLt; omega⟩
/-- The column of the result that a column of a grid point's block is. -/
def colOf (t : Fin cfg0.N) (j : Fin 1408) : Fin 2816 := ⟨t.val % 2 * 1408 + j.val, by omega⟩

/-- A grid point's block of the output's gradient. -/
theorem blk_dy (c : Dev nD) (t : Fin cfg0.N) (r : Fin 1408) (e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (j : Fin 1408) (e : Fin 1024) :
    iblk m c 1 t (ix2 j e) = V m c main_v0 (ix2 (colOf t j) e) := by
  have h0 := idx0 t
  blk_ext [iblk, h0, colOf]

/-- Where an entry of a grid point's block lies in the result. -/
theorem emb (t : Fin cfg0.N) (r j : Fin 1408) :
    ((cfg0.win 2).blk t).view.emb (ix2 r j) = ix2 (rowOf t r) (colOf t j) := by
  have h0 := idx0 t
  blk_ext [h0, rowOf, colOf]

/-- The product of two blocks, entry by entry. -/
theorem pay (a b : Vec Ideal S1408x1024 .bf16) (r j : Fin 1408) :
    k0_pay1 (F := Ideal) a b (ix2 r j) = dotE (fun e : Fin 1024 => a (ix2 r e)) (fun e => b (ix2 j e)) := by
  unfold dotE
  pointwise [k0_pay1]

/-- The gradient of the input: the output's gradient against the weights. -/
def arr (c : Dev nD) : Vec Ideal S8448x2816 .f32 := fun j =>
  dotE (fun e : Fin 1024 => V m c main_v1 (ix2 (j 0 : Fin 8448) e)) (fun e => V m c main_v0 (ix2 (j 1 : Fin 2816) e))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1408) (y 1 : Fin 1408) := eq_ix2 (n0 := 1408) (n1 := 1408) y
  refine (congrArg _ hy).trans ((pay _ _ (y 0) (y 1)).trans ?_)
  refine Eq.trans ?_ (congrArg (arr m c) ((congrArg _ hy).trans (emb t (y 0) (y 1)))).symm
  exact dotE_congr (fun e => blk_dy m c t _ e) (fun e => blk_w m c t _ e)

/-- The weights' cast keeps their values. -/
theorem weights (c : Dev nD) (i : Fin 2816) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8448) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.DownDxRefIdeal.Read.val_main_v2 (F := Ideal) (m ((c : Thread nD τ).loc main_arg0)) (m ((c : Thread nD τ).loc main_arg1)) := by
  funext j
  refine Eq.trans ?_ (Cert.DownDxRefIdeal.Read.val_main_v2_apply _ _ j).symm
  refine dotE_congr (fun e => (gradient m c _ e).trans ?_) (fun e => (weights m c _ e).trans ?_)
  · exact congrArg _ (eq_ix2 (n0 := 8448) (n1 := 1024) (Cert.DownDxRefIdeal.Read.lidx_main_v2 j e)).symm
  · exact congrArg _ (eq_ix2 (n0 := 2816) (n1 := 1024) (Cert.DownDxRefIdeal.Read.ridx_main_v2 j e)).symm

end Cert.DownDxIdeal.Value
end
-- ==== Proof.DownDw.lean ====
module

public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Dots
public import Idealize.ShloMosaic.Lib.Pipeline.ValueKit
public import Idealize.ShloMosaic.Lib.Pointwise

/-! The gradient of the weights of the feed-forward layer's last product: six blocks of rows are accumulated in the
    output's block. -/

@[expose] public section

set_option maxRecDepth 16384

noncomputable section

namespace Cert.DownDwIdeal.Value

open Idealize.ShloMosaic Idealize.ShloMosaic.TcCoe Idealize.SL.Sem
open Idealize.ShloMosaic.Pipeline (Dat)
open Cert.DownDwIdeal Cert.DownDwIdeal.Gen
open Cert.Linear

/-- The place of each window's block at a grid point. -/
theorem idx0 : ∀ t : Fin cfg0.N, win0_0.index t = ![t.val % 6, t.val / 6] ∧ win0_1.index t = ![t.val % 6, 0]
    ∧ win0_2.index t = ![t.val / 6, 0] :=
  (by decide +kernel : ∀ t : Fin grid0.N, _)

variable (m : (ℓ : Loc nD τ sig) → Buf (Elt Ideal) ℓ)

/-- The row of the arguments that a row of a grid point's blocks is. -/
def midOf (t : Fin cfg0.N) (e : Fin 1408) : Fin 8448 := ⟨t.val % 6 * 1408 + e.val, by omega⟩
/-- The row of the result that a row of a grid point's block is. -/
def rowOf (t : Fin cfg0.N) (r : Fin 1408) : Fin 2816 := ⟨t.val / 6 * 1408 + r.val, by have : t.val < 12 := t.isLt; omega⟩

/-- A grid point's block of the input. -/
theorem blk_a (c : Dev nD) (t : Fin cfg0.N) (e r : Fin 1408) :
    iblk m c 0 t (ix2 e r) = V m c main_arg0 (ix2 (midOf t e) (rowOf t r)) := by
  have h0 := idx0 t
  blk_ext [iblk, h0, midOf, rowOf]

/-- A grid point's block of the output's gradient. -/
theorem blk_dy (c : Dev nD) (t : Fin cfg0.N) (e : Fin 1408) (d : Fin 1024) :
    iblk m c 1 t (ix2 e d) = V m c main_v0 (ix2 (midOf t e) d) := by
  have h0 := idx0 t
  blk_ext [iblk, h0, midOf]

/-- Where an entry of a grid point's block lies in the result. -/
theorem emb (t : Fin cfg0.N) (r : Fin 1408) (d : Fin 1024) :
    ((cfg0.win 2).blk t).view.emb (ix2 r d) = ix2 (rowOf t r) d := by
  have h0 := idx0 t
  blk_ext [h0, rowOf]

/-- The product of one block of rows. -/
def part (c : Dev nD) (t : Fin cfg0.N) : Vec Ideal S1408x1024 .f32 := fun y =>
  dotE (fun e : Fin 1408 => iblk m c 0 t (ix2 e (y 0 : Fin 1408))) (fun e => iblk m c 1 t (ix2 e (y 1 : Fin 1024)))

/-- The product of two blocks, entry by entry. -/
theorem pay (a : Vec Ideal S1408x1408 .f32) (b : Vec Ideal S1408x1024 .bf16) (r : Fin 1408) (d : Fin 1024) :
    k0_pay1 (F := Ideal) a b (ix2 r d) = dotE (fun e : Fin 1408 => a (ix2 e r)) (fun e => b (ix2 e d)) := by
  unfold dotE
  pointwise [k0_pay1]

/-- The same at any index. -/
theorem pay_at (a : Vec Ideal S1408x1408 .f32) (b : Vec Ideal S1408x1024 .bf16) (y : S1408x1024.Idx) :
    k0_pay1 (F := Ideal) a b y = dotE (fun e : Fin 1408 => a (ix2 e (y 0 : Fin 1408))) (fun e => b (ix2 e (y 1 : Fin 1024))) :=
  (congrArg _ (eq_ix2 (n0 := 1408) (n1 := 1024) y)).trans (pay a b (y 0) (y 1))

/-- At the first point of a run the block is the point's product. -/
theorem first (c : Dev nD) (t : Fin cfg0.N) (hz : t.val % 6 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 6 = 0) (y : S1408x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S2816x1024 .f32 := fun j =>
  dotE (fun e : Fin 8448 => V m c main_arg0 (ix2 e (j 0 : Fin 2816))) (fun e => V m c main_v0 (ix2 e (j 1 : Fin 1024)))

/-- At the last point of a run the block is that of the whole product. -/
theorem last (c : Dev nD) (t : Fin cfg0.N) (hr : t.val % 6 = 5) (r : Fin 1408) (d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_a m c s e r).trans (congrArg (fun i => V m c main_arg0 (ix2 (midOf s e) i)) (Fin.ext (congrArg (· * 1408 + r.val) h))))
    (fun s e _ => blk_dy m c s e d)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1408) (y 1 : Fin 1024) := eq_ix2 (n0 := 1408) (n1 := 1024) y
  refine (congrArg _ hy).trans ((last m c t ((flush0_2 t).1 hf) (y 0) (y 1)).trans ?_)
  exact (congrArg (arr m c) ((congrArg _ hy).trans (emb t (y 0) (y 1)))).symm

/-- The cast of the output's gradient keeps its values. -/
theorem gradient (c : Dev nD) (i : Fin 8448) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's gradient. -/
theorem equal (c : Dev nD) :
    arr m c = Cert.DownDwRefIdeal.Read.val_main_v3 (F := Ideal) (m ((c : Thread nD τ).loc main_arg0)) (m ((c : Thread nD τ).loc main_arg1)) := by
  funext j
  refine Eq.trans ?_ ((Cert.DownDwRefIdeal.Read.val_main_v3_apply _ _ j).trans (Cert.DownDwRefIdeal.Read.val_main_v2_apply _ _ _)).symm
  refine (dotE_comm _ _).trans (dotE_congr (fun e => (gradient m c e _).trans ?_) (fun e => ?_))
  · exact congrArg _ (eq_ix2 (n0 := 8448) (n1 := 1024) (Cert.DownDwRefIdeal.Read.lidx_main_v2 (Cert.DownDwRefIdeal.Read.idx_main_v3 j) e)).symm
  · rw [V_main_arg0]
    exact congrArg _ (eq_ix2 (n0 := 8448) (n1 := 2816) (Cert.DownDwRefIdeal.Read.ridx_main_v2 (Cert.DownDwRefIdeal.Read.idx_main_v3 j) e)).symm

end Cert.DownDwIdeal.Value
end
-- ==== Proof.DownY.lean ====
module

public import proofs.«01_k».proof.Proof.Gen.DownYIdeal.Value
public import proofs.«01_k».proof.Proof.Gen.DownYRefIdeal.Run
public import proofs.«01_k».proof.Proof.Gen.DownYRefIdeal.Read
public import proofs.«01_k».proof.Proof.Dots
public import Idealize.ShloMosaic.Lib.Pipeline.ValueKit
public import Idealize.ShloMosaic.Lib.Pointwise

/-! The feed-forward layer's last product: two blocks of the hidden width are accumulated in the output's block. -/

@[expose] public section

set_option maxRecDepth 16384

noncomputable section

namespace Cert.DownYIdeal.Value

open Idealize.ShloMosaic Idealize.ShloMosaic.TcCoe Idealize.SL.Sem
open Idealize.ShloMosaic.Pipeline (Dat)
open Cert.DownYIdeal Cert.DownYIdeal.Gen
open Cert.Linear

/-- The place of each window's block at a grid point. -/
theorem idx0 : ∀ t : Fin cfg0.N, win0_0.index t = ![t.val / 2, t.val % 2] ∧ win0_1.index t = ![t.val % 2, 0]
    ∧ win0_2.index t = ![t.val / 2, 0] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 2 * 1408 + r.val, by have : t.val < 12 := t.isLt; omega⟩
/-- The place of the contracted axis that one of a grid point's blocks is. -/
def midOf (t : Fin cfg0.N) (e : Fin 1408) : Fin 2816 := ⟨t.val % 2 * 1408 + e.val, by omega⟩

/-- A grid point's block of the input. -/
theorem blk_a (c : Dev nD) (t : Fin cfg0.N) (r e : Fin 1408) :
    iblk m c 0 t (ix2 r e) = V m c main_arg0 (ix2 (rowOf t r) (midOf t e)) := by
  have h0 := idx0 t
  blk_ext [iblk, h0, rowOf, midOf]

/-- A grid point's block of the weights. -/
theorem blk_w (c : Dev nD) (t : Fin cfg0.N) (e : Fin 1408) (d : Fin 1024) :
    iblk m c 1 t (ix2 e d) = V m c main_v0 (ix2 (midOf t e) d) := by
  have h0 := idx0 t
  blk_ext [iblk, h0, midOf]

/-- Where an entry of a grid point's block lies in the result. -/
theorem emb (t : Fin cfg0.N) (r : Fin 1408) (d : Fin 1024) :
    ((cfg0.win 2).blk t).view.emb (ix2 r d) = ix2 (rowOf t r) d := by
  have h0 := idx0 t
  blk_ext [h0, rowOf]

/-- The product of one block of the hidden width. -/
def part (c : Dev nD) (t : Fin cfg0.N) : Vec Ideal S1408x1024 .f32 := fun y =>
  dotE (fun e : Fin 1408 => iblk m c 0 t (ix2 (y 0 : Fin 1408) e)) (fun e => iblk m c 1 t (ix2 e (y 1 : Fin 1024)))

/-- The product of two blocks, entry by entry. -/
theorem pay (a : Vec Ideal S1408x1408 .f32) (b : Vec Ideal S1408x1024 .bf16) (r : Fin 1408) (d : Fin 1024) :
    k0_pay1 (F := Ideal) a b (ix2 r d) = dotE (fun e : Fin 1408 => a (ix2 r e)) (fun e => b (ix2 e d)) := by
  unfold dotE
  pointwise [k0_pay1]

/-- The same at any index. -/
theorem pay_at (a : Vec Ideal S1408x1408 .f32) (b : Vec Ideal S1408x1024 .bf16) (y : S1408x1024.Idx) :
    k0_pay1 (F := Ideal) a b y = dotE (fun e : Fin 1408 => a (ix2 (y 0 : Fin 1408) e)) (fun e => b (ix2 e (y 1 : Fin 1024))) :=
  (congrArg _ (eq_ix2 (n0 := 1408) (n1 := 1024) y)).trans (pay a b (y 0) (y 1))

/-- At the first point of a run the block is the point's product. -/
theorem first (c : Dev nD) (t : Fin cfg0.N) (hz : t.val % 2 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 2 = 0) (y : S1408x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The product. -/
def arr (c : Dev nD) : Vec Ideal S8448x1024 .f32 := fun j =>
  dotE (fun e : Fin 2816 => V m c main_arg0 (ix2 (j 0 : Fin 8448) e)) (fun e => V m c main_v0 (ix2 e (j 1 : Fin 1024)))

/-- At the last point of a run the block is that of the whole product. -/
theorem last (c : Dev nD) (t : Fin cfg0.N) (hr : t.val % 2 = 1) (r : Fin 1408) (d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_a m c s r e).trans (congrArg (fun i => V m c main_arg0 (ix2 i (midOf s e))) (Fin.ext (congrArg (· * 1408 + r.val) h))))
    (fun s e _ => blk_w m c s e d)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1408) (y 1 : Fin 1024) := eq_ix2 (n0 := 1408) (n1 := 1024) y
  refine (congrArg _ hy).trans ((last m c t ((flush0_2 t).1 hf) (y 0) (y 1)).trans ?_)
  exact (congrArg (arr m c) ((congrArg _ hy).trans (emb t (y 0) (y 1)))).symm

/-- The weights' cast keeps their values. -/
theorem weights (c : Dev nD) (i : Fin 2816) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's product. -/
theorem equal (c : Dev nD) :
    arr m c = Cert.DownYRefIdeal.Read.val_main_v0 (F := Ideal) (m ((c : Thread nD τ).loc main_arg0)) (m ((c : Thread nD τ).loc main_arg1)) := by
  funext j
  refine Eq.trans ?_ (Cert.DownYRefIdeal.Read.val_main_v0_apply _ _ j).symm
  refine dotE_congr (fun e => ?_) (fun e => (weights m c e _).trans ?_)
  · rw [V_main_arg0]
    exact congrArg _ (eq_ix2 (n0 := 8448) (n1 := 2816) (Cert.DownYRefIdeal.Read.lidx_main_v0 j e)).symm
  · exact congrArg _ (eq_ix2 (n0 := 2816) (n1 := 1024) (Cert.DownYRefIdeal.Read.ridx_main_v0 j e)).symm

end Cert.DownYIdeal.Value
end
-- ==== Proof.InDx.lean ====
module

public import proofs.«01_k».proof.Proof.Gen.InDxIdeal.Value
public import proofs.«01_k».proof.Proof.Gen.InDxRefIdeal.Run
public import proofs.«01_k».proof.Proof.Gen.InDxRefIdeal.Read
public import proofs.«01_k».proof.Proof.Dots
public import Idealize.ShloMosaic.Lib.Pipeline.ValueKit
public import Idealize.ShloMosaic.Lib.Pointwise

/-! The gradient of the input of the token mixer's input product: two blocks of its width are accumulated
    in the output's block. -/

@[expose] public section

set_option maxRecDepth 16384

noncomputable section

namespace Cert.InDxIdeal.Value

open Idealize.ShloMosaic Idealize.ShloMosaic.TcCoe Idealize.SL.Sem
open Idealize.ShloMosaic.Pipeline (Dat)
open Cert.InDxIdeal Cert.InDxIdeal.Gen
open Cert.Linear

/-- The place of each window's block at a grid point. -/
theorem idx0 : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 2 * 1408 + r.val, by have : t.val < 12 := t.isLt; omega⟩
/-- The column of the contracted axis that a column of a grid point's block is. -/
def midOf (t : Fin cfg0.N) (e : Fin 2816) : Fin 5632 := ⟨t.val % 2 * 2816 + e.val, by omega⟩

/-- A grid point's block of the output's gradient. -/
theorem blk_dy (c : Dev nD) (t : Fin cfg0.N) (r : Fin 1408) (e : Fin 2816) :
    iblk m c 0 t (ix2 r e) = V m c main_v1 (ix2 (rowOf t r) (midOf t e)) := by
  have h0 := idx0 t
  blk_ext [iblk, h0, rowOf, midOf]

/-- A grid point's block of the weights. -/
theorem blk_w (c : Dev nD) (t : Fin cfg0.N) (d : Fin 1024) (e : Fin 2816) :
    iblk m c 1 t (ix2 d e) = V m c main_v0 (ix2 d (midOf t e)) := by
  have h0 := idx0 t
  blk_ext [iblk, h0, midOf]

/-- Where an entry of a grid point's block lies in the result. -/
theorem emb (t : Fin cfg0.N) (r : Fin 1408) (d : Fin 1024) :
    ((cfg0.win 2).blk t).view.emb (ix2 r d) = ix2 (rowOf t r) d := by
  have h0 := idx0 t
  blk_ext [h0, rowOf]

/-- The product of one block of the width. -/
def part (c : Dev nD) (t : Fin cfg0.N) : Vec Ideal S1408x1024 .f32 := fun y =>
  dotE (fun e : Fin 2816 => iblk m c 0 t (ix2 (y 0 : Fin 1408) e)) (fun e => iblk m c 1 t (ix2 (y 1 : Fin 1024) e))

/-- The product of two blocks, entry by entry. -/
theorem pay (a : Vec Ideal S1408x2816 .bf16) (b : Vec Ideal S1024x2816 .bf16) (r : Fin 1408) (d : Fin 1024) :
    k0_pay1 (F := Ideal) a b (ix2 r d) = dotE (fun e : Fin 2816 => a (ix2 r e)) (fun e => b (ix2 d e)) := by
  unfold dotE
  pointwise [k0_pay1]

/-- The same at any index. -/
theorem pay_at (a : Vec Ideal S1408x2816 .bf16) (b : Vec Ideal S1024x2816 .bf16) (y : S1408x1024.Idx) :
    k0_pay1 (F := Ideal) a b y = dotE (fun e : Fin 2816 => a (ix2 (y 0 : Fin 1408) e)) (fun e => b (ix2 (y 1 : Fin 1024) e)) :=
  (congrArg _ (eq_ix2 (n0 := 1408) (n1 := 1024) y)).trans (pay a b (y 0) (y 1))

/-- At the first point of a run the block is the point's product. -/
theorem first (c : Dev nD) (t : Fin cfg0.N) (hz : t.val % 2 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 2 = 0) (y : S1408x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the input: the output's gradient against the weights, summed over the width. -/
def arr (c : Dev nD) : Vec Ideal S8448x1024 .f32 := fun j =>
  dotE (fun e : Fin 5632 => V m c main_v1 (ix2 (j 0 : Fin 8448) e)) (fun e => V m c main_v0 (ix2 (j 1 : Fin 1024) e))

/-- At the last point of a run the block is that of the whole product. -/
theorem last (c : Dev nD) (t : Fin cfg0.N) (hr : t.val % 2 = 1) (r : Fin 1408) (d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_dy m c s r e).trans (congrArg (fun i => V m c main_v1 (ix2 i (midOf s e))) (Fin.ext (congrArg (· * 1408 + r.val) h))))
    (fun s e _ => blk_w m c s d e)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1408) (y 1 : Fin 1024) := eq_ix2 (n0 := 1408) (n1 := 1024) y
  refine (congrArg _ hy).trans ((last m c t ((flush0_2 t).1 hf) (y 0) (y 1)).trans ?_)
  exact (congrArg (arr m c) ((congrArg _ hy).trans (emb t (y 0) (y 1)))).symm

/-- The weights' cast keeps their values. -/
theorem weights (c : Dev nD) (i : Fin 1024) (j : Fin 5632) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8448) (j : Fin 5632) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.InDxRefIdeal.Read.val_main_v2 (F := Ideal) (m ((c : Thread nD τ).loc main_arg0)) (m ((c : Thread nD τ).loc main_arg1)) := by
  funext j
  refine Eq.trans ?_ (Cert.InDxRefIdeal.Read.val_main_v2_apply _ _ j).symm
  refine dotE_congr (fun e => (gradient m c _ e).trans ?_) (fun e => (weights m c _ e).trans ?_)
  · exact congrArg _ (eq_ix2 (n0 := 8448) (n1 := 5632) (Cert.InDxRefIdeal.Read.lidx_main_v2 j e)).symm
  · exact congrArg _ (eq_ix2 (n0 := 1024) (n1 := 5632) (Cert.InDxRefIdeal.Read.ridx_main_v2 j e)).symm

end Cert.InDxIdeal.Value
end
-- ==== Proof.InDw.lean ====
module

public import proofs.«01_k».proof.Proof.Gen.InDwIdeal.Value
public import proofs.«01_k».proof.Proof.Gen.InDwRefIdeal.Run
public import proofs.«01_k».proof.Proof.Gen.InDwRefIdeal.Read
public import proofs.«01_k».proof.Proof.Dots
public import Idealize.ShloMosaic.Lib.Pipeline.ValueKit
public import Idealize.ShloMosaic.Lib.Pointwise

/-! The gradient of the weights of the token mixer's input product: six blocks of rows are accumulated in the
    output's block. -/

@[expose] public section

set_option maxRecDepth 16384

noncomputable section

namespace Cert.InDwIdeal.Value

open Idealize.ShloMosaic Idealize.ShloMosaic.TcCoe Idealize.SL.Sem
open Idealize.ShloMosaic.Pipeline (Dat)
open Cert.InDwIdeal Cert.InDwIdeal.Gen
open Cert.Linear

/-- The place of each window's block at a grid point. -/
theorem idx0 : ∀ t : Fin cfg0.N, win0_0.index t = ![t.val % 6, 0] ∧ win0_1.index t = ![t.val % 6, t.val / 6]
    ∧ win0_2.index t = ![0, t.val / 6] :=
  (by decide +kernel : ∀ t : Fin grid0.N, _)

variable (m : (ℓ : Loc nD τ sig) → Buf (Elt Ideal) ℓ)

/-- The row of the arguments that a row of a grid point's blocks is. -/
def midOf (t : Fin cfg0.N) (e : Fin 1408) : Fin 8448 := ⟨t.val % 6 * 1408 + e.val, by omega⟩
/-- The column of the result that a column of a grid point's block is. -/
def colOf (t : Fin cfg0.N) (j : Fin 1408) : Fin 5632 := ⟨t.val / 6 * 1408 + j.val, by have : t.val < 24 := t.isLt; omega⟩

/-- A grid point's block of the input. -/
theorem blk_a (c : Dev nD) (t : Fin cfg0.N) (e : Fin 1408) (d : Fin 1024) :
    iblk m c 0 t (ix2 e d) = V m c main_arg0 (ix2 (midOf t e) d) := by
  have h0 := idx0 t
  blk_ext [iblk, h0, midOf]

/-- A grid point's block of the output's gradient. -/
theorem blk_dy (c : Dev nD) (t : Fin cfg0.N) (e j : Fin 1408) :
    iblk m c 1 t (ix2 e j) = V m c main_v0 (ix2 (midOf t e) (colOf t j)) := by
  have h0 := idx0 t
  blk_ext [iblk, h0, midOf, colOf]

/-- Where an entry of a grid point's block lies in the result. -/
theorem emb (t : Fin cfg0.N) (d : Fin 1024) (j : Fin 1408) :
    ((cfg0.win 2).blk t).view.emb (ix2 d j) = ix2 d (colOf t j) := by
  have h0 := idx0 t
  blk_ext [h0, colOf]

/-- The product of one block of rows. -/
def part (c : Dev nD) (t : Fin cfg0.N) : Vec Ideal S1024x1408 .f32 := fun y =>
  dotE (fun e : Fin 1408 => iblk m c 0 t (ix2 e (y 0 : Fin 1024))) (fun e => iblk m c 1 t (ix2 e (y 1 : Fin 1408)))

/-- The product of two blocks, entry by entry. -/
theorem pay (a : Vec Ideal S1408x1024 .f32) (b : Vec Ideal S1408x1408 .bf16) (d : Fin 1024) (j : Fin 1408) :
    k0_pay1 (F := Ideal) a b (ix2 d j) = dotE (fun e : Fin 1408 => a (ix2 e d)) (fun e => b (ix2 e j)) := by
  unfold dotE
  pointwise [k0_pay1]

/-- The same at any index. -/
theorem pay_at (a : Vec Ideal S1408x1024 .f32) (b : Vec Ideal S1408x1408 .bf16) (y : S1024x1408.Idx) :
    k0_pay1 (F := Ideal) a b y = dotE (fun e : Fin 1408 => a (ix2 e (y 0 : Fin 1024))) (fun e => b (ix2 e (y 1 : Fin 1408))) :=
  (congrArg _ (eq_ix2 (n0 := 1024) (n1 := 1408) y)).trans (pay a b (y 0) (y 1))

/-- At the first point of a run the block is the point's product. -/
theorem first (c : Dev nD) (t : Fin cfg0.N) (hz : t.val % 6 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 6 = 0) (y : S1024x1408.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S1024x5632 .f32 := fun j =>
  dotE (fun e : Fin 8448 => V m c main_arg0 (ix2 e (j 0 : Fin 1024))) (fun e => V m c main_v0 (ix2 e (j 1 : Fin 5632)))

/-- At the last point of a run the block is that of the whole product. -/
theorem last (c : Dev nD) (t : Fin cfg0.N) (hr : t.val % 6 = 5) (d : Fin 1024) (j : Fin 1408) :
    outsAt0 m c t.val t.isLt (ix2 d j) = arr m c (ix2 d (colOf t j)) :=
  dotE_run (by norm_num) (fun n h => outsAt0 m c n h) (part m c) (first m c) (next m c) t hr (ix2 d j) midOf (fun _ _ => rfl) _ _ (fun _ => rfl) _ _
    (fun s e _ => blk_a m c s e d)
    (fun s e h => (blk_dy m c s e j).trans (congrArg (fun i => V m c main_v0 (ix2 (midOf s e) i)) (Fin.ext (congrArg (· * 1408 + j.val) h))))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1408) := eq_ix2 (n0 := 1024) (n1 := 1408) y
  refine (congrArg _ hy).trans ((last m c t ((flush0_2 t).1 hf) (y 0) (y 1)).trans ?_)
  exact (congrArg (arr m c) ((congrArg _ hy).trans (emb t (y 0) (y 1)))).symm

/-- The cast of the output's gradient keeps its values. -/
theorem gradient (c : Dev nD) (i : Fin 8448) (j : Fin 5632) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's gradient. -/
theorem equal (c : Dev nD) :
    arr m c = Cert.InDwRefIdeal.Read.val_main_v3 (F := Ideal) (m ((c : Thread nD τ).loc main_arg0)) (m ((c : Thread nD τ).loc main_arg1)) := by
  funext j
  refine Eq.trans ?_ ((Cert.InDwRefIdeal.Read.val_main_v3_apply _ _ j).trans (Cert.InDwRefIdeal.Read.val_main_v2_apply _ _ _)).symm
  refine (dotE_comm _ _).trans (dotE_congr (fun e => (gradient m c e _).trans ?_) (fun e => ?_))
  · exact congrArg _ (eq_ix2 (n0 := 8448) (n1 := 5632) (Cert.InDwRefIdeal.Read.lidx_main_v2 (Cert.InDwRefIdeal.Read.idx_main_v3 j) e)).symm
  · rw [V_main_arg0]
    exact congrArg _ (eq_ix2 (n0 := 8448) (n1 := 1024) (Cert.InDwRefIdeal.Read.ridx_main_v2 (Cert.InDwRefIdeal.Read.idx_main_v3 j) e)).symm

end Cert.InDwIdeal.Value
end
-- ==== Proof.InY.lean ====
module

public import proofs.«01_k».proof.Proof.Gen.InYIdeal.Value
public import proofs.«01_k».proof.Proof.Gen.InYRefIdeal.Run
public import proofs.«01_k».proof.Proof.Gen.InYRefIdeal.Read
public import proofs.«01_k».proof.Proof.Dots
public import Idealize.ShloMosaic.Lib.Pipeline.ValueKit
public import Idealize.ShloMosaic.Lib.Pointwise

/-! The token mixer's input product: each grid point computes one block. -/

@[expose] public section

set_option maxRecDepth 16384

noncomputable section

namespace Cert.InYIdeal.Value

open Idealize.ShloMosaic Idealize.ShloMosaic.TcCoe Idealize.SL.Sem
open Idealize.ShloMosaic.Pipeline (Dat)
open Cert.InYIdeal Cert.InYIdeal.Gen
open Cert.Linear

/-- The place of each window's block at a grid point. -/
theorem idx0 : ∀ t : Fin cfg0.N, win0_0.index t = ![t.val / 4, 0] ∧ win0_1.index t = ![0, t.val % 4]
    ∧ win0_2.index t = ![t.val / 4, t.val % 4] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val / 4 * 1408 + r.val, by have : t.val < 24 := t.isLt; omega⟩
/-- The column of the result that a column of a grid point's block is. -/
def colOf (t : Fin cfg0.N) (j : Fin 1408) : Fin 5632 := ⟨t.val % 4 * 1408 + j.val, by omega⟩

/-- A grid point's block of the input. -/
theorem blk_a (c : Dev nD) (t : Fin cfg0.N) (r : Fin 1408) (e : Fin 1024) :
    iblk m c 0 t (ix2 r e) = V m c main_arg0 (ix2 (rowOf t r) e) := by
  have h0 := idx0 t
  blk_ext [iblk, h0, rowOf]

/-- A grid point's block of the weights. -/
theorem blk_w (c : Dev nD) (t : Fin cfg0.N) (e : Fin 1024) (j : Fin 1408) :
    iblk m c 1 t (ix2 e j) = V m c main_v0 (ix2 e (colOf t j)) := by
  have h0 := idx0 t
  blk_ext [iblk, h0, colOf]

/-- Where an entry of a grid point's block lies in the result. -/
theorem emb (t : Fin cfg0.N) (r j : Fin 1408) :
    ((cfg0.win 2).blk t).view.emb (ix2 r j) = ix2 (rowOf t r) (colOf t j) := by
  have h0 := idx0 t
  blk_ext [h0, rowOf, colOf]

/-- The product of two blocks, entry by entry. -/
theorem pay (a : Vec Ideal S1408x1024 .f32) (b : Vec Ideal S1024x1408 .bf16) (r j : Fin 1408) :
    k0_pay1 (F := Ideal) a b (ix2 r j) = dotE (fun e : Fin 1024 => a (ix2 r e)) (fun e => b (ix2 e j)) := by
  unfold dotE
  pointwise [k0_pay1]

/-- The product. -/
def arr (c : Dev nD) : Vec Ideal S8448x5632 .f32 := fun j =>
  dotE (fun e : Fin 1024 => V m c main_arg0 (ix2 (j 0 : Fin 8448) e)) (fun e => V m c main_v0 (ix2 e (j 1 : Fin 5632)))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1408) (y 1 : Fin 1408) := eq_ix2 (n0 := 1408) (n1 := 1408) y
  refine (congrArg _ hy).trans ((pay _ _ (y 0) (y 1)).trans ?_)
  refine Eq.trans ?_ (congrArg (arr m c) ((congrArg _ hy).trans (emb t (y 0) (y 1)))).symm
  exact dotE_congr (fun e => blk_a m c t _ e) (fun e => blk_w m c t e _)

/-- The weights' cast keeps their values. -/
theorem weights (c : Dev nD) (i : Fin 1024) (j : Fin 5632) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's product. -/
theorem equal (c : Dev nD) :
    arr m c = Cert.InYRefIdeal.Read.val_main_v0 (F := Ideal) (m ((c : Thread nD τ).loc main_arg0)) (m ((c : Thread nD τ).loc main_arg1)) := by
  funext j
  refine Eq.trans ?_ (Cert.InYRefIdeal.Read.val_main_v0_apply _ _ j).symm
  refine dotE_congr (fun e => ?_) (fun e => (weights m c e _).trans ?_)
  · rw [V_main_arg0]
    exact congrArg _ (eq_ix2 (n0 := 8448) (n1 := 1024) (Cert.InYRefIdeal.Read.lidx_main_v0 j e)).symm
  · exact congrArg _ (eq_ix2 (n0 := 1024) (n1 := 5632) (Cert.InYRefIdeal.Read.ridx_main_v0 j e)).symm

end Cert.InYIdeal.Value
end
-- ==== Proof.NormRow.lean ====
module

public import Idealize.ShloMosaic.Lib.Pointwise
public import Idealize.ShloMosaic.Lib.Pipeline.ValueKit
public import Idealize.ShloMosaic.PureOps.Ideal.Laws

/-! The gradient of one row of the root-mean-square norm over the extended reals: the form with the mean of the
    normalised products equals the form that the chain rule gives. -/

@[expose] public section

noncomputable section

namespace Cert.Norm

open Idealize.ShloMosaic

/-- The width of a row. -/
abbrev wd : EReal := Ideal.ofBits FTy.f32 0x44800000#32
/-- What is added to the mean square. -/
abbrev ep : EReal := Ideal.ofBits FTy.f32 0x358637BD#32
/-- Minus one half. -/
abbrev mh : EReal := Ideal.ofBits FTy.f32 0xBF000000#32

/-- The segment of a row: the first 256 rows are the context's. -/
def seg (r : Fin 8448) : Fin 2 := if r.val < 256 then 0 else 1

/-- The comparison that tells a row of the context. -/
theorem slt_row (r : Fin 8448) : (BitVec.ofNat 32 r.val).slt 256#32 = decide (r.val < 256) := by
  have hr := r.isLt
  rw [BitVec.slt_eq_decide]
  have : (BitVec.ofNat 32 r.val).toInt = r.val := by
    rw [BitVec.toInt_eq_toNat_of_lt] <;> rw [BitVec.toNat_ofNat, Nat.mod_eq_of_lt (by omega)] <;> omega
  rw [this]
  simp

/-- The sum over one segment's rows. -/
def segSum (f : Fin 8448 → EReal) (s : Fin 2) : EReal := ∑ r, if seg r = s then f r else 0

theorem wd_eq : wd = ((1024 : ℝ) : EReal) := by
  simp [wd, Ideal.ofBits, Ideal.ieee, -EReal.coe_mul]
  norm_num

theorem mh_eq : mh = ((-(1 / 2) : ℝ) : EReal) := by
  simp [mh, Ideal.ofBits, Ideal.ieee, -EReal.coe_mul]
  norm_num

theorem ep_pos : ∃ e : ℝ, 0 < e ∧ ep = ((e : ℝ) : EReal) := by
  refine ⟨_, ?_, by simp [ep, Ideal.ofBits, Ideal.ieee, -EReal.coe_mul]; rfl⟩
  positivity

/-- The mean square of a row and what is added to it. -/
def ms (x : Fin 1024 → EReal) : EReal := Ideal.div (∑ e, x e * x e) wd + ep

/-- The reciprocal of a row's root mean square. -/
def iv (x : Fin 1024 → EReal) : EReal := Ideal.rsqrt (ms x)

/-- One entry of the gradient, with the mean of the normalised products. -/
def gradMean (x d : Fin 1024 → EReal) (j : Fin 1024) : EReal :=
  iv x * (d j - x j * iv x * Ideal.div (∑ e, d e * (x e * iv x)) wd)

/-- The gradient of the mean square's share. -/
def share (x d : Fin 1024 → EReal) : EReal := Ideal.div ((∑ e, x e * d e) * (mh * Ideal.div (iv x) (ms x))) wd

/-- One entry of the gradient, as the chain rule gives it. -/
def gradChain (x d : Fin 1024 → EReal) (j : Fin 1024) : EReal :=
  d j * iv x + x j * share x d + share x d * x j

theorem div_wd (a : EReal) : Ideal.div a wd = a * ((1 / 1024 : ℝ) : EReal) := by
  rw [wd_eq]
  unfold Ideal.div
  rw [if_neg (by norm_num), ← EReal.coe_inv, one_div]

theorem sum_mul_real {ι : Type} [Fintype ι] (f : ι → EReal) (r : ℝ) (hr : 0 ≤ r) :
    ∑ i, f i * ((r : ℝ) : EReal) = (∑ i, f i) * ((r : ℝ) : EReal) := by
  classical
  have h : ∀ s : Finset ι, ∑ i ∈ s, f i * ((r : ℝ) : EReal) = (∑ i ∈ s, f i) * ((r : ℝ) : EReal) := by
    intro s
    induction s using Finset.induction_on with
    | empty => simp
    | insert a s ha ih =>
      rw [Finset.sum_insert ha, Finset.sum_insert ha, ih, EReal.right_distrib_of_nonneg_of_ne_top (by exact_mod_cast hr) (EReal.coe_ne_top r)]
  exact h _

theorem sq_nonneg' (a : EReal) : 0 ≤ a * a := by
  rcases le_total 0 a with h | h
  · exact mul_nonneg h h
  · have := EReal.neg_nonneg.2 h
    rw [← neg_mul_neg]
    exact mul_nonneg this this

/-- A row's mean square is infinite, or it and the reciprocal root are positive real numbers. -/
theorem cases_ms (x : Fin 1024 → EReal) :
    (iv x = 0 ∧ ms x = ⊤) ∨ ∃ v : ℝ, 0 < v ∧ ms x = ((v : ℝ) : EReal) ∧ iv x = (((Real.sqrt v)⁻¹ : ℝ) : EReal) := by
  obtain ⟨e, he, hee⟩ := ep_pos
  have h0 : 0 ≤ ∑ e, x e * x e := Finset.sum_nonneg fun e _ => sq_nonneg' (x e)
  unfold iv ms
  rw [div_wd, hee]
  generalize ∑ e, x e * x e = S at h0 ⊢
  induction S with
  | bot => exact absurd h0 (by simp)
  | top =>
    left
    rw [EReal.top_mul_coe_of_pos (by norm_num), EReal.top_add_coe]
    exact ⟨rfl, rfl⟩
  | coe s =>
    right
    have hs : 0 ≤ s := by exact_mod_cast h0
    have hv : 0 < s * (1 / 1024) + e := by positivity
    refine ⟨s * (1 / 1024) + e, hv, by push_cast; rfl, ?_⟩
    rw [← EReal.coe_mul, ← EReal.coe_add, Ideal.rsqrt_coe, if_neg (not_lt.2 hv.le), if_neg hv.ne']

/-- The two forms agree, for a row of any extended reals. -/
theorem grad_eq (x d : Fin 1024 → EReal) (j : Fin 1024) : gradMean x d j = gradChain x d j := by
  unfold gradMean gradChain share
  rcases cases_ms x with ⟨h0, h1⟩ | ⟨v, hv, h1, h2⟩
  · rw [h0, h1]
    have : Ideal.div 0 ⊤ = 0 := by unfold Ideal.div; simp
    rw [this]
    simp [div_wd]
  · rw [h2, h1, div_wd, div_wd]
    set i : ℝ := (Real.sqrt v)⁻¹ with hi
    have hip : 0 < i := inv_pos.2 (Real.sqrt_pos.2 hv)
    have hii : i * i * v = 1 := by
      rw [hi, ← mul_inv, Real.mul_self_sqrt hv.le, inv_mul_cancel₀ hv.ne']
    have hd : Ideal.div ((i : ℝ) : EReal) ((v : ℝ) : EReal) = ((i * i * i : ℝ) : EReal) := by
      rw [Ideal.div_coe hv.ne', ← EReal.coe_mul]
      congr 1
      rw [mul_one_div, div_eq_iff hv.ne']
      linear_combination -i * hii
    have hA : ∑ e, d e * (x e * ((i : ℝ) : EReal)) = (∑ e, x e * d e) * ((i : ℝ) : EReal) := by
      rw [← sum_mul_real _ _ hip.le]
      exact Finset.sum_congr rfl fun e _ => by rw [← mul_assoc, mul_comm (d e)]
    rw [hA, hd, mh_eq]
    generalize ∑ e, x e * d e = T
    have hk : ∀ a : EReal, ((i : ℝ) : EReal) * (d j - a) = d j * ((i : ℝ) : EReal) + -(((i : ℝ) : EReal) * a) := by
      intro a
      rw [sub_eq_add_neg, EReal.left_distrib_of_nonneg_of_ne_top (by exact_mod_cast hip.le) (EReal.coe_ne_top i), mul_comm (d j), mul_neg]
    have h2x : ∀ a : EReal, a + a = ((2 : ℝ) : EReal) * a := by
      intro a
      rw [show ((2 : ℝ) : EReal) = 1 + 1 from by rw [← EReal.coe_one, ← EReal.coe_add]; norm_num,
        EReal.right_distrib_of_nonneg (by norm_num) (by norm_num), one_mul]
    rw [hk, add_assoc]
    congr 1
    have hc : T * (((-(1 / 2) : ℝ) : EReal) * ((i * i * i : ℝ) : EReal)) * ((1 / 1024 : ℝ) : EReal) * x j
        = x j * (T * (((-(1 / 2) : ℝ) : EReal) * ((i * i * i : ℝ) : EReal)) * ((1 / 1024 : ℝ) : EReal)) := mul_comm _ _
    rw [hc, h2x]
    have hl : ((i : ℝ) : EReal) * (x j * ((i : ℝ) : EReal) * (T * ((i : ℝ) : EReal) * ((1 / 1024 : ℝ) : EReal)))
        = (x j * T) * (((i : ℝ) : EReal) * (((i : ℝ) : EReal) * (((i : ℝ) : EReal) * ((1 / 1024 : ℝ) : EReal)))) := by ac_rfl
    have hr : ((2 : ℝ) : EReal) * (x j * (T * (((-(1 / 2) : ℝ) : EReal) * ((i * i * i : ℝ) : EReal)) * ((1 / 1024 : ℝ) : EReal)))
        = (x j * T) * (((2 : ℝ) : EReal) * (((-(1 / 2) : ℝ) : EReal) * (((i * i * i : ℝ) : EReal) * ((1 / 1024 : ℝ) : EReal)))) := by ac_rfl
    rw [hl, hr, ← mul_neg]
    congr 1
    simp only [← EReal.coe_mul, ← EReal.coe_neg]
    congr 1
    ring

end Cert.Norm
end
-- ==== Proof.NormKer.lean ====
module

public import proofs.«01_k».proof.Proof.Gen.NormIdeal.Frame
public import proofs.«01_k».proof.Proof.NormRow
public import Idealize.ShloMosaic.Lib.Pipeline.ValueKit
public import Idealize.ShloMosaic.Lib.Pointwise

/-! The gradient of the adaptive norm: each grid point computes 256 rows of the input's gradient and their part of the
    column sums. -/

@[expose] public section

set_option maxRecDepth 16384

noncomputable section

namespace Cert.NormIdeal.Value

open Idealize.ShloMosaic Idealize.ShloMosaic.TcCoe Idealize.SL.Sem
open Idealize.ShloMosaic.Pipeline (Dat)
open Cert.NormIdeal Cert.NormIdeal.Gen Cert.Norm

/-! ## One block -/

section Block
variable (x : Vec Ideal S256x1024 .f32) (g : Vec Ideal S1x1024 .f32) (sc : Vec Ideal S1x1x1024 .f32) (dh : Vec Ideal S256x1024 .f32)

theorem pay_iv (r : Fin 256) : k0_pay4 (F := Ideal) x (ix2 r 0) = iv (fun e => x (ix2 r e)) := by
  pointwise [k0_pay4]
  rfl

theorem pay_xh (r : Fin 256) (e : Fin 1024) : k0_pay5 (F := Ideal) x (ix2 r e) = x (ix2 r e) * iv (fun e => x (ix2 r e)) := by
  pointwise [k0_pay5]
  rw [pay_iv]

theorem pay_g (e : Fin 1024) : k0_pay2 (F := Ideal) g (ix2 0 e) = g (ix2 0 e) := by
  pointwise [k0_pay2]

theorem pay_sc (e : Fin 1024) : k0_pay3 (F := Ideal) sc (ix2 0 e) = 1 + sc (ix3 0 0 e) := by
  pointwise [k0_pay3]

/-- The gradient of the rows of a block. -/
theorem pay_dx (r : Fin 256) (e : Fin 1024) : k0_pay6 (F := Ideal) x dh g sc (ix2 r e)
    = gradMean (fun e => x (ix2 r e)) (fun e => dh (ix2 r e) * (g (ix2 0 e) * (1 + sc (ix3 0 0 e)))) e := by
  pointwise [k0_pay6]
  simp only [pay_iv, pay_xh, pay_g, pay_sc]
  rfl

theorem pay_p (r : Fin 256) (e : Fin 1024) : k0_pay7 (F := Ideal) x dh (ix2 r e) = dh (ix2 r e) * (x (ix2 r e) * iv (fun e => x (ix2 r e))) := by
  pointwise [k0_pay7]
  rw [pay_xh]

/-- The column sums of a block's rows for the shift. -/
theorem pay_shift (e : Fin 1024) : k0_pay8 (F := Ideal) dh (ix2 0 e) = ∑ r : Fin 256, dh (ix2 r e) := by
  pointwise [k0_pay8]

/-- The column sums of a block's rows for the scale. -/
theorem pay_scale (e : Fin 1024) : k0_pay9 (F := Ideal) x dh g (ix2 0 e)
    = ∑ r : Fin 256, dh (ix2 r e) * (x (ix2 r e) * iv (fun e => x (ix2 r e))) * g (ix2 0 e) := by
  pointwise [k0_pay9]
  simp only [pay_p, pay_g]

/-- The three rows of sums that a grid point stores. -/
theorem pay_rows (a : FVec Ideal S1x1024 .f32) (b : FVec Ideal S256x1024 .f32) (c d : FVec Ideal S1x1024 .f32) (e : Fin 1024) :
    k0_pay1 (F := Ideal) a b c d (ix3 0 0 e) = c (ix2 0 e)
    ∧ k0_pay1 (F := Ideal) a b c d (ix3 0 1 e) = d (ix2 0 e)
    ∧ k0_pay1 (F := Ideal) a b c d (ix3 0 2 e) = ∑ r : Fin 256, b (ix2 r e) * a (ix2 0 e) := by
  refine ⟨?_, ?_, ?_⟩
  · pointwise [k0_pay1]
  · pointwise [k0_pay1]
  · pointwise [k0_pay1]

end Block

/-! ## The grid -/

/-- The place of each window's block at a grid point. -/
theorem idx0 : ∀ t : Fin cfg0.N, win0_0.index t = ![t.val, 0] ∧ win0_1.index t = ![0, 0]
    ∧ win0_2.index t = ![min t.val 1, 0, 0] ∧ win0_3.index t = ![t.val, 0] ∧ win0_4.index t = ![t.val, 0] ∧ win0_5.index t = ![t.val, 0, 0] :=
  (by decide +kernel : ∀ t : Fin grid0.N, _)

variable (m : (ℓ : Loc nD τ sig) → Buf (Elt Ideal) ℓ)

/-- A row of a grid point's block. -/
def rowOf (t : Fin 33) (r : Fin 256) : Fin 8448 := ⟨t.val * 256 + r.val, by omega⟩
/-- The segment of a grid point. -/
def sg (t : Fin 33) : Fin 2 := ⟨min t.val 1, by omega⟩

theorem seg_rowOf (t : Fin 33) (r : Fin 256) : seg (rowOf t r) = sg t := by
  have hr := r.isLt
  apply Fin.ext
  unfold seg sg rowOf
  split_ifs with h
  · show 0 = min t.val 1
    dsimp only at h
    omega
  · show 1 = min t.val 1
    dsimp only at h
    omega

theorem blk_x (c : Dev nD) (t : Fin cfg0.N) (r : Fin 256) (e : Fin 1024) :
    iblk m c 0 t (ix2 r e) = V m c main_arg0 (ix2 (rowOf t r) e) := by
  have h0 := idx0 t
  blk_ext [iblk, h0, rowOf]

theorem blk_g (c : Dev nD) (t : Fin cfg0.N) (r : Fin 8) (e : Fin 1024) : iblk m c 1 t (ix2 r e) = V m c main_v1 (ix2 r e) := by
  have h0 := idx0 t
  blk_ext [iblk, h0]

theorem blk_sc (c : Dev nD) (t : Fin cfg0.N) (r : Fin 8) (e : Fin 1024) : iblk m c 2 t (ix3 0 r e) = V m c main_v3 (ix3 (sg t) r e) := by
  have h0 := idx0 t
  blk_ext [iblk, h0, sg]

theorem blk_dh (c : Dev nD) (t : Fin cfg0.N) (r : Fin 256) (e : Fin 1024) :
    iblk m c 3 t (ix2 r e) = V m c main_arg3 (ix2 (rowOf t r) e) := by
  have h0 := idx0 t
  blk_ext [iblk, h0, rowOf]

theorem emb4 (t : Fin cfg0.N) (r : Fin 256) (e : Fin 1024) : ((cfg0.win 4).blk t).view.emb (ix2 r e) = ix2 (rowOf t r) e := by
  have h0 := idx0 t
  blk_ext [h0, rowOf]

theorem emb5 (t : Fin cfg0.N) (k : Fin 8) (e : Fin 1024) : ((cfg0.win 5).blk t).view.emb (ix3 0 k e) = ix3 (n0 := 33) t k e := by
  have h0 := idx0 t
  blk_ext [h0]

/-- The rows of gains are the gain. -/
theorem gains (c : Dev nD) (r : Fin 8) (e : Fin 1024) : V m c main_v1 (ix2 r e) = m ((c : Thread nD τ).loc main_arg1) (ix1 e) := by
  show StableHlo.after hostOps0 (fun b => m (c, b)) (Proc.devRef .tc main_v1) _ = _
  unfold hostOps0
  after_results_simp
  pointwise

/-- The rows of scales are the segments' scales. -/
theorem scales (c : Dev nD) (s : Fin 2) (r : Fin 8) (e : Fin 1024) : V m c main_v3 (ix3 s r e) = m ((c : Thread nD τ).loc main_arg2) (ix2 s e) := by
  show StableHlo.after hostOps0 (fun b => m (c, b)) (Proc.devRef .tc main_v3) _ = _
  unfold hostOps0
  after_results_simp
  pointwise

end Cert.NormIdeal.Value
end
-- ==== Proof.NormRun.lean ====
module

public import proofs.«01_k».proof.Proof.NormKer
public import Idealize.ShloMosaic.Lib.Claim

/-! The run of the adaptive norm's gradient: the rows of the input's gradient, and the grid points' column sums added
    to the gradients of the gain, the scales and the shifts. -/

@[expose] public section

set_option maxRecDepth 16384

noncomputable section

namespace Cert.NormIdeal.Value

open Idealize.ShloMosaic Idealize.ShloMosaic.TcCoe Idealize.SL.Sem
open Idealize.ShloMosaic.Pipeline (Dat)
open Cert.NormIdeal Cert.NormIdeal.Gen Cert.Norm

variable (m : (ℓ : Loc nD τ sig) → Buf (Elt Ideal) ℓ) (ρ : Dev nD → PrngReg)

/-- The gradient of a row's normalised entries. -/
def dRow (x1 : FVec Ideal S1024 .f32) (x2 : FVec Ideal S2x1024 .f32) (x3 : FVec Ideal S8448x1024 .f32) (r : Fin 8448) (e : Fin 1024) : EReal :=
  x3 (ix2 r e) * (x1 (ix1 e) * (1 + x2 (ix2 (seg r) e)))

/-- The gradient of the input. -/
def dxArr (x0 : FVec Ideal S8448x1024 .f32) (x1 : FVec Ideal S1024 .f32) (x2 : FVec Ideal S2x1024 .f32) (x3 : FVec Ideal S8448x1024 .f32) :
    FVec Ideal S8448x1024 .f32 := fun j => gradMean (fun e => x0 (ix2 (j 0 : Fin 8448) e)) (dRow x1 x2 x3 (j 0 : Fin 8448)) (j 1 : Fin 1024)

theorem ld_g (y : Vec Ideal S8x1024 .f32) (e : Fin 1024) : View.ld y r0_1 (ix2 0 e) = y (ix2 0 e) := by
  unfold View.ld
  refine congrArg y (funext fun a => Fin.ext ?_)
  fin_cases a <;> simp [Rect.emb, ix2]

theorem ld_sc (y : Vec Ideal S1x8x1024 .f32) (e : Fin 1024) : View.ld y r0_2 (ix3 0 0 e) = y (ix3 0 0 e) := by
  unfold View.ld
  refine congrArg y (funext fun a => Fin.ext ?_)
  fin_cases a <;> simp [Rect.emb, ix3]

/-- The rows of sums that a grid point stores. -/
def part (c : Dev nD) (t : Fin cfg0.N) : Vec Ideal S1x8x1024 .f32 :=
  k0_pay1 (F := Ideal) (k0_pay3 (View.ld (iblk m c 2 t) r0_2)) (k0_pay7 (iblk m c 0 t) (iblk m c 3 t))
    (k0_pay8 (iblk m c 3 t)) (k0_pay9 (iblk m c 0 t) (iblk m c 3 t) (View.ld (iblk m c 1 t) r0_1))

/-- The array of those rows. -/
def parts (c : Dev nD) : Vec Ideal S33x8x1024 .f32 := fun j => part m c (j 0 : Fin 33) (ix3 0 (j 1 : Fin 8) (j 2 : Fin 1024))

/-- The input's gradient at a grid point. -/
theorem point_dx (c : Dev nD) (t : Fin cfg0.N) (r : Fin 256) (e : Fin 1024) :
    k0_pay6 (F := Ideal) (iblk m c 0 t) (iblk m c 3 t) (View.ld (iblk m c 1 t) r0_1) (View.ld (iblk m c 2 t) r0_2) (ix2 r e)
      = dxArr (m ((c : Thread nD τ).loc main_arg0)) (m ((c : Thread nD τ).loc main_arg1)) (m ((c : Thread nD τ).loc main_arg2))
          (m ((c : Thread nD τ).loc main_arg3)) (ix2 (rowOf t r) e) := by
  refine (pay_dx _ _ _ _ r e).trans ?_
  show _ = gradMean (fun e => m ((c : Thread nD τ).loc main_arg0) (ix2 (rowOf t r) e)) (dRow _ _ _ (rowOf t r)) e
  congr 1
  · exact funext fun e => (blk_x m c t r e).trans (congrFun (V_main_arg0 m c) _)
  · funext e
    exact congrArg₂ (fun a b : EReal => a * b) ((blk_dh m c t r e).trans (congrFun (V_main_arg3 m c) _))
      (congrArg₂ (fun a b : EReal => a * (1 + b)) ((ld_g _ e).trans ((blk_g m c t 0 e).trans (gains m c 0 e)))
        ((ld_sc _ e).trans ((blk_sc m c t 0 e).trans ((scales m c (sg t) 0 e).trans
          (congrArg (fun s => m ((c : Thread nD τ).loc main_arg2) (ix2 s e)) (seg_rowOf t r).symm)))))

/-- The array of the input's gradient. -/
theorem dx_array (c : Dev nD) : (dats m 0 c).arrAt 4 cfg0.N = dxArr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : y = ix2 (y 0 : Fin 256) (y 1 : Fin 1024) := eq_ix2 (n0 := 256) (n1 := 1024) y
  refine (congrArg _ hy).trans ((point_dx m c t (y 0) (y 1)).trans ?_)
  exact (congrArg (dxArr _ _ _ _) ((congrArg _ hy).trans (emb4 t (y 0) (y 1)))).symm

theorem parts_array (c : Dev nD) : (dats m 0 c).arrAt 5 cfg0.N = parts m c := by
  refine (dats m 0 c).arrAt_eq_of_covers 5 _ (by decide +kernel) fun t hf y => ?_
  blk_simp
  rw [after0_5]
  frame_out
  have hy : y = ix3 (0 : Fin 1) (y 1 : Fin 8) (y 2 : Fin 1024) := (eq_ix3 (n0 := 1) (n1 := 8) (n2 := 1024) y).trans (by rw [Subsingleton.elim (α := Fin 1) (y 0) 0]; rfl)
  refine (congrArg (part m c t) hy).trans ?_
  exact (congrArg (parts m c) ((congrArg _ hy).trans (emb5 t (y 1) (y 2)))).symm

/-! ## The column sums -/

section Sums
variable (x0 : FVec Ideal S8448x1024 .f32) (x1 : FVec Ideal S1024 .f32) (x2 : FVec Ideal S2x1024 .f32) (x3 : FVec Ideal S8448x1024 .f32)

/-- A row's term of the shifts' gradient. -/
def shTerm (e : Fin 1024) (r : Fin 8448) : EReal := x3 (ix2 r e)

/-- A row's term of the scales' gradient. -/
def scTerm (e : Fin 1024) (r : Fin 8448) : EReal := x3 (ix2 r e) * (x0 (ix2 r e) * iv (fun e => x0 (ix2 r e))) * x1 (ix1 e)

/-- A row's term of the gain's gradient. -/
def gnTerm (e : Fin 1024) (r : Fin 8448) : EReal := x3 (ix2 r e) * (x0 (ix2 r e) * iv (fun e => x0 (ix2 r e))) * (1 + x2 (ix2 (seg r) e))

end Sums

theorem parts_rows (c : Dev nD) (t : Fin 33) (e : Fin 1024) :
    parts m c (ix3 t 0 e) = ∑ r : Fin 256, shTerm (m ((c : Thread nD τ).loc main_arg3)) e (rowOf t r)
    ∧ parts m c (ix3 t 1 e) = ∑ r : Fin 256, scTerm (m ((c : Thread nD τ).loc main_arg0)) (m ((c : Thread nD τ).loc main_arg1)) (m ((c : Thread nD τ).loc main_arg3)) e (rowOf t r)
    ∧ parts m c (ix3 t 2 e) = ∑ r : Fin 256, gnTerm (m ((c : Thread nD τ).loc main_arg0)) (m ((c : Thread nD τ).loc main_arg2)) (m ((c : Thread nD τ).loc main_arg3)) e (rowOf t r) := by
  have hx : ∀ r e, iblk m c 0 t (ix2 r e) = m ((c : Thread nD τ).loc main_arg0) (ix2 (rowOf t r) e) :=
    fun r e => (blk_x m c t r e).trans (congrFun (V_main_arg0 m c) _)
  have hd : ∀ r e, iblk m c 3 t (ix2 r e) = m ((c : Thread nD τ).loc main_arg3) (ix2 (rowOf t r) e) :=
    fun r e => (blk_dh m c t r e).trans (congrFun (V_main_arg3 m c) _)
  have hv : ∀ r, iv (fun e => iblk m c 0 t (ix2 r e)) = iv (fun e => m ((c : Thread nD τ).loc main_arg0) (ix2 (rowOf t r) e)) :=
    fun r => congrArg iv (funext (hx r))
  obtain ⟨h0, h1, h2⟩ := pay_rows (k0_pay3 (F := Ideal) (View.ld (iblk m c 2 t) r0_2)) (k0_pay7 (iblk m c 0 t) (iblk m c 3 t))
    (k0_pay8 (iblk m c 3 t)) (k0_pay9 (iblk m c 0 t) (iblk m c 3 t) (View.ld (iblk m c 1 t) r0_1)) e
  refine ⟨h0.trans ((pay_shift _ e).trans ?_), h1.trans ((pay_scale _ _ _ e).trans ?_), h2.trans ?_⟩
  · exact congrArg (fun f : Fin 256 → EReal => ∑ r, f r) (funext fun r => hd r e)
  · refine Finset.sum_congr rfl fun r _ => ?_
    exact congrArg₂ (fun a b : EReal => a * b) (congrArg₂ (fun a b : EReal => a * b) (hd r e) (congrArg₂ (fun a b : EReal => a * b) (hx r e) (hv r)))
      ((ld_g _ e).trans ((blk_g m c t 0 e).trans (gains m c 0 e)))
  · refine Finset.sum_congr rfl fun r _ => ?_
    unfold gnTerm
    rw [seg_rowOf]
    refine congrArg₂ (fun a b : EReal => a * b) ((pay_p _ _ r e).trans ?_) ((pay_sc _ e).trans ?_)
    · exact congrArg₂ (fun a b : EReal => a * b) (hd r e) (congrArg₂ (fun a b : EReal => a * b) (hx r e) (hv r))
    · exact congrArg (fun b : EReal => 1 + b) ((ld_sc _ e).trans ((blk_sc m c t 0 e).trans (scales m c (sg t) 0 e)))

theorem sum_rows (f : Fin 8448 → EReal) : ∑ t : Fin 33, ∑ r : Fin 256, f (rowOf t r) = ∑ r, f r :=
  (Fin.sum_univ_tiles 33 256 rfl f).symm

theorem sg_zero : sg 0 = 0 := rfl

theorem sg_succ (t : Fin 32) : sg t.succ = 1 := Fin.ext (by show min (t.val + 1) 1 = 1; omega)

theorem sum_seg0 (f : Fin 8448 → EReal) : segSum f 0 = ∑ r : Fin 256, f (rowOf 0 r) := by
  unfold segSum
  rw [← sum_rows]
  simp only [seg_rowOf]
  rw [Fin.sum_univ_succ]
  simp only [sg_zero, sg_succ, if_pos, if_neg (by decide : ¬(1 : Fin 2) = 0), Finset.sum_const_zero, add_zero]

theorem sum_seg1 (f : Fin 8448 → EReal) : segSum f 1 = ∑ t : Fin 32, ∑ r : Fin 256, f (rowOf t.succ r) := by
  unfold segSum
  rw [← sum_rows]
  simp only [seg_rowOf]
  rw [Fin.sum_univ_succ]
  simp only [sg_zero, sg_succ, if_pos, Finset.sum_const_zero, zero_add]
  simp

/-! ## The operations after the call -/

section Tail
variable (W : Valuation τ sig (Elt Ideal))

theorem tail_gain (e : Fin 1024) : StableHlo.after hostOps1 W (Proc.devRef .tc main_v7) (ix1 e) = ∑ t : Fin 33, (show EReal from W (Proc.devRef .tc main_v4_1) (ix3 t 2 e)) := by
  unfold hostOps1
  after_results_simp
  pointwise

theorem tail_scale (s : Fin 2) (e : Fin 1024) : StableHlo.after hostOps1 W (Proc.devRef .tc main_v16) (ix2 s e)
    = if s = 0 then (show EReal from W (Proc.devRef .tc main_v4_1) (ix3 0 1 e)) else ∑ t : Fin 32, (show EReal from W (Proc.devRef .tc main_v4_1) (ix3 t.succ 1 e)) := by
  unfold hostOps1
  after_results_simp
  fin_cases s
  · pointwise
    exact Fin.sum_univ_one fun _ : Fin 1 => (show EReal from W (Proc.devRef .tc main_v4_1) (ix3 0 1 e))
  · pointwise
    exact congrArg (fun f : Fin 32 → EReal => ∑ t, f t)
      (funext fun t => congrArg (fun i : Fin 33 => W (Proc.devRef .tc main_v4_1) (ix3 i 1 e)) (Fin.ext (Nat.add_comm 1 t.val)))

theorem tail_shift (s : Fin 2) (e : Fin 1024) : StableHlo.after hostOps1 W (Proc.devRef .tc main_v25) (ix2 s e)
    = if s = 0 then (show EReal from W (Proc.devRef .tc main_v4_1) (ix3 0 0 e)) else ∑ t : Fin 32, (show EReal from W (Proc.devRef .tc main_v4_1) (ix3 t.succ 0 e)) := by
  unfold hostOps1
  after_results_simp
  fin_cases s
  · pointwise
    exact Fin.sum_univ_one fun _ : Fin 1 => (show EReal from W (Proc.devRef .tc main_v4_1) (ix3 0 0 e))
  · pointwise
    exact congrArg (fun f : Fin 32 → EReal => ∑ t, f t)
      (funext fun t => congrArg (fun i : Fin 33 => W (Proc.devRef .tc main_v4_1) (ix3 i 0 e)) (Fin.ext (Nat.add_comm 1 t.val)))

end Tail

/-- What the operations after the call start from holds the array of sums. -/
theorem tail_parts (c : Dev nD) :
    Pipeline.withArrays (cfgs 0).spec c (V0 m c) (fun w => (dats m 0 c).arrAt w (cfgs 0).N) (Proc.devRef .tc main_v4_1) = parts m c :=
  (Pipeline.withArrays_arr spec0 (by decide) c (V0 m c) (fun w => (dats m 0 c).arrAt w (cfgs 0).N) 5).trans (parts_array m c)

/-- The gradient of the gain. -/
def dgArr (x0 : FVec Ideal S8448x1024 .f32) (x2 : FVec Ideal S2x1024 .f32) (x3 : FVec Ideal S8448x1024 .f32) : FVec Ideal S1024 .f32 :=
  fun j => ∑ r, gnTerm x0 x2 x3 (j 0 : Fin 1024) r

/-- The gradient of the scales. -/
def dscArr (x0 : FVec Ideal S8448x1024 .f32) (x1 : FVec Ideal S1024 .f32) (x3 : FVec Ideal S8448x1024 .f32) : FVec Ideal S2x1024 .f32 :=
  fun j => segSum (scTerm x0 x1 x3 (j 1 : Fin 1024)) (j 0 : Fin 2)

/-- The gradient of the shifts. -/
def dshArr (x3 : FVec Ideal S8448x1024 .f32) : FVec Ideal S2x1024 .f32 := fun j => segSum (shTerm x3 (j 1 : Fin 1024)) (j 0 : Fin 2)

theorem w_gain (c : Dev nD) : Pipeline.afterTail₀ cfgs (dats m) 0 (V0 m) [hostOps1] c main_v7
    = dgArr (m ((c : Thread nD τ).loc main_arg0)) (m ((c : Thread nD τ).loc main_arg2)) (m ((c : Thread nD τ).loc main_arg3)) := by
  funext j
  refine (congrArg _ (eq_ix1 (n0 := 1024) j)).trans ?_
  refine (tail_gain _ (j 0)).trans ?_
  rw [tail_parts]
  refine Eq.trans ?_ (sum_rows _)
  exact congrArg (fun f : Fin 33 → EReal => ∑ t, f t) (funext fun t => (parts_rows m c t (j 0)).2.2)

theorem w_scale (c : Dev nD) : Pipeline.afterTail₀ cfgs (dats m) 0 (V0 m) [hostOps1] c main_v16
    = dscArr (m ((c : Thread nD τ).loc main_arg0)) (m ((c : Thread nD τ).loc main_arg1)) (m ((c : Thread nD τ).loc main_arg3)) := by
  funext j
  refine (congrArg _ (eq_ix2 (n0 := 2) (n1 := 1024) j)).trans ?_
  refine (tail_scale _ (j 0) (j 1)).trans ?_
  rw [tail_parts]
  show _ = segSum _ (j 0 : Fin 2)
  generalize (j 0 : Fin 2) = s
  fin_cases s
  · exact ((parts_rows m c 0 (j 1)).2.1).trans (sum_seg0 _).symm
  · exact (congrArg (fun f : Fin 32 → EReal => ∑ t, f t) (funext fun t => (parts_rows m c t.succ (j 1)).2.1)).trans (sum_seg1 _).symm

theorem w_shift (c : Dev nD) : Pipeline.afterTail₀ cfgs (dats m) 0 (V0 m) [hostOps1] c main_v25 = dshArr (m ((c : Thread nD τ).loc main_arg3)) := by
  funext j
  refine (congrArg _ (eq_ix2 (n0 := 2) (n1 := 1024) j)).trans ?_
  refine (tail_shift _ (j 0) (j 1)).trans ?_
  rw [tail_parts]
  show _ = segSum _ (j 0 : Fin 2)
  generalize (j 0 : Fin 2) = s
  fin_cases s
  · exact ((parts_rows m c 0 (j 1)).1).trans (sum_seg0 _).symm
  · exact (congrArg (fun f : Fin 32 → EReal => ∑ t, f t) (funext fun t => (parts_rows m c t.succ (j 1)).1)).trans (sum_seg1 _).symm

/-- The program ends with the four gradients and its arguments unchanged. -/
theorem run_value : θ_run defs (onTc (τ := τ) (main (F := Ideal))) ⟨m, fun _ => 0, ρ⟩ (fun r => ∀ c : Dev nD,
      r.2.mem ((c.tc : Thread nD τ).loc main_v4_0) = dxArr (m ((c : Thread nD τ).loc main_arg0)) (m ((c : Thread nD τ).loc main_arg1)) (m ((c : Thread nD τ).loc main_arg2)) (m ((c : Thread nD τ).loc main_arg3))
      ∧ r.2.mem ((c.tc : Thread nD τ).loc main_v7) = dgArr (m ((c : Thread nD τ).loc main_arg0)) (m ((c : Thread nD τ).loc main_arg2)) (m ((c : Thread nD τ).loc main_arg3))
      ∧ r.2.mem ((c.tc : Thread nD τ).loc main_v16) = dscArr (m ((c : Thread nD τ).loc main_arg0)) (m ((c : Thread nD τ).loc main_arg1)) (m ((c : Thread nD τ).loc main_arg3))
      ∧ r.2.mem ((c.tc : Thread nD τ).loc main_v25) = dshArr (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans (dx_array m c),
     ((h.1 c).2 main_v7 (Pipeline.mem_restRefs_of main_v7 (by decide) (by decide))).trans (w_gain m c),
     ((h.1 c).2 main_v16 (Pipeline.mem_restRefs_of main_v16 (by decide) (by decide))).trans (w_scale m c),
     ((h.1 c).2 main_v25 (Pipeline.mem_restRefs_of main_v25 (by decide) (by decide))).trans (w_shift m c),
     h.2 c⟩) (θ_run_and (run_main m ρ) (unchanged m ρ))

end Cert.NormIdeal.Value
end
-- ==== Proof.NormRef.lean ====
module

public import proofs.«01_k».proof.Proof.Gen.NormRefIdeal.Read
public import proofs.«01_k».proof.Proof.NormRow
public import Idealize.ShloMosaic.Lib.KernelVsHost
public import Idealize.ShloMosaic.Lib.Pointwise

/-! What the gradient of the adaptive norm's reference computes, element by element. -/

@[expose] public section

set_option maxRecDepth 16384

noncomputable section

namespace Cert.NormRefIdeal.Elem

open Idealize.ShloMosaic Idealize.ShloMosaic.TcCoe Idealize.SL.Sem
open Cert.NormRefIdeal Cert.NormRefIdeal.Gen Cert.NormRefIdeal.Read Cert.Norm

variable (x0 : (⟨S8448x1024, .f32⟩ : BufTy).Contents (Elt Ideal)) (x1 : (⟨S1024, .f32⟩ : BufTy).Contents (Elt Ideal))
  (x2 : (⟨S2x1024, .f32⟩ : BufTy).Contents (Elt Ideal)) (x3 : (⟨S8448x1024, .f32⟩ : BufTy).Contents (Elt Ideal))

/-- Whether a row belongs to the context. -/
theorem mask (r : Fin 8448) (e : Fin 1024) : val_main_v30_1 (F := Ideal) (ix2 r e) = if r.val < 256 then 1#1 else 0#1 := by
  pointwise [val_main_v30_1, val_main_v4, val_main_v3, val_main_v2, val_main_v1, val_main_c]
  show BitVec.ofBool ((BitVec.ofNat 32 r.val).slt 256#32) = _
  rw [slt_row]
  by_cases hr : r.val < 256 <;> simp [hr]

/-- One plus the scale of a row's segment. -/
theorem r_v32 (r : Fin 8448) (e : Fin 1024) : val_main_v32 (F := Ideal) x2 (ix2 r e) = 1 + x2 (ix2 (seg r) e) := by
  pointwise [val_main_v32, val_main_v31, val_main_cst_4, val_main_v30_0, val_main_call1_v1, val_main_call1_v2, val_main_v27, val_main_v26, val_main_v29, val_main_v28]
  rw [mask]
  unfold Scalar.select seg
  split_ifs <;> first | rfl | contradiction

theorem r_v12 (r : Fin 8448) : val_main_v12 (F := Ideal) x0 (ix2 r 0) = iv (fun e => x0 (ix2 r e)) := by
  pointwise [val_main_v12, val_main_v11, val_main_v10, val_main_cst_2, val_main_v9, val_main_v8, val_main_cst_1, val_main_v7, val_main_v6, val_main_v5, val_main_cst_0]
  rfl

theorem r_v11 (r : Fin 8448) : val_main_v11 (F := Ideal) x0 (ix2 r 0) = ms (fun e => x0 (ix2 r e)) := by
  pointwise [val_main_v11, val_main_v10, val_main_cst_2, val_main_v9, val_main_v8, val_main_cst_1, val_main_v7, val_main_v6, val_main_v5, val_main_cst_0]
  rfl

theorem r_v17 (r : Fin 8448) (e : Fin 1024) : val_main_v17 (F := Ideal) x0 (ix2 r e) = x0 (ix2 r e) * iv (fun e => x0 (ix2 r e)) := by
  pointwise [val_main_v17, val_main_v16]
  rw [r_v12]

theorem r_v38 (r : Fin 8448) (e : Fin 1024) : val_main_v38 (F := Ideal) x2 x3 (ix2 r e) = x3 (ix2 r e) * (1 + x2 (ix2 (seg r) e)) := by
  pointwise [val_main_v38, val_main_v35]
  rw [r_v32]

theorem r_v55 (r : Fin 8448) (e : Fin 1024) : val_main_v55 (F := Ideal) x1 x2 x3 (ix2 r e) = x3 (ix2 r e) * (1 + x2 (ix2 (seg r) e)) * x1 (ix1 e) := by
  pointwise [val_main_v55, val_main_v54, val_main_v18]
  rw [r_v38]

theorem r_v64 (r : Fin 8448) : val_main_v64 (F := Ideal) x0 x1 x2 x3 (ix2 r 0)
    = share (fun e => x0 (ix2 r e)) (fun e => x3 (ix2 r e) * (1 + x2 (ix2 (seg r) e)) * x1 (ix1 e)) := by
  pointwise [val_main_v64, val_main_v63, val_main_cst_12, val_main_v62, val_main_v59, val_main_v58, val_main_v57, val_main_cst_11, val_main_v15, val_main_v14, val_main_cst_3, val_main_v13]
  simp only [r_v55, r_v12, r_v11]
  rfl

theorem r_v66 (r : Fin 8448) (e : Fin 1024) : val_main_v66 (F := Ideal) x0 x1 x2 x3 (ix2 r e) = val_main_v64 (F := Ideal) x0 x1 x2 x3 (ix2 r 0) := by
  unfold val_main_v66 val_main_v65
  generalize val_main_v64 x0 x1 x2 x3 = y
  pointwise [val_main_cst_13]
  exact Fin.sum_univ_one _

/-- The gradient of the input. -/
theorem r_v70 (r : Fin 8448) (e : Fin 1024) : val_main_v70 (F := Ideal) x0 x1 x2 x3 (ix2 r e)
    = gradChain (fun e => x0 (ix2 r e)) (fun e => x3 (ix2 r e) * (1 + x2 (ix2 (seg r) e)) * x1 (ix1 e)) e := by
  pointwise [val_main_v70, val_main_v69, val_main_v68, val_main_v67, val_main_v61, val_main_v60]
  rw [r_v66, r_v64, r_v55, r_v12]
  rfl

/-- The gradient of the gain. -/
theorem r_v56 (e : Fin 1024) : val_main_v56 (F := Ideal) x0 x2 x3 (ix1 e)
    = ∑ r : Fin 8448, x0 (ix2 r e) * iv (fun e => x0 (ix2 r e)) * (x3 (ix2 r e) * (1 + x2 (ix2 (seg r) e))) := by
  have h : val_main_v56 (F := Ideal) x0 x2 x3 (ix1 e) = val_main_v52 (F := Ideal) x0 x2 x3 (ix1 e) := by
    unfold val_main_v56 val_main_v53
    generalize val_main_v52 x0 x2 x3 = y
    pointwise [val_main_cst_10]
    exact Fin.sum_univ_one _
  rw [h]
  pointwise [val_main_v52, val_main_v51, val_main_cst_9]
  simp only [r_v17, r_v38]

/-- Two rows put into a table of two rows. -/
theorem two_rows (a b : (⟨S1x1024, .f32⟩ : BufTy).Contents (Elt Ideal)) (z : (⟨S_, .f32⟩ : BufTy).Contents (Elt Ideal)) (hz : ∀ i, z i = (0 : EReal)) (s : Fin 2) (e : Fin 1024) :
    (addf (pad S2x1024 ![1, 0] ![0, 0] ![0, 0] a z pads_S1x1024_S2x1024_100_000 h_S_ : FVec Ideal S2x1024 .f32)
      (pad S2x1024 ![0, 0] ![1, 0] ![0, 0] b z pads_S1x1024_S2x1024_010_000 h_S_)) (ix2 s e)
      = if s = 0 then b (ix2 0 e) else a (ix2 0 e) := by
  show (pad S2x1024 ![1, 0] ![0, 0] ![0, 0] a z pads_S1x1024_S2x1024_100_000 h_S_ (ix2 s e) : EReal)
    + pad S2x1024 ![0, 0] ![1, 0] ![0, 0] b z pads_S1x1024_S2x1024_010_000 h_S_ (ix2 s e) = _
  fin_cases s
  · rw [pad_apply_of_not_inside _ _ _ a z _ _ _ (0 : Fin 2) (by show ¬(_ ≤ _ ∧ _ ∧ _); simp [ix2]),
      pad_apply_of_inside _ _ _ b z _ _ _ (ix2 0 e) (fun k => by fin_cases k <;> simp [ix2]), hz, zero_add]
    rfl
  · rw [pad_apply_of_inside _ _ _ a z _ _ _ (ix2 0 e) (fun k => by fin_cases k <;> simp [ix2]),
      pad_apply_of_not_inside _ _ _ b z _ _ _ (0 : Fin 2) (by show ¬(_ ≤ _ ∧ _ ∧ _); simp [ix2]), hz, add_zero]
    rfl

theorem zero_bits : Ideal.ofBits FTy.f32 0x00000000#32 = 0 := by
  simp [Ideal.ofBits, Ideal.ieee]

/-- The two masked sums of a column are the sums of the two segments. -/
theorem masked (b : Fin 8448 → BitVec 1) (hb : ∀ r, b r = if r.val < 256 then 1#1 else 0#1) (f : Fin 8448 → EReal) (s : Fin 2) :
    (if s = 0 then ∑ r : Fin 8448, Scalar.select (b r) (f r) 0 else ∑ r : Fin 8448, Scalar.select (b r) 0 (f r)) = segSum f s := by
  simp only [hb]
  unfold segSum seg Scalar.select
  fin_cases s
  · refine Finset.sum_congr rfl fun r _ => ?_
    by_cases h : r.val < 256 <;> simp [h]
  · refine Finset.sum_congr rfl fun r _ => ?_
    by_cases h : r.val < 256 <;> simp [h]

theorem r_v37 (r : Fin 8448) (e : Fin 1024) : val_main_v37 (F := Ideal) x0 x1 x3 (ix2 r e)
    = x0 (ix2 r e) * iv (fun e => x0 (ix2 r e)) * x1 (ix1 e) * x3 (ix2 r e) := by
  pointwise [val_main_v37, val_main_v35, val_main_v20, val_main_v19, val_main_v18]
  rw [r_v17]

/-- The gradient of the scales. -/
theorem r_v44 (s : Fin 2) (e : Fin 1024) : val_main_v44 (F := Ideal) x0 x1 x3 (ix2 s e)
    = segSum (fun r => x0 (ix2 r e) * iv (fun e => x0 (ix2 r e)) * x1 (ix1 e) * x3 (ix2 r e)) s := by
  have h0 : val_main_v42 (F := Ideal) x0 x1 x3 (ix2 0 e)
      = ∑ r : Fin 8448, Scalar.select (val_main_v30_1 (F := Ideal) (ix2 r e)) (val_main_v37 (F := Ideal) x0 x1 x3 (ix2 r e)) 0 := by
    pointwise [val_main_v42, val_main_v39_0, val_main_call2_v2, val_main_call2_v0, val_main_call2_cst, val_main_call2_cst_1]
  have h1 : val_main_v40 (F := Ideal) x0 x1 x3 (ix2 0 e)
      = ∑ r : Fin 8448, Scalar.select (val_main_v30_1 (F := Ideal) (ix2 r e)) 0 (val_main_v37 (F := Ideal) x0 x1 x3 (ix2 r e)) := by
    pointwise [val_main_v40, val_main_v39_1, val_main_call2_v1, val_main_call2_v0, val_main_call2_cst, val_main_call2_cst_0]
  refine (two_rows _ _ _ (fun i => zero_bits) s e).trans ?_
  rw [h0, h1]
  simp only [r_v37]
  exact masked _ (fun r => mask r e) _ s

/-- The gradient of the shifts. -/
theorem r_v50 (s : Fin 2) (e : Fin 1024) : val_main_v50 (F := Ideal) x3 (ix2 s e) = segSum (fun r => x3 (ix2 r e)) s := by
  have h0 : val_main_v48 (F := Ideal) x3 (ix2 0 e) = ∑ r : Fin 8448, Scalar.select (val_main_v25_1 (F := Ideal) (ix2 r e)) (x3 (ix2 r e)) 0 := by
    pointwise [val_main_v48, val_main_v45_0, val_main_call3_v2, val_main_call3_v0, val_main_call3_cst, val_main_call3_cst_1, val_main_v36]
  have h1 : val_main_v46 (F := Ideal) x3 (ix2 0 e) = ∑ r : Fin 8448, Scalar.select (val_main_v25_1 (F := Ideal) (ix2 r e)) 0 (x3 (ix2 r e)) := by
    pointwise [val_main_v46, val_main_v45_1, val_main_call3_v1, val_main_call3_v0, val_main_call3_cst, val_main_call3_cst_0, val_main_v36]
  refine (two_rows _ _ _ (fun i => zero_bits) s e).trans ?_
  rw [h0, h1]
  exact masked _ (fun r => mask r e) (fun r => x3 (ix2 r e)) s

end Cert.NormRefIdeal.Elem
end
-- ==== Proof.NormEq.lean ====
module

public import proofs.«01_k».proof.Proof.NormRun
public import proofs.«01_k».proof.Proof.NormRef

/-! The kernel's gradients of the adaptive norm are the reference's, for any extended reals. -/

@[expose] public section

set_option maxRecDepth 16384

noncomputable section

namespace Cert.NormEq

open Idealize.ShloMosaic Idealize.ShloMosaic.TcCoe Idealize.SL.Sem
open Cert.NormRefIdeal Cert.NormRefIdeal.Read Cert.NormRefIdeal.Elem Cert.NormIdeal.Value Cert.Norm

variable (x0 : FVec Ideal S8448x1024 .f32) (x1 : FVec Ideal S1024 .f32) (x2 : FVec Ideal S2x1024 .f32) (x3 : FVec Ideal S8448x1024 .f32)

theorem dx_eq : dxArr x0 x1 x2 x3 = val_main_v70 (F := Ideal) x0 x1 x2 x3 := by
  funext j
  refine Eq.trans ?_ (congrArg (val_main_v70 (F := Ideal) x0 x1 x2 x3) (eq_ix2 (n0 := 8448) (n1 := 1024) j)).symm
  refine Eq.trans ?_ (r_v70 x0 x1 x2 x3 (j 0) (j 1)).symm
  refine (grad_eq _ _ _).trans (congrArg (fun d => gradChain _ d (j 1 : Fin 1024)) (funext fun e => ?_))
  unfold dRow
  rw [mul_comm (x1 _), mul_assoc]

theorem dg_eq : dgArr x0 x2 x3 = val_main_v56 (F := Ideal) x0 x2 x3 := by
  funext j
  refine Eq.trans ?_ (congrArg (val_main_v56 (F := Ideal) x0 x2 x3) (eq_ix1 (n0 := 1024) j)).symm
  refine Eq.trans ?_ (r_v56 x0 x2 x3 (j 0)).symm
  refine Finset.sum_congr rfl fun r _ => ?_
  unfold gnTerm
  rw [mul_comm (x3 _), mul_assoc]

theorem dsc_eq : dscArr x0 x1 x3 = val_main_v44 (F := Ideal) x0 x1 x3 := by
  funext j
  refine Eq.trans ?_ (congrArg (val_main_v44 (F := Ideal) x0 x1 x3) (eq_ix2 (n0 := 2) (n1 := 1024) j)).symm
  refine Eq.trans ?_ (r_v44 x0 x1 x3 (j 0) (j 1)).symm
  refine congrArg (fun f => segSum f (j 0 : Fin 2)) (funext fun r => ?_)
  unfold scTerm
  rw [mul_assoc, mul_comm (x3 _)]

theorem dsh_eq : dshArr x3 = val_main_v50 (F := Ideal) x3 := by
  funext j
  refine Eq.trans ?_ (congrArg (val_main_v50 (F := Ideal) x3) (eq_ix2 (n0 := 2) (n1 := 1024) j)).symm
  exact (r_v50 x3 (j 0) (j 1)).symm

end Cert.NormEq
end
-- ==== Proof.LastUpDx.lean ====
module

public import proofs.«01_k».proof.Proof.Gen.LastUpDxIdeal.Value
public import proofs.«01_k».proof.Proof.Gen.LastUpDxRefIdeal.Run
public import proofs.«01_k».proof.Proof.Gen.LastUpDxRefIdeal.Read
public import proofs.«01_k».proof.Proof.Dots
public import Idealize.ShloMosaic.Lib.Pipeline.ValueKit
public import Idealize.ShloMosaic.Lib.Pointwise

/-! The gradient of the input of the first product of the last layer's feed-forward part: two blocks of the hidden
    width are accumulated in the output's block. -/

@[expose] public section

set_option maxRecDepth 16384

noncomputable section

namespace Cert.LastUpDxIdeal.Value

open Idealize.ShloMosaic Idealize.ShloMosaic.TcCoe Idealize.SL.Sem
open Idealize.ShloMosaic.Pipeline (Dat)
open Cert.LastUpDxIdeal Cert.LastUpDxIdeal.Gen
open Cert.Linear

/-- The place of each window's block at a grid point. -/
theorem idx0 : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val / 2 * 1024 + r.val, by have : t.val < 16 := t.isLt; omega⟩
/-- The column of the contracted axis that a column of a grid point's block is. -/
def midOf (t : Fin cfg0.N) (e : Fin 1408) : Fin 2816 := ⟨t.val % 2 * 1408 + e.val, by omega⟩

/-- A grid point's block of the output's gradient. -/
theorem blk_dy (c : Dev nD) (t : Fin cfg0.N) (r : Fin 1024) (e : Fin 1408) :
    iblk m c 0 t (ix2 r e) = V m c main_arg1 (ix2 (rowOf t r) (midOf t e)) := by
  have h0 := idx0 t
  blk_ext [iblk, h0, rowOf, midOf]

/-- A grid point's block of the weights. -/
theorem blk_w (c : Dev nD) (t : Fin cfg0.N) (d : Fin 1024) (e : Fin 1408) :
    iblk m c 1 t (ix2 d e) = V m c main_v0 (ix2 d (midOf t e)) := by
  have h0 := idx0 t
  blk_ext [iblk, h0, midOf]

/-- Where an entry of a grid point's block lies in the result. -/
theorem emb (t : Fin cfg0.N) (r d : Fin 1024) :
    ((cfg0.win 2).blk t).view.emb (ix2 r d) = ix2 (rowOf t r) d := by
  have h0 := idx0 t
  blk_ext [h0, rowOf]

/-- The product of one block of the hidden width. -/
def part (c : Dev nD) (t : Fin cfg0.N) : Vec Ideal S1024x1024 .f32 := fun y =>
  dotE (fun e : Fin 1408 => iblk m c 0 t (ix2 (y 0 : Fin 1024) e)) (fun e => iblk m c 1 t (ix2 (y 1 : Fin 1024) e))

/-- The product of two blocks, entry by entry. -/
theorem pay (a : Vec Ideal S1024x1408 .f32) (b : Vec Ideal S1024x1408 .bf16) (r d : Fin 1024) :
    k0_pay1 (F := Ideal) a b (ix2 r d) = dotE (fun e : Fin 1408 => a (ix2 r e)) (fun e => b (ix2 d e)) := by
  unfold dotE
  pointwise [k0_pay1]

/-- The same at any index. -/
theorem pay_at (a : Vec Ideal S1024x1408 .f32) (b : Vec Ideal S1024x1408 .bf16) (y : S1024x1024.Idx) :
    k0_pay1 (F := Ideal) a b y = dotE (fun e : Fin 1408 => a (ix2 (y 0 : Fin 1024) e)) (fun e => b (ix2 (y 1 : Fin 1024) e)) :=
  (congrArg _ (eq_ix2 (n0 := 1024) (n1 := 1024) y)).trans (pay a b (y 0) (y 1))

/-- At the first point of a run the block is the point's product. -/
theorem first (c : Dev nD) (t : Fin cfg0.N) (hz : t.val % 2 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 2 = 0) (y : S1024x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the input: the output's gradient against the weights, summed over the hidden width. -/
def arr (c : Dev nD) : Vec Ideal S8192x1024 .f32 := fun j =>
  dotE (fun e : Fin 2816 => V m c main_arg1 (ix2 (j 0 : Fin 8192) e)) (fun e => V m c main_v0 (ix2 (j 1 : Fin 1024) e))

/-- At the last point of a run the block is that of the whole product. -/
theorem last (c : Dev nD) (t : Fin cfg0.N) (hr : t.val % 2 = 1) (r d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_dy m c s r e).trans (congrArg (fun i => V m c main_arg1 (ix2 i (midOf s e))) (Fin.ext (congrArg (· * 1024 + r.val) h))))
    (fun s e _ => blk_w m c s d e)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1024) := eq_ix2 (n0 := 1024) (n1 := 1024) y
  refine (congrArg _ hy).trans ((last m c t ((flush0_2 t).1 hf) (y 0) (y 1)).trans ?_)
  exact (congrArg (arr m c) ((congrArg _ hy).trans (emb t (y 0) (y 1)))).symm

/-- The weights' cast keeps their values. -/
theorem weights (c : Dev nD) (i : Fin 1024) (j : Fin 2816) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- What the kernel computes is the reference's gradient. -/
theorem equal (c : Dev nD) :
    arr m c = Cert.LastUpDxRefIdeal.Read.val_main_v2 (F := Ideal) (m ((c : Thread nD τ).loc main_arg0)) (m ((c : Thread nD τ).loc main_arg1)) := by
  funext j
  refine Eq.trans ?_ (Cert.LastUpDxRefIdeal.Read.val_main_v2_apply _ _ j).symm
  refine dotE_congr (fun e => ?_) (fun e => (weights m c _ e).trans ?_)
  · rw [V_main_arg1]
    exact congrArg _ (eq_ix2 (n0 := 8192) (n1 := 2816) (Cert.LastUpDxRefIdeal.Read.lidx_main_v2 j e)).symm
  · exact congrArg _ (eq_ix2 (n0 := 1024) (n1 := 2816) (Cert.LastUpDxRefIdeal.Read.ridx_main_v2 j e)).symm

end Cert.LastUpDxIdeal.Value
end
-- ==== Proof.LastUpDw.lean ====
module

public import proofs.«01_k».proof.Proof.Gen.LastUpDwIdeal.Value
public import proofs.«01_k».proof.Proof.Gen.LastUpDwRefIdeal.Run
public import proofs.«01_k».proof.Proof.Gen.LastUpDwRefIdeal.Read
public import proofs.«01_k».proof.Proof.Dots
public import Idealize.ShloMosaic.Lib.Pipeline.ValueKit
public import Idealize.ShloMosaic.Lib.Pointwise

/-! The gradient of the weights of the first product of the last layer's feed-forward part: eight blocks of rows are
    accumulated in the output's block. -/

@[expose] public section

set_option maxRecDepth 16384

noncomputable section

namespace Cert.LastUpDwIdeal.Value

open Idealize.ShloMosaic Idealize.ShloMosaic.TcCoe Idealize.SL.Sem
open Idealize.ShloMosaic.Pipeline (Dat)
open Cert.LastUpDwIdeal Cert.LastUpDwIdeal.Gen
open Cert.Linear

/-- The place of each window's block at a grid point. -/
theorem idx0 : ∀ t : Fin cfg0.N, win0_0.index t = ![t.val % 8, 0] ∧ win0_1.index t = ![t.val % 8, t.val / 8]
    ∧ win0_2.index t = ![0, t.val / 8] :=
  (by decide +kernel : ∀ t : Fin grid0.N, _)

variable (m : (ℓ : Loc nD τ sig) → Buf (Elt Ideal) ℓ)

/-- The row of the arguments that a row of a grid point's blocks is. -/
def midOf (t : Fin cfg0.N) (e : Fin 1024) : Fin 8192 := ⟨t.val % 8 * 1024 + e.val, by omega⟩
/-- The column of the result that a column of a grid point's block is. -/
def colOf (t : Fin cfg0.N) (j : Fin 1408) : Fin 2816 := ⟨t.val / 8 * 1408 + j.val, by have : t.val < 16 := t.isLt; omega⟩

/-- A grid point's block of the input. -/
theorem blk_a (c : Dev nD) (t : Fin cfg0.N) (e d : Fin 1024) :
    iblk m c 0 t (ix2 e d) = V m c main_arg0 (ix2 (midOf t e) d) := by
  have h0 := idx0 t
  blk_ext [iblk, h0, midOf]

/-- A grid point's block of the output's gradient. -/
theorem blk_dy (c : Dev nD) (t : Fin cfg0.N) (e : Fin 1024) (j : Fin 1408) :
    iblk m c 1 t (ix2 e j) = V m c main_arg1 (ix2 (midOf t e) (colOf t j)) := by
  have h0 := idx0 t
  blk_ext [iblk, h0, midOf, colOf]

/-- Where an entry of a grid point's block lies in the result. -/
theorem emb (t : Fin cfg0.N) (d : Fin 1024) (j : Fin 1408) :
    ((cfg0.win 2).blk t).view.emb (ix2 d j) = ix2 d (colOf t j) := by
  have h0 := idx0 t
  blk_ext [h0, colOf]

/-- The product of one block of rows. -/
def part (c : Dev nD) (t : Fin cfg0.N) : Vec Ideal S1024x1408 .f32 := fun y =>
  dotE (fun e : Fin 1024 => iblk m c 0 t (ix2 e (y 0 : Fin 1024))) (fun e => iblk m c 1 t (ix2 e (y 1 : Fin 1408)))

/-- The product of two blocks, entry by entry. -/
theorem pay (a : Vec Ideal S1024x1024 .f32) (b : Vec Ideal S1024x1408 .f32) (d : Fin 1024) (j : Fin 1408) :
    k0_pay1 (F := Ideal) a b (ix2 d j) = dotE (fun e : Fin 1024 => a (ix2 e d)) (fun e => b (ix2 e j)) := by
  unfold dotE
  pointwise [k0_pay1]

/-- The same at any index. -/
theorem pay_at (a : Vec Ideal S1024x1024 .f32) (b : Vec Ideal S1024x1408 .f32) (y : S1024x1408.Idx) :
    k0_pay1 (F := Ideal) a b y = dotE (fun e : Fin 1024 => a (ix2 e (y 0 : Fin 1024))) (fun e => b (ix2 e (y 1 : Fin 1408))) :=
  (congrArg _ (eq_ix2 (n0 := 1024) (n1 := 1408) y)).trans (pay a b (y 0) (y 1))

/-- At the first point of a run the block is the point's product. -/
theorem first (c : Dev nD) (t : Fin cfg0.N) (hz : t.val % 8 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 8 = 0) (y : S1024x1408.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S1024x2816 .f32 := fun j =>
  dotE (fun e : Fin 8192 => V m c main_arg0 (ix2 e (j 0 : Fin 1024))) (fun e => V m c main_arg1 (ix2 e (j 1 : Fin 2816)))

/-- At the last point of a run the block is that of the whole product. -/
theorem last (c : Dev nD) (t : Fin cfg0.N) (hr : t.val % 8 = 7) (d : Fin 1024) (j : Fin 1408) :
    outsAt0 m c t.val t.isLt (ix2 d j) = arr m c (ix2 d (colOf t j)) :=
  dotE_run (by norm_num) (fun n h => outsAt0 m c n h) (part m c) (first m c) (next m c) t hr (ix2 d j) midOf (fun _ _ => rfl) _ _ (fun _ => rfl) _ _
    (fun s e _ => blk_a m c s e d)
    (fun s e h => (blk_dy m c s e j).trans (congrArg (fun i => V m c main_arg1 (ix2 (midOf s e) i)) (Fin.ext (congrArg (· * 1408 + j.val) h))))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1408) := eq_ix2 (n0 := 1024) (n1 := 1408) y
  refine (congrArg _ hy).trans ((last m c t ((flush0_2 t).1 hf) (y 0) (y 1)).trans ?_)
  exact (congrArg (arr m c) ((congrArg _ hy).trans (emb t (y 0) (y 1)))).symm

/-- What the kernel computes is the reference's gradient. -/
theorem equal (c : Dev nD) :
    arr m c = Cert.LastUpDwRefIdeal.Read.val_main_v3 (F := Ideal) (m ((c : Thread nD τ).loc main_arg0)) (m ((c : Thread nD τ).loc main_arg1)) := by
  funext j
  refine Eq.trans ?_ ((Cert.LastUpDwRefIdeal.Read.val_main_v3_apply _ _ j).trans (Cert.LastUpDwRefIdeal.Read.val_main_v2_apply _ _ _)).symm
  refine (dotE_comm _ _).trans (dotE_congr (fun e => ?_) (fun e => ?_))
  · exact congrArg (V m c main_arg1) (eq_ix2 (n0 := 8192) (n1 := 2816) (Cert.LastUpDwRefIdeal.Read.lidx_main_v2 (Cert.LastUpDwRefIdeal.Read.idx_main_v3 j) e)).symm
  · exact congrArg (V m c main_arg0) (eq_ix2 (n0 := 8192) (n1 := 1024) (Cert.LastUpDwRefIdeal.Read.ridx_main_v2 (Cert.LastUpDwRefIdeal.Read.idx_main_v3 j) e)).symm

end Cert.LastUpDwIdeal.Value
end
-- ==== Proof.LastUpY.lean ====
module

public import proofs.«01_k».proof.Proof.Gen.LastUpYIdeal.Value
public import proofs.«01_k».proof.Proof.Gen.LastUpYRefIdeal.Run
public import proofs.«01_k».proof.Proof.Gen.LastUpYRefIdeal.Read
public import proofs.«01_k».proof.Proof.Dots
public import Idealize.ShloMosaic.Lib.Pipeline.ValueKit
public import Idealize.ShloMosaic.Lib.Pointwise

/-! The first product of the last layer's feed-forward part, on the latent rows alone: each grid point computes one block. -/

@[expose] public section

set_option maxRecDepth 16384

noncomputable section

namespace Cert.LastUpYIdeal.Value

open Idealize.ShloMosaic Idealize.ShloMosaic.TcCoe Idealize.SL.Sem
open Idealize.ShloMosaic.Pipeline (Dat)
open Cert.LastUpYIdeal Cert.LastUpYIdeal.Gen
open Cert.Linear

/-- The place of each window's block at a grid point. -/
theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val / 2 * 1024 + r.val, by have : t.val < 16 := t.isLt; omega⟩
/-- The column of the result that a column of a grid point's block is. -/
def colOf (t : Fin cfg0.N) (j : Fin 1408) : Fin 2816 := ⟨t.val % 2 * 1408 + j.val, by omega⟩

/-- A grid point's block of the input. -/
theorem blk_a (c : Dev nD) (t : Fin cfg0.N) (r e : Fin 1024) :
    iblk m c 0 t (ix2 r e) = V m c main_arg0 (ix2 (rowOf t r) e) := by
  have h0 := idx0 t
  blk_ext [iblk, h0, rowOf]

/-- A grid point's block of the weights. -/
theorem blk_w (c : Dev nD) (t : Fin cfg0.N) (e : Fin 1024) (j : Fin 1408) :
    iblk m c 1 t (ix2 e j) = V m c main_v0 (ix2 e (colOf t j)) := by
  have h0 := idx0 t
  blk_ext [iblk, h0, colOf]

/-- Where an entry of a grid point's block lies in the result. -/
theorem emb (t : Fin cfg0.N) (r : Fin 1024) (j : Fin 1408) :
    ((cfg0.win 2).blk t).view.emb (ix2 r j) = ix2 (rowOf t r) (colOf t j) := by
  have h0 := idx0 t
  blk_ext [h0, rowOf, colOf]

/-- The product of two blocks, entry by entry. -/
theorem pay (a : Vec Ideal S1024x1024 .f32) (b : Vec Ideal S1024x1408 .bf16) (r : Fin 1024) (j : Fin 1408) :
    k0_pay1 (F := Ideal) a b (ix2 r j) = dotE (fun e : Fin 1024 => a (ix2 r e)) (fun e => b (ix2 e j)) := by
  unfold dotE
  pointwise [k0_pay1]

/-- The product. -/
def arr (c : Dev nD) : Vec Ideal S8192x2816 .f32 := fun j =>
  dotE (fun e : Fin 1024 => V m c main_arg0 (ix2 (j 0 : Fin 8192) e)) (fun e => V m c main_v0 (ix2 e (j 1 : Fin 2816)))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1024) (y 1 : Fin 1408) := eq_ix2 (n0 := 1024) (n1 := 1408) y
  refine (congrArg _ hy).trans ((pay _ _ (y 0) (y 1)).trans ?_)
  refine Eq.trans ?_ (congrArg (arr m c) ((congrArg _ hy).trans (emb t (y 0) (y 1)))).symm
  exact dotE_congr (fun e => blk_a m c t _ e) (fun e => blk_w m c t e _)

/-- The weights' cast keeps their values. -/
theorem weights (c : Dev nD) (i : Fin 1024) (j : Fin 2816) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's product. -/
theorem equal (c : Dev nD) :
    arr m c = Cert.LastUpYRefIdeal.Read.val_main_v0 (F := Ideal) (m ((c : Thread nD τ).loc main_arg0)) (m ((c : Thread nD τ).loc main_arg1)) := by
  funext j
  refine Eq.trans ?_ (Cert.LastUpYRefIdeal.Read.val_main_v0_apply _ _ j).symm
  refine dotE_congr (fun e => ?_) (fun e => (weights m c e _).trans ?_)
  · rw [V_main_arg0]
    exact congrArg _ (eq_ix2 (n0 := 8192) (n1 := 1024) (Cert.LastUpYRefIdeal.Read.lidx_main_v0 j e)).symm
  · exact congrArg _ (eq_ix2 (n0 := 1024) (n1 := 2816) (Cert.LastUpYRefIdeal.Read.ridx_main_v0 j e)).symm

end Cert.LastUpYIdeal.Value
end
-- ==== Proof.LastDownDx.lean ====
module

public import proofs.«01_k».proof.Proof.Gen.LastDownDxIdeal.Value
public import proofs.«01_k».proof.Proof.Gen.LastDownDxRefIdeal.Run
public import proofs.«01_k».proof.Proof.Gen.LastDownDxRefIdeal.Read
public import proofs.«01_k».proof.Proof.Dots
public import Idealize.ShloMosaic.Lib.Pipeline.ValueKit
public import Idealize.ShloMosaic.Lib.Pointwise

/-! The gradient of the input of the last product of the last layer's feed-forward part: each grid point computes one block. -/

@[expose] public section

set_option maxRecDepth 16384

noncomputable section

namespace Cert.LastDownDxIdeal.Value

open Idealize.ShloMosaic Idealize.ShloMosaic.TcCoe Idealize.SL.Sem
open Idealize.ShloMosaic.Pipeline (Dat)
open Cert.LastDownDxIdeal Cert.LastDownDxIdeal.Gen
open Cert.Linear

/-- The place of each window's block at a grid point. -/
theorem idx0 : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val / 2 * 1024 + r.val, by have : t.val < 16 := t.isLt; omega⟩
/-- The column of the result that a column of a grid point's block is. -/
def colOf (t : Fin cfg0.N) (j : Fin 1408) : Fin 2816 := ⟨t.val % 2 * 1408 + j.val, by omega⟩

/-- A grid point's block of the output's gradient. -/
theorem blk_dy (c : Dev nD) (t : Fin cfg0.N) (r e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (j : Fin 1408) (e : Fin 1024) :
    iblk m c 1 t (ix2 j e) = V m c main_v0 (ix2 (colOf t j) e) := by
  have h0 := idx0 t
  blk_ext [iblk, h0, colOf]

/-- Where an entry of a grid point's block lies in the result. -/
theorem emb (t : Fin cfg0.N) (r : Fin 1024) (j : Fin 1408) :
    ((cfg0.win 2).blk t).view.emb (ix2 r j) = ix2 (rowOf t r) (colOf t j) := by
  have h0 := idx0 t
  blk_ext [h0, rowOf, colOf]

/-- The product of two blocks, entry by entry. -/
theorem pay (a : Vec Ideal S1024x1024 .bf16) (b : Vec Ideal S1408x1024 .bf16) (r : Fin 1024) (j : Fin 1408) :
    k0_pay1 (F := Ideal) a b (ix2 r j) = dotE (fun e : Fin 1024 => a (ix2 r e)) (fun e => b (ix2 j e)) := by
  unfold dotE
  pointwise [k0_pay1]

/-- The gradient of the input: the output's gradient against the weights. -/
def arr (c : Dev nD) : Vec Ideal S8192x2816 .f32 := fun j =>
  dotE (fun e : Fin 1024 => V m c main_v1 (ix2 (j 0 : Fin 8192) e)) (fun e => V m c main_v0 (ix2 (j 1 : Fin 2816) e))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1024) (y 1 : Fin 1408) := eq_ix2 (n0 := 1024) (n1 := 1408) y
  refine (congrArg _ hy).trans ((pay _ _ (y 0) (y 1)).trans ?_)
  refine Eq.trans ?_ (congrArg (arr m c) ((congrArg _ hy).trans (emb t (y 0) (y 1)))).symm
  exact dotE_congr (fun e => blk_dy m c t _ e) (fun e => blk_w m c t _ e)

/-- The weights' cast keeps their values. -/
theorem weights (c : Dev nD) (i : Fin 2816) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8192) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.LastDownDxRefIdeal.Read.val_main_v2 (F := Ideal) (m ((c : Thread nD τ).loc main_arg0)) (m ((c : Thread nD τ).loc main_arg1)) := by
  funext j
  refine Eq.trans ?_ (Cert.LastDownDxRefIdeal.Read.val_main_v2_apply _ _ j).symm
  refine dotE_congr (fun e => (gradient m c _ e).trans ?_) (fun e => (weights m c _ e).trans ?_)
  · exact congrArg _ (eq_ix2 (n0 := 8192) (n1 := 1024) (Cert.LastDownDxRefIdeal.Read.lidx_main_v2 j e)).symm
  · exact congrArg _ (eq_ix2 (n0 := 2816) (n1 := 1024) (Cert.LastDownDxRefIdeal.Read.ridx_main_v2 j e)).symm

end Cert.LastDownDxIdeal.Value
end
-- ==== Proof.LastDownDw.lean ====
module

public import proofs.«01_k».proof.Proof.Gen.LastDownDwIdeal.Value
public import proofs.«01_k».proof.Proof.Gen.LastDownDwRefIdeal.Run
public import proofs.«01_k».proof.Proof.Gen.LastDownDwRefIdeal.Read
public import proofs.«01_k».proof.Proof.Dots
public import Idealize.ShloMosaic.Lib.Pipeline.ValueKit
public import Idealize.ShloMosaic.Lib.Pointwise

/-! The gradient of the weights of the last product of the last layer's feed-forward part: eight blocks of rows are
    accumulated in the output's block. -/

@[expose] public section

set_option maxRecDepth 16384

noncomputable section

namespace Cert.LastDownDwIdeal.Value

open Idealize.ShloMosaic Idealize.ShloMosaic.TcCoe Idealize.SL.Sem
open Idealize.ShloMosaic.Pipeline (Dat)
open Cert.LastDownDwIdeal Cert.LastDownDwIdeal.Gen
open Cert.Linear

/-- The place of each window's block at a grid point. -/
theorem idx0 : ∀ t : Fin cfg0.N, win0_0.index t = ![t.val % 8, t.val / 8] ∧ win0_1.index t = ![t.val % 8, 0]
    ∧ win0_2.index t = ![t.val / 8, 0] :=
  (by decide +kernel : ∀ t : Fin grid0.N, _)

variable (m : (ℓ : Loc nD τ sig) → Buf (Elt Ideal) ℓ)

/-- The row of the arguments that a row of a grid point's blocks is. -/
def midOf (t : Fin cfg0.N) (e : Fin 1024) : Fin 8192 := ⟨t.val % 8 * 1024 + e.val, by omega⟩
/-- The row of the result that a row of a grid point's block is. -/
def rowOf (t : Fin cfg0.N) (r : Fin 1408) : Fin 2816 := ⟨t.val / 8 * 1408 + r.val, by have : t.val < 16 := t.isLt; omega⟩

/-- A grid point's block of the input. -/
theorem blk_a (c : Dev nD) (t : Fin cfg0.N) (e : Fin 1024) (r : Fin 1408) :
    iblk m c 0 t (ix2 e r) = V m c main_arg0 (ix2 (midOf t e) (rowOf t r)) := by
  have h0 := idx0 t
  blk_ext [iblk, h0, midOf, rowOf]

/-- A grid point's block of the output's gradient. -/
theorem blk_dy (c : Dev nD) (t : Fin cfg0.N) (e d : Fin 1024) :
    iblk m c 1 t (ix2 e d) = V m c main_v0 (ix2 (midOf t e) d) := by
  have h0 := idx0 t
  blk_ext [iblk, h0, midOf]

/-- Where an entry of a grid point's block lies in the result. -/
theorem emb (t : Fin cfg0.N) (r : Fin 1408) (d : Fin 1024) :
    ((cfg0.win 2).blk t).view.emb (ix2 r d) = ix2 (rowOf t r) d := by
  have h0 := idx0 t
  blk_ext [h0, rowOf]

/-- The product of one block of rows. -/
def part (c : Dev nD) (t : Fin cfg0.N) : Vec Ideal S1408x1024 .f32 := fun y =>
  dotE (fun e : Fin 1024 => iblk m c 0 t (ix2 e (y 0 : Fin 1408))) (fun e => iblk m c 1 t (ix2 e (y 1 : Fin 1024)))

/-- The product of two blocks, entry by entry. -/
theorem pay (a : Vec Ideal S1024x1408 .f32) (b : Vec Ideal S1024x1024 .bf16) (r : Fin 1408) (d : Fin 1024) :
    k0_pay1 (F := Ideal) a b (ix2 r d) = dotE (fun e : Fin 1024 => a (ix2 e r)) (fun e => b (ix2 e d)) := by
  unfold dotE
  pointwise [k0_pay1]

/-- The same at any index. -/
theorem pay_at (a : Vec Ideal S1024x1408 .f32) (b : Vec Ideal S1024x1024 .bf16) (y : S1408x1024.Idx) :
    k0_pay1 (F := Ideal) a b y = dotE (fun e : Fin 1024 => a (ix2 e (y 0 : Fin 1408))) (fun e => b (ix2 e (y 1 : Fin 1024))) :=
  (congrArg _ (eq_ix2 (n0 := 1408) (n1 := 1024) y)).trans (pay a b (y 0) (y 1))

/-- At the first point of a run the block is the point's product. -/
theorem first (c : Dev nD) (t : Fin cfg0.N) (hz : t.val % 8 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 8 = 0) (y : S1408x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S2816x1024 .f32 := fun j =>
  dotE (fun e : Fin 8192 => V m c main_arg0 (ix2 e (j 0 : Fin 2816))) (fun e => V m c main_v0 (ix2 e (j 1 : Fin 1024)))

/-- At the last point of a run the block is that of the whole product. -/
theorem last (c : Dev nD) (t : Fin cfg0.N) (hr : t.val % 8 = 7) (r : Fin 1408) (d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_a m c s e r).trans (congrArg (fun i => V m c main_arg0 (ix2 (midOf s e) i)) (Fin.ext (congrArg (· * 1408 + r.val) h))))
    (fun s e _ => blk_dy m c s e d)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1408) (y 1 : Fin 1024) := eq_ix2 (n0 := 1408) (n1 := 1024) y
  refine (congrArg _ hy).trans ((last m c t ((flush0_2 t).1 hf) (y 0) (y 1)).trans ?_)
  exact (congrArg (arr m c) ((congrArg _ hy).trans (emb t (y 0) (y 1)))).symm

/-- The cast of the output's gradient keeps its values. -/
theorem gradient (c : Dev nD) (i : Fin 8192) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's gradient. -/
theorem equal (c : Dev nD) :
    arr m c = Cert.LastDownDwRefIdeal.Read.val_main_v3 (F := Ideal) (m ((c : Thread nD τ).loc main_arg0)) (m ((c : Thread nD τ).loc main_arg1)) := by
  funext j
  refine Eq.trans ?_ ((Cert.LastDownDwRefIdeal.Read.val_main_v3_apply _ _ j).trans (Cert.LastDownDwRefIdeal.Read.val_main_v2_apply _ _ _)).symm
  refine (dotE_comm _ _).trans (dotE_congr (fun e => (gradient m c e _).trans ?_) (fun e => ?_))
  · exact congrArg _ (eq_ix2 (n0 := 8192) (n1 := 1024) (Cert.LastDownDwRefIdeal.Read.lidx_main_v2 (Cert.LastDownDwRefIdeal.Read.idx_main_v3 j) e)).symm
  · rw [V_main_arg0]
    exact congrArg _ (eq_ix2 (n0 := 8192) (n1 := 2816) (Cert.LastDownDwRefIdeal.Read.ridx_main_v2 (Cert.LastDownDwRefIdeal.Read.idx_main_v3 j) e)).symm

end Cert.LastDownDwIdeal.Value
end
-- ==== Proof.LastDownY.lean ====
module

public import proofs.«01_k».proof.Proof.Gen.LastDownYIdeal.Value
public import proofs.«01_k».proof.Proof.Gen.LastDownYRefIdeal.Run
public import proofs.«01_k».proof.Proof.Gen.LastDownYRefIdeal.Read
public import proofs.«01_k».proof.Proof.Dots
public import Idealize.ShloMosaic.Lib.Pipeline.ValueKit
public import Idealize.ShloMosaic.Lib.Pointwise

/-! The last product of the last layer's feed-forward part: two blocks of the hidden width are accumulated in the
    output's block. -/

@[expose] public section

set_option maxRecDepth 16384

noncomputable section

namespace Cert.LastDownYIdeal.Value

open Idealize.ShloMosaic Idealize.ShloMosaic.TcCoe Idealize.SL.Sem
open Idealize.ShloMosaic.Pipeline (Dat)
open Cert.LastDownYIdeal Cert.LastDownYIdeal.Gen
open Cert.Linear

/-- The place of each window's block at a grid point. -/
theorem idx0 : ∀ t : Fin cfg0.N, win0_0.index t = ![t.val / 2, t.val % 2] ∧ win0_1.index t = ![t.val % 2, 0]
    ∧ win0_2.index t = ![t.val / 2, 0] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val / 2 * 1024 + r.val, by have : t.val < 16 := t.isLt; omega⟩
/-- The place of the contracted axis that one of a grid point's blocks is. -/
def midOf (t : Fin cfg0.N) (e : Fin 1408) : Fin 2816 := ⟨t.val % 2 * 1408 + e.val, by omega⟩

/-- A grid point's block of the input. -/
theorem blk_a (c : Dev nD) (t : Fin cfg0.N) (r : Fin 1024) (e : Fin 1408) :
    iblk m c 0 t (ix2 r e) = V m c main_arg0 (ix2 (rowOf t r) (midOf t e)) := by
  have h0 := idx0 t
  blk_ext [iblk, h0, rowOf, midOf]

/-- A grid point's block of the weights. -/
theorem blk_w (c : Dev nD) (t : Fin cfg0.N) (e : Fin 1408) (d : Fin 1024) :
    iblk m c 1 t (ix2 e d) = V m c main_v0 (ix2 (midOf t e) d) := by
  have h0 := idx0 t
  blk_ext [iblk, h0, midOf]

/-- Where an entry of a grid point's block lies in the result. -/
theorem emb (t : Fin cfg0.N) (r d : Fin 1024) :
    ((cfg0.win 2).blk t).view.emb (ix2 r d) = ix2 (rowOf t r) d := by
  have h0 := idx0 t
  blk_ext [h0, rowOf]

/-- The product of one block of the hidden width. -/
def part (c : Dev nD) (t : Fin cfg0.N) : Vec Ideal S1024x1024 .f32 := fun y =>
  dotE (fun e : Fin 1408 => iblk m c 0 t (ix2 (y 0 : Fin 1024) e)) (fun e => iblk m c 1 t (ix2 e (y 1 : Fin 1024)))

/-- The product of two blocks, entry by entry. -/
theorem pay (a : Vec Ideal S1024x1408 .f32) (b : Vec Ideal S1408x1024 .bf16) (r d : Fin 1024) :
    k0_pay1 (F := Ideal) a b (ix2 r d) = dotE (fun e : Fin 1408 => a (ix2 r e)) (fun e => b (ix2 e d)) := by
  unfold dotE
  pointwise [k0_pay1]

/-- The same at any index. -/
theorem pay_at (a : Vec Ideal S1024x1408 .f32) (b : Vec Ideal S1408x1024 .bf16) (y : S1024x1024.Idx) :
    k0_pay1 (F := Ideal) a b y = dotE (fun e : Fin 1408 => a (ix2 (y 0 : Fin 1024) e)) (fun e => b (ix2 e (y 1 : Fin 1024))) :=
  (congrArg _ (eq_ix2 (n0 := 1024) (n1 := 1024) y)).trans (pay a b (y 0) (y 1))

/-- At the first point of a run the block is the point's product. -/
theorem first (c : Dev nD) (t : Fin cfg0.N) (hz : t.val % 2 = 0) : outsAt0 m c t.val t.isLt = part m c t := by
  rw [outsAt0_A m c t hz (by omega)]
  frame_out
  funext y
  exact pay_at _ _ y

/-- At every other point its product is added. -/
theorem next (c : Dev nD) (t : Fin cfg0.N) (hz : ¬t.val % 2 = 0) (y : S1024x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The product. -/
def arr (c : Dev nD) : Vec Ideal S8192x1024 .f32 := fun j =>
  dotE (fun e : Fin 2816 => V m c main_arg0 (ix2 (j 0 : Fin 8192) e)) (fun e => V m c main_v0 (ix2 e (j 1 : Fin 1024)))

/-- At the last point of a run the block is that of the whole product. -/
theorem last (c : Dev nD) (t : Fin cfg0.N) (hr : t.val % 2 = 1) (r d : Fin 1024) :
    outsAt0 m c t.val t.isLt (ix2 r d) = arr m c (ix2 (rowOf t r) d) :=
  dotE_run (by norm_num) (fun n h => outsAt0 m c n h) (part m c) (first m c) (next m c) t hr (ix2 r d) midOf (fun _ _ => rfl) _ _ (fun _ => rfl) _ _
    (fun s e h => (blk_a m c s r e).trans (congrArg (fun i => V m c main_arg0 (ix2 i (midOf s e))) (Fin.ext (congrArg (· * 1024 + r.val) h))))
    (fun s e _ => blk_w m c s e d)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1024) := eq_ix2 (n0 := 1024) (n1 := 1024) y
  refine (congrArg _ hy).trans ((last m c t ((flush0_2 t).1 hf) (y 0) (y 1)).trans ?_)
  exact (congrArg (arr m c) ((congrArg _ hy).trans (emb t (y 0) (y 1)))).symm

/-- The weights' cast keeps their values. -/
theorem weights (c : Dev nD) (i : Fin 2816) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- What the kernel computes is the reference's product. -/
theorem equal (c : Dev nD) :
    arr m c = Cert.LastDownYRefIdeal.Read.val_main_v0 (F := Ideal) (m ((c : Thread nD τ).loc main_arg0)) (m ((c : Thread nD τ).loc main_arg1)) := by
  funext j
  refine Eq.trans ?_ (Cert.LastDownYRefIdeal.Read.val_main_v0_apply _ _ j).symm
  refine dotE_congr (fun e => ?_) (fun e => (weights m c e _).trans ?_)
  · rw [V_main_arg0]
    exact congrArg _ (eq_ix2 (n0 := 8192) (n1 := 2816) (Cert.LastDownYRefIdeal.Read.lidx_main_v0 j e)).symm
  · exact congrArg _ (eq_ix2 (n0 := 2816) (n1 := 1024) (Cert.LastDownYRefIdeal.Read.ridx_main_v0 j e)).symm

end Cert.LastDownYIdeal.Value
end
-- ==== Proof.OutDx.lean ====
module

public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Dots
public import Idealize.ShloMosaic.Lib.Pipeline.ValueKit
public import Idealize.ShloMosaic.Lib.Pointwise

/-! The gradient of the input of the product that ends the token mixer: each grid point computes one block of rows. -/

@[expose] public section

set_option maxRecDepth 16384

noncomputable section

namespace Cert.OutDxIdeal.Value

open Idealize.ShloMosaic Idealize.ShloMosaic.TcCoe Idealize.SL.Sem
open Idealize.ShloMosaic.Pipeline (Dat)
open Cert.OutDxIdeal Cert.OutDxIdeal.Gen
open Cert.Linear

/-- The place of each window's block at a grid point. -/
theorem idx0 : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val * 1408 + r.val, by have : t.val < 6 := t.isLt; omega⟩

/-- A grid point's block of the output's gradient. -/
theorem blk_dy (c : Dev nD) (t : Fin cfg0.N) (r : Fin 1408) (e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (j e : Fin 1024) :
    iblk m c 1 t (ix2 j e) = V m c main_v0 (ix2 j e) := by
  have h0 := idx0 t
  blk_ext [iblk, h0]

/-- Where an entry of a grid point's block lies in the result. -/
theorem emb (t : Fin cfg0.N) (r : Fin 1408) (j : Fin 1024) :
    ((cfg0.win 2).blk t).view.emb (ix2 r j) = ix2 (rowOf t r) j := by
  have h0 := idx0 t
  blk_ext [h0, rowOf]

/-- The product of two blocks, entry by entry. -/
theorem pay (a : Vec Ideal S1408x1024 .bf16) (b : Vec Ideal S1024x1024 .bf16) (r : Fin 1408) (j : Fin 1024) :
    k0_pay1 (F := Ideal) a b (ix2 r j) = dotE (fun e : Fin 1024 => a (ix2 r e)) (fun e => b (ix2 j e)) := by
  unfold dotE
  pointwise [k0_pay1]

/-- The gradient of the input: the output's gradient against the weights. -/
def arr (c : Dev nD) : Vec Ideal S8448x1024 .f32 := fun j =>
  dotE (fun e : Fin 1024 => V m c main_v1 (ix2 (j 0 : Fin 8448) e)) (fun e => V m c main_v0 (ix2 (j 1 : Fin 1024) e))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1408) (y 1 : Fin 1024) := eq_ix2 (n0 := 1408) (n1 := 1024) y
  refine (congrArg _ hy).trans ((pay _ _ (y 0) (y 1)).trans ?_)
  refine Eq.trans ?_ (congrArg (arr m c) ((congrArg _ hy).trans (emb t (y 0) (y 1)))).symm
  exact dotE_congr (fun e => blk_dy m c t _ e) (fun e => blk_w m c t _ e)

/-- The weights' cast keeps their values. -/
theorem weights (c : Dev nD) (i : Fin 1024) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8448) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.OutDxRefIdeal.Read.val_main_v2 (F := Ideal) (m ((c : Thread nD τ).loc main_arg0)) (m ((c : Thread nD τ).loc main_arg1)) := by
  funext j
  refine Eq.trans ?_ (Cert.OutDxRefIdeal.Read.val_main_v2_apply _ _ j).symm
  refine dotE_congr (fun e => (gradient m c _ e).trans ?_) (fun e => (weights m c _ e).trans ?_)
  · exact congrArg _ (eq_ix2 (n0 := 8448) (n1 := 1024) (Cert.OutDxRefIdeal.Read.lidx_main_v2 j e)).symm
  · exact congrArg _ (eq_ix2 (n0 := 1024) (n1 := 1024) (Cert.OutDxRefIdeal.Read.ridx_main_v2 j e)).symm

end Cert.OutDxIdeal.Value
end
-- ==== Proof.OutDw.lean ====
module

public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Dots
public import Idealize.ShloMosaic.Lib.Pipeline.ValueKit
public import Idealize.ShloMosaic.Lib.Pointwise

/-! The gradient of the weights of the product that ends the token mixer: three blocks of rows are accumulated in the
    output's one block. -/

@[expose] public section

set_option maxRecDepth 16384

noncomputable section

namespace Cert.OutDwIdeal.Value

open Idealize.ShloMosaic Idealize.ShloMosaic.TcCoe Idealize.SL.Sem
open Idealize.ShloMosaic.Pipeline (Dat)
open Cert.OutDwIdeal Cert.OutDwIdeal.Gen
open Cert.Linear

/-- The place of each window's block at a grid point. -/
theorem idx0 : ∀ t : Fin cfg0.N, win0_0.index t = ![t.val % 3, 0] ∧ win0_1.index t = ![t.val % 3, 0]
    ∧ win0_2.index t = ![0, 0] :=
  (by decide +kernel : ∀ t : Fin grid0.N, _)

variable (m : (ℓ : Loc nD τ sig) → Buf (Elt Ideal) ℓ)

/-- The row of the arguments that a row of a grid point's blocks is. -/
def midOf (t : Fin cfg0.N) (e : Fin 2816) : Fin 8448 := ⟨t.val % 3 * 2816 + e.val, by omega⟩

/-- A grid point's block of the input. -/
theorem blk_a (c : Dev nD) (t : Fin cfg0.N) (e : Fin 2816) (d : Fin 1024) :
    iblk m c 0 t (ix2 e d) = V m c main_v0 (ix2 (midOf t e) d) := by
  have h0 := idx0 t
  blk_ext [iblk, h0, midOf]

/-- A grid point's block of the output's gradient. -/
theorem blk_dy (c : Dev nD) (t : Fin cfg0.N) (e : Fin 2816) (d : Fin 1024) :
    iblk m c 1 t (ix2 e d) = V m c main_v1 (ix2 (midOf t e) d) := by
  have h0 := idx0 t
  blk_ext [iblk, h0, midOf]

/-- Where an entry of a grid point's block lies in the result. -/
theorem emb (t : Fin cfg0.N) (d j : Fin 1024) :
    ((cfg0.win 2).blk t).view.emb (ix2 d j) = ix2 d j := by
  have h0 := idx0 t
  blk_ext [h0]

/-- The product of one block of rows. -/
def part (c : Dev nD) (t : Fin cfg0.N) : Vec Ideal S1024x1024 .f32 := fun y =>
  dotE (fun e : Fin 2816 => iblk m c 0 t (ix2 e (y 0 : Fin 1024))) (fun e => iblk m c 1 t (ix2 e (y 1 : Fin 1024)))

/-- The product of two blocks, entry by entry. -/
theorem pay (a b : Vec Ideal S2816x1024 .bf16) (d j : Fin 1024) :
    k0_pay1 (F := Ideal) a b (ix2 d j) = dotE (fun e : Fin 2816 => a (ix2 e d)) (fun e => b (ix2 e j)) := by
  unfold dotE
  pointwise [k0_pay1]

/-- The same at any index. -/
theorem pay_at (a b : Vec Ideal S2816x1024 .bf16) (y : S1024x1024.Idx) :
    k0_pay1 (F := Ideal) a b y = dotE (fun e : Fin 2816 => a (ix2 e (y 0 : Fin 1024))) (fun e => b (ix2 e (y 1 : Fin 1024))) :=
  (congrArg _ (eq_ix2 (n0 := 1024) (n1 := 1024) y)).trans (pay a b (y 0) (y 1))

/-- At the first point the block is the point's product. -/
theorem first (c : Dev nD) (t : Fin cfg0.N) (hz : t.val % 3 = 0) : outsAt0 m c t.val t.isLt = part m c t := by
  have hb : t.val < 3 := t.isLt
  rw [outsAt0_A m c t hz (by omega)]
  frame_out
  funext y
  exact pay_at _ _ y

/-- At every other point its product is added. -/
theorem next (c : Dev nD) (t : Fin cfg0.N) (hz : ¬t.val % 3 = 0) (y : S1024x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S1024x1024 .f32 := fun j =>
  dotE (fun e : Fin 8448 => V m c main_v0 (ix2 e (j 0 : Fin 1024))) (fun e => V m c main_v1 (ix2 e (j 1 : Fin 1024)))

/-- At the last point the block is that of the whole product. -/
theorem last (c : Dev nD) (t : Fin cfg0.N) (hr : t.val % 3 = 2) (d j : Fin 1024) :
    outsAt0 m c t.val t.isLt (ix2 d j) = arr m c (ix2 d j) :=
  dotE_run (by norm_num) (fun n h => outsAt0 m c n h) (part m c) (first m c) (next m c) t hr (ix2 d j) midOf (fun _ _ => rfl) _ _ (fun _ => rfl) _ _
    (fun s e _ => blk_a m c s e d)
    (fun s e _ => blk_dy m c s e j)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1024) := eq_ix2 (n0 := 1024) (n1 := 1024) y
  refine (congrArg _ hy).trans ((last m c t ((flush0_2 t).1 hf) (y 0) (y 1)).trans ?_)
  exact (congrArg (arr m c) ((congrArg _ hy).trans (emb t (y 0) (y 1)))).symm

/-- The cast of the input keeps its values. -/
theorem input (c : Dev nD) (i : Fin 8448) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8448) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.OutDwRefIdeal.Read.val_main_v3 (F := Ideal) (m ((c : Thread nD τ).loc main_arg0)) (m ((c : Thread nD τ).loc main_arg1)) := by
  funext j
  refine Eq.trans ?_ ((Cert.OutDwRefIdeal.Read.val_main_v3_apply _ _ j).trans (Cert.OutDwRefIdeal.Read.val_main_v2_apply _ _ _)).symm
  refine (dotE_comm _ _).trans (dotE_congr (fun e => (gradient m c e _).trans ?_) (fun e => (input m c e _).trans ?_))
  · exact congrArg _ (eq_ix2 (n0 := 8448) (n1 := 1024) (Cert.OutDwRefIdeal.Read.lidx_main_v2 (Cert.OutDwRefIdeal.Read.idx_main_v3 j) e)).symm
  · exact congrArg _ (eq_ix2 (n0 := 8448) (n1 := 1024) (Cert.OutDwRefIdeal.Read.ridx_main_v2 (Cert.OutDwRefIdeal.Read.idx_main_v3 j) e)).symm

end Cert.OutDwIdeal.Value
end
-- ==== Proof.OutY.lean ====
module

public import proofs.«01_k».proof.Proof.Gen.OutYIdeal.Value
public import proofs.«01_k».proof.Proof.Gen.OutYRefIdeal.Run
public import proofs.«01_k».proof.Proof.Gen.OutYRefIdeal.Read
public import proofs.«01_k».proof.Proof.Dots
public import Idealize.ShloMosaic.Lib.Pipeline.ValueKit
public import Idealize.ShloMosaic.Lib.Pointwise

/-! The product that ends the token mixer: each grid point computes one block of rows. -/

@[expose] public section

set_option maxRecDepth 16384

noncomputable section

namespace Cert.OutYIdeal.Value

open Idealize.ShloMosaic Idealize.ShloMosaic.TcCoe Idealize.SL.Sem
open Idealize.ShloMosaic.Pipeline (Dat)
open Cert.OutYIdeal Cert.OutYIdeal.Gen
open Cert.Linear

/-- The place of each window's block at a grid point. -/
theorem idx0 : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The row of the result that a row of a grid point's block is. -/
def rowOf (t : Fin cfg0.N) (r : Fin 1408) : Fin 8448 := ⟨t.val * 1408 + r.val, by have : t.val < 6 := t.isLt; omega⟩

/-- A grid point's block of the input. -/
theorem blk_a (c : Dev nD) (t : Fin cfg0.N) (r : Fin 1408) (e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (e j : Fin 1024) :
    iblk m c 1 t (ix2 e j) = V m c main_v0 (ix2 e j) := by
  have h0 := idx0 t
  blk_ext [iblk, h0]

/-- Where an entry of a grid point's block lies in the result. -/
theorem emb (t : Fin cfg0.N) (r : Fin 1408) (j : Fin 1024) :
    ((cfg0.win 2).blk t).view.emb (ix2 r j) = ix2 (rowOf t r) j := by
  have h0 := idx0 t
  blk_ext [h0, rowOf]

/-- The product of two blocks, entry by entry. -/
theorem pay (a : Vec Ideal S1408x1024 .bf16) (b : Vec Ideal S1024x1024 .bf16) (r : Fin 1408) (j : Fin 1024) :
    k0_pay1 (F := Ideal) a b (ix2 r j) = dotE (fun e : Fin 1024 => a (ix2 r e)) (fun e => b (ix2 e j)) := by
  unfold dotE
  pointwise [k0_pay1]

/-- The product. -/
def arr (c : Dev nD) : Vec Ideal S8448x1024 .f32 := fun j =>
  dotE (fun e : Fin 1024 => V m c main_v1 (ix2 (j 0 : Fin 8448) e)) (fun e => V m c main_v0 (ix2 e (j 1 : Fin 1024)))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1408) (y 1 : Fin 1024) := eq_ix2 (n0 := 1408) (n1 := 1024) y
  refine (congrArg _ hy).trans ((pay _ _ (y 0) (y 1)).trans ?_)
  refine Eq.trans ?_ (congrArg (arr m c) ((congrArg _ hy).trans (emb t (y 0) (y 1)))).symm
  exact dotE_congr (fun e => blk_a m c t _ e) (fun e => blk_w m c t e _)

/-- The weights' cast keeps their values. -/
theorem weights (c : Dev nD) (i : Fin 1024) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- The cast of the input keeps its values. -/
theorem input (c : Dev nD) (i : Fin 8448) (j : Fin 1024) :
    V m c main_v1 (ix2 i j) = m ((c : Thread nD τ).loc main_arg0) (ix2 i j) := by
  show StableHlo.after hostOps0 (fun b => m (c, b)) (Proc.devRef .tc main_v1) _ = _
  unfold hostOps0
  after_results_simp
  pointwise

/-- What the kernel computes is the reference's product. -/
theorem equal (c : Dev nD) :
    arr m c = Cert.OutYRefIdeal.Read.val_main_v0 (F := Ideal) (m ((c : Thread nD τ).loc main_arg0)) (m ((c : Thread nD τ).loc main_arg1)) := by
  funext j
  refine Eq.trans ?_ (Cert.OutYRefIdeal.Read.val_main_v0_apply _ _ j).symm
  refine dotE_congr (fun e => (input m c _ e).trans ?_) (fun e => (weights m c e _).trans ?_)
  · exact congrArg _ (eq_ix2 (n0 := 8448) (n1 := 1024) (Cert.OutYRefIdeal.Read.lidx_main_v0 j e)).symm
  · exact congrArg _ (eq_ix2 (n0 := 1024) (n1 := 1024) (Cert.OutYRefIdeal.Read.ridx_main_v0 j e)).symm

end Cert.OutYIdeal.Value
end
-- ==== Proof.LastOutDx.lean ====
module

public import proofs.«01_k».proof.Proof.Gen.LastOutDxIdeal.Value
public import proofs.«01_k».proof.Proof.Gen.LastOutDxRefIdeal.Run
public import proofs.«01_k».proof.Proof.Gen.LastOutDxRefIdeal.Read
public import proofs.«01_k».proof.Proof.Dots
public import Idealize.ShloMosaic.Lib.Pipeline.ValueKit
public import Idealize.ShloMosaic.Lib.Pointwise

/-! The gradient of the input of the product that ends the token mixer in the last layer, where only the latent rows are
    left: each grid point computes one block of rows. -/

@[expose] public section

set_option maxRecDepth 16384

noncomputable section

namespace Cert.LastOutDxIdeal.Value

open Idealize.ShloMosaic Idealize.ShloMosaic.TcCoe Idealize.SL.Sem
open Idealize.ShloMosaic.Pipeline (Dat)
open Cert.LastOutDxIdeal Cert.LastOutDxIdeal.Gen
open Cert.Linear

/-- The place of each window's block at a grid point. -/
theorem idx0 : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val * 1024 + r.val, by have : t.val < 8 := t.isLt; omega⟩

/-- A grid point's block of the output's gradient. -/
theorem blk_dy (c : Dev nD) (t : Fin cfg0.N) (r : Fin 1024) (e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (j e : Fin 1024) :
    iblk m c 1 t (ix2 j e) = V m c main_v0 (ix2 j e) := by
  have h0 := idx0 t
  blk_ext [iblk, h0]

/-- Where an entry of a grid point's block lies in the result. -/
theorem emb (t : Fin cfg0.N) (r : Fin 1024) (j : Fin 1024) :
    ((cfg0.win 2).blk t).view.emb (ix2 r j) = ix2 (rowOf t r) j := by
  have h0 := idx0 t
  blk_ext [h0, rowOf]

/-- The product of two blocks, entry by entry. -/
theorem pay (a : Vec Ideal S1024x1024 .bf16) (b : Vec Ideal S1024x1024 .bf16) (r : Fin 1024) (j : Fin 1024) :
    k0_pay1 (F := Ideal) a b (ix2 r j) = dotE (fun e : Fin 1024 => a (ix2 r e)) (fun e => b (ix2 j e)) := by
  unfold dotE
  pointwise [k0_pay1]

/-- The gradient of the input: the output's gradient against the weights. -/
def arr (c : Dev nD) : Vec Ideal S8192x1024 .f32 := fun j =>
  dotE (fun e : Fin 1024 => V m c main_v1 (ix2 (j 0 : Fin 8192) e)) (fun e => V m c main_v0 (ix2 (j 1 : Fin 1024) e))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1024) (y 1 : Fin 1024) := eq_ix2 (n0 := 1024) (n1 := 1024) y
  refine (congrArg _ hy).trans ((pay _ _ (y 0) (y 1)).trans ?_)
  refine Eq.trans ?_ (congrArg (arr m c) ((congrArg _ hy).trans (emb t (y 0) (y 1)))).symm
  exact dotE_congr (fun e => blk_dy m c t _ e) (fun e => blk_w m c t _ e)

/-- The weights' cast keeps their values. -/
theorem weights (c : Dev nD) (i : Fin 1024) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8192) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.LastOutDxRefIdeal.Read.val_main_v2 (F := Ideal) (m ((c : Thread nD τ).loc main_arg0)) (m ((c : Thread nD τ).loc main_arg1)) := by
  funext j
  refine Eq.trans ?_ (Cert.LastOutDxRefIdeal.Read.val_main_v2_apply _ _ j).symm
  refine dotE_congr (fun e => (gradient m c _ e).trans ?_) (fun e => (weights m c _ e).trans ?_)
  · exact congrArg _ (eq_ix2 (n0 := 8192) (n1 := 1024) (Cert.LastOutDxRefIdeal.Read.lidx_main_v2 j e)).symm
  · exact congrArg _ (eq_ix2 (n0 := 1024) (n1 := 1024) (Cert.LastOutDxRefIdeal.Read.ridx_main_v2 j e)).symm

end Cert.LastOutDxIdeal.Value
end
-- ==== Proof.LastOutDw.lean ====
module

public import proofs.«01_k».proof.Proof.Gen.LastOutDwIdeal.Value
public import proofs.«01_k».proof.Proof.Gen.LastOutDwRefIdeal.Run
public import proofs.«01_k».proof.Proof.Gen.LastOutDwRefIdeal.Read
public import proofs.«01_k».proof.Proof.Dots
public import Idealize.ShloMosaic.Lib.Pipeline.ValueKit
public import Idealize.ShloMosaic.Lib.Pointwise

/-! The gradient of the weights of the product that ends the token mixer in the last layer, where only the latent rows are
    left: eight blocks of rows are accumulated in the output's one block. -/

@[expose] public section

set_option maxRecDepth 16384

noncomputable section

namespace Cert.LastOutDwIdeal.Value

open Idealize.ShloMosaic Idealize.ShloMosaic.TcCoe Idealize.SL.Sem
open Idealize.ShloMosaic.Pipeline (Dat)
open Cert.LastOutDwIdeal Cert.LastOutDwIdeal.Gen
open Cert.Linear

/-- The place of each window's block at a grid point. -/
theorem idx0 : ∀ t : Fin cfg0.N, win0_0.index t = ![t.val % 8, 0] ∧ win0_1.index t = ![t.val % 8, 0]
    ∧ win0_2.index t = ![0, 0] :=
  (by decide +kernel : ∀ t : Fin grid0.N, _)

variable (m : (ℓ : Loc nD τ sig) → Buf (Elt Ideal) ℓ)

/-- The row of the arguments that a row of a grid point's blocks is. -/
def midOf (t : Fin cfg0.N) (e : Fin 1024) : Fin 8192 := ⟨t.val % 8 * 1024 + e.val, by omega⟩

/-- A grid point's block of the input. -/
theorem blk_a (c : Dev nD) (t : Fin cfg0.N) (e : Fin 1024) (d : Fin 1024) :
    iblk m c 0 t (ix2 e d) = V m c main_v0 (ix2 (midOf t e) d) := by
  have h0 := idx0 t
  blk_ext [iblk, h0, midOf]

/-- A grid point's block of the output's gradient. -/
theorem blk_dy (c : Dev nD) (t : Fin cfg0.N) (e : Fin 1024) (d : Fin 1024) :
    iblk m c 1 t (ix2 e d) = V m c main_v1 (ix2 (midOf t e) d) := by
  have h0 := idx0 t
  blk_ext [iblk, h0, midOf]

/-- Where an entry of a grid point's block lies in the result. -/
theorem emb (t : Fin cfg0.N) (d j : Fin 1024) :
    ((cfg0.win 2).blk t).view.emb (ix2 d j) = ix2 d j := by
  have h0 := idx0 t
  blk_ext [h0]

/-- The product of one block of rows. -/
def part (c : Dev nD) (t : Fin cfg0.N) : Vec Ideal S1024x1024 .f32 := fun y =>
  dotE (fun e : Fin 1024 => iblk m c 0 t (ix2 e (y 0 : Fin 1024))) (fun e => iblk m c 1 t (ix2 e (y 1 : Fin 1024)))

/-- The product of two blocks, entry by entry. -/
theorem pay (a b : Vec Ideal S1024x1024 .bf16) (d j : Fin 1024) :
    k0_pay1 (F := Ideal) a b (ix2 d j) = dotE (fun e : Fin 1024 => a (ix2 e d)) (fun e => b (ix2 e j)) := by
  unfold dotE
  pointwise [k0_pay1]

/-- The same at any index. -/
theorem pay_at (a b : Vec Ideal S1024x1024 .bf16) (y : S1024x1024.Idx) :
    k0_pay1 (F := Ideal) a b y = dotE (fun e : Fin 1024 => a (ix2 e (y 0 : Fin 1024))) (fun e => b (ix2 e (y 1 : Fin 1024))) :=
  (congrArg _ (eq_ix2 (n0 := 1024) (n1 := 1024) y)).trans (pay a b (y 0) (y 1))

/-- At the first point the block is the point's product. -/
theorem first (c : Dev nD) (t : Fin cfg0.N) (hz : t.val % 8 = 0) : outsAt0 m c t.val t.isLt = part m c t := by
  have hb : t.val < 8 := t.isLt
  rw [outsAt0_A m c t hz (by omega)]
  frame_out
  funext y
  exact pay_at _ _ y

/-- At every other point its product is added. -/
theorem next (c : Dev nD) (t : Fin cfg0.N) (hz : ¬t.val % 8 = 0) (y : S1024x1024.Idx) :
    outsAt0 m c t.val t.isLt y = outsAt0 m c (t.val - 1) (Nat.lt_of_le_of_lt (Nat.sub_le _ _) t.isLt) y + part m c t y := by
  rw [outsAt0_B m c t hz (by omega)]
  frame_out
  show k0_pay2 (F := Ideal) _ _ _ y = _
  unfold k0_pay2
  show shapeCast _ _ _ y + k0_pay1 (F := Ideal) _ _ y = _
  rw [pay_at]
  pointwise
  rfl

/-- The gradient of the weights: the input against the output's gradient, summed over the rows. -/
def arr (c : Dev nD) : Vec Ideal S1024x1024 .f32 := fun j =>
  dotE (fun e : Fin 8192 => V m c main_v0 (ix2 e (j 0 : Fin 1024))) (fun e => V m c main_v1 (ix2 e (j 1 : Fin 1024)))

/-- At the last point the block is that of the whole product. -/
theorem last (c : Dev nD) (t : Fin cfg0.N) (hr : t.val % 8 = 7) (d j : Fin 1024) :
    outsAt0 m c t.val t.isLt (ix2 d j) = arr m c (ix2 d j) :=
  dotE_run (by norm_num) (fun n h => outsAt0 m c n h) (part m c) (first m c) (next m c) t hr (ix2 d j) midOf (fun _ _ => rfl) _ _ (fun _ => rfl) _ _
    (fun s e _ => blk_a m c s e d)
    (fun s e _ => blk_dy m c s e j)

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  have hy : y = ix2 (y 0 : Fin 1024) (y 1 : Fin 1024) := eq_ix2 (n0 := 1024) (n1 := 1024) y
  refine (congrArg _ hy).trans ((last m c t ((flush0_2 t).1 hf) (y 0) (y 1)).trans ?_)
  exact (congrArg (arr m c) ((congrArg _ hy).trans (emb t (y 0) (y 1)))).symm

/-- The cast of the input keeps its values. -/
theorem input (c : Dev nD) (i : Fin 8192) (j : Fin 1024) :
    V m c main_v0 (ix2 i j) = m ((c : Thread nD τ).loc main_arg0) (ix2 i j) := by
  show StableHlo.after hostOps0 (fun b => m (c, b)) (Proc.devRef .tc main_v0) _ = _
  unfold hostOps0
  after_results_simp
  pointwise

/-- The cast of the output's gradient keeps its values. -/
theorem gradient (c : Dev nD) (i : Fin 8192) (j : Fin 1024) :
    V m c main_v1 (ix2 i j) = m ((c : Thread nD τ).loc main_arg1) (ix2 i j) := by
  show StableHlo.after hostOps0 (fun b => m (c, b)) (Proc.devRef .tc main_v1) _ = _
  unfold hostOps0
  after_results_simp
  pointwise

/-- What the kernel computes is the reference's gradient. -/
theorem equal (c : Dev nD) :
    arr m c = Cert.LastOutDwRefIdeal.Read.val_main_v3 (F := Ideal) (m ((c : Thread nD τ).loc main_arg0)) (m ((c : Thread nD τ).loc main_arg1)) := by
  funext j
  refine Eq.trans ?_ ((Cert.LastOutDwRefIdeal.Read.val_main_v3_apply _ _ j).trans (Cert.LastOutDwRefIdeal.Read.val_main_v2_apply _ _ _)).symm
  refine (dotE_comm _ _).trans (dotE_congr (fun e => (gradient m c e _).trans ?_) (fun e => (input m c e _).trans ?_))
  · exact congrArg _ (eq_ix2 (n0 := 8192) (n1 := 1024) (Cert.LastOutDwRefIdeal.Read.lidx_main_v2 (Cert.LastOutDwRefIdeal.Read.idx_main_v3 j) e)).symm
  · exact congrArg _ (eq_ix2 (n0 := 8192) (n1 := 1024) (Cert.LastOutDwRefIdeal.Read.ridx_main_v2 (Cert.LastOutDwRefIdeal.Read.idx_main_v3 j) e)).symm

end Cert.LastOutDwIdeal.Value
end
-- ==== Proof.LastOutY.lean ====
module

public import proofs.«01_k».proof.Proof.Gen.LastOutYIdeal.Value
public import proofs.«01_k».proof.Proof.Gen.LastOutYRefIdeal.Run
public import proofs.«01_k».proof.Proof.Gen.LastOutYRefIdeal.Read
public import proofs.«01_k».proof.Proof.Dots
public import Idealize.ShloMosaic.Lib.Pipeline.ValueKit
public import Idealize.ShloMosaic.Lib.Pointwise

/-! The product that ends the token mixer in the last layer, where only the latent rows are left: each grid point computes
    one block of rows. -/

@[expose] public section

set_option maxRecDepth 16384

noncomputable section

namespace Cert.LastOutYIdeal.Value

open Idealize.ShloMosaic Idealize.ShloMosaic.TcCoe Idealize.SL.Sem
open Idealize.ShloMosaic.Pipeline (Dat)
open Cert.LastOutYIdeal Cert.LastOutYIdeal.Gen
open Cert.Linear

/-- The place of each window's block at a grid point. -/
theorem idx0 : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The row of the result that a row of a grid point's block is. -/
def rowOf (t : Fin cfg0.N) (r : Fin 1024) : Fin 8192 := ⟨t.val * 1024 + r.val, by have : t.val < 8 := t.isLt; omega⟩

/-- A grid point's block of the input. -/
theorem blk_a (c : Dev nD) (t : Fin cfg0.N) (r : Fin 1024) (e : Fin 1024) :
    iblk m c 0 t (ix2 r e) = V m c main_v1 (ix2 (rowOf t r) e) := by
  have h0 := idx0 t
  blk_ext [iblk, h0, rowOf]

/-- A grid point's block of the weights. -/
theorem blk_w (c : Dev nD) (t : Fin cfg0.N) (e j : Fin 1024) :
    iblk m c 1 t (ix2 e j) = V m c main_v0 (ix2 e j) := by
  have h0 := idx0 t
  blk_ext [iblk, h0]

/-- Where an entry of a grid point's block lies in the result. -/
theorem emb (t : Fin cfg0.N) (r : Fin 1024) (j : Fin 1024) :
    ((cfg0.win 2).blk t).view.emb (ix2 r j) = ix2 (rowOf t r) j := by
  have h0 := idx0 t
  blk_ext [h0, rowOf]

/-- The product of two blocks, entry by entry. -/
theorem pay (a : Vec Ideal S1024x1024 .bf16) (b : Vec Ideal S1024x1024 .bf16) (r : Fin 1024) (j : Fin 1024) :
    k0_pay1 (F := Ideal) a b (ix2 r j) = dotE (fun e : Fin 1024 => a (ix2 r e)) (fun e => b (ix2 e j)) := by
  unfold dotE
  pointwise [k0_pay1]

/-- The product. -/
def arr (c : Dev nD) : Vec Ideal S8192x1024 .f32 := fun j =>
  dotE (fun e : Fin 1024 => V m c main_v1 (ix2 (j 0 : Fin 8192) e)) (fun e => V m c main_v0 (ix2 e (j 1 : Fin 1024)))

/-- The array that the call leaves. -/
theorem array (c : Dev nD) : (dats m 0 c).arrAt 2 cfg0.N = arr m c := by
  refine (dats m 0 c).arrAt_eq_of_covers 2 _ (by decide +kernel) fun t hf y => ?_
  blk_simp
  rw [after0_2]
  frame_out
  have hy : y = ix2 (y 0 : Fin 1024) (y 1 : Fin 1024) := eq_ix2 (n0 := 1024) (n1 := 1024) y
  refine (congrArg _ hy).trans ((pay _ _ (y 0) (y 1)).trans ?_)
  refine Eq.trans ?_ (congrArg (arr m c) ((congrArg _ hy).trans (emb t (y 0) (y 1)))).symm
  exact dotE_congr (fun e => blk_a m c t _ e) (fun e => blk_w m c t e _)

/-- The weights' cast keeps their values. -/
theorem weights (c : Dev nD) (i : Fin 1024) (j : Fin 1024) :
    V m c main_v0 (ix2 i j) = m ((c : Thread nD τ).loc main_arg1) (ix2 i j) := by
  show StableHlo.after hostOps0 (fun b => m (c, b)) (Proc.devRef .tc main_v0) _ = _
  unfold hostOps0
  after_results_simp
  pointwise

/-- The cast of the input keeps its values. -/
theorem input (c : Dev nD) (i : Fin 8192) (j : Fin 1024) :
    V m c main_v1 (ix2 i j) = m ((c : Thread nD τ).loc main_arg0) (ix2 i j) := by
  show StableHlo.after hostOps0 (fun b => m (c, b)) (Proc.devRef .tc main_v1) _ = _
  unfold hostOps0
  after_results_simp
  pointwise

/-- What the kernel computes is the reference's product. -/
theorem equal (c : Dev nD) :
    arr m c = Cert.LastOutYRefIdeal.Read.val_main_v0 (F := Ideal) (m ((c : Thread nD τ).loc main_arg0)) (m ((c : Thread nD τ).loc main_arg1)) := by
  funext j
  refine Eq.trans ?_ (Cert.LastOutYRefIdeal.Read.val_main_v0_apply _ _ j).symm
  refine dotE_congr (fun e => (input m c _ e).trans ?_) (fun e => (weights m c e _).trans ?_)
  · exact congrArg _ (eq_ix2 (n0 := 8192) (n1 := 1024) (Cert.LastOutYRefIdeal.Read.lidx_main_v0 j e)).symm
  · exact congrArg _ (eq_ix2 (n0 := 1024) (n1 := 1024) (Cert.LastOutYRefIdeal.Read.ridx_main_v0 j e)).symm

end Cert.LastOutYIdeal.Value
end
-- ==== Proof.NormFwd.lean ====
module

public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.NormKer
public import Idealize.ShloMosaic.Lib.Pipeline.ValueKit
public import Idealize.ShloMosaic.Lib.Pointwise

/-! The adaptive norm itself: each grid point computes 256 rows, which are all of one segment. -/

@[expose] public section

set_option maxRecDepth 16384

noncomputable section

namespace Cert.NormFwdIdeal.Value

open Idealize.ShloMosaic Idealize.ShloMosaic.TcCoe Idealize.SL.Sem
open Idealize.ShloMosaic.Pipeline (Dat)
open Cert.NormFwdIdeal Cert.NormFwdIdeal.Gen Cert.Norm
open Cert.NormIdeal.Value (rowOf sg seg_rowOf)

/-- One entry of a normed row: the row, its gain, its scale and its shift. -/
def modRow (x : Fin 1024 → EReal) (g sc sh : EReal) (e : Fin 1024) : EReal := x e * iv x * (g * (1 + sc)) + sh

/-- One entry of a block. -/
theorem pay (x : Vec Ideal S256x1024 .f32) (g : Vec Ideal S1x1024 .f32) (sc sh : Vec Ideal S1x1x1024 .f32) (r : Fin 256) (e : Fin 1024) :
    k0_pay1 (F := Ideal) x g sc sh (ix2 r e) = modRow (fun e => x (ix2 r e)) (g (ix2 0 e)) (sc (ix3 0 0 e)) (sh (ix3 0 0 e)) e := by
  pointwise [k0_pay1]
  rfl

/-- The place of each window's block at a grid point. -/
theorem idx0 : ∀ t : Fin cfg0.N, win0_0.index t = ![t.val, 0] ∧ win0_1.index t = ![0, 0]
    ∧ win0_2.index t = ![min t.val 1, 0, 0] ∧ win0_3.index t = ![min t.val 1, 0, 0] ∧ win0_4.index t = ![t.val, 0] :=
  (by decide +kernel : ∀ t : Fin grid0.N, _)

variable (m : (ℓ : Loc nD τ sig) → Buf (Elt Ideal) ℓ)

theorem blk_x (c : Dev nD) (t : Fin cfg0.N) (r : Fin 256) (e : Fin 1024) :
    iblk m c 0 t (ix2 r e) = V m c main_arg0 (ix2 (rowOf t r) e) := by
  have h0 := idx0 t
  blk_ext [iblk, h0, rowOf]

theorem blk_g (c : Dev nD) (t : Fin cfg0.N) (r : Fin 8) (e : Fin 1024) : iblk m c 1 t (ix2 r e) = V m c main_v1 (ix2 r e) := by
  have h0 := idx0 t
  blk_ext [iblk, h0]

theorem blk_sc (c : Dev nD) (t : Fin cfg0.N) (r : Fin 8) (e : Fin 1024) : iblk m c 2 t (ix3 0 r e) = V m c main_v3 (ix3 (sg t) r e) := by
  have h0 := idx0 t
  blk_ext [iblk, h0, sg]

theorem blk_sh (c : Dev nD) (t : Fin cfg0.N) (r : Fin 8) (e : Fin 1024) : iblk m c 3 t (ix3 0 r e) = V m c main_v5 (ix3 (sg t) r e) := by
  have h0 := idx0 t
  blk_ext [iblk, h0, sg]

theorem emb (t : Fin cfg0.N) (r : Fin 256) (e : Fin 1024) : ((cfg0.win 4).blk t).view.emb (ix2 r e) = ix2 (rowOf t r) e := by
  have h0 := idx0 t
  blk_ext [h0, rowOf]

/-- The rows of gains are the gain. -/
theorem gains (c : Dev nD) (r : Fin 8) (e : Fin 1024) : V m c main_v1 (ix2 r e) = m ((c : Thread nD τ).loc main_arg1) (ix1 e) := by
  show StableHlo.after hostOps0 (fun b => m (c, b)) (Proc.devRef .tc main_v1) _ = _
  unfold hostOps0
  after_results_simp
  pointwise

/-- The rows of scales are the segments' scales. -/
theorem scales (c : Dev nD) (s : Fin 2) (r : Fin 8) (e : Fin 1024) : V m c main_v3 (ix3 s r e) = m ((c : Thread nD τ).loc main_arg2) (ix2 s e) := by
  show StableHlo.after hostOps0 (fun b => m (c, b)) (Proc.devRef .tc main_v3) _ = _
  unfold hostOps0
  after_results_simp
  pointwise

/-- The rows of shifts are the segments' shifts. -/
theorem shifts (c : Dev nD) (s : Fin 2) (r : Fin 8) (e : Fin 1024) : V m c main_v5 (ix3 s r e) = m ((c : Thread nD τ).loc main_arg3) (ix2 s e) := by
  show StableHlo.after hostOps0 (fun b => m (c, b)) (Proc.devRef .tc main_v5) _ = _
  unfold hostOps0
  after_results_simp
  pointwise

theorem ld_g (y : Vec Ideal S8x1024 .f32) (e : Fin 1024) : View.ld y r0_1 (ix2 0 e) = y (ix2 0 e) := by
  unfold View.ld
  refine congrArg y (funext fun a => Fin.ext ?_)
  fin_cases a <;> simp [Rect.emb, ix2]

theorem ld_seg (y : Vec Ideal S1x8x1024 .f32) (e : Fin 1024) : View.ld y r0_2 (ix3 0 0 e) = y (ix3 0 0 e) := by
  unfold View.ld
  refine congrArg y (funext fun a => Fin.ext ?_)
  fin_cases a <;> simp [Rect.emb, ix3]

/-- The normed rows, each with the scale and the shift of its segment. -/
def arr (x0 : FVec Ideal S8448x1024 .f32) (x1 : FVec Ideal S1024 .f32) (x2 x3 : FVec Ideal S2x1024 .f32) : FVec Ideal S8448x1024 .f32 := fun j =>
  modRow (fun e => x0 (ix2 (j 0 : Fin 8448) e)) (x1 (ix1 (j 1 : Fin 1024))) (x2 (ix2 (seg (j 0 : Fin 8448)) (j 1 : Fin 1024)))
    (x3 (ix2 (seg (j 0 : Fin 8448)) (j 1 : Fin 1024))) (j 1 : Fin 1024)

/-- One entry of the block at a grid point. -/
theorem point (c : Dev nD) (t : Fin cfg0.N) (r : Fin 256) (e : Fin 1024) :
    k0_pay1 (F := Ideal) (iblk m c 0 t) (View.ld (iblk m c 1 t) r0_1) (View.ld (iblk m c 2 t) r0_2) (View.ld (iblk m c 3 t) r0_2) (ix2 r e)
      = arr (m ((c : Thread nD τ).loc main_arg0)) (m ((c : Thread nD τ).loc main_arg1)) (m ((c : Thread nD τ).loc main_arg2))
          (m ((c : Thread nD τ).loc main_arg3)) (ix2 (rowOf t r) e) := by
  refine (pay _ _ _ _ r e).trans ?_
  show _ = modRow (fun e => m ((c : Thread nD τ).loc main_arg0) (ix2 (rowOf t r) e)) (m ((c : Thread nD τ).loc main_arg1) (ix1 e))
    (m ((c : Thread nD τ).loc main_arg2) (ix2 (seg (rowOf t r)) e)) (m ((c : Thread nD τ).loc main_arg3) (ix2 (seg (rowOf t r)) e)) e
  congr 1
  · exact funext fun e => (blk_x m c t r e).trans (congrFun (V_main_arg0 m c) _)
  · exact (ld_g _ e).trans ((blk_g m c t 0 e).trans (gains m c 0 e))
  · exact (ld_seg _ e).trans ((blk_sc m c t 0 e).trans ((scales m c (sg t) 0 e).trans
      (congrArg (fun s => m ((c : Thread nD τ).loc main_arg2) (ix2 s e)) (seg_rowOf t r).symm)))
  · exact (ld_seg _ e).trans ((blk_sh m c t 0 e).trans ((shifts m c (sg t) 0 e).trans
      (congrArg (fun s => m ((c : Thread nD τ).loc main_arg3) (ix2 s e)) (seg_rowOf t r).symm)))

/-- The array that the call leaves. -/
theorem array (c : Dev nD) : (dats m 0 c).arrAt 4 cfg0.N = arr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : y = ix2 (y 0 : Fin 256) (y 1 : Fin 1024) := eq_ix2 (n0 := 256) (n1 := 1024) y
  refine (congrArg _ hy).trans ((point m c t (y 0) (y 1)).trans ?_)
  exact (congrArg (arr _ _ _ _) ((congrArg _ hy).trans (emb t (y 0) (y 1)))).symm

end Cert.NormFwdIdeal.Value

namespace Cert.NormFwdRefIdeal.Elem

open Idealize.ShloMosaic Idealize.ShloMosaic.TcCoe Idealize.SL.Sem
open Cert.NormFwdRefIdeal Cert.NormFwdRefIdeal.Gen Cert.NormFwdRefIdeal.Read Cert.Norm

variable (x0 : (⟨S8448x1024, .f32⟩ : BufTy).Contents (Elt Ideal)) (x1 : (⟨S1024, .f32⟩ : BufTy).Contents (Elt Ideal))
  (x2 x3 : (⟨S2x1024, .f32⟩ : BufTy).Contents (Elt Ideal))

/-- Whether a row belongs to the context. -/
theorem mask (r : Fin 8448) : val_main_v3 (F := Ideal) (ix2 r 0) = if r.val < 256 then 1#1 else 0#1 := by
  pointwise [val_main_v3, val_main_v2, val_main_v1, val_main_v0, val_main_c]
  show BitVec.ofBool ((BitVec.ofNat 32 r.val).slt 256#32) = _
  rw [slt_row]
  by_cases hr : r.val < 256 <;> simp [hr]

/-- The shift of a row's segment. -/
theorem r_v21 (r : Fin 8448) (e : Fin 1024) : val_main_v21 (F := Ideal) x3 (ix2 r e) = x3 (ix2 (seg r) e) := by
  pointwise [val_main_v21, val_main_call0_v0, val_main_call0_v1, val_main_call0_v2, val_main_v17, val_main_v18, val_main_v19, val_main_v20]
  rw [mask]
  unfold Scalar.select seg
  split_ifs <;> first | rfl | contradiction

/-- One plus the scale of a row's segment. -/
theorem r_v28 (r : Fin 8448) (e : Fin 1024) : val_main_v28 (F := Ideal) x2 (ix2 r e) = 1 + x2 (ix2 (seg r) e) := by
  pointwise [val_main_v28, val_main_v27, val_main_cst_2, val_main_v26, val_main_call1_v0, val_main_call1_v1, val_main_call1_v2, val_main_v22, val_main_v23, val_main_v24, val_main_v25]
  rw [mask]
  unfold Scalar.select seg
  split_ifs <;> first | rfl | contradiction

theorem r_v11 (r : Fin 8448) : val_main_v11 (F := Ideal) x0 (ix2 r 0) = iv (fun e => x0 (ix2 r e)) := by
  pointwise [val_main_v11, val_main_v10, val_main_v9, val_main_cst_1, val_main_v8, val_main_v7, val_main_cst_0, val_main_v6, val_main_v5, val_main_v4, val_main_cst]
  rfl

/-- One entry of the result: the gain is taken before the scale. -/
theorem r_v30 (r : Fin 8448) (e : Fin 1024) : val_main_v30 (F := Ideal) x0 x1 x2 x3 (ix2 r e)
    = x0 (ix2 r e) * iv (fun e => x0 (ix2 r e)) * x1 (ix1 e) * (1 + x2 (ix2 (seg r) e)) + x3 (ix2 (seg r) e) := by
  pointwise [val_main_v30, val_main_v29, val_main_v16, val_main_v15, val_main_v14, val_main_v13, val_main_v12]
  rw [r_v11, r_v21, r_v28]

/-- The kernel's rows are the reference's. -/
theorem equal : Cert.NormFwdIdeal.Value.arr x0 x1 x2 x3 = val_main_v30 (F := Ideal) x0 x1 x2 x3 := by
  funext j
  refine Eq.trans ?_ (congrArg (val_main_v30 (F := Ideal) x0 x1 x2 x3) (eq_ix2 (n0 := 8448) (n1 := 1024) j)).symm
  refine Eq.trans ?_ (r_v30 x0 x1 x2 x3 (j 0) (j 1)).symm
  exact congrArg (fun a : EReal => a + _) (mul_assoc _ _ _).symm

end Cert.NormFwdRefIdeal.Elem
end
-- ==== Proof.ResidFwd.lean ====
module

public import proofs.«01_k».proof.Proof.Gen.ResidFwdIdeal.Value
public import proofs.«01_k».proof.Proof.Gen.ResidFwdRefIdeal.Run
public import proofs.«01_k».proof.Proof.Gen.ResidFwdRefIdeal.Read
public import proofs.«01_k».proof.Proof.NormKer
public import Idealize.ShloMosaic.Lib.Pipeline.ValueKit
public import Idealize.ShloMosaic.Lib.Pointwise

/-! The norm of a residual branch: each grid point adds 256 rows of the branch, normed and gated, to the residual's rows,
    which are all of one segment. -/

@[expose] public section

set_option maxRecDepth 16384

noncomputable section

namespace Cert.ResidFwdIdeal.Value

open Idealize.ShloMosaic Idealize.ShloMosaic.TcCoe Idealize.SL.Sem
open Idealize.ShloMosaic.Pipeline (Dat)
open Cert.ResidFwdIdeal Cert.ResidFwdIdeal.Gen Cert.Norm
open Cert.NormIdeal.Value (rowOf sg seg_rowOf)

/-- One entry of a joined row: the residual's, and the branch's row, its gain and its gate. -/
def joinRow (x : EReal) (y : Fin 1024 → EReal) (g gt : EReal) (e : Fin 1024) : EReal := x + gt * (y e * iv y * g)

/-- One entry of a block. -/
theorem pay (y x : Vec Ideal S256x1024 .f32) (gt : Vec Ideal S1x1x1024 .f32) (g : Vec Ideal S1x1024 .f32) (r : Fin 256) (e : Fin 1024) :
    k0_pay1 (F := Ideal) y x gt g (ix2 r e) = joinRow (x (ix2 r e)) (fun e => y (ix2 r e)) (g (ix2 0 e)) (gt (ix3 0 0 e)) e := by
  pointwise [k0_pay1]
  rfl

/-- The place of each window's block at a grid point. -/
theorem idx0 : ∀ t : Fin cfg0.N, win0_0.index t = ![t.val, 0] ∧ win0_1.index t = ![t.val, 0]
    ∧ win0_2.index t = ![0, 0] ∧ win0_3.index t = ![min t.val 1, 0, 0] ∧ win0_4.index t = ![t.val, 0] :=
  (by decide +kernel : ∀ t : Fin grid0.N, _)

variable (m : (ℓ : Loc nD τ sig) → Buf (Elt Ideal) ℓ)

theorem blk_x (c : Dev nD) (t : Fin cfg0.N) (r : Fin 256) (e : Fin 1024) :
    iblk m c 0 t (ix2 r e) = V m c main_arg0 (ix2 (rowOf t r) e) := by
  have h0 := idx0 t
  blk_ext [iblk, h0, rowOf]

theorem blk_y (c : Dev nD) (t : Fin cfg0.N) (r : Fin 256) (e : Fin 1024) :
    iblk m c 1 t (ix2 r e) = V m c main_arg1 (ix2 (rowOf t r) e) := by
  have h0 := idx0 t
  blk_ext [iblk, h0, rowOf]

theorem blk_g (c : Dev nD) (t : Fin cfg0.N) (r : Fin 8) (e : Fin 1024) : iblk m c 2 t (ix2 r e) = V m c main_v1 (ix2 r e) := by
  have h0 := idx0 t
  blk_ext [iblk, h0]

theorem blk_gt (c : Dev nD) (t : Fin cfg0.N) (r : Fin 8) (e : Fin 1024) : iblk m c 3 t (ix3 0 r e) = V m c main_v3 (ix3 (sg t) r e) := by
  have h0 := idx0 t
  blk_ext [iblk, h0, sg]

theorem emb (t : Fin cfg0.N) (r : Fin 256) (e : Fin 1024) : ((cfg0.win 4).blk t).view.emb (ix2 r e) = ix2 (rowOf t r) e := by
  have h0 := idx0 t
  blk_ext [h0, rowOf]

/-- The rows of gains are the gain. -/
theorem gains (c : Dev nD) (r : Fin 8) (e : Fin 1024) : V m c main_v1 (ix2 r e) = m ((c : Thread nD τ).loc main_arg2) (ix1 e) := by
  show StableHlo.after hostOps0 (fun b => m (c, b)) (Proc.devRef .tc main_v1) _ = _
  unfold hostOps0
  after_results_simp
  pointwise

/-- The rows of gates are the segments' gates. -/
theorem gates (c : Dev nD) (s : Fin 2) (r : Fin 8) (e : Fin 1024) : V m c main_v3 (ix3 s r e) = m ((c : Thread nD τ).loc main_arg3) (ix2 s e) := by
  show StableHlo.after hostOps0 (fun b => m (c, b)) (Proc.devRef .tc main_v3) _ = _
  unfold hostOps0
  after_results_simp
  pointwise

theorem ld_g (y : Vec Ideal S8x1024 .f32) (e : Fin 1024) : View.ld y r0_2 (ix2 0 e) = y (ix2 0 e) := by
  unfold View.ld
  refine congrArg y (funext fun a => Fin.ext ?_)
  fin_cases a <;> simp [Rect.emb, ix2]

theorem ld_gt (y : Vec Ideal S1x8x1024 .f32) (e : Fin 1024) : View.ld y r0_1 (ix3 0 0 e) = y (ix3 0 0 e) := by
  unfold View.ld
  refine congrArg y (funext fun a => Fin.ext ?_)
  fin_cases a <;> simp [Rect.emb, ix3]

/-- The joined rows, each with the gate of its segment. -/
def arr (x0 x1 : FVec Ideal S8448x1024 .f32) (x2 : FVec Ideal S1024 .f32) (x3 : FVec Ideal S2x1024 .f32) : FVec Ideal S8448x1024 .f32 := fun j =>
  joinRow (x0 (ix2 (j 0 : Fin 8448) (j 1 : Fin 1024))) (fun e => x1 (ix2 (j 0 : Fin 8448) e)) (x2 (ix1 (j 1 : Fin 1024)))
    (x3 (ix2 (seg (j 0 : Fin 8448)) (j 1 : Fin 1024))) (j 1 : Fin 1024)

/-- One entry of the block at a grid point. -/
theorem point (c : Dev nD) (t : Fin cfg0.N) (r : Fin 256) (e : Fin 1024) :
    k0_pay1 (F := Ideal) (iblk m c 1 t) (iblk m c 0 t) (View.ld (iblk m c 3 t) r0_1) (View.ld (iblk m c 2 t) r0_2) (ix2 r e)
      = arr (m ((c : Thread nD τ).loc main_arg0)) (m ((c : Thread nD τ).loc main_arg1)) (m ((c : Thread nD τ).loc main_arg2))
          (m ((c : Thread nD τ).loc main_arg3)) (ix2 (rowOf t r) e) := by
  refine (pay _ _ _ _ r e).trans ?_
  show _ = joinRow (m ((c : Thread nD τ).loc main_arg0) (ix2 (rowOf t r) e)) (fun e => m ((c : Thread nD τ).loc main_arg1) (ix2 (rowOf t r) e))
    (m ((c : Thread nD τ).loc main_arg2) (ix1 e)) (m ((c : Thread nD τ).loc main_arg3) (ix2 (seg (rowOf t r)) e)) e
  congr 1
  · exact (blk_x m c t r e).trans (congrFun (V_main_arg0 m c) _)
  · exact funext fun e => (blk_y m c t r e).trans (congrFun (V_main_arg1 m c) _)
  · exact (ld_g _ e).trans ((blk_g m c t 0 e).trans (gains m c 0 e))
  · exact (ld_gt _ e).trans ((blk_gt m c t 0 e).trans ((gates m c (sg t) 0 e).trans
      (congrArg (fun s => m ((c : Thread nD τ).loc main_arg3) (ix2 s e)) (seg_rowOf t r).symm)))

/-- The array that the call leaves. -/
theorem array (c : Dev nD) : (dats m 0 c).arrAt 4 cfg0.N = arr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : y = ix2 (y 0 : Fin 256) (y 1 : Fin 1024) := eq_ix2 (n0 := 256) (n1 := 1024) y
  refine (congrArg _ hy).trans ((point m c t (y 0) (y 1)).trans ?_)
  exact (congrArg (arr _ _ _ _) ((congrArg _ hy).trans (emb t (y 0) (y 1)))).symm

end Cert.ResidFwdIdeal.Value

namespace Cert.ResidFwdRefIdeal.Elem

open Idealize.ShloMosaic Idealize.ShloMosaic.TcCoe Idealize.SL.Sem
open Cert.ResidFwdRefIdeal Cert.ResidFwdRefIdeal.Gen Cert.ResidFwdRefIdeal.Read Cert.Norm

variable (x0 x1 : (⟨S8448x1024, .f32⟩ : BufTy).Contents (Elt Ideal)) (x2 : (⟨S1024, .f32⟩ : BufTy).Contents (Elt Ideal))
  (x3 : (⟨S2x1024, .f32⟩ : BufTy).Contents (Elt Ideal))

/-- Whether a row belongs to the context. -/
theorem mask (r : Fin 8448) : val_main_v3 (F := Ideal) (ix2 r 0) = if r.val < 256 then 1#1 else 0#1 := by
  pointwise [val_main_v3, val_main_v2, val_main_v1, val_main_v0, val_main_c]
  show BitVec.ofBool ((BitVec.ofNat 32 r.val).slt 256#32) = _
  rw [slt_row]
  by_cases hr : r.val < 256 <;> simp [hr]

/-- The gate of a row's segment. -/
theorem r_v8 (r : Fin 8448) (e : Fin 1024) : val_main_v8 (F := Ideal) x3 (ix2 r e) = x3 (ix2 (seg r) e) := by
  pointwise [val_main_v8, val_main_call0_v0, val_main_call0_v1, val_main_call0_v2, val_main_v4, val_main_v5, val_main_v6, val_main_v7]
  rw [mask]
  unfold Scalar.select seg
  split_ifs <;> first | rfl | contradiction

theorem r_v16 (r : Fin 8448) : val_main_v16 (F := Ideal) x1 (ix2 r 0) = iv (fun e => x1 (ix2 r e)) := by
  pointwise [val_main_v16, val_main_v15, val_main_v14, val_main_cst_1, val_main_v13, val_main_v12, val_main_cst_0, val_main_v11, val_main_v10, val_main_v9, val_main_cst]
  rfl

/-- One entry of the result. -/
theorem r_v23 (r : Fin 8448) (e : Fin 1024) : val_main_v23 (F := Ideal) x0 x1 x2 x3 (ix2 r e)
    = x0 (ix2 r e) + x3 (ix2 (seg r) e) * (x1 (ix2 r e) * iv (fun e => x1 (ix2 r e)) * x2 (ix1 e)) := by
  pointwise [val_main_v23, val_main_v22, val_main_v21, val_main_v20, val_main_v19, val_main_v18, val_main_v17]
  rw [r_v16, r_v8]

/-- The kernel's rows are the reference's. -/
theorem equal : Cert.ResidFwdIdeal.Value.arr x0 x1 x2 x3 = val_main_v23 (F := Ideal) x0 x1 x2 x3 := by
  funext j
  refine Eq.trans ?_ (congrArg (val_main_v23 (F := Ideal) x0 x1 x2 x3) (eq_ix2 (n0 := 8448) (n1 := 1024) j)).symm
  exact (r_v23 x0 x1 x2 x3 (j 0) (j 1)).symm

end Cert.ResidFwdRefIdeal.Elem
end
-- ==== Proof.Resid.lean ====
module

public import proofs.«01_k».proof.Proof.Gen.ResidIdeal.Frame
public import proofs.«01_k».proof.Proof.NormRun
public import Idealize.ShloMosaic.Lib.Pipeline.ValueKit
public import Idealize.ShloMosaic.Lib.Pointwise
public import Idealize.ShloMosaic.Lib.Claim

/-! The run of the gradient of a residual branch's norm: each grid point computes 256 rows of the branch's gradient and
    their part of the column sums, which the operations after the call add to the gradients of the gain and the gates. -/

@[expose] public section

set_option maxRecDepth 16384

noncomputable section

namespace Cert.ResidIdeal.Value

open Idealize.ShloMosaic Idealize.ShloMosaic.TcCoe Idealize.SL.Sem
open Idealize.ShloMosaic.Pipeline (Dat)
open Cert.ResidIdeal Cert.ResidIdeal.Gen Cert.Norm
open Cert.NormIdeal.Value (rowOf sg seg_rowOf sum_rows sum_seg0 sum_seg1)

/-! ## One block -/

section Block
variable (y : Vec Ideal S256x1024 .f32) (g : Vec Ideal S1x1024 .f32) (gt : Vec Ideal S1x1x1024 .f32) (d : Vec Ideal S256x1024 .f32)

theorem pay_iv (r : Fin 256) : k0_pay4 (F := Ideal) y (ix2 r 0) = iv (fun e => y (ix2 r e)) := by
  pointwise [k0_pay4]
  rfl

theorem pay_yh (r : Fin 256) (e : Fin 1024) : k0_pay5 (F := Ideal) y (ix2 r e) = y (ix2 r e) * iv (fun e => y (ix2 r e)) := by
  pointwise [k0_pay5]
  rw [pay_iv]

theorem pay_g (e : Fin 1024) : k0_pay2 (F := Ideal) g (ix2 0 e) = g (ix2 0 e) := by
  pointwise [k0_pay2]

theorem pay_gt (e : Fin 1024) : k0_pay3 (F := Ideal) gt (ix2 0 e) = gt (ix3 0 0 e) := by
  pointwise [k0_pay3]

/-- The gradient of the rows of a block. -/
theorem pay_dy (r : Fin 256) (e : Fin 1024) : k0_pay6 (F := Ideal) y d g gt (ix2 r e)
    = gradMean (fun e => y (ix2 r e)) (fun e => d (ix2 r e) * (gt (ix3 0 0 e) * g (ix2 0 e))) e := by
  pointwise [k0_pay6]
  simp only [pay_iv, pay_yh, pay_g, pay_gt]
  rfl

theorem pay_p (r : Fin 256) (e : Fin 1024) : k0_pay7 (F := Ideal) y d (ix2 r e) = d (ix2 r e) * (y (ix2 r e) * iv (fun e => y (ix2 r e))) := by
  pointwise [k0_pay7]
  rw [pay_yh]

/-- The column sums of a block's rows for the gate. -/
theorem pay_gate (e : Fin 1024) : k0_pay8 (F := Ideal) y d g (ix2 0 e)
    = ∑ r : Fin 256, d (ix2 r e) * (y (ix2 r e) * iv (fun e => y (ix2 r e))) * g (ix2 0 e) := by
  pointwise [k0_pay8]
  simp only [pay_p, pay_g]

/-- The column sums of a block's rows for the gain. -/
theorem pay_gain (e : Fin 1024) : k0_pay9 (F := Ideal) y d gt (ix2 0 e)
    = ∑ r : Fin 256, d (ix2 r e) * (y (ix2 r e) * iv (fun e => y (ix2 r e))) * gt (ix3 0 0 e) := by
  pointwise [k0_pay9]
  simp only [pay_p, pay_gt]

/-- The two rows of sums that a grid point stores. -/
theorem pay_rows (a b : FVec Ideal S1x1024 .f32) (z : Ideal .f32) (e : Fin 1024) :
    k0_pay1 (F := Ideal) a b z (ix3 0 0 e) = a (ix2 0 e) ∧ k0_pay1 (F := Ideal) a b z (ix3 0 1 e) = b (ix2 0 e) := by
  constructor
  · pointwise [k0_pay1]
  · pointwise [k0_pay1]

end Block

/-! ## The grid -/

/-- The place of each window's block at a grid point. -/
theorem idx0 : ∀ t : Fin cfg0.N, win0_0.index t = ![t.val, 0] ∧ win0_1.index t = ![0, 0]
    ∧ win0_2.index t = ![min t.val 1, 0, 0] ∧ win0_3.index t = ![t.val, 0] ∧ win0_4.index t = ![t.val, 0] ∧ win0_5.index t = ![t.val, 0, 0] :=
  (by decide +kernel : ∀ t : Fin grid0.N, _)

variable (m : (ℓ : Loc nD τ sig) → Buf (Elt Ideal) ℓ) (ρ : Dev nD → PrngReg)

theorem emb4 (t : Fin cfg0.N) (r : Fin 256) (e : Fin 1024) : ((cfg0.win 4).blk t).view.emb (ix2 r e) = ix2 (rowOf t r) e := by
  have h0 := idx0 t
  blk_ext [h0, rowOf]

theorem emb5 (t : Fin cfg0.N) (k : Fin 8) (e : Fin 1024) : ((cfg0.win 5).blk t).view.emb (ix3 0 k e) = ix3 (n0 := 33) t k e := by
  have h0 := idx0 t
  blk_ext [h0]

/-- The rows of gains are the gain. -/
theorem gains (c : Dev nD) (r : Fin 8) (e : Fin 1024) : V m c main_v1 (ix2 r e) = m ((c : Thread nD τ).loc main_arg1) (ix1 e) := by
  show StableHlo.after hostOps0 (fun b => m (c, b)) (Proc.devRef .tc main_v1) _ = _
  unfold hostOps0
  after_results_simp
  pointwise

/-- The rows of gates are the segments' gates. -/
theorem gates (c : Dev nD) (s : Fin 2) (r : Fin 8) (e : Fin 1024) : V m c main_v3 (ix3 s r e) = m ((c : Thread nD τ).loc main_arg2) (ix2 s e) := by
  show StableHlo.after hostOps0 (fun b => m (c, b)) (Proc.devRef .tc main_v3) _ = _
  unfold hostOps0
  after_results_simp
  pointwise

/-- The branch's rows at a grid point. -/
theorem in_y (c : Dev nD) (t : Fin cfg0.N) (r : Fin 256) (e : Fin 1024) :
    iblk m c 0 t (ix2 r e) = m ((c : Thread nD τ).loc main_arg0) (ix2 (rowOf t r) e) := by
  refine Eq.trans ?_ (congrFun (V_main_arg0 m c) _)
  have h0 := idx0 t
  blk_ext [iblk, h0, rowOf]

/-- The result's gradient at a grid point. -/
theorem in_d (c : Dev nD) (t : Fin cfg0.N) (r : Fin 256) (e : Fin 1024) :
    iblk m c 3 t (ix2 r e) = m ((c : Thread nD τ).loc main_arg3) (ix2 (rowOf t r) e) := by
  refine Eq.trans ?_ (congrFun (V_main_arg3 m c) _)
  have h0 := idx0 t
  blk_ext [iblk, h0, rowOf]

/-- The gain at a grid point. -/
theorem in_g (c : Dev nD) (t : Fin cfg0.N) (e : Fin 1024) :
    View.ld (iblk m c 1 t) r0_1 (ix2 0 e) = m ((c : Thread nD τ).loc main_arg1) (ix1 e) := by
  refine Eq.trans ?_ (gains m c 0 e)
  refine Eq.trans (b := iblk m c 1 t (ix2 0 e)) ?_ ?_
  · unfold View.ld
    refine congrArg (iblk m c 1 t) (funext fun a => Fin.ext ?_)
    fin_cases a <;> simp [Rect.emb, ix2]
  · have h0 := idx0 t
    blk_ext [iblk, h0]

/-- The gate at a grid point is that of its rows' segment. -/
theorem in_gt (c : Dev nD) (t : Fin cfg0.N) (r : Fin 256) (e : Fin 1024) :
    View.ld (iblk m c 2 t) r0_2 (ix3 0 0 e) = m ((c : Thread nD τ).loc main_arg2) (ix2 (seg (rowOf t r)) e) := by
  refine Eq.trans ?_ ((gates m c (sg t) 0 e).trans (congrArg (fun s => m ((c : Thread nD τ).loc main_arg2) (ix2 s e)) (seg_rowOf t r).symm))
  refine Eq.trans (b := iblk m c 2 t (ix3 0 0 e)) ?_ ?_
  · unfold View.ld
    refine congrArg (iblk m c 2 t) (funext fun a => Fin.ext ?_)
    fin_cases a <;> simp [Rect.emb, ix3]
  · have h0 := idx0 t
    blk_ext [iblk, h0, sg]

/-! ## The branch's gradient -/

section Terms
variable (x0 : FVec Ideal S8448x1024 .f32) (x1 : FVec Ideal S1024 .f32) (x2 : FVec Ideal S2x1024 .f32) (x3 : FVec Ideal S8448x1024 .f32)

/-- The gradient of a row's normalised entries. -/
def dRow (r : Fin 8448) (e : Fin 1024) : EReal := x3 (ix2 r e) * (x2 (ix2 (seg r) e) * x1 (ix1 e))

/-- The gradient of the branch. -/
def dyArr : FVec Ideal S8448x1024 .f32 := fun j =>
  gradMean (fun e => x0 (ix2 (j 0 : Fin 8448) e)) (dRow x1 x2 x3 (j 0 : Fin 8448)) (j 1 : Fin 1024)

/-- A row's term of the gates' gradient. -/
def gtTerm (e : Fin 1024) (r : Fin 8448) : EReal := x3 (ix2 r e) * (x0 (ix2 r e) * iv (fun e => x0 (ix2 r e))) * x1 (ix1 e)

/-- A row's term of the gain's gradient. -/
def gnTerm (e : Fin 1024) (r : Fin 8448) : EReal := x3 (ix2 r e) * (x0 (ix2 r e) * iv (fun e => x0 (ix2 r e))) * x2 (ix2 (seg r) e)

/-- The gradient of the gain. -/
def dgArr : FVec Ideal S1024 .f32 := fun j => ∑ r, gnTerm x0 x2 x3 (j 0 : Fin 1024) r

/-- The gradient of the gates. -/
def dgtArr : FVec Ideal S2x1024 .f32 := fun j => segSum (gtTerm x0 x1 x3 (j 1 : Fin 1024)) (j 0 : Fin 2)

end Terms

/-- The branch's gradient at a grid point. -/
theorem point_dy (c : Dev nD) (t : Fin cfg0.N) (r : Fin 256) (e : Fin 1024) :
    k0_pay6 (F := Ideal) (iblk m c 0 t) (iblk m c 3 t) (View.ld (iblk m c 1 t) r0_1) (View.ld (iblk m c 2 t) r0_2) (ix2 r e)
      = dyArr (m ((c : Thread nD τ).loc main_arg0)) (m ((c : Thread nD τ).loc main_arg1)) (m ((c : Thread nD τ).loc main_arg2))
          (m ((c : Thread nD τ).loc main_arg3)) (ix2 (rowOf t r) e) := by
  refine (pay_dy _ _ _ _ r e).trans ?_
  show _ = gradMean (fun e => m ((c : Thread nD τ).loc main_arg0) (ix2 (rowOf t r) e)) (dRow _ _ _ (rowOf t r)) e
  congr 1
  · exact funext fun e => in_y m c t r e
  · funext e
    exact congrArg₂ (fun a b : EReal => a * b) (in_d m c t r e) (congrArg₂ (fun a b : EReal => a * b) (in_gt m c t r e) (in_g m c t e))

/-- The array of the branch's gradient. -/
theorem dy_array (c : Dev nD) : (dats m 0 c).arrAt 4 cfg0.N = dyArr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : y = ix2 (y 0 : Fin 256) (y 1 : Fin 1024) := eq_ix2 (n0 := 256) (n1 := 1024) y
  refine (congrArg _ hy).trans ((point_dy m c t (y 0) (y 1)).trans ?_)
  exact (congrArg (dyArr _ _ _ _) ((congrArg _ hy).trans (emb4 t (y 0) (y 1)))).symm

/-! ## The column sums -/

/-- The rows of sums that a grid point stores. -/
def part (c : Dev nD) (t : Fin cfg0.N) : Vec Ideal S1x8x1024 .f32 :=
  k0_pay1 (F := Ideal) (k0_pay8 (iblk m c 0 t) (iblk m c 3 t) (View.ld (iblk m c 1 t) r0_1))
    (k0_pay9 (iblk m c 0 t) (iblk m c 3 t) (View.ld (iblk m c 2 t) r0_2)) (Scalar.ofBits .f32 0x00000000#32)

/-- The array of those rows. -/
def parts (c : Dev nD) : Vec Ideal S33x8x1024 .f32 := fun j => part m c (j 0 : Fin 33) (ix3 0 (j 1 : Fin 8) (j 2 : Fin 1024))

theorem parts_array (c : Dev nD) : (dats m 0 c).arrAt 5 cfg0.N = parts m c := by
  refine (dats m 0 c).arrAt_eq_of_covers 5 _ (by decide +kernel) fun t hf y => ?_
  blk_simp
  rw [after0_5]
  frame_out
  have hy : y = ix3 (0 : Fin 1) (y 1 : Fin 8) (y 2 : Fin 1024) := (eq_ix3 (n0 := 1) (n1 := 8) (n2 := 1024) y).trans (by rw [Subsingleton.elim (α := Fin 1) (y 0) 0]; rfl)
  refine (congrArg (part m c t) hy).trans ?_
  exact (congrArg (parts m c) ((congrArg _ hy).trans (emb5 t (y 1) (y 2)))).symm

theorem parts_rows (c : Dev nD) (t : Fin 33) (e : Fin 1024) :
    parts m c (ix3 t 0 e) = ∑ r : Fin 256, gtTerm (m ((c : Thread nD τ).loc main_arg0)) (m ((c : Thread nD τ).loc main_arg1)) (m ((c : Thread nD τ).loc main_arg3)) e (rowOf t r)
    ∧ parts m c (ix3 t 1 e) = ∑ r : Fin 256, gnTerm (m ((c : Thread nD τ).loc main_arg0)) (m ((c : Thread nD τ).loc main_arg2)) (m ((c : Thread nD τ).loc main_arg3)) e (rowOf t r) := by
  have hp : ∀ r : Fin 256, HMul.hMul (α := EReal) (β := EReal) (iblk m c 3 t (ix2 r e)) (HMul.hMul (α := EReal) (β := EReal) (iblk m c 0 t (ix2 r e)) (iv fun e => iblk m c 0 t (ix2 r e)))
      = HMul.hMul (α := EReal) (β := EReal) (m ((c : Thread nD τ).loc main_arg3) (ix2 (rowOf t r) e))
        (HMul.hMul (α := EReal) (β := EReal) (m ((c : Thread nD τ).loc main_arg0) (ix2 (rowOf t r) e)) (iv fun e => m ((c : Thread nD τ).loc main_arg0) (ix2 (rowOf t r) e))) := fun r =>
    congrArg₂ (fun a b : EReal => a * b) (in_d m c t r e)
      (congrArg₂ (fun a b : EReal => a * b) (in_y m c t r e) (congrArg iv (funext (in_y m c t r))))
  obtain ⟨h0, h1⟩ := pay_rows (k0_pay8 (F := Ideal) (iblk m c 0 t) (iblk m c 3 t) (View.ld (iblk m c 1 t) r0_1))
    (k0_pay9 (iblk m c 0 t) (iblk m c 3 t) (View.ld (iblk m c 2 t) r0_2)) (Scalar.ofBits .f32 0x00000000#32) e
  refine ⟨h0.trans ((pay_gate _ _ _ e).trans ?_), h1.trans ((pay_gain _ _ _ e).trans ?_)⟩
  · exact Finset.sum_congr rfl fun r _ => congrArg₂ (fun a b : EReal => a * b) (hp r) (in_g m c t e)
  · exact Finset.sum_congr rfl fun r _ => congrArg₂ (fun a b : EReal => a * b) (hp r) (in_gt m c t r e)

/-! ## The operations after the call -/

section Tail
variable (W : Valuation τ sig (Elt Ideal))

theorem tail_gain (e : Fin 1024) : StableHlo.after hostOps1 W (Proc.devRef .tc main_v7) (ix1 e) = ∑ t : Fin 33, (show EReal from W (Proc.devRef .tc main_v4_1) (ix3 t 1 e)) := by
  unfold hostOps1
  after_results_simp
  pointwise

theorem tail_gate (s : Fin 2) (e : Fin 1024) : StableHlo.after hostOps1 W (Proc.devRef .tc main_v16) (ix2 s e)
    = if s = 0 then (show EReal from W (Proc.devRef .tc main_v4_1) (ix3 0 0 e)) else ∑ t : Fin 32, (show EReal from W (Proc.devRef .tc main_v4_1) (ix3 t.succ 0 e)) := by
  unfold hostOps1
  after_results_simp
  fin_cases s
  · pointwise
    exact Fin.sum_univ_one fun _ : Fin 1 => (show EReal from W (Proc.devRef .tc main_v4_1) (ix3 0 0 e))
  · pointwise
    exact congrArg (fun f : Fin 32 → EReal => ∑ t, f t)
      (funext fun t => congrArg (fun i : Fin 33 => W (Proc.devRef .tc main_v4_1) (ix3 i 0 e)) (Fin.ext (Nat.add_comm 1 t.val)))

end Tail

/-- What the operations after the call start from holds the array of sums. -/
theorem tail_parts (c : Dev nD) :
    Pipeline.withArrays (cfgs 0).spec c (V0 m c) (fun w => (dats m 0 c).arrAt w (cfgs 0).N) (Proc.devRef .tc main_v4_1) = parts m c :=
  (Pipeline.withArrays_arr spec0 (by decide) c (V0 m c) (fun w => (dats m 0 c).arrAt w (cfgs 0).N) 5).trans (parts_array m c)

theorem w_gain (c : Dev nD) : Pipeline.afterTail₀ cfgs (dats m) 0 (V0 m) [hostOps1] c main_v7
    = dgArr (m ((c : Thread nD τ).loc main_arg0)) (m ((c : Thread nD τ).loc main_arg2)) (m ((c : Thread nD τ).loc main_arg3)) := by
  funext j
  refine (congrArg _ (eq_ix1 (n0 := 1024) j)).trans ?_
  refine (tail_gain _ (j 0)).trans ?_
  rw [tail_parts]
  refine Eq.trans ?_ (sum_rows _)
  exact congrArg (fun f : Fin 33 → EReal => ∑ t, f t) (funext fun t => (parts_rows m c t (j 0)).2)

theorem w_gate (c : Dev nD) : Pipeline.afterTail₀ cfgs (dats m) 0 (V0 m) [hostOps1] c main_v16
    = dgtArr (m ((c : Thread nD τ).loc main_arg0)) (m ((c : Thread nD τ).loc main_arg1)) (m ((c : Thread nD τ).loc main_arg3)) := by
  funext j
  refine (congrArg _ (eq_ix2 (n0 := 2) (n1 := 1024) j)).trans ?_
  refine (tail_gate _ (j 0) (j 1)).trans ?_
  rw [tail_parts]
  show _ = segSum _ (j 0 : Fin 2)
  generalize (j 0 : Fin 2) = s
  fin_cases s
  · exact ((parts_rows m c 0 (j 1)).1).trans (sum_seg0 _).symm
  · exact (congrArg (fun f : Fin 32 → EReal => ∑ t, f t) (funext fun t => (parts_rows m c t.succ (j 1)).1)).trans (sum_seg1 _).symm

/-- The program ends with the three gradients and its arguments unchanged. -/
theorem run_value : θ_run defs (onTc (τ := τ) (main (F := Ideal))) ⟨m, fun _ => 0, ρ⟩ (fun r => ∀ c : Dev nD,
      r.2.mem ((c.tc : Thread nD τ).loc main_v4_0) = dyArr (m ((c : Thread nD τ).loc main_arg0)) (m ((c : Thread nD τ).loc main_arg1)) (m ((c : Thread nD τ).loc main_arg2)) (m ((c : Thread nD τ).loc main_arg3))
      ∧ r.2.mem ((c.tc : Thread nD τ).loc main_v7) = dgArr (m ((c : Thread nD τ).loc main_arg0)) (m ((c : Thread nD τ).loc main_arg2)) (m ((c : Thread nD τ).loc main_arg3))
      ∧ r.2.mem ((c.tc : Thread nD τ).loc main_v16) = dgtArr (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 4).trans (dy_array m c),
     ((h.1 c).2 main_v7 (Pipeline.mem_restRefs_of main_v7 (by decide) (by decide))).trans (w_gain m c),
     ((h.1 c).2 main_v16 (Pipeline.mem_restRefs_of main_v16 (by decide) (by decide))).trans (w_gate m c),
     h.2 c⟩) (θ_run_and (run_main m ρ) (unchanged m ρ))

end Cert.ResidIdeal.Value
end
-- ==== Proof.ResidRef.lean ====
module

public import proofs.«01_k».proof.Proof.Gen.ResidRefIdeal.Read
public import proofs.«01_k».proof.Proof.NormRef
public import proofs.«01_k».proof.Proof.Resid
public import Idealize.ShloMosaic.Lib.KernelVsHost
public import Idealize.ShloMosaic.Lib.Pointwise

/-! What the gradient of the residual norm's reference computes, and that the kernel computes the same, for any extended
    reals. -/

@[expose] public section

set_option maxRecDepth 16384

noncomputable section

namespace Cert.ResidRefIdeal.Elem

open Idealize.ShloMosaic Idealize.ShloMosaic.TcCoe Idealize.SL.Sem
open Cert.ResidRefIdeal Cert.ResidRefIdeal.Gen Cert.ResidRefIdeal.Read Cert.Norm
open Cert.NormRefIdeal.Elem (two_rows zero_bits masked)
open Cert.ResidIdeal.Value (dRow dyArr gtTerm gnTerm dgArr dgtArr)

variable (x0 : (⟨S8448x1024, .f32⟩ : BufTy).Contents (Elt Ideal)) (x1 : (⟨S1024, .f32⟩ : BufTy).Contents (Elt Ideal))
  (x2 : (⟨S2x1024, .f32⟩ : BufTy).Contents (Elt Ideal)) (x3 : (⟨S8448x1024, .f32⟩ : BufTy).Contents (Elt Ideal))

/-- Whether a row belongs to the context. -/
theorem mask (r : Fin 8448) (e : Fin 1024) : val_main_v9_1 (F := Ideal) (ix2 r e) = if r.val < 256 then 1#1 else 0#1 := by
  pointwise [val_main_v9_1, val_main_v4, val_main_v3, val_main_v2, val_main_v1, val_main_c]
  show BitVec.ofBool ((BitVec.ofNat 32 r.val).slt 256#32) = _
  rw [slt_row]
  by_cases hr : r.val < 256 <;> simp [hr]

/-- The gate of a row's segment. -/
theorem r_v9 (r : Fin 8448) (e : Fin 1024) : val_main_v9_0 (F := Ideal) x2 (ix2 r e) = x2 (ix2 (seg r) e) := by
  pointwise [val_main_v9_0, val_main_call0_v1, val_main_call0_v2, val_main_v5, val_main_v6, val_main_v7, val_main_v8]
  rw [mask]
  unfold Scalar.select seg
  split_ifs <;> first | rfl | contradiction

theorem r_v17 (r : Fin 8448) : val_main_v17 (F := Ideal) x0 (ix2 r 0) = iv (fun e => x0 (ix2 r e)) := by
  pointwise [val_main_v17, val_main_v16, val_main_v15, val_main_cst_2, val_main_v14, val_main_v13, val_main_cst_1, val_main_v12, val_main_v11, val_main_v10, val_main_cst_0]
  rfl

theorem r_v16 (r : Fin 8448) : val_main_v16 (F := Ideal) x0 (ix2 r 0) = ms (fun e => x0 (ix2 r e)) := by
  pointwise [val_main_v16, val_main_v15, val_main_cst_2, val_main_v14, val_main_v13, val_main_cst_1, val_main_v12, val_main_v11, val_main_v10, val_main_cst_0]
  rfl

theorem r_v22 (r : Fin 8448) (e : Fin 1024) : val_main_v22 (F := Ideal) x0 (ix2 r e) = x0 (ix2 r e) * iv (fun e => x0 (ix2 r e)) := by
  pointwise [val_main_v22, val_main_v21]
  rw [r_v17]

theorem r_v34 (r : Fin 8448) (e : Fin 1024) : val_main_v34 (F := Ideal) x1 x2 x3 (ix2 r e) = x2 (ix2 (seg r) e) * x3 (ix2 r e) * x1 (ix1 e) := by
  pointwise [val_main_v34, val_main_v33, val_main_v28, val_main_v23]
  rw [r_v9]

theorem r_v43 (r : Fin 8448) : val_main_v43 (F := Ideal) x0 x1 x2 x3 (ix2 r 0)
    = share (fun e => x0 (ix2 r e)) (fun e => x2 (ix2 (seg r) e) * x3 (ix2 r e) * x1 (ix1 e)) := by
  pointwise [val_main_v43, val_main_v42, val_main_cst_7, val_main_v41, val_main_v38, val_main_v37, val_main_v36, val_main_cst_6, val_main_v20, val_main_v19, val_main_cst_3, val_main_v18]
  simp only [r_v34, r_v17, r_v16]
  rfl

theorem r_v45 (r : Fin 8448) (e : Fin 1024) : val_main_v45 (F := Ideal) x0 x1 x2 x3 (ix2 r e) = val_main_v43 (F := Ideal) x0 x1 x2 x3 (ix2 r 0) := by
  unfold val_main_v45 val_main_v44
  generalize val_main_v43 x0 x1 x2 x3 = y
  pointwise [val_main_cst_8]
  exact Fin.sum_univ_one _

/-- The gradient of the branch. -/
theorem r_v49 (r : Fin 8448) (e : Fin 1024) : val_main_v49 (F := Ideal) x0 x1 x2 x3 (ix2 r e)
    = gradChain (fun e => x0 (ix2 r e)) (fun e => x2 (ix2 (seg r) e) * x3 (ix2 r e) * x1 (ix1 e)) e := by
  pointwise [val_main_v49, val_main_v48, val_main_v47, val_main_v46, val_main_v40, val_main_v39]
  rw [r_v45, r_v43, r_v34, r_v17]
  rfl

/-- The gradient of the gain. -/
theorem r_v35 (e : Fin 1024) : val_main_v35 (F := Ideal) x0 x2 x3 (ix1 e)
    = ∑ r : Fin 8448, x0 (ix2 r e) * iv (fun e => x0 (ix2 r e)) * (x2 (ix2 (seg r) e) * x3 (ix2 r e)) := by
  have h : val_main_v35 (F := Ideal) x0 x2 x3 (ix1 e) = val_main_v31 (F := Ideal) x0 x2 x3 (ix1 e) := by
    unfold val_main_v35 val_main_v32
    generalize val_main_v31 x0 x2 x3 = y
    pointwise [val_main_cst_5]
    exact Fin.sum_univ_one _
  rw [h]
  pointwise [val_main_v31, val_main_v30, val_main_cst_4, val_main_v28]
  simp only [r_v22, r_v9]

theorem r_v29 (r : Fin 8448) (e : Fin 1024) : val_main_v29 (F := Ideal) x0 x1 x3 (ix2 r e)
    = x3 (ix2 r e) * (x0 (ix2 r e) * iv (fun e => x0 (ix2 r e)) * x1 (ix1 e)) := by
  pointwise [val_main_v29, val_main_v25, val_main_v24, val_main_v23]
  rw [r_v22]

/-- The gradient of the gates. -/
theorem r_v55 (s : Fin 2) (e : Fin 1024) : val_main_v55 (F := Ideal) x0 x1 x3 (ix2 s e)
    = segSum (fun r => x3 (ix2 r e) * (x0 (ix2 r e) * iv (fun e => x0 (ix2 r e)) * x1 (ix1 e))) s := by
  have h0 : val_main_v53 (F := Ideal) x0 x1 x3 (ix2 0 e)
      = ∑ r : Fin 8448, Scalar.select (val_main_v9_1 (F := Ideal) (ix2 r e)) (val_main_v29 (F := Ideal) x0 x1 x3 (ix2 r e)) 0 := by
    pointwise [val_main_v53, val_main_v50_0, val_main_call1_v2, val_main_call1_v0, val_main_call1_cst, val_main_call1_cst_1]
  have h1 : val_main_v51 (F := Ideal) x0 x1 x3 (ix2 0 e)
      = ∑ r : Fin 8448, Scalar.select (val_main_v9_1 (F := Ideal) (ix2 r e)) 0 (val_main_v29 (F := Ideal) x0 x1 x3 (ix2 r e)) := by
    pointwise [val_main_v51, val_main_v50_1, val_main_call1_v1, val_main_call1_v0, val_main_call1_cst, val_main_call1_cst_0]
  refine (two_rows _ _ _ (fun i => zero_bits) s e).trans ?_
  rw [h0, h1]
  simp only [r_v29]
  exact masked _ (fun r => mask r e) _ s

/-! ## The kernel's gradients are the reference's -/

theorem dy_eq : dyArr x0 x1 x2 x3 = val_main_v49 (F := Ideal) x0 x1 x2 x3 := by
  funext j
  refine Eq.trans ?_ (congrArg (val_main_v49 (F := Ideal) x0 x1 x2 x3) (eq_ix2 (n0 := 8448) (n1 := 1024) j)).symm
  refine Eq.trans ?_ (r_v49 x0 x1 x2 x3 (j 0) (j 1)).symm
  refine (grad_eq _ _ _).trans (congrArg (fun d => gradChain _ d (j 1 : Fin 1024)) (funext fun e => ?_))
  unfold dRow
  rw [← mul_assoc, mul_comm (x3 _)]

theorem dg_eq : dgArr x0 x2 x3 = val_main_v35 (F := Ideal) x0 x2 x3 := by
  funext j
  refine Eq.trans ?_ (congrArg (val_main_v35 (F := Ideal) x0 x2 x3) (eq_ix1 (n0 := 1024) j)).symm
  refine Eq.trans ?_ (r_v35 x0 x2 x3 (j 0)).symm
  refine Finset.sum_congr rfl fun r _ => ?_
  unfold gnTerm
  rw [mul_comm (x3 _), mul_assoc, mul_comm (x3 _)]

theorem dgt_eq : dgtArr x0 x1 x3 = val_main_v55 (F := Ideal) x0 x1 x3 := by
  funext j
  refine Eq.trans ?_ (congrArg (val_main_v55 (F := Ideal) x0 x1 x3) (eq_ix2 (n0 := 2) (n1 := 1024) j)).symm
  refine Eq.trans ?_ (r_v55 x0 x1 x3 (j 0) (j 1)).symm
  refine congrArg (fun f => segSum f (j 0 : Fin 2)) (funext fun r => ?_)
  unfold gtTerm
  rw [mul_assoc]

end Cert.ResidRefIdeal.Elem
end
-- ==== Proof.MidRow.lean ====
module

public import Idealize.ShloMosaic.Lib.Pipeline.ValueKit
public import Idealize.ShloMosaic.Lib.KernelVsHost
public import Idealize.ShloMosaic.Lib.Pointwise

/-! The convolution of a column over the rows of two segments, the first of 256 rows and the second of 8192. -/

@[expose] public section

noncomputable section

namespace Cert.Mid

open Idealize.ShloMosaic Idealize.ShloMosaic.TcCoe Idealize.SL.Sem

/-- The entry of the row before, 0 at a segment's first row. -/
def above (f : Fin 8448 → EReal) (r : Fin 8448) : EReal := if r.val = 0 ∨ r.val = 256 then 0 else f ⟨r.val - 1, by omega⟩

/-- The entry of the row after, 0 at a segment's last row. -/
def below (f : Fin 8448 → EReal) (r : Fin 8448) : EReal := if h : r.val = 255 ∨ r.val = 8447 then 0 else f ⟨r.val + 1, by omega⟩

/-- The convolution of a column with three weights and an added one. -/
def conv (f : Fin 8448 → EReal) (w0 w1 w2 b : EReal) (r : Fin 8448) : EReal := above f r * w0 + f r * w1 + below f r * w2 + b

theorem conv_eq (f : Fin 8448 → EReal) (w0 w1 w2 b : EReal) (r : Fin 8448) (x y z : EReal) (hx : x = above f r) (hy : y = f r) (hz : z = below f r) :
    x * w0 + y * w1 + z * w2 + b = conv f w0 w1 w2 b r := by
  rw [hx, hy, hz]
  rfl

/-- One entry of the gated convolution. -/
def gate (a v : EReal) : EReal := a * Ideal.logistic a * v

end Cert.Mid
end
-- ==== Proof.MidFwd.lean ====
module

public import proofs.«01_k».proof.Proof.Gen.MidFwdIdeal.Value
public import proofs.«01_k».proof.Proof.MidRow
public import Idealize.ShloMosaic.Lib.Pipeline.ValueKit
public import Idealize.ShloMosaic.Lib.Pointwise
public import Idealize.ShloMosaic.Lib.WordCmp

/-! The convolution's middle: each grid point computes 1056 rows of 256 columns, from those rows and the eight before and after. -/

@[expose] public section

set_option maxRecDepth 16384

noncomputable section

namespace Cert.MidFwdIdeal.Value

open Idealize.ShloMosaic Idealize.ShloMosaic.TcCoe Idealize.SL.Sem
open Idealize.ShloMosaic.Pipeline (Dat)
open Cert.MidFwdIdeal Cert.MidFwdIdeal.Gen Cert.Mid

/-! ## One block -/

/-- A row of a block of rows. -/
def rowOf (i : Fin 8) (r : Fin 1056) : Fin 8448 := ⟨i.val * 1056 + r.val, by omega⟩

/-- The place of a block's row in the block with its halo. -/
abbrev inner (r : Fin 1056) : Fin 1072 := ⟨8 + r.val, by omega⟩

/-- The row that the masks compare. -/
theorem pay_row (i : grid0.Coords) (r : Fin 1056) (e : Fin 256) : (k0_pay1 i (ix2 (inner r) e)).toNat = (rowOf (i 1) r).val := by
  have hi : (i 1).val < 8 := (i 1).isLt
  have hr := r.isLt
  pointwise [k0_pay1]
  show (BitVec.ofNat 32 (8 + r.val) + (BitVec.ofNat 32 (i 1).val * 1056#32 - 8#32)).toNat = (i 1).val * 1056 + r.val
  simp only [BitVec.toNat_add, BitVec.toNat_sub, BitVec.toNat_mul, BitVec.toNat_ofNat]
  omega

/-- Whether a row is a given one of two. -/
theorem either (x : BitVec 32) (u v : Nat) (hu : u < 2 ^ 32) (hv : v < 2 ^ 32) :
    IntOp.ori (IntOp.cmpi CmpIPredicate.eq x (BitVec.ofNat 32 u)) (IntOp.cmpi CmpIPredicate.eq x (BitVec.ofNat 32 v))
      = if x.toNat = u ∨ x.toNat = v then 1#1 else 0#1 := by
  rw [WordCmp.cmpi_eq_eq_toNat, WordCmp.cmpi_eq_eq_toNat, BitVec.toNat_ofNat, BitVec.toNat_ofNat, Nat.mod_eq_of_lt hu, Nat.mod_eq_of_lt hv]
  by_cases h : x.toNat = u
  · rw [if_pos (Or.inl h), decide_eq_true h]
    cases decide (x.toNat = v) <;> rfl
  · by_cases h' : x.toNat = v
    · rw [if_pos (Or.inr h'), decide_eq_false h, decide_eq_true h']
      rfl
    · rw [if_neg (not_or.mpr ⟨h, h'⟩), decide_eq_false h, decide_eq_false h']
      rfl

theorem pay_first (i : grid0.Coords) (r : Fin 1056) (e : Fin 256) : k0_pay2 i (ix2 (inner r) e)
    = if (rowOf (i 1) r).val = 0 ∨ (rowOf (i 1) r).val = 256 then 1#1 else 0#1 := by
  pointwise [k0_pay2]
  rw [← pay_row i r e]
  exact either _ 0 256 (by decide) (by decide)

theorem pay_last (i : grid0.Coords) (r : Fin 1056) (e : Fin 256) : k0_pay3 i (ix2 (inner r) e)
    = if (rowOf (i 1) r).val = 255 ∨ (rowOf (i 1) r).val = 8447 then 1#1 else 0#1 := by
  pointwise [k0_pay3]
  rw [← pay_row i r e]
  exact either _ 255 8447 (by decide) (by decide)

/-- A block's column with its halo: eight rows before, the block, eight rows after. -/
def ext (p : Vec Ideal S8x256 .f32) (a : Vec Ideal S1056x256 .f32) (n : Vec Ideal S8x256 .f32) (e : Fin 256) (k : Nat) (hk : k < 1072) : EReal :=
  if h : k < 8 then p (ix2 ⟨k, h⟩ e) else if h' : k - 8 < 1056 then a (ix2 ⟨k - 8, h'⟩ e) else n (ix2 ⟨k - 8 - 1056, by omega⟩ e)

theorem ext_congr (p : Vec Ideal S8x256 .f32) (a : Vec Ideal S1056x256 .f32) (n : Vec Ideal S8x256 .f32) (e : Fin 256) {k k' : Nat} (h : k = k')
    (hk : k < 1072) (hk' : k' < 1072) : ext p a n e k hk = ext p a n e k' hk' := by
  subst h
  rfl

theorem ext_mid (p : Vec Ideal S8x256 .f32) (a : Vec Ideal S1056x256 .f32) (n : Vec Ideal S8x256 .f32) (e : Fin 256) (r : Fin 1056) :
    ext p a n e (inner r).val (inner r).isLt = a (ix2 r e) := by
  have hr := r.isLt
  unfold ext inner
  rw [dif_neg (by dsimp only; omega), dif_pos (by dsimp only; omega)]
  exact congrArg (fun k => a (ix2 k e)) (Fin.ext (by show 8 + r.val - 8 = r.val; omega))

theorem select_mul (c : BitVec 1) (x w : EReal) : Scalar.select c 0 x * w = Scalar.select c 0 (x * w) := by
  unfold Scalar.select
  split_ifs
  · exact zero_mul w
  · rfl

/-- A column's entry before a row of the block, 0 where the mask holds. -/
def up (i : grid0.Coords) (p : Vec Ideal S8x256 .f32) (a : Vec Ideal S1056x256 .f32) (n : Vec Ideal S8x256 .f32) (r : Fin 1056) (e : Fin 256) : EReal :=
  Scalar.select (k0_pay2 i (ix2 (inner r) e)) 0 (ext p a n e (7 + r.val) (by omega))

/-- A column's entry after a row of the block, 0 where the mask holds. -/
def down (i : grid0.Coords) (p : Vec Ideal S8x256 .f32) (a : Vec Ideal S1056x256 .f32) (n : Vec Ideal S8x256 .f32) (r : Fin 1056) (e : Fin 256) : EReal :=
  Scalar.select (k0_pay3 i (ix2 (inner r) e)) 0 (ext p a n e (9 + r.val) (by omega))

/-- The block's convolution, as the kernel adds it up. -/
def cv (i : grid0.Coords) (p : Vec Ideal S8x256 .f32) (a : Vec Ideal S1056x256 .f32) (n : Vec Ideal S8x256 .f32) (w0 w1 w2 b : EReal) (r : Fin 1056) (e : Fin 256) : EReal :=
  up i p a n r e * w0 + HMul.hMul (α := EReal) (β := EReal) (a (ix2 r e)) w1 + down i p a n r e * w2 + b

theorem pay_down (i : grid0.Coords) (p : Vec Ideal S8x256 .f32) (a : Vec Ideal S1056x256 .f32) (n : Vec Ideal S8x256 .f32) (r : Fin 1056) (e : Fin 256) :
    k0_pay5 (F := Ideal) i p a n (ix2 (inner r) e) = down i p a n r e := by
  have hr := r.isLt
  pointwise [k0_pay5, k0_pay4]
  unfold down
  rw [← ext_congr p a n e (show (8 + r.val + 1072 - 1071) % 1072 = 9 + r.val by omega) (by omega)]
  rfl

theorem pay_up (i : grid0.Coords) (p : Vec Ideal S8x256 .f32) (a : Vec Ideal S1056x256 .f32) (n : Vec Ideal S8x256 .f32) (w0 w1 : Vec Ideal S1x256 .f32)
    (r : Fin 1056) (e : Fin 256) : k0_pay6 (F := Ideal) i p a n w0 w1 (ix2 (inner r) e)
      = up i p a n r e * w0 (ix2 0 e) + HMul.hMul (α := EReal) (β := EReal) (a (ix2 r e)) (w1 (ix2 0 e)) := by
  have hr := r.isLt
  pointwise [k0_pay6, k0_pay4]
  unfold up
  rw [← ext_congr p a n e (show (8 + r.val + 1072 - 1) % 1072 = 7 + r.val by omega) (by omega), select_mul, ← ext_mid p a n e r]
  rfl

/-- One entry of a block: the gate of its two halves' convolutions. -/
theorem pay_out (i : grid0.Coords) (p : Vec Ideal S8x256 .f32) (a : Vec Ideal S1056x256 .f32) (n : Vec Ideal S8x256 .f32) (w0 w1 w2 b : Vec Ideal S1x256 .f32) (p' : Vec Ideal S8x256 .f32) (a' : Vec Ideal S1056x256 .f32) (n' : Vec Ideal S8x256 .f32)
    (w0' w1' w2' b' : Vec Ideal S1x256 .f32) (r : Fin 1056) (e : Fin 256) :
    k0_pay8 (F := Ideal) (k0_pay2 i) (k0_pay3 i) (k0_pay5 i p a n) (k0_pay6 i p a n w0 w1) (k0_pay7 w2) b p' a' n' w0' w1' w2' b' (ix2 r e)
      = gate (cv i p a n (w0 (ix2 0 e)) (w1 (ix2 0 e)) (w2 (ix2 0 e)) (b (ix2 0 e)) r e)
          (cv i p' a' n' (w0' (ix2 0 e)) (w1' (ix2 0 e)) (w2' (ix2 0 e)) (b' (ix2 0 e)) r e) := by
  have hr := r.isLt
  pointwise [k0_pay8, k0_pay7]
  rw [pay_down, pay_up]
  unfold gate cv up down
  simp only [select_mul]
  rw [← ext_congr p' a' n' e (show (8 + r.val + 1072 - 1071) % 1072 = 9 + r.val by omega) (by omega),
    ← ext_congr p' a' n' e (show (8 + r.val + 1072 - 1) % 1072 = 7 + r.val by omega) (by omega)]
  rfl

/-- A block's convolution is the column's, when the block and its halo are the column's rows. -/
theorem cv_eq (i : grid0.Coords) (k : Fin 8) (hk : (i 1 : Fin 8) = k) (f : Fin 8448 → EReal)
    (p : Vec Ideal S8x256 .f32) (a : Vec Ideal S1056x256 .f32) (n : Vec Ideal S8x256 .f32) (e : Fin 256)
    (ha : ∀ r, a (ix2 r e) = f (rowOf k r)) (hp : ∀ (h : 0 < k.val) h', p (ix2 7 e) = f ⟨k.val * 1056 - 1, h'⟩)
    (hn : ∀ (h : k.val < 7) h', n (ix2 0 e) = f ⟨k.val * 1056 + 1056, h'⟩) (w0 w1 w2 b : EReal) (r : Fin 1056) :
    cv i p a n w0 w1 w2 b r e = conv f w0 w1 w2 b (rowOf k r) := by
  subst hk
  have hi : (i 1).val < 8 := (i 1).isLt
  have hr := r.isLt
  have hu : up i p a n r e = above f (rowOf (i 1) r) := by
    unfold up above
    rw [pay_first]
    split_ifs with h
    · rfl
    · show ext p a n e (7 + r.val) (by omega) = _
      unfold ext
      split_ifs with h1 h2
      · have h0 : r.val = 0 := by omega
        have hi0 : 0 < (i 1).val := by
          by_contra hc
          exact h (Or.inl (by show (i 1).val * 1056 + r.val = 0; omega))
        refine Eq.trans (congrArg (fun k => p (ix2 k e)) (Fin.ext (by show 7 + r.val = 7; omega))) ((hp hi0 (by omega)).trans (congrArg f (Fin.ext ?_)))
        show (i 1).val * 1056 - 1 = (i 1).val * 1056 + r.val - 1
        omega
      · refine (ha _).trans (congrArg f (Fin.ext ?_))
        show (i 1).val * 1056 + (7 + r.val - 8) = (i 1).val * 1056 + r.val - 1
        omega
      · omega
  have hd : down i p a n r e = below f (rowOf (i 1) r) := by
    unfold down below
    rw [pay_last]
    split_ifs with h
    · rfl
    · show ext p a n e (9 + r.val) (by omega) = _
      unfold ext
      split_ifs with h1 h2
      · omega
      · refine (ha _).trans (congrArg f (Fin.ext ?_))
        show (i 1).val * 1056 + (9 + r.val - 8) = (i 1).val * 1056 + r.val + 1
        omega
      · have hi7 : (i 1).val < 7 := by
          by_contra hc
          exact h (Or.inr (by show (i 1).val * 1056 + r.val = 8447; omega))
        refine Eq.trans (congrArg (fun k => n (ix2 k e)) (Fin.ext (by show 9 + r.val - 8 - 1056 = 0; omega))) ((hn hi7 (by omega)).trans (congrArg f (Fin.ext ?_)))
        show (i 1).val * 1056 + 1056 = (i 1).val * 1056 + r.val + 1
        omega
  unfold cv conv
  rw [hu, hd, ha]

/-! ## The blocks of the arrays -/

/-- The place of each window's block at a grid point. -/
theorem idx0 : ∀ t : Fin cfg0.N, win0_0.index t = ![t.val % 8, t.val / 8] ∧ win0_1.index t = ![t.val % 8 * 132 - 1, t.val / 8]
    ∧ win0_2.index t = ![min ((t.val % 8 + 1) * 132) 1055, t.val / 8]
    ∧ win0_3.index t = ![t.val % 8, t.val / 8] ∧ win0_4.index t = ![t.val % 8 * 132 - 1, t.val / 8]
    ∧ win0_5.index t = ![min ((t.val % 8 + 1) * 132) 1055, t.val / 8]
    ∧ win0_6.index t = ![0, t.val / 8] ∧ win0_7.index t = ![0, 11 + t.val / 8] ∧ win0_8.index t = ![t.val % 8, t.val / 8] :=
  (by decide +kernel : ∀ t : Fin grid0.N, _)

/-- The row of blocks of a grid point. -/
def rt (t : Fin cfg0.N) : Fin 8 := ⟨t.val % 8, Nat.mod_lt _ (by decide)⟩

theorem coords_row : ∀ t : Fin cfg0.N, (grid0.coords t 1).val = t.val % 8 :=
  (by decide +kernel : ∀ t : Fin grid0.N, _)

theorem rt_coords (t : Fin cfg0.N) : (grid0.coords t 1 : Fin 8) = rt t := Fin.ext (coords_row t)

/-- A column of a block of columns. -/
def colOf (t : Fin cfg0.N) (e : Fin 256) : Fin 2816 := ⟨t.val / 8 * 256 + e.val, by have := lt_of_lt_of_eq t.isLt N_0; have := e.isLt; omega⟩

variable (m : (ℓ : Loc nD τ sig) → Buf (Elt Ideal) ℓ)

theorem blk_a (c : Dev nD) (t : Fin cfg0.N) (r : Fin 1056) (e : Fin 256) :
    iblk m c 0 t (ix2 r e) = V m c main_arg0 (ix2 (rowOf (rt t) r) (colOf t e))
      ∧ iblk m c 3 t (ix2 r e) = V m c main_arg1 (ix2 (rowOf (rt t) r) (colOf t e)) := by
  have h0 := idx0 t
  constructor <;> blk_ext [iblk, h0, rowOf, colOf, rt]

theorem blk_p (c : Dev nD) (t : Fin cfg0.N) (e : Fin 256) (h1 : 0 < t.val % 8) (h) :
    iblk m c 1 t (ix2 7 e) = V m c main_arg0 (ix2 ⟨t.val % 8 * 1056 - 1, h⟩ (colOf t e))
      ∧ iblk m c 4 t (ix2 7 e) = V m c main_arg1 (ix2 ⟨t.val % 8 * 1056 - 1, h⟩ (colOf t e)) := by
  have h0 := idx0 t
  constructor <;> blk_ext [iblk, h0, colOf]

theorem blk_n (c : Dev nD) (t : Fin cfg0.N) (e : Fin 256) (h1 : t.val % 8 < 7) (h) :
    iblk m c 2 t (ix2 0 e) = V m c main_arg0 (ix2 ⟨t.val % 8 * 1056 + 1056, h⟩ (colOf t e))
      ∧ iblk m c 5 t (ix2 0 e) = V m c main_arg1 (ix2 ⟨t.val % 8 * 1056 + 1056, h⟩ (colOf t e)) := by
  have h0 := idx0 t
  constructor <;> blk_ext [iblk, h0, colOf]

theorem blk_w (c : Dev nD) (t : Fin cfg0.N) (s : Fin 8) (e : Fin 256) :
    iblk m c 6 t (ix2 s e) = V m c main_v2 (ix2 s ⟨(colOf t e).val, by omega⟩)
      ∧ iblk m c 7 t (ix2 s e) = V m c main_v2 (ix2 s ⟨2816 + (colOf t e).val, by omega⟩) := by
  have h0 := idx0 t
  constructor <;> blk_ext [iblk, h0, colOf]

theorem emb (t : Fin cfg0.N) (r : Fin 1056) (e : Fin 256) :
    ((cfg0.win 8).blk t).view.emb (ix2 r e) = ix2 (rowOf (rt t) r) (colOf t e) := by
  have h0 := idx0 t
  blk_ext [h0, rowOf, colOf, rt]

/-- The first rows of taps are the three weights. -/
theorem taps (c : Dev nD) (s : Fin 3) (k : Fin 5632) :
    V m c main_v2 (ix2 (⟨s.val, by omega⟩ : Fin 8) k) = m ((c : Thread nD τ).loc main_arg2) (ix2 s k) := by
  show StableHlo.after hostOps0 (fun b => m (c, b)) (Proc.devRef .tc main_v2) _ = _
  unfold hostOps0
  after_results_simp
  pointwise

/-- The next row of taps is what is added. -/
theorem tap_b (c : Dev nD) (k : Fin 5632) : V m c main_v2 (ix2 (3 : Fin 8) k) = m ((c : Thread nD τ).loc main_arg3) (ix1 k) := by
  show StableHlo.after hostOps0 (fun b => m (c, b)) (Proc.devRef .tc main_v2) _ = _
  unfold hostOps0
  after_results_simp
  pointwise
  after_results_simp
  pointwise

theorem ld_tap (y : Vec Ideal S8x256 .f32) (e : Fin 256) : View.ld y r0_2 (ix2 0 e) = y (ix2 0 e) ∧ View.ld y r0_3 (ix2 0 e) = y (ix2 1 e)
    ∧ View.ld y r0_4 (ix2 0 e) = y (ix2 2 e) ∧ View.ld y r0_5 (ix2 0 e) = y (ix2 3 e) := by
  unfold View.ld
  refine ⟨?_, ?_, ?_, ?_⟩ <;> refine congrArg y (funext fun a => Fin.ext ?_) <;> fin_cases a <;> simp [Rect.emb, ix2]

/-- A column of one half, convolved with that half's weights. -/
def half (x : FVec Ideal S8448x2816 .f32) (x2 : FVec Ideal S3x5632 .f32) (x3 : FVec Ideal S5632 .f32) (q : Fin 2816) (k : Fin 5632) : Fin 8448 → EReal :=
  conv (fun r => x (ix2 r q)) (x2 (ix2 0 k)) (x2 (ix2 1 k)) (x2 (ix2 2 k)) (x3 (ix1 k))

/-- One entry of the gated convolution of the two halves. -/
def cell (x0 x1 : FVec Ideal S8448x2816 .f32) (x2 : FVec Ideal S3x5632 .f32) (x3 : FVec Ideal S5632 .f32) (r : Fin 8448) (q : Fin 2816) : EReal :=
  gate (half x0 x2 x3 q ⟨q.val, by omega⟩ r) (half x1 x2 x3 q ⟨2816 + q.val, by omega⟩ r)

/-- The gated convolution of the two halves. -/
def arr (x0 x1 : FVec Ideal S8448x2816 .f32) (x2 : FVec Ideal S3x5632 .f32) (x3 : FVec Ideal S5632 .f32) : FVec Ideal S8448x2816 .f32 :=
  fun j => cell x0 x1 x2 x3 (j 0) (j 1)

/-- The taps of a window of taps at one column. -/
theorem tap_at (c : Dev nD) (y : Vec Ideal S8x256 .f32) (k : Fin 5632) (e : Fin 256) (hy : ∀ s : Fin 8, y (ix2 s e) = V m c main_v2 (ix2 s k)) :
    View.ld y r0_2 (ix2 0 e) = m ((c : Thread nD τ).loc main_arg2) (ix2 0 k) ∧ View.ld y r0_3 (ix2 0 e) = m ((c : Thread nD τ).loc main_arg2) (ix2 1 k)
      ∧ View.ld y r0_4 (ix2 0 e) = m ((c : Thread nD τ).loc main_arg2) (ix2 2 k) ∧ View.ld y r0_5 (ix2 0 e) = m ((c : Thread nD τ).loc main_arg3) (ix1 k) :=
  have h := ld_tap y e
  ⟨h.1.trans ((hy 0).trans (taps m c 0 k)), h.2.1.trans ((hy 1).trans (taps m c 1 k)), h.2.2.1.trans ((hy 2).trans (taps m c 2 k)),
    h.2.2.2.trans ((hy 3).trans (tap_b m c k))⟩

/-- One entry of the block at a grid point. -/
theorem point (c : Dev nD) (t : Fin cfg0.N) (r : Fin 1056) (e : Fin 256) :
    k0_pay8 (F := Ideal) (k0_pay2 (grid0.coords t)) (k0_pay3 (grid0.coords t)) (k0_pay5 (grid0.coords t) (iblk m c 1 t) (iblk m c 0 t) (iblk m c 2 t))
        (k0_pay6 (grid0.coords t) (iblk m c 1 t) (iblk m c 0 t) (iblk m c 2 t) (View.ld (iblk m c 6 t) r0_2) (View.ld (iblk m c 6 t) r0_3))
        (k0_pay7 (View.ld (iblk m c 6 t) r0_4)) (View.ld (iblk m c 6 t) r0_5) (iblk m c 4 t) (iblk m c 3 t) (iblk m c 5 t)
        (View.ld (iblk m c 7 t) r0_2) (View.ld (iblk m c 7 t) r0_3) (View.ld (iblk m c 7 t) r0_4) (View.ld (iblk m c 7 t) r0_5) (ix2 r e)
      = arr (m ((c : Thread nD τ).loc main_arg0)) (m ((c : Thread nD τ).loc main_arg1)) (m ((c : Thread nD τ).loc main_arg2))
          (m ((c : Thread nD τ).loc main_arg3)) (ix2 (rowOf (rt t) r) (colOf t e)) := by
  refine (pay_out _ _ _ _ _ _ _ _ _ _ _ _ _ _ _ r e).trans ?_
  obtain ⟨a0, a1, a2, a3⟩ := tap_at m c (iblk m c 6 t) _ e fun s => (blk_w m c t s e).1
  obtain ⟨b0, b1, b2, b3⟩ := tap_at m c (iblk m c 7 t) _ e fun s => (blk_w m c t s e).2
  rw [a0, a1, a2, a3, b0, b1, b2, b3]
  rw [cv_eq (grid0.coords t) (rt t) (rt_coords t) (fun r => V m c main_arg0 (ix2 r (colOf t e))) (iblk m c 1 t) (iblk m c 0 t) (iblk m c 2 t) e
      (fun r => (blk_a m c t r e).1) (fun h h' => (blk_p m c t e h h').1) (fun h h' => (blk_n m c t e h h').1),
    cv_eq (grid0.coords t) (rt t) (rt_coords t) (fun r => V m c main_arg1 (ix2 r (colOf t e))) (iblk m c 4 t) (iblk m c 3 t) (iblk m c 5 t) e
      (fun r => (blk_a m c t r e).2) (fun h h' => (blk_p m c t e h h').2) (fun h h' => (blk_n m c t e h h').2), V_main_arg0, V_main_arg1]
  rfl

/-- The array that the call leaves. -/
theorem array (c : Dev nD) : (dats m 0 c).arrAt 8 cfg0.N = arr (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t hf y => ?_
  blk_simp
  rw [after0_8]
  frame_out
  have hy : y = ix2 (y 0 : Fin 1056) (y 1 : Fin 256) := eq_ix2 (n0 := 1056) (n1 := 256) y
  refine (congrArg _ hy).trans ((point m c t (y 0) (y 1)).trans ?_)
  exact (congrArg (arr _ _ _ _) ((congrArg _ hy).trans (emb t (y 0) (y 1)))).symm

end Cert.MidFwdIdeal.Value
end
-- ==== Proof.MidFwdRef.lean ====
module

public import proofs.«01_k».proof.Proof.Gen.MidFwdRefIdeal.Run
public import proofs.«01_k».proof.Proof.Gen.MidFwdRefIdeal.Read
public import proofs.«01_k».proof.Proof.MidFwd

/-! What the convolution's reference computes, element by element. -/

@[expose] public section

set_option maxRecDepth 16384

noncomputable section

namespace Cert.MidFwdRefIdeal.Elem

open Idealize.ShloMosaic Idealize.ShloMosaic.TcCoe Idealize.SL.Sem
open Cert.MidFwdRefIdeal Cert.MidFwdRefIdeal.Gen Cert.MidFwdRefIdeal.Read Cert.Mid

/-- A segment with one row of padding on each side: the padding at the first and the last row. -/
theorem padded {n : Nat} (x : (⟨3, ![1, n, 5632]⟩ : Shape).Idx → EReal) (z : S_.Idx → EReal) (hz : ∀ i, z i = 0)
    (h : Shape.Pads (⟨3, ![1, n, 5632]⟩ : Shape) ![0, 1, 0] ![0, 1, 0] ![0, 0, 0] ⟨3, ![1, n + 2, 5632]⟩) (hu : 0 < S_.numel)
    (p : Fin (n + 2)) (k : Fin 5632) :
    pad ⟨3, ![1, n + 2, 5632]⟩ ![0, 1, 0] ![0, 1, 0] ![0, 0, 0] x z h hu (ix3 0 p k)
      = if hp : 1 ≤ p.val ∧ p.val ≤ n then x (ix3 0 ⟨p.val - 1, by omega⟩ k) else 0 := by
  split_ifs with hp
  · refine pad_apply_of_inside _ _ _ x z h hu _ _ fun a => ?_
    fin_cases a
    · rfl
    · show p.val = 1 + (p.val - 1) * (0 + 1)
      omega
    · show k.val = 0 + k.val * (0 + 1)
      omega
  · refine (pad_apply_of_not_inside _ _ _ x z h hu _ (1 : Fin 3) ?_).trans (hz _)
    show ¬(1 ≤ p.val ∧ (p.val - 1) % (0 + 1) = 0 ∧ (p.val - 1) / (0 + 1) < n)
    omega

variable (x0 x1 : (⟨S8448x2816, .f32⟩ : BufTy).Contents (Elt Ideal)) (x2 : (⟨S3x5632, .f32⟩ : BufTy).Contents (Elt Ideal))
  (x3 : (⟨S5632, .f32⟩ : BufTy).Contents (Elt Ideal))

/-- A column of the two arrays side by side. -/
def col (k : Fin 5632) (r : Fin 8448) : EReal := val_main_v0 (F := Ideal) x0 x1 (ix2 r k)

theorem col_left (q : Fin 2816) : col x0 x1 ⟨q.val, by omega⟩ = fun r => x0 (ix2 r q) := by
  funext r
  unfold col
  pointwise [val_main_v0]

theorem col_right (q : Fin 2816) : col x0 x1 ⟨2816 + q.val, by omega⟩ = fun r => x1 (ix2 r q) := by
  funext r
  unfold col
  pointwise [val_main_v0]

theorem r_v2 (p : Fin 256) (k : Fin 5632) : val_main_v2 (F := Ideal) x0 x1 (ix3 0 p k) = col x0 x1 k ⟨p.val, by omega⟩ := by
  pointwise [val_main_v2, val_main_v1]
  rfl

theorem r_v31 (p : Fin 8192) (k : Fin 5632) : val_main_v31 (F := Ideal) x0 x1 (ix3 0 p k) = col x0 x1 k ⟨256 + p.val, by omega⟩ := by
  pointwise [val_main_v31, val_main_v1]
  rfl

theorem r_v3 (p : Fin 258) (k : Fin 5632) : val_main_v3 (F := Ideal) x0 x1 (ix3 0 p k)
    = if hp : 1 ≤ p.val ∧ p.val ≤ 256 then col x0 x1 k ⟨p.val - 1, by omega⟩ else 0 := by
  refine (padded (n := 256) _ _ (fun i => ?_) _ _ p k).trans ?_
  · pointwise [val_main_call0_v0, val_main_c]
    exact sitofp_zero (φ := .f32)
  · simp only [r_v2]

theorem r_v32 (p : Fin 8194) (k : Fin 5632) : val_main_v32 (F := Ideal) x0 x1 (ix3 0 p k)
    = if hp : 1 ≤ p.val ∧ p.val ≤ 8192 then col x0 x1 k ⟨256 + (p.val - 1), by omega⟩ else 0 := by
  refine (padded (n := 8192) _ _ (fun i => ?_) _ _ p k).trans ?_
  · pointwise [val_main_call2_v0, val_main_c_0]
    exact sitofp_zero (φ := .f32)
  · simp only [r_v31]

/-- The convolution on the context's rows. -/
theorem r_v26 (r : Fin 256) (k : Fin 5632) : val_main_v26 (F := Ideal) x0 x1 x2 x3 (ix3 0 r k)
    = conv (col x0 x1 k) (x2 (ix2 0 k)) (x2 (ix2 1 k)) (x2 (ix2 2 k)) (x3 (ix1 k)) ⟨r.val, by omega⟩ := by
  pointwise [val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5, val_main_v4]
  simp only [r_v3]
  have hr := r.isLt
  refine conv_eq _ _ _ _ _ _ _ _ _ ?_ ?_ ?_
  · unfold above
    dsimp only
    split_ifs <;> first | rfl | omega
  · rw [dif_pos (by omega)]
    exact congrArg _ (Fin.ext (by show 1 + r.val - 1 = r.val; omega))
  · unfold below
    dsimp only
    split_ifs <;> first | rfl | omega | exact congrArg _ (Fin.ext (by show 2 + r.val - 1 = r.val + 1; omega))

/-- The convolution on the rows after the context's. -/
theorem r_v55 (r : Fin 8192) (k : Fin 5632) : val_main_v55 (F := Ideal) x0 x1 x2 x3 (ix3 0 r k)
    = conv (col x0 x1 k) (x2 (ix2 0 k)) (x2 (ix2 1 k)) (x2 (ix2 2 k)) (x3 (ix1 k)) ⟨256 + r.val, by omega⟩ := by
  pointwise [val_main_v55, val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35, val_main_v34, val_main_v33]
  simp only [r_v32]
  have hr := r.isLt
  refine conv_eq _ _ _ _ _ _ _ _ _ ?_ ?_ ?_
  · unfold above
    dsimp only
    split_ifs <;> first | rfl | omega | exact congrArg _ (Fin.ext (by show 256 + (r.val - 1) = 256 + r.val - 1; omega))
  · rw [dif_pos (by omega)]
    exact congrArg _ (Fin.ext (by show 256 + (1 + r.val - 1) = 256 + r.val; omega))
  · unfold below
    dsimp only
    split_ifs <;> first | rfl | omega | exact congrArg _ (Fin.ext (by show 256 + (2 + r.val - 1) = 256 + r.val + 1; omega))

/-- One entry of a segment's result. -/
theorem r_v30 (r : Fin 256) (q : Fin 2816) : val_main_v30 (F := Ideal) x0 x1 x2 x3 (ix3 0 r q)
    = gate (val_main_v26 (F := Ideal) x0 x1 x2 x3 (ix3 0 r ⟨q.val, by omega⟩)) (val_main_v26 (F := Ideal) x0 x1 x2 x3 (ix3 0 r ⟨2816 + q.val, by omega⟩)) := by
  pointwise [val_main_v30, val_main_v29, val_main_v28, val_main_v27, val_main_call1_v5, val_main_call1_v4, val_main_call1_v3, val_main_call1_v2, val_main_call1_v1, val_main_call1_v0, val_main_call1_cst, val_main_call1_cst_0]
  rfl

theorem r_v59 (r : Fin 8192) (q : Fin 2816) : val_main_v59 (F := Ideal) x0 x1 x2 x3 (ix3 0 r q)
    = gate (val_main_v55 (F := Ideal) x0 x1 x2 x3 (ix3 0 r ⟨q.val, by omega⟩)) (val_main_v55 (F := Ideal) x0 x1 x2 x3 (ix3 0 r ⟨2816 + q.val, by omega⟩)) := by
  pointwise [val_main_v59, val_main_v58, val_main_v57, val_main_v56, val_main_call3_v5, val_main_call3_v4, val_main_call3_v3, val_main_call3_v2, val_main_call3_v1, val_main_call3_v0, val_main_call3_cst, val_main_call3_cst_0]
  rfl

theorem r_v61 (r : Fin 8448) (q : Fin 2816) : val_main_v61 (F := Ideal) x0 x1 x2 x3 (ix2 r q)
    = if h : r.val < 256 then val_main_v30 (F := Ideal) x0 x1 x2 x3 (ix3 0 ⟨r.val, h⟩ q) else val_main_v59 (F := Ideal) x0 x1 x2 x3 (ix3 0 ⟨r.val - 256, by omega⟩ q) := by
  pointwise [val_main_v61, val_main_v60]

/-- The convolution of one row, on either segment. -/
theorem out (r : Fin 8448) (q : Fin 2816) : val_main_v61 (F := Ideal) x0 x1 x2 x3 (ix2 r q)
    = Cert.MidFwdIdeal.Value.cell x0 x1 x2 x3 r q := by
  unfold Cert.MidFwdIdeal.Value.cell Cert.MidFwdIdeal.Value.half
  rw [r_v61, ← col_left x0 x1 q, ← col_right x0 x1 q]
  split_ifs with h
  · rw [r_v30, r_v26, r_v26]
  · rw [r_v59, r_v55, r_v55]
    have hr : (⟨256 + (r.val - 256), by omega⟩ : Fin 8448) = r := Fin.ext (by show 256 + (r.val - 256) = r.val; omega)
    rw [hr]

/-- The kernel's rows are the reference's. -/
theorem equal : Cert.MidFwdIdeal.Value.arr x0 x1 x2 x3 = val_main_v61 (F := Ideal) x0 x1 x2 x3 := by
  funext j
  refine Eq.trans ?_ (congrArg (val_main_v61 (F := Ideal) x0 x1 x2 x3) (eq_ix2 (n0 := 8448) (n1 := 2816) j)).symm
  exact (out x0 x1 x2 x3 (j 0) (j 1)).symm

end Cert.MidFwdRefIdeal.Elem
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.UpDx
public import proofs.«01_k».proof.Proof.Gen.UpDx.Frame
public import proofs.«01_k».proof.Proof.Gen.UpDxIdeal
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Frame
public import proofs.«01_k».proof.Proof.Gen.UpDwIdeal
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.UpY
public import proofs.«01_k».proof.Proof.Gen.UpY.Frame
public import proofs.«01_k».proof.Proof.Gen.UpYIdeal
public import proofs.«01_k».proof.Proof.Gen.UpYIdeal.Frame
public import proofs.«01_k».proof.Proof.Gen.UpYIdeal.Value
public import proofs.«01_k».proof.Proof.Gen.UpYRefIdeal
public import proofs.«01_k».proof.Proof.Gen.UpYRefIdeal.Run
public import proofs.«01_k».proof.Proof.Gen.UpYRefIdeal.Read
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.DownY
public import proofs.«01_k».proof.Proof.Gen.DownY.Frame
public import proofs.«01_k».proof.Proof.Gen.DownYIdeal
public import proofs.«01_k».proof.Proof.Gen.DownYIdeal.Frame
public import proofs.«01_k».proof.Proof.Gen.DownYIdeal.Value
public import proofs.«01_k».proof.Proof.Gen.DownYRefIdeal
public import proofs.«01_k».proof.Proof.Gen.DownYRefIdeal.Run
public import proofs.«01_k».proof.Proof.Gen.DownYRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.InY
public import proofs.«01_k».proof.Proof.Gen.InY.Frame
public import proofs.«01_k».proof.Proof.Gen.InYIdeal
public import proofs.«01_k».proof.Proof.Gen.InYIdeal.Frame
public import proofs.«01_k».proof.Proof.Gen.InYIdeal.Value
public import proofs.«01_k».proof.Proof.Gen.InYRefIdeal
public import proofs.«01_k».proof.Proof.Gen.InYRefIdeal.Run
public import proofs.«01_k».proof.Proof.Gen.InYRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.LastUpDx
public import proofs.«01_k».proof.Proof.Gen.LastUpDx.Frame
public import proofs.«01_k».proof.Proof.Gen.LastUpDxIdeal
public import proofs.«01_k».proof.Proof.Gen.LastUpDxIdeal.Frame
public import proofs.«01_k».proof.Proof.Gen.LastUpDxIdeal.Value
public import proofs.«01_k».proof.Proof.Gen.LastUpDxRefIdeal
public import proofs.«01_k».proof.Proof.Gen.LastUpDxRefIdeal.Run
public import proofs.«01_k».proof.Proof.Gen.LastUpDxRefIdeal.Read
public import proofs.«01_k».proof.Proof.Gen.LastUpDw
public import proofs.«01_k».proof.Proof.Gen.LastUpDw.Frame
public import proofs.«01_k».proof.Proof.Gen.LastUpDwIdeal
public import proofs.«01_k».proof.Proof.Gen.LastUpDwIdeal.Frame
public import proofs.«01_k».proof.Proof.Gen.LastUpDwIdeal.Value
public import proofs.«01_k».proof.Proof.Gen.LastUpDwRefIdeal
public import proofs.«01_k».proof.Proof.Gen.LastUpDwRefIdeal.Run
public import proofs.«01_k».proof.Proof.Gen.LastUpDwRefIdeal.Read
public import proofs.«01_k».proof.Proof.Gen.LastUpY
public import proofs.«01_k».proof.Proof.Gen.LastUpY.Frame
public import proofs.«01_k».proof.Proof.Gen.LastUpYIdeal
public import proofs.«01_k».proof.Proof.Gen.LastUpYIdeal.Frame
public import proofs.«01_k».proof.Proof.Gen.LastUpYIdeal.Value
public import proofs.«01_k».proof.Proof.Gen.LastUpYRefIdeal
public import proofs.«01_k».proof.Proof.Gen.LastUpYRefIdeal.Run
public import proofs.«01_k».proof.Proof.Gen.LastUpYRefIdeal.Read
public import proofs.«01_k».proof.Proof.Gen.LastDownDx
public import proofs.«01_k».proof.Proof.Gen.LastDownDx.Frame
public import proofs.«01_k».proof.Proof.Gen.LastDownDxIdeal
public import proofs.«01_k».proof.Proof.Gen.LastDownDxIdeal.Frame
public import proofs.«01_k».proof.Proof.Gen.LastDownDxIdeal.Value
public import proofs.«01_k».proof.Proof.Gen.LastDownDxRefIdeal
public import proofs.«01_k».proof.Proof.Gen.LastDownDxRefIdeal.Run
public import proofs.«01_k».proof.Proof.Gen.LastDownDxRefIdeal.Read
public import proofs.«01_k».proof.Proof.Gen.LastDownDw
public import proofs.«01_k».proof.Proof.Gen.LastDownDw.Frame
public import proofs.«01_k».proof.Proof.Gen.LastDownDwIdeal
public import proofs.«01_k».proof.Proof.Gen.LastDownDwIdeal.Frame
public import proofs.«01_k».proof.Proof.Gen.LastDownDwIdeal.Value
public import proofs.«01_k».proof.Proof.Gen.LastDownDwRefIdeal
public import proofs.«01_k».proof.Proof.Gen.LastDownDwRefIdeal.Run
public import proofs.«01_k».proof.Proof.Gen.LastDownDwRefIdeal.Read
public import proofs.«01_k».proof.Proof.Gen.LastDownY
public import proofs.«01_k».proof.Proof.Gen.LastDownY.Frame
public import proofs.«01_k».proof.Proof.Gen.LastDownYIdeal
public import proofs.«01_k».proof.Proof.Gen.LastDownYIdeal.Frame
public import proofs.«01_k».proof.Proof.Gen.LastDownYIdeal.Value
public import proofs.«01_k».proof.Proof.Gen.LastDownYRefIdeal
public import proofs.«01_k».proof.Proof.Gen.LastDownYRefIdeal.Run
public import proofs.«01_k».proof.Proof.Gen.LastDownYRefIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.OutY
public import proofs.«01_k».proof.Proof.Gen.OutY.Frame
public import proofs.«01_k».proof.Proof.Gen.OutYIdeal
public import proofs.«01_k».proof.Proof.Gen.OutYIdeal.Frame
public import proofs.«01_k».proof.Proof.Gen.OutYIdeal.Value
public import proofs.«01_k».proof.Proof.Gen.OutYRefIdeal
public import proofs.«01_k».proof.Proof.Gen.OutYRefIdeal.Run
public import proofs.«01_k».proof.Proof.Gen.OutYRefIdeal.Read
public import proofs.«01_k».proof.Proof.Gen.LastOutDx
public import proofs.«01_k».proof.Proof.Gen.LastOutDx.Frame
public import proofs.«01_k».proof.Proof.Gen.LastOutDxIdeal
public import proofs.«01_k».proof.Proof.Gen.LastOutDxIdeal.Frame
public import proofs.«01_k».proof.Proof.Gen.LastOutDxIdeal.Value
public import proofs.«01_k».proof.Proof.Gen.LastOutDxRefIdeal
public import proofs.«01_k».proof.Proof.Gen.LastOutDxRefIdeal.Run
public import proofs.«01_k».proof.Proof.Gen.LastOutDxRefIdeal.Read
public import proofs.«01_k».proof.Proof.Gen.LastOutDw
public import proofs.«01_k».proof.Proof.Gen.LastOutDw.Frame
public import proofs.«01_k».proof.Proof.Gen.LastOutDwIdeal
public import proofs.«01_k».proof.Proof.Gen.LastOutDwIdeal.Frame
public import proofs.«01_k».proof.Proof.Gen.LastOutDwIdeal.Value
public import proofs.«01_k».proof.Proof.Gen.LastOutDwRefIdeal
public import proofs.«01_k».proof.Proof.Gen.LastOutDwRefIdeal.Run
public import proofs.«01_k».proof.Proof.Gen.LastOutDwRefIdeal.Read
public import proofs.«01_k».proof.Proof.Gen.LastOutY
public import proofs.«01_k».proof.Proof.Gen.LastOutY.Frame
public import proofs.«01_k».proof.Proof.Gen.LastOutYIdeal
public import proofs.«01_k».proof.Proof.Gen.LastOutYIdeal.Frame
public import proofs.«01_k».proof.Proof.Gen.LastOutYIdeal.Value
public import proofs.«01_k».proof.Proof.Gen.LastOutYRefIdeal
public import proofs.«01_k».proof.Proof.Gen.LastOutYRefIdeal.Run
public import proofs.«01_k».proof.Proof.Gen.LastOutYRefIdeal.Read
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.Resid
public import proofs.«01_k».proof.Proof.Gen.Resid.Frame
public import proofs.«01_k».proof.Proof.Gen.ResidIdeal
public import proofs.«01_k».proof.Proof.Gen.ResidIdeal.Frame
public import proofs.«01_k».proof.Proof.Gen.ResidRefIdeal
public import proofs.«01_k».proof.Proof.Gen.ResidRefIdeal.Run
public import proofs.«01_k».proof.Proof.Gen.ResidRefIdeal.Read
public import proofs.«01_k».proof.Proof.Gen.MidFwd
public import proofs.«01_k».proof.Proof.Gen.MidFwd.Frame
public import proofs.«01_k».proof.Proof.Gen.MidFwdIdeal
public import proofs.«01_k».proof.Proof.Gen.MidFwdIdeal.Frame
public import proofs.«01_k».proof.Proof.Gen.MidFwdIdeal.Value
public import proofs.«01_k».proof.Proof.Gen.MidFwdRefIdeal
public import proofs.«01_k».proof.Proof.Gen.MidFwdRefIdeal.Run
public import proofs.«01_k».proof.Proof.Gen.MidFwdRefIdeal.Read
public import proofs.«01_k».proof.Proof.Gen.ResidFwd
public import proofs.«01_k».proof.Proof.Gen.ResidFwd.Frame
public import proofs.«01_k».proof.Proof.Gen.ResidFwdIdeal
public import proofs.«01_k».proof.Proof.Gen.ResidFwdIdeal.Frame
public import proofs.«01_k».proof.Proof.Gen.ResidFwdIdeal.Value
public import proofs.«01_k».proof.Proof.Gen.ResidFwdRefIdeal
public import proofs.«01_k».proof.Proof.Gen.ResidFwdRefIdeal.Run
public import proofs.«01_k».proof.Proof.Gen.ResidFwdRefIdeal.Read
public import proofs.«01_k».proof.Proof.Final
public import proofs.«01_k».proof.Proof.UpDx
public import proofs.«01_k».proof.Proof.UpDw
public import proofs.«01_k».proof.Proof.UpY
public import proofs.«01_k».proof.Proof.DownDx
public import proofs.«01_k».proof.Proof.DownDw
public import proofs.«01_k».proof.Proof.DownY
public import proofs.«01_k».proof.Proof.InDx
public import proofs.«01_k».proof.Proof.InDw
public import proofs.«01_k».proof.Proof.InY
public import proofs.«01_k».proof.Proof.NormEq
public import proofs.«01_k».proof.Proof.LastUpDx
public import proofs.«01_k».proof.Proof.LastUpDw
public import proofs.«01_k».proof.Proof.LastUpY
public import proofs.«01_k».proof.Proof.LastDownDx
public import proofs.«01_k».proof.Proof.LastDownDw
public import proofs.«01_k».proof.Proof.LastDownY
public import proofs.«01_k».proof.Proof.OutDx
public import proofs.«01_k».proof.Proof.OutDw
public import proofs.«01_k».proof.Proof.OutY
public import proofs.«01_k».proof.Proof.LastOutDx
public import proofs.«01_k».proof.Proof.LastOutDw
public import proofs.«01_k».proof.Proof.LastOutY
public import proofs.«01_k».proof.Proof.NormFwd
public import proofs.«01_k».proof.Proof.ResidFwd
public import proofs.«01_k».proof.Proof.ResidRef
public import proofs.«01_k».proof.Proof.MidFwd
public import proofs.«01_k».proof.Proof.MidFwdRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged; it declares no semaphore. -/
theorem frame_R : Cert.quiescent_ReferenceIdeal := fun m g _ =>
  (θ_run _ _ _).mono (fun r h => ⟨fun c => (h c).2.2.2, sem_eq_zero_of_no_sems (by decide) r.2⟩) (Cert.ReferenceIdeal.Value.run m g)

/-- The same under the precondition. -/
theorem frame_R_finite : Cert.quiescent_ReferenceIdeal_pre_finite := fun m g _ =>
  (θ_run _ _ _).mono (fun r h => ⟨fun c => (h c).2.2.2, sem_eq_zero_of_no_sems (by decide) r.2⟩) (Cert.ReferenceIdeal.Value.run m g)

/-- On finite arguments the three gradients of the kernel program are the reference's. -/
theorem value : Cert.algebraic_KernelIdeal_ReferenceIdeal_pre_finite := by
  intro m g m' g' hpre hagree
  refine ⟨fun c => Cert.KernelIdeal.Value.dqArr (Cert.KernelIdeal.Gen.V2 m g) c, fun c => Cert.KernelIdeal.Value.dkArr (Cert.KernelIdeal.Gen.V2 m g) c,
    fun c => Cert.KernelIdeal.Value.dvArr (Cert.KernelIdeal.Gen.V2 m g) c, Cert.KernelIdeal.Value.run_value m g, ?_⟩
  refine (θ_run _ _ _).mono (fun r h c => ?_) (Cert.ReferenceIdeal.Value.run m' g')
  obtain ⟨a0, a1, a2, a3⟩ := hagree c
  obtain ⟨h0, h1, h2, h3⟩ := h c
  refine ⟨h0.trans ?_, h1.trans ?_, h2.trans ?_, h3⟩
  · rw [Cert.ReferenceIdeal.Read.val_main_v63_eq, a0, a1, a2, a3]
    exact (Cert.Final.dq_eq m g c hpre).symm
  · rw [Cert.ReferenceIdeal.Read.val_main_v65_eq, a0, a1, a2, a3]
    exact (Cert.Final.dk_eq m g c hpre).symm
  · refine (Cert.ReferenceIdeal.Read.val_main_v67_eq _ _ _).trans ?_
    rw [a0, a1, a3]
    exact (Cert.Final.dv_eq m g c hpre).symm

/-- The reference of the gradient of the first product's input ends with its arguments unchanged. -/
theorem frame_UpDxRef : Cert.quiescent_UpDxRefIdeal := fun m g _ =>
  (θ_run _ _ _).mono (fun r h => ⟨fun c => (h c).2, sem_eq_zero_of_no_sems (by decide) r.2⟩) (Cert.UpDxRefIdeal.Value.run m g)

/-- The gradient of the first product's input of the feed-forward layer is the reference's. -/
theorem value_UpDx : Cert.algebraic_UpDxIdeal_UpDxRefIdeal := by
  intro m g m' g' _ hagree
  refine ⟨fun c => Cert.UpDxIdeal.Value.arr m c,
    (θ_run _ _ _).mono (fun r h c => ⟨(h c).1.trans (Cert.UpDxIdeal.Value.array m c), (h c).2⟩) (Cert.UpDxIdeal.Value.run_blocks m g),
    (θ_run _ _ _).mono (fun r h c => ⟨(h c).1.trans ?_, (h c).2⟩) (Cert.UpDxRefIdeal.Value.run m' g')⟩
  rw [Cert.UpDxRefIdeal.Read.val_main_v2_eq, (hagree c).1, (hagree c).2]
  exact (Cert.UpDxIdeal.Value.equal m c).symm

/-- The reference of the gradient of the first product's weights ends with its arguments unchanged. -/
theorem frame_UpDwRef : Cert.quiescent_UpDwRefIdeal := fun m g _ =>
  (θ_run _ _ _).mono (fun r h => ⟨fun c => (h c).2, sem_eq_zero_of_no_sems (by decide) r.2⟩) (Cert.UpDwRefIdeal.Value.run m g)

/-- The gradient of the first product's weights of the feed-forward layer is the reference's. -/
theorem value_UpDw : Cert.algebraic_UpDwIdeal_UpDwRefIdeal := by
  intro m g m' g' _ hagree
  refine ⟨fun c => Cert.UpDwIdeal.Value.arr m c,
    (θ_run _ _ _).mono (fun r h c => ⟨(h c).1.trans (Cert.UpDwIdeal.Value.array m c), (h c).2⟩) (Cert.UpDwIdeal.Value.run_blocks m g),
    (θ_run _ _ _).mono (fun r h c => ⟨(h c).1.trans ?_, (h c).2⟩) (Cert.UpDwRefIdeal.Value.run m' g')⟩
  rw [Cert.UpDwRefIdeal.Read.val_main_v3_eq, (hagree c).1, (hagree c).2]
  exact (Cert.UpDwIdeal.Value.equal m c).symm

/-- The reference of the first product ends with its arguments unchanged. -/
theorem frame_UpYRef : Cert.quiescent_UpYRefIdeal := fun m g _ =>
  (θ_run _ _ _).mono (fun r h => ⟨fun c => (h c).2, sem_eq_zero_of_no_sems (by decide) r.2⟩) (Cert.UpYRefIdeal.Value.run m g)

/-- The first product of the feed-forward layer is the reference's. -/
theorem value_UpY : Cert.algebraic_UpYIdeal_UpYRefIdeal := by
  intro m g m' g' _ hagree
  refine ⟨fun c => Cert.UpYIdeal.Value.arr m c,
    (θ_run _ _ _).mono (fun r h c => ⟨(h c).1.trans (Cert.UpYIdeal.Value.array m c), (h c).2⟩) (Cert.UpYIdeal.Value.run_blocks m g),
    (θ_run _ _ _).mono (fun r h c => ⟨(h c).1.trans ?_, (h c).2⟩) (Cert.UpYRefIdeal.Value.run m' g')⟩
  rw [Cert.UpYRefIdeal.Read.val_main_v0_eq, (hagree c).1, (hagree c).2]
  exact (Cert.UpYIdeal.Value.equal m c).symm

/-- The reference of the gradient of the last product's input ends with its arguments unchanged. -/
theorem frame_DownDxRef : Cert.quiescent_DownDxRefIdeal := fun m g _ =>
  (θ_run _ _ _).mono (fun r h => ⟨fun c => (h c).2, sem_eq_zero_of_no_sems (by decide) r.2⟩) (Cert.DownDxRefIdeal.Value.run m g)

/-- The gradient of the last product's input of the feed-forward layer is the reference's. -/
theorem value_DownDx : Cert.algebraic_DownDxIdeal_DownDxRefIdeal := by
  intro m g m' g' _ hagree
  refine ⟨fun c => Cert.DownDxIdeal.Value.arr m c,
    (θ_run _ _ _).mono (fun r h c => ⟨(h c).1.trans (Cert.DownDxIdeal.Value.array m c), (h c).2⟩) (Cert.DownDxIdeal.Value.run_blocks m g),
    (θ_run _ _ _).mono (fun r h c => ⟨(h c).1.trans ?_, (h c).2⟩) (Cert.DownDxRefIdeal.Value.run m' g')⟩
  rw [Cert.DownDxRefIdeal.Read.val_main_v2_eq, (hagree c).1, (hagree c).2]
  exact (Cert.DownDxIdeal.Value.equal m c).symm

/-- The reference of the gradient of the last product's weights ends with its arguments unchanged. -/
theorem frame_DownDwRef : Cert.quiescent_DownDwRefIdeal := fun m g _ =>
  (θ_run _ _ _).mono (fun r h => ⟨fun c => (h c).2, sem_eq_zero_of_no_sems (by decide) r.2⟩) (Cert.DownDwRefIdeal.Value.run m g)

/-- The gradient of the last product's weights of the feed-forward layer is the reference's. -/
theorem value_DownDw : Cert.algebraic_DownDwIdeal_DownDwRefIdeal := by
  intro m g m' g' _ hagree
  refine ⟨fun c => Cert.DownDwIdeal.Value.arr m c,
    (θ_run _ _ _).mono (fun r h c => ⟨(h c).1.trans (Cert.DownDwIdeal.Value.array m c), (h c).2⟩) (Cert.DownDwIdeal.Value.run_blocks m g),
    (θ_run _ _ _).mono (fun r h c => ⟨(h c).1.trans ?_, (h c).2⟩) (Cert.DownDwRefIdeal.Value.run m' g')⟩
  rw [Cert.DownDwRefIdeal.Read.val_main_v3_eq, (hagree c).1, (hagree c).2]
  exact (Cert.DownDwIdeal.Value.equal m c).symm

/-- The reference of the last product ends with its arguments unchanged. -/
theorem frame_DownYRef : Cert.quiescent_DownYRefIdeal := fun m g _ =>
  (θ_run _ _ _).mono (fun r h => ⟨fun c => (h c).2, sem_eq_zero_of_no_sems (by decide) r.2⟩) (Cert.DownYRefIdeal.Value.run m g)

/-- The last product of the feed-forward layer is the reference's. -/
theorem value_DownY : Cert.algebraic_DownYIdeal_DownYRefIdeal := by
  intro m g m' g' _ hagree
  refine ⟨fun c => Cert.DownYIdeal.Value.arr m c,
    (θ_run _ _ _).mono (fun r h c => ⟨(h c).1.trans (Cert.DownYIdeal.Value.array m c), (h c).2⟩) (Cert.DownYIdeal.Value.run_blocks m g),
    (θ_run _ _ _).mono (fun r h c => ⟨(h c).1.trans ?_, (h c).2⟩) (Cert.DownYRefIdeal.Value.run m' g')⟩
  rw [Cert.DownYRefIdeal.Read.val_main_v0_eq, (hagree c).1, (hagree c).2]
  exact (Cert.DownYIdeal.Value.equal m c).symm

/-- The reference of the gradient of the mixer's input product in its input ends with its arguments unchanged. -/
theorem frame_InDxRef : Cert.quiescent_InDxRefIdeal := fun m g _ =>
  (θ_run _ _ _).mono (fun r h => ⟨fun c => (h c).2, sem_eq_zero_of_no_sems (by decide) r.2⟩) (Cert.InDxRefIdeal.Value.run m g)

/-- The gradient of the mixer's input product in its input is the reference's. -/
theorem value_InDx : Cert.algebraic_InDxIdeal_InDxRefIdeal := by
  intro m g m' g' _ hagree
  refine ⟨fun c => Cert.InDxIdeal.Value.arr m c,
    (θ_run _ _ _).mono (fun r h c => ⟨(h c).1.trans (Cert.InDxIdeal.Value.array m c), (h c).2⟩) (Cert.InDxIdeal.Value.run_blocks m g),
    (θ_run _ _ _).mono (fun r h c => ⟨(h c).1.trans ?_, (h c).2⟩) (Cert.InDxRefIdeal.Value.run m' g')⟩
  rw [Cert.InDxRefIdeal.Read.val_main_v2_eq, (hagree c).1, (hagree c).2]
  exact (Cert.InDxIdeal.Value.equal m c).symm

/-- The reference of the gradient of the mixer's input product in its weights ends with its arguments unchanged. -/
theorem frame_InDwRef : Cert.quiescent_InDwRefIdeal := fun m g _ =>
  (θ_run _ _ _).mono (fun r h => ⟨fun c => (h c).2, sem_eq_zero_of_no_sems (by decide) r.2⟩) (Cert.InDwRefIdeal.Value.run m g)

/-- The gradient of the mixer's input product in its weights is the reference's. -/
theorem value_InDw : Cert.algebraic_InDwIdeal_InDwRefIdeal := by
  intro m g m' g' _ hagree
  refine ⟨fun c => Cert.InDwIdeal.Value.arr m c,
    (θ_run _ _ _).mono (fun r h c => ⟨(h c).1.trans (Cert.InDwIdeal.Value.array m c), (h c).2⟩) (Cert.InDwIdeal.Value.run_blocks m g),
    (θ_run _ _ _).mono (fun r h c => ⟨(h c).1.trans ?_, (h c).2⟩) (Cert.InDwRefIdeal.Value.run m' g')⟩
  rw [Cert.InDwRefIdeal.Read.val_main_v3_eq, (hagree c).1, (hagree c).2]
  exact (Cert.InDwIdeal.Value.equal m c).symm

/-- The reference of the mixer's input product ends with its arguments unchanged. -/
theorem frame_InYRef : Cert.quiescent_InYRefIdeal := fun m g _ =>
  (θ_run _ _ _).mono (fun r h => ⟨fun c => (h c).2, sem_eq_zero_of_no_sems (by decide) r.2⟩) (Cert.InYRefIdeal.Value.run m g)

/-- The mixer's input product is the reference's. -/
theorem value_InY : Cert.algebraic_InYIdeal_InYRefIdeal := by
  intro m g m' g' _ hagree
  refine ⟨fun c => Cert.InYIdeal.Value.arr m c,
    (θ_run _ _ _).mono (fun r h c => ⟨(h c).1.trans (Cert.InYIdeal.Value.array m c), (h c).2⟩) (Cert.InYIdeal.Value.run_blocks m g),
    (θ_run _ _ _).mono (fun r h c => ⟨(h c).1.trans ?_, (h c).2⟩) (Cert.InYRefIdeal.Value.run m' g')⟩
  rw [Cert.InYRefIdeal.Read.val_main_v0_eq, (hagree c).1, (hagree c).2]
  exact (Cert.InYIdeal.Value.equal m c).symm

/-- The reference of the norm's gradient ends with its arguments unchanged. -/
theorem frame_NormRef : Cert.quiescent_NormRefIdeal := fun m g _ =>
  (θ_run _ _ _).mono (fun r h => ⟨fun c => (h c).2.2.2.2, sem_eq_zero_of_no_sems (by decide) r.2⟩) (Cert.NormRefIdeal.Value.run m g)

/-- The gradients of the norm's rows, gain, scales and shifts are the reference's. -/
theorem value_Norm : Cert.algebraic_NormIdeal_NormRefIdeal := by
  intro m g m' g' _ hagree
  refine ⟨_, _, _, _, Cert.NormIdeal.Value.run_value m g, ?_⟩
  refine (θ_run _ _ _).mono (fun r h c => ?_) (Cert.NormRefIdeal.Value.run m' g')
  obtain ⟨a0, a1, a2, a3⟩ := hagree c
  obtain ⟨h0, h1, h2, h3, h4⟩ := h c
  refine ⟨h0.trans ?_, h1.trans ?_, h2.trans ?_, h3.trans ?_, h4⟩
  · rw [Cert.NormRefIdeal.Read.val_main_v70_eq, a0, a1, a2, a3]
    exact (Cert.NormEq.dx_eq _ _ _ _).symm
  · refine (Cert.NormRefIdeal.Read.val_main_v56_eq _ _ _).trans ?_
    rw [a0, a2, a3]
    exact (Cert.NormEq.dg_eq _ _ _).symm
  · refine (Cert.NormRefIdeal.Read.val_main_v44_eq _ _ _).trans ?_
    rw [a0, a1, a3]
    exact (Cert.NormEq.dsc_eq _ _ _).symm
  · refine (Cert.NormRefIdeal.Read.val_main_v50_eq _).trans ?_
    rw [a3]
    exact (Cert.NormEq.dsh_eq _).symm

/-- The reference of the gradient of the input of the last layer's first feed-forward product ends with its arguments unchanged. -/
theorem frame_LastUpDxRef : Cert.quiescent_LastUpDxRefIdeal := fun m g _ =>
  (θ_run _ _ _).mono (fun r h => ⟨fun c => (h c).2, sem_eq_zero_of_no_sems (by decide) r.2⟩) (Cert.LastUpDxRefIdeal.Value.run m g)

/-- The gradient of the input of the last layer's first feed-forward product is the reference's. -/
theorem value_LastUpDx : Cert.algebraic_LastUpDxIdeal_LastUpDxRefIdeal := by
  intro m g m' g' _ hagree
  refine ⟨fun c => Cert.LastUpDxIdeal.Value.arr m c,
    (θ_run _ _ _).mono (fun r h c => ⟨(h c).1.trans (Cert.LastUpDxIdeal.Value.array m c), (h c).2⟩) (Cert.LastUpDxIdeal.Value.run_blocks m g),
    (θ_run _ _ _).mono (fun r h c => ⟨(h c).1.trans ?_, (h c).2⟩) (Cert.LastUpDxRefIdeal.Value.run m' g')⟩
  rw [Cert.LastUpDxRefIdeal.Read.val_main_v2_eq, (hagree c).1, (hagree c).2]
  exact (Cert.LastUpDxIdeal.Value.equal m c).symm

/-- The reference of the gradient of the weights of the last layer's first feed-forward product ends with its arguments unchanged. -/
theorem frame_LastUpDwRef : Cert.quiescent_LastUpDwRefIdeal := fun m g _ =>
  (θ_run _ _ _).mono (fun r h => ⟨fun c => (h c).2, sem_eq_zero_of_no_sems (by decide) r.2⟩) (Cert.LastUpDwRefIdeal.Value.run m g)

/-- The gradient of the weights of the last layer's first feed-forward product is the reference's. -/
theorem value_LastUpDw : Cert.algebraic_LastUpDwIdeal_LastUpDwRefIdeal := by
  intro m g m' g' _ hagree
  refine ⟨fun c => Cert.LastUpDwIdeal.Value.arr m c,
    (θ_run _ _ _).mono (fun r h c => ⟨(h c).1.trans (Cert.LastUpDwIdeal.Value.array m c), (h c).2⟩) (Cert.LastUpDwIdeal.Value.run_blocks m g),
    (θ_run _ _ _).mono (fun r h c => ⟨(h c).1.trans ?_, (h c).2⟩) (Cert.LastUpDwRefIdeal.Value.run m' g')⟩
  rw [Cert.LastUpDwRefIdeal.Read.val_main_v3_eq, (hagree c).1, (hagree c).2]
  exact (Cert.LastUpDwIdeal.Value.equal m c).symm

/-- The reference of the last layer's first feed-forward product ends with its arguments unchanged. -/
theorem frame_LastUpYRef : Cert.quiescent_LastUpYRefIdeal := fun m g _ =>
  (θ_run _ _ _).mono (fun r h => ⟨fun c => (h c).2, sem_eq_zero_of_no_sems (by decide) r.2⟩) (Cert.LastUpYRefIdeal.Value.run m g)

/-- The last layer's first feed-forward product is the reference's. -/
theorem value_LastUpY : Cert.algebraic_LastUpYIdeal_LastUpYRefIdeal := by
  intro m g m' g' _ hagree
  refine ⟨fun c => Cert.LastUpYIdeal.Value.arr m c,
    (θ_run _ _ _).mono (fun r h c => ⟨(h c).1.trans (Cert.LastUpYIdeal.Value.array m c), (h c).2⟩) (Cert.LastUpYIdeal.Value.run_blocks m g),
    (θ_run _ _ _).mono (fun r h c => ⟨(h c).1.trans ?_, (h c).2⟩) (Cert.LastUpYRefIdeal.Value.run m' g')⟩
  rw [Cert.LastUpYRefIdeal.Read.val_main_v0_eq, (hagree c).1, (hagree c).2]
  exact (Cert.LastUpYIdeal.Value.equal m c).symm

/-- The reference of the gradient of the input of the last layer's last feed-forward product ends with its arguments unchanged. -/
theorem frame_LastDownDxRef : Cert.quiescent_LastDownDxRefIdeal := fun m g _ =>
  (θ_run _ _ _).mono (fun r h => ⟨fun c => (h c).2, sem_eq_zero_of_no_sems (by decide) r.2⟩) (Cert.LastDownDxRefIdeal.Value.run m g)

/-- The gradient of the input of the last layer's last feed-forward product is the reference's. -/
theorem value_LastDownDx : Cert.algebraic_LastDownDxIdeal_LastDownDxRefIdeal := by
  intro m g m' g' _ hagree
  refine ⟨fun c => Cert.LastDownDxIdeal.Value.arr m c,
    (θ_run _ _ _).mono (fun r h c => ⟨(h c).1.trans (Cert.LastDownDxIdeal.Value.array m c), (h c).2⟩) (Cert.LastDownDxIdeal.Value.run_blocks m g),
    (θ_run _ _ _).mono (fun r h c => ⟨(h c).1.trans ?_, (h c).2⟩) (Cert.LastDownDxRefIdeal.Value.run m' g')⟩
  rw [Cert.LastDownDxRefIdeal.Read.val_main_v2_eq, (hagree c).1, (hagree c).2]
  exact (Cert.LastDownDxIdeal.Value.equal m c).symm

/-- The reference of the gradient of the weights of the last layer's last feed-forward product ends with its arguments unchanged. -/
theorem frame_LastDownDwRef : Cert.quiescent_LastDownDwRefIdeal := fun m g _ =>
  (θ_run _ _ _).mono (fun r h => ⟨fun c => (h c).2, sem_eq_zero_of_no_sems (by decide) r.2⟩) (Cert.LastDownDwRefIdeal.Value.run m g)

/-- The gradient of the weights of the last layer's last feed-forward product is the reference's. -/
theorem value_LastDownDw : Cert.algebraic_LastDownDwIdeal_LastDownDwRefIdeal := by
  intro m g m' g' _ hagree
  refine ⟨fun c => Cert.LastDownDwIdeal.Value.arr m c,
    (θ_run _ _ _).mono (fun r h c => ⟨(h c).1.trans (Cert.LastDownDwIdeal.Value.array m c), (h c).2⟩) (Cert.LastDownDwIdeal.Value.run_blocks m g),
    (θ_run _ _ _).mono (fun r h c => ⟨(h c).1.trans ?_, (h c).2⟩) (Cert.LastDownDwRefIdeal.Value.run m' g')⟩
  rw [Cert.LastDownDwRefIdeal.Read.val_main_v3_eq, (hagree c).1, (hagree c).2]
  exact (Cert.LastDownDwIdeal.Value.equal m c).symm

/-- The reference of the last layer's last feed-forward product ends with its arguments unchanged. -/
theorem frame_LastDownYRef : Cert.quiescent_LastDownYRefIdeal := fun m g _ =>
  (θ_run _ _ _).mono (fun r h => ⟨fun c => (h c).2, sem_eq_zero_of_no_sems (by decide) r.2⟩) (Cert.LastDownYRefIdeal.Value.run m g)

/-- The last layer's last feed-forward product is the reference's. -/
theorem value_LastDownY : Cert.algebraic_LastDownYIdeal_LastDownYRefIdeal := by
  intro m g m' g' _ hagree
  refine ⟨fun c => Cert.LastDownYIdeal.Value.arr m c,
    (θ_run _ _ _).mono (fun r h c => ⟨(h c).1.trans (Cert.LastDownYIdeal.Value.array m c), (h c).2⟩) (Cert.LastDownYIdeal.Value.run_blocks m g),
    (θ_run _ _ _).mono (fun r h c => ⟨(h c).1.trans ?_, (h c).2⟩) (Cert.LastDownYRefIdeal.Value.run m' g')⟩
  rw [Cert.LastDownYRefIdeal.Read.val_main_v0_eq, (hagree c).1, (hagree c).2]
  exact (Cert.LastDownYIdeal.Value.equal m c).symm

/-- The reference of the gradient of the input of the mixer's output product ends with its arguments unchanged. -/
theorem frame_OutDxRef : Cert.quiescent_OutDxRefIdeal := fun m g _ =>
  (θ_run _ _ _).mono (fun r h => ⟨fun c => (h c).2, sem_eq_zero_of_no_sems (by decide) r.2⟩) (Cert.OutDxRefIdeal.Value.run m g)

/-- The gradient of the input of the mixer's output product is the reference's. -/
theorem value_OutDx : Cert.algebraic_OutDxIdeal_OutDxRefIdeal := by
  intro m g m' g' _ hagree
  refine ⟨fun c => Cert.OutDxIdeal.Value.arr m c,
    (θ_run _ _ _).mono (fun r h c => ⟨(h c).1.trans (Cert.OutDxIdeal.Value.array m c), (h c).2⟩) (Cert.OutDxIdeal.Value.run_blocks m g),
    (θ_run _ _ _).mono (fun r h c => ⟨(h c).1.trans ?_, (h c).2⟩) (Cert.OutDxRefIdeal.Value.run m' g')⟩
  rw [Cert.OutDxRefIdeal.Read.val_main_v2_eq, (hagree c).1, (hagree c).2]
  exact (Cert.OutDxIdeal.Value.equal m c).symm

/-- The reference of the gradient of the weights of the mixer's output product ends with its arguments unchanged. -/
theorem frame_OutDwRef : Cert.quiescent_OutDwRefIdeal := fun m g _ =>
  (θ_run _ _ _).mono (fun r h => ⟨fun c => (h c).2, sem_eq_zero_of_no_sems (by decide) r.2⟩) (Cert.OutDwRefIdeal.Value.run m g)

/-- The gradient of the weights of the mixer's output product is the reference's. -/
theorem value_OutDw : Cert.algebraic_OutDwIdeal_OutDwRefIdeal := by
  intro m g m' g' _ hagree
  refine ⟨fun c => Cert.OutDwIdeal.Value.arr m c,
    (θ_run _ _ _).mono (fun r h c => ⟨(h c).1.trans (Cert.OutDwIdeal.Value.array m c), (h c).2⟩) (Cert.OutDwIdeal.Value.run_blocks m g),
    (θ_run _ _ _).mono (fun r h c => ⟨(h c).1.trans ?_, (h c).2⟩) (Cert.OutDwRefIdeal.Value.run m' g')⟩
  rw [Cert.OutDwRefIdeal.Read.val_main_v3_eq, (hagree c).1, (hagree c).2]
  exact (Cert.OutDwIdeal.Value.equal m c).symm

/-- The reference of the mixer's output product ends with its arguments unchanged. -/
theorem frame_OutYRef : Cert.quiescent_OutYRefIdeal := fun m g _ =>
  (θ_run _ _ _).mono (fun r h => ⟨fun c => (h c).2, sem_eq_zero_of_no_sems (by decide) r.2⟩) (Cert.OutYRefIdeal.Value.run m g)

/-- The mixer's output product is the reference's. -/
theorem value_OutY : Cert.algebraic_OutYIdeal_OutYRefIdeal := by
  intro m g m' g' _ hagree
  refine ⟨fun c => Cert.OutYIdeal.Value.arr m c,
    (θ_run _ _ _).mono (fun r h c => ⟨(h c).1.trans (Cert.OutYIdeal.Value.array m c), (h c).2⟩) (Cert.OutYIdeal.Value.run_blocks m g),
    (θ_run _ _ _).mono (fun r h c => ⟨(h c).1.trans ?_, (h c).2⟩) (Cert.OutYRefIdeal.Value.run m' g')⟩
  rw [Cert.OutYRefIdeal.Read.val_main_v0_eq, (hagree c).1, (hagree c).2]
  exact (Cert.OutYIdeal.Value.equal m c).symm

/-- The reference of the gradient of the input of the last layer's output product of the mixer ends with its arguments unchanged. -/
theorem frame_LastOutDxRef : Cert.quiescent_LastOutDxRefIdeal := fun m g _ =>
  (θ_run _ _ _).mono (fun r h => ⟨fun c => (h c).2, sem_eq_zero_of_no_sems (by decide) r.2⟩) (Cert.LastOutDxRefIdeal.Value.run m g)

/-- The gradient of the input of the last layer's output product of the mixer is the reference's. -/
theorem value_LastOutDx : Cert.algebraic_LastOutDxIdeal_LastOutDxRefIdeal := by
  intro m g m' g' _ hagree
  refine ⟨fun c => Cert.LastOutDxIdeal.Value.arr m c,
    (θ_run _ _ _).mono (fun r h c => ⟨(h c).1.trans (Cert.LastOutDxIdeal.Value.array m c), (h c).2⟩) (Cert.LastOutDxIdeal.Value.run_blocks m g),
    (θ_run _ _ _).mono (fun r h c => ⟨(h c).1.trans ?_, (h c).2⟩) (Cert.LastOutDxRefIdeal.Value.run m' g')⟩
  rw [Cert.LastOutDxRefIdeal.Read.val_main_v2_eq, (hagree c).1, (hagree c).2]
  exact (Cert.LastOutDxIdeal.Value.equal m c).symm

/-- The reference of the gradient of the weights of the last layer's output product of the mixer ends with its arguments unchanged. -/
theorem frame_LastOutDwRef : Cert.quiescent_LastOutDwRefIdeal := fun m g _ =>
  (θ_run _ _ _).mono (fun r h => ⟨fun c => (h c).2, sem_eq_zero_of_no_sems (by decide) r.2⟩) (Cert.LastOutDwRefIdeal.Value.run m g)

/-- The gradient of the weights of the last layer's output product of the mixer is the reference's. -/
theorem value_LastOutDw : Cert.algebraic_LastOutDwIdeal_LastOutDwRefIdeal := by
  intro m g m' g' _ hagree
  refine ⟨fun c => Cert.LastOutDwIdeal.Value.arr m c,
    (θ_run _ _ _).mono (fun r h c => ⟨(h c).1.trans (Cert.LastOutDwIdeal.Value.array m c), (h c).2⟩) (Cert.LastOutDwIdeal.Value.run_blocks m g),
    (θ_run _ _ _).mono (fun r h c => ⟨(h c).1.trans ?_, (h c).2⟩) (Cert.LastOutDwRefIdeal.Value.run m' g')⟩
  rw [Cert.LastOutDwRefIdeal.Read.val_main_v3_eq, (hagree c).1, (hagree c).2]
  exact (Cert.LastOutDwIdeal.Value.equal m c).symm

/-- The reference of the last layer's output product of the mixer ends with its arguments unchanged. -/
theorem frame_LastOutYRef : Cert.quiescent_LastOutYRefIdeal := fun m g _ =>
  (θ_run _ _ _).mono (fun r h => ⟨fun c => (h c).2, sem_eq_zero_of_no_sems (by decide) r.2⟩) (Cert.LastOutYRefIdeal.Value.run m g)

/-- The last layer's output product of the mixer is the reference's. -/
theorem value_LastOutY : Cert.algebraic_LastOutYIdeal_LastOutYRefIdeal := by
  intro m g m' g' _ hagree
  refine ⟨fun c => Cert.LastOutYIdeal.Value.arr m c,
    (θ_run _ _ _).mono (fun r h c => ⟨(h c).1.trans (Cert.LastOutYIdeal.Value.array m c), (h c).2⟩) (Cert.LastOutYIdeal.Value.run_blocks m g),
    (θ_run _ _ _).mono (fun r h c => ⟨(h c).1.trans ?_, (h c).2⟩) (Cert.LastOutYRefIdeal.Value.run m' g')⟩
  rw [Cert.LastOutYRefIdeal.Read.val_main_v0_eq, (hagree c).1, (hagree c).2]
  exact (Cert.LastOutYIdeal.Value.equal m c).symm

/-- The reference of the norm ends with its arguments unchanged. -/
theorem frame_NormFwdRef : Cert.quiescent_NormFwdRefIdeal := fun m g _ =>
  (θ_run _ _ _).mono (fun r h => ⟨fun c => (h c).2, sem_eq_zero_of_no_sems (by decide) r.2⟩) (Cert.NormFwdRefIdeal.Value.run m g)

/-- The normed rows are the reference's. -/
theorem value_NormFwd : Cert.algebraic_NormFwdIdeal_NormFwdRefIdeal := by
  intro m g m' g' _ hagree
  refine ⟨_, (θ_run _ _ _).mono (fun r h c => ⟨(h c).1.trans (Cert.NormFwdIdeal.Value.array m c), (h c).2⟩) (Cert.NormFwdIdeal.Value.run_blocks m g),
    (θ_run _ _ _).mono (fun r h c => ⟨(h c).1.trans ?_, (h c).2⟩) (Cert.NormFwdRefIdeal.Value.run m' g')⟩
  obtain ⟨a0, a1, a2, a3⟩ := hagree c
  rw [Cert.NormFwdRefIdeal.Read.val_main_v30_eq, a0, a1, a2, a3]
  exact (Cert.NormFwdRefIdeal.Elem.equal _ _ _ _).symm

theorem frame_ResidFwdRef : Cert.quiescent_ResidFwdRefIdeal := fun m g _ =>
  (θ_run _ _ _).mono (fun r h => ⟨fun c => (h c).2, sem_eq_zero_of_no_sems (by decide) r.2⟩) (Cert.ResidFwdRefIdeal.Value.run m g)

/-- The residual branch's norm gives the rows of the reference's, for any arguments. -/
theorem value_ResidFwd : Cert.algebraic_ResidFwdIdeal_ResidFwdRefIdeal := by
  intro m g m' g' _ hagree
  refine ⟨_, (θ_run _ _ _).mono (fun r h c => ⟨(h c).1.trans (Cert.ResidFwdIdeal.Value.array m c), (h c).2⟩) (Cert.ResidFwdIdeal.Value.run_blocks m g),
    (θ_run _ _ _).mono (fun r h c => ⟨(h c).1.trans ?_, (h c).2⟩) (Cert.ResidFwdRefIdeal.Value.run m' g')⟩
  obtain ⟨a0, a1, a2, a3⟩ := hagree c
  rw [Cert.ResidFwdRefIdeal.Read.val_main_v23_eq, a0, a1, a2, a3]
  exact (Cert.ResidFwdRefIdeal.Elem.equal _ _ _ _).symm

theorem frame_ResidRef : Cert.quiescent_ResidRefIdeal := fun m g _ =>
  (θ_run _ _ _).mono (fun r h => ⟨fun c => (h c).2.2.2, sem_eq_zero_of_no_sems (by decide) r.2⟩) (Cert.ResidRefIdeal.Value.run m g)

/-- The gradients of the branch, its gain and its gates are those of the reference, for any arguments. -/
theorem value_Resid : Cert.algebraic_ResidIdeal_ResidRefIdeal := by
  intro m g m' g' _ hagree
  refine ⟨_, _, _, Cert.ResidIdeal.Value.run_value m g, ?_⟩
  refine (θ_run _ _ _).mono (fun r h c => ?_) (Cert.ResidRefIdeal.Value.run m' g')
  obtain ⟨a0, a1, a2, a3⟩ := hagree c
  obtain ⟨h0, h1, h2, h3⟩ := h c
  refine ⟨h0.trans ?_, h1.trans ?_, h2.trans ?_, h3⟩
  · rw [Cert.ResidRefIdeal.Read.val_main_v49_eq, a0, a1, a2, a3]
    exact (Cert.ResidRefIdeal.Elem.dy_eq _ _ _ _).symm
  · refine (Cert.ResidRefIdeal.Read.val_main_v35_eq _ _ _).trans ?_
    rw [a0, a2, a3]
    exact (Cert.ResidRefIdeal.Elem.dg_eq _ _ _).symm
  · refine (Cert.ResidRefIdeal.Read.val_main_v55_eq _ _ _).trans ?_
    rw [a0, a1, a3]
    exact (Cert.ResidRefIdeal.Elem.dgt_eq _ _ _).symm

/-- The reference of the convolution's middle ends with its arguments unchanged. -/
theorem frame_MidFwdRef : Cert.quiescent_MidFwdRefIdeal := fun m g _ =>
  (θ_run _ _ _).mono (fun r h => ⟨fun c => (h c).2, sem_eq_zero_of_no_sems (by decide) r.2⟩) (Cert.MidFwdRefIdeal.Value.run m g)

/-- The gated convolution is the reference's, for any arguments. -/
theorem value_MidFwd : Cert.algebraic_MidFwdIdeal_MidFwdRefIdeal := by
  intro m g m' g' _ hagree
  refine ⟨_, (θ_run _ _ _).mono (fun r h c => ⟨(h c).1.trans (Cert.MidFwdIdeal.Value.array m c), (h c).2⟩) (Cert.MidFwdIdeal.Value.run_blocks m g),
    (θ_run _ _ _).mono (fun r h c => ⟨(h c).1.trans ?_, (h c).2⟩) (Cert.MidFwdRefIdeal.Value.run m' g')⟩
  obtain ⟨a0, a1, a2, a3⟩ := hagree c
  rw [Cert.MidFwdRefIdeal.Read.val_main_v61_eq, a0, a1, a2, a3]
  exact (Cert.MidFwdRefIdeal.Elem.equal _ _ _ _).symm

/-- Everything that is claimed. -/
theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.UpY.Gen.facts, Cert.UpYIdeal.Gen.facts, Cert.UpYRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.DownY.Gen.facts, Cert.DownYIdeal.Gen.facts, Cert.DownYRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.InY.Gen.facts, Cert.InYIdeal.Gen.facts, Cert.InYRefIdeal.Gen.facts,
  Cert.Norm.Gen.facts, Cert.NormIdeal.Gen.facts, Cert.NormRefIdeal.Gen.facts,
  Cert.LastUpDx.Gen.facts, Cert.LastUpDxIdeal.Gen.facts, Cert.LastUpDxRefIdeal.Gen.facts,
  Cert.LastUpDw.Gen.facts, Cert.LastUpDwIdeal.Gen.facts, Cert.LastUpDwRefIdeal.Gen.facts,
  Cert.LastUpY.Gen.facts, Cert.LastUpYIdeal.Gen.facts, Cert.LastUpYRefIdeal.Gen.facts,
  Cert.LastDownDx.Gen.facts, Cert.LastDownDxIdeal.Gen.facts, Cert.LastDownDxRefIdeal.Gen.facts,
  Cert.LastDownDw.Gen.facts, Cert.LastDownDwIdeal.Gen.facts, Cert.LastDownDwRefIdeal.Gen.facts,
  Cert.LastDownY.Gen.facts, Cert.LastDownYIdeal.Gen.facts, Cert.LastDownYRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.OutY.Gen.facts, Cert.OutYIdeal.Gen.facts, Cert.OutYRefIdeal.Gen.facts,
  Cert.LastOutDx.Gen.facts, Cert.LastOutDxIdeal.Gen.facts, Cert.LastOutDxRefIdeal.Gen.facts,
  Cert.LastOutDw.Gen.facts, Cert.LastOutDwIdeal.Gen.facts, Cert.LastOutDwRefIdeal.Gen.facts,
  Cert.LastOutY.Gen.facts, Cert.LastOutYIdeal.Gen.facts, Cert.LastOutYRefIdeal.Gen.facts,
  Cert.NormFwd.Gen.facts, Cert.NormFwdIdeal.Gen.facts, Cert.NormFwdRefIdeal.Gen.facts,
  Cert.ResidFwd.Gen.facts, Cert.ResidFwdIdeal.Gen.facts, Cert.ResidFwdRefIdeal.Gen.facts,
  Cert.Resid.Gen.facts, Cert.ResidIdeal.Gen.facts, Cert.ResidRefIdeal.Gen.facts,
  Cert.MidFwd.Gen.facts, Cert.MidFwdIdeal.Gen.facts, Cert.MidFwdRefIdeal.Gen.facts,
  Cert.Pre_finite.Gen.facts,
  fun m g _ => Cert.Kernel.Gen.frame m g,
  fun m g _ => Cert.KernelIdeal.Gen.frame m g,
  fun m g _ => Cert.KernelIdeal.Gen.frame m g,
  frame_R, frame_R_finite,
  fun m g _ => Cert.UpDx.Gen.frame m g, fun m g _ => Cert.UpDxIdeal.Gen.frame m g, frame_UpDxRef,
  fun m g _ => Cert.UpDw.Gen.frame m g, fun m g _ => Cert.UpDwIdeal.Gen.frame m g, frame_UpDwRef,
  fun m g _ => Cert.UpY.Gen.frame m g, fun m g _ => Cert.UpYIdeal.Gen.frame m g, frame_UpYRef,
  fun m g _ => Cert.DownDx.Gen.frame m g, fun m g _ => Cert.DownDxIdeal.Gen.frame m g, frame_DownDxRef,
  fun m g _ => Cert.DownDw.Gen.frame m g, fun m g _ => Cert.DownDwIdeal.Gen.frame m g, frame_DownDwRef,
  fun m g _ => Cert.DownY.Gen.frame m g, fun m g _ => Cert.DownYIdeal.Gen.frame m g, frame_DownYRef,
  fun m g _ => Cert.InDx.Gen.frame m g, fun m g _ => Cert.InDxIdeal.Gen.frame m g, frame_InDxRef,
  fun m g _ => Cert.InDw.Gen.frame m g, fun m g _ => Cert.InDwIdeal.Gen.frame m g, frame_InDwRef,
  fun m g _ => Cert.InY.Gen.frame m g, fun m g _ => Cert.InYIdeal.Gen.frame m g, frame_InYRef,
  fun m g _ => Cert.Norm.Gen.frame m g, fun m g _ => Cert.NormIdeal.Gen.frame m g, frame_NormRef,
  fun m g _ => Cert.LastUpDx.Gen.frame m g, fun m g _ => Cert.LastUpDxIdeal.Gen.frame m g, frame_LastUpDxRef,
  fun m g _ => Cert.LastUpDw.Gen.frame m g, fun m g _ => Cert.LastUpDwIdeal.Gen.frame m g, frame_LastUpDwRef,
  fun m g _ => Cert.LastUpY.Gen.frame m g, fun m g _ => Cert.LastUpYIdeal.Gen.frame m g, frame_LastUpYRef,
  fun m g _ => Cert.LastDownDx.Gen.frame m g, fun m g _ => Cert.LastDownDxIdeal.Gen.frame m g, frame_LastDownDxRef,
  fun m g _ => Cert.LastDownDw.Gen.frame m g, fun m g _ => Cert.LastDownDwIdeal.Gen.frame m g, frame_LastDownDwRef,
  fun m g _ => Cert.LastDownY.Gen.frame m g, fun m g _ => Cert.LastDownYIdeal.Gen.frame m g, frame_LastDownYRef,
  fun m g _ => Cert.OutDx.Gen.frame m g, fun m g _ => Cert.OutDxIdeal.Gen.frame m g, frame_OutDxRef,
  fun m g _ => Cert.OutDw.Gen.frame m g, fun m g _ => Cert.OutDwIdeal.Gen.frame m g, frame_OutDwRef,
  fun m g _ => Cert.OutY.Gen.frame m g, fun m g _ => Cert.OutYIdeal.Gen.frame m g, frame_OutYRef,
  fun m g _ => Cert.LastOutDx.Gen.frame m g, fun m g _ => Cert.LastOutDxIdeal.Gen.frame m g, frame_LastOutDxRef,
  fun m g _ => Cert.LastOutDw.Gen.frame m g, fun m g _ => Cert.LastOutDwIdeal.Gen.frame m g, frame_LastOutDwRef,
  fun m g _ => Cert.LastOutY.Gen.frame m g, fun m g _ => Cert.LastOutYIdeal.Gen.frame m g, frame_LastOutYRef,
  fun m g _ => Cert.NormFwd.Gen.frame m g, fun m g _ => Cert.NormFwdIdeal.Gen.frame m g, frame_NormFwdRef,
  fun m g _ => Cert.ResidFwd.Gen.frame m g, fun m g _ => Cert.ResidFwdIdeal.Gen.frame m g, frame_ResidFwdRef,
  fun m g _ => Cert.Resid.Gen.frame m g, fun m g _ => Cert.ResidIdeal.Gen.frame m g, frame_ResidRef,
  fun m g _ => Cert.MidFwd.Gen.frame m g, fun m g _ => Cert.MidFwdIdeal.Gen.frame m g, frame_MidFwdRef,
  trivial, value, trivial, value_UpDx, trivial, value_UpDw, trivial, value_UpY, trivial, value_DownDx, trivial, value_DownDw, trivial, value_DownY, trivial, value_InDx, trivial, value_InDw, trivial, value_InY, trivial, value_Norm,
  trivial, value_LastUpDx, trivial, value_LastUpDw, trivial, value_LastUpY, trivial, value_LastDownDx, trivial, value_LastDownDw, trivial, value_LastDownY,
  trivial, value_OutDx, trivial, value_OutDw, trivial, value_OutY, trivial, value_LastOutDx, trivial, value_LastOutDw, trivial, value_LastOutY,
  trivial, value_NormFwd, trivial, value_ResidFwd, trivial, value_Resid, trivial, value_MidFwd⟩

end Cert.Proof

end
